-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ffn_out_grad [hPre_finite_ffn_out_grad : Cert.Pre_finite_ffn_out_grad.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ffn_out_grad.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite_ffn_out_grad.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite_ffn_out_grad.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite_ffn_out_grad.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ffn_out_grad [hPre_finite_ffn_out_grad : Cert.Pre_finite_ffn_out_grad.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ffn_out_grad.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite_ffn_out_grad.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite_ffn_out_grad.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite_ffn_out_grad.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_attention [hPre_finite_attention : Cert.Pre_finite_attention.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_attention.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).1 = (fun _ => 1#1)
    ∧ (Cert.Pre_finite_attention.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_attention [hPre_finite_attention : Cert.Pre_finite_attention.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_attention.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).1 = (fun _ => 1#1)
    ∧ (Cert.Pre_finite_attention.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite_ffn_out_grad [hKernel7Ideal : Cert.Kernel7Ideal.Facts] [hPre_finite_ffn_out_grad : Cert.Pre_finite_ffn_out_grad.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ffn_out_grad m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite_ffn_out_grad [hReference7Ideal : Cert.Reference7Ideal.Facts] [hPre_finite_ffn_out_grad : Cert.Pre_finite_ffn_out_grad.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ffn_out_grad m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Kernel23Ideal_pre_finite_attention [hKernel23Ideal : Cert.Kernel23Ideal.Facts] [hPre_finite_attention : Cert.Pre_finite_attention.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_attention m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_finite_attention [hReference23Ideal : Cert.Reference23Ideal.Facts] [hPre_finite_attention : Cert.Pre_finite_attention.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_attention m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_ffn_out_grad [hKernel7Ideal : Cert.Kernel7Ideal.Facts] [hReference7Ideal : Cert.Reference7Ideal.Facts] [hPre_finite_ffn_out_grad : Cert.Pre_finite_ffn_out_grad.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ffn_out_grad m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_v51) = v1 c
          ∧ r.2.mem ((c.tc : Thread Cert.Reference7Ideal.nD Cert.Reference7Ideal.τ).loc Cert.Reference7Ideal.main_v52) = v2 c
          ∧ r.2.mem ((c.tc : Thread Cert.Reference7Ideal.nD Cert.Reference7Ideal.τ).loc Cert.Reference7Ideal.main_v53) = v3 c
          ∧ r.2.mem ((c.tc : Thread Cert.Reference7Ideal.nD Cert.Reference7Ideal.τ).loc Cert.Reference7Ideal.main_v54) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_v22) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v56) = v0 c
          ∧ r.2.mem ((c.tc : Thread Cert.Reference11Ideal.nD Cert.Reference11Ideal.τ).loc Cert.Reference11Ideal.main_v57) = v1 c
          ∧ r.2.mem ((c.tc : Thread Cert.Reference11Ideal.nD Cert.Reference11Ideal.τ).loc Cert.Reference11Ideal.main_v55) = v2 c
          ∧ r.2.mem ((c.tc : Thread Cert.Reference11Ideal.nD Cert.Reference11Ideal.τ).loc Cert.Reference11Ideal.main_v58) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v35) = v1 c
          ∧ r.2.mem ((c.tc : Thread Cert.Reference13Ideal.nD Cert.Reference13Ideal.τ).loc Cert.Reference13Ideal.main_v50) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v124) = v0 c
          ∧ r.2.mem ((c.tc : Thread Cert.Reference14Ideal.nD Cert.Reference14Ideal.τ).loc Cert.Reference14Ideal.main_v125) = v1 c
          ∧ r.2.mem ((c.tc : Thread Cert.Reference14Ideal.nD Cert.Reference14Ideal.τ).loc Cert.Reference14Ideal.main_v126) = v2 c
          ∧ r.2.mem ((c.tc : Thread Cert.Reference14Ideal.nD Cert.Reference14Ideal.τ).loc Cert.Reference14Ideal.main_v127) = v3 c
          ∧ r.2.mem ((c.tc : Thread Cert.Reference14Ideal.nD Cert.Reference14Ideal.τ).loc Cert.Reference14Ideal.main_v128) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v26) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_v28) = v2 c
          ∧ r.2.mem ((c.tc : Thread Cert.Reference15Ideal.nD Cert.Reference15Ideal.τ).loc Cert.Reference15Ideal.main_v25) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v29) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v31) = v2 c
          ∧ r.2.mem ((c.tc : Thread Cert.Reference16Ideal.nD Cert.Reference16Ideal.τ).loc Cert.Reference16Ideal.main_v46) = v3 c
          ∧ r.2.mem ((c.tc : Thread Cert.Reference16Ideal.nD Cert.Reference16Ideal.τ).loc Cert.Reference16Ideal.main_v47) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v33) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_v39) = v2 c
          ∧ r.2.mem ((c.tc : Thread Cert.Reference18Ideal.nD Cert.Reference18Ideal.τ).loc Cert.Reference18Ideal.main_v42) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v33) = v0 c
          ∧ r.2.mem ((c.tc : Thread Cert.Reference19Ideal.nD Cert.Reference19Ideal.τ).loc Cert.Reference19Ideal.main_v36) = v1 c
          ∧ r.2.mem ((c.tc : Thread Cert.Reference19Ideal.nD Cert.Reference19Ideal.τ).loc Cert.Reference19Ideal.main_v39) = v2 c
          ∧ r.2.mem ((c.tc : Thread Cert.Reference19Ideal.nD Cert.Reference19Ideal.τ).loc Cert.Reference19Ideal.main_v42) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v33) = v0 c
          ∧ r.2.mem ((c.tc : Thread Cert.Reference20Ideal.nD Cert.Reference20Ideal.τ).loc Cert.Reference20Ideal.main_v36) = v1 c
          ∧ r.2.mem ((c.tc : Thread Cert.Reference20Ideal.nD Cert.Reference20Ideal.τ).loc Cert.Reference20Ideal.main_v39) = v2 c
          ∧ r.2.mem ((c.tc : Thread Cert.Reference20Ideal.nD Cert.Reference20Ideal.τ).loc Cert.Reference20Ideal.main_v42) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v33) = v0 c
          ∧ r.2.mem ((c.tc : Thread Cert.Reference21Ideal.nD Cert.Reference21Ideal.τ).loc Cert.Reference21Ideal.main_v36) = v1 c
          ∧ r.2.mem ((c.tc : Thread Cert.Reference21Ideal.nD Cert.Reference21Ideal.τ).loc Cert.Reference21Ideal.main_v39) = v2 c
          ∧ r.2.mem ((c.tc : Thread Cert.Reference21Ideal.nD Cert.Reference21Ideal.τ).loc Cert.Reference21Ideal.main_v42) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8))

def preserves_Kernel22_Kernel22Ideal : Prop :=
  IdealRules.named_const.Statement Cert.Kernel22Ideal.κ "gelu_c" .f32 0x3D372713#32 ((8943 / 200000 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v36)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v36) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v74) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal_pre_finite_attention [hKernel23Ideal : Cert.Kernel23Ideal.Facts] [hReference23Ideal : Cert.Reference23Ideal.Facts] [hPre_finite_attention : Cert.Pre_finite_attention.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_attention m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v36)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v36) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v89) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_ffn_out_grad : Cert.Pre_finite_ffn_out_grad.Facts) (hPre_finite_attention : Cert.Pre_finite_attention.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_ffn_out_grad (hKernel7Ideal := hKernel7Ideal) (hPre_finite_ffn_out_grad := hPre_finite_ffn_out_grad)
    ∧ quiescent_Reference7Ideal (hReference7Ideal := hReference7Ideal)
    ∧ quiescent_Reference7Ideal_pre_finite_ffn_out_grad (hReference7Ideal := hReference7Ideal) (hPre_finite_ffn_out_grad := hPre_finite_ffn_out_grad)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_attention (hKernel23Ideal := hKernel23Ideal) (hPre_finite_attention := hPre_finite_attention)
    ∧ quiescent_Reference23Ideal (hReference23Ideal := hReference23Ideal)
    ∧ quiescent_Reference23Ideal_pre_finite_attention (hReference23Ideal := hReference23Ideal) (hPre_finite_attention := hPre_finite_attention)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_ffn_out_grad (hKernel7Ideal := hKernel7Ideal) (hReference7Ideal := hReference7Ideal) (hPre_finite_ffn_out_grad := hPre_finite_ffn_out_grad)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_attention (hKernel23Ideal := hKernel23Ideal) (hReference23Ideal := hReference23Ideal) (hPre_finite_attention := hPre_finite_attention)
-- ==== Pre_finite_attention.lean ====
abbrev S8192x1792 : Shape := ⟨2, ![8192, 1792]⟩
abbrev S8 : Shape := ⟨1, ![8]⟩
abbrev S1x512 : Shape := ⟨2, ![1, 512]⟩
abbrev S8x128x128 : Shape := ⟨3, ![8, 128, 128]⟩
abbrev S8x128 : Shape := ⟨2, ![8, 128]⟩
abbrev S8192x640 : Shape := ⟨2, ![8192, 640]⟩
abbrev S_ : Shape := ⟨0, ![]⟩

class Facts : Prop where
  slices_S8192x1792_S8192x640_0_0 : S8192x1792.Slices ![0, 0] S8192x640
  bitsLt_bf16_f32 : FTy.bits .bf16 < FTy.bits .f32
  bcast_S_S8192x640 : S_.BroadcastsInDim S8192x640 (![] : Fin 0 → Fin S8192x640.rank)
  bcast_S_S8 : S_.BroadcastsInDim S8 (![] : Fin 0 → Fin S8.rank)

variable [Facts]

def fn {F : FTy → Type} [FloatOps F] (main_arg0 : FVec F S8192x1792 .bf16) (main_arg1 : FVec F S8 .f32) (main_arg2 : FVec F S1x512 .f32) (main_arg3 : FVec F S1x512 .f32) (main_arg4 : FVec F S8x128x128 .f32) (main_arg5 : FVec F S8x128 .f32) : IVec S8192x640 1 × IVec S8 1 :=
  let main_v0 : FVec F S8192x640 .bf16 := (extractStridedSlice S8192x640 ![0, 0] · slices_S8192x1792_S8192x640_0_0) main_arg0
  let main_v1 : FVec F S8192x640 .f32 := (extf .f32 · bitsLt_bf16_f32) main_v0
  let main_v2 : FVec F S8192x640 .f32 := Host.absf main_v1
  let main_cst : FVec F S_ .f32 := constant S_ .f32 0x7F800000#32
  let main_v3 : FVec F S8192x640 .f32 := broadcastInDim S8192x640 ![] bcast_S_S8192x640 main_cst
  let main_v4 : IVec S8192x640 1 := cmpf .olt main_v2 main_v3
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  (main_v4, main_v7)
-- ==== Pre_finite_ffn_out_grad.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S8192x1024 .bf16) (main_arg2 : FVec F S1x1024 .f32) (main_arg3 : FVec F S2816x1024 .bf16) (main_arg4 : FVec F S8192x2816 .bf16) (main_arg5 : FVec F S8192x2816 .bf16) : IVec S8192x1024 1 × IVec S1x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg3
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S8192x2816 .f32 := (extf .f32 · bitsLt_bf16_f32) main_arg5
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  (main_v2, main_v5, main_v9, main_v13)
-- ==== Kernel.lean ====
abbrev S8192x1024 : Shape := ⟨2, ![8192, 1024]⟩
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S1x8x128x256 : Shape := ⟨4, ![1, 8, 128, 256]⟩
abbrev S2x8x128x256 : Shape := ⟨4, ![2, 8, 128, 256]⟩
abbrev S1x512 : Shape := ⟨2, ![1, 512]⟩
abbrev S2x8x256x128 : Shape := ⟨4, ![2, 8, 256, 128]⟩
abbrev S8192x512 : Shape := ⟨2, ![8192, 512]⟩
abbrev S8192x256 : Shape := ⟨2, ![8192, 256]⟩
abbrev S1x128 : Shape := ⟨2, ![1, 128]⟩
abbrev S128x128 : Shape := ⟨2, ![128, 128]⟩
abbrev S128x1024 : Shape := ⟨2, ![128, 1024]⟩
abbrev S128x1792 : Shape := ⟨2, ![128, 1792]⟩
abbrev S1x8x256x128 : Shape := ⟨4, ![1, 8, 256, 128]⟩
abbrev S8x256x128 : Shape := ⟨3, ![8, 256, 128]⟩
abbrev S256x128 : Shape := ⟨2, ![256, 128]⟩
abbrev S1x256x128 : Shape := ⟨3, ![1, 256, 128]⟩
abbrev S1 : Shape := ⟨1, ![1]⟩
abbrev S1x1x256x128 : Shape := ⟨4, ![1, 1, 256, 128]⟩
abbrev S1x1x128 : Shape := ⟨3, ![1, 1, 128]⟩
abbrev S1x1x1 : Shape := ⟨3, ![1, 1, 1]⟩
abbrev S1x1 : Shape := ⟨2, ![1, 1]⟩
abbrev S16x512 : Shape := ⟨2, ![16, 512]⟩
abbrev S16 : Shape := ⟨1, ![16]⟩
abbrev S16x1 : Shape := ⟨2, ![16, 1]⟩
abbrev S16x128 : Shape := ⟨2, ![16, 128]⟩
abbrev S1x128x128 : Shape := ⟨3, ![1, 128, 128]⟩

abbrev nBuf : Space → Nat
  | .hbm => 67
  | .vmem => 36
  | .smem => 1
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S8, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S8, .f32⟩
  | .hbm, ⟨8, _⟩ => ⟨S128x8, .f32⟩
  | .hbm, ⟨9, _⟩ => ⟨S128x8x64, .f32⟩
  | .hbm, ⟨10, _⟩ => ⟨S128x512, .f32⟩
  | .hbm, ⟨11, _⟩ => ⟨S128, .i32⟩
  | .hbm, ⟨12, _⟩ => ⟨S128x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S_, .i32⟩
  | .hbm, ⟨25, _⟩ => ⟨S128x256, .i32⟩
  | .hbm, ⟨26, _⟩ => ⟨S128x256, .i1⟩
  | .hbm, ⟨27, _⟩ => ⟨S128x256, .i1⟩
  | .hbm, ⟨28, _⟩ => ⟨S8x1x1, .f32⟩
  | .hbm, ⟨29, _⟩ => ⟨S8x1x1, .f32⟩
  | .hbm, ⟨30, _⟩ => ⟨S128x256, .f32⟩
  | .hbm, ⟨31, _⟩ => ⟨S1x128x256, .f32⟩
  | .hbm, ⟨32, _⟩ => ⟨S8x128x256, .f32⟩
  | .hbm, ⟨33, _⟩ => ⟨S8x128x256, .f32⟩
  | .hbm, ⟨34, _⟩ => ⟨S8x128x256, .f32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S128x256, .i1⟩
  | .hbm, ⟨39, _⟩ => ⟨S128x256, .i1⟩
  | .hbm, ⟨40, _⟩ => ⟨S1x128x256, .i1⟩
  | .hbm, ⟨41, _⟩ => ⟨S_, .f32⟩
  | .hbm, ⟨42, _⟩ => ⟨S_, .f32⟩
  | .hbm, ⟨43, _⟩ => ⟨S8x128x256, .i1⟩
  | .hbm, ⟨44, _⟩ => ⟨S8x128x256, .f32⟩
  | .hbm, ⟨45, _⟩ => ⟨S8x128x256, .f32⟩
  | .hbm, ⟨46, _⟩ => ⟨S1x128x256, .i1⟩
  | .hbm, ⟨47, _⟩ => ⟨S_, .f32⟩
  | .hbm, ⟨48, _⟩ => ⟨S_, .f32⟩
  | .hbm, ⟨49, _⟩ => ⟨S8x128x256, .i1⟩
  | .hbm, ⟨50, _⟩ => ⟨S8x128x256, .f32⟩
  | .hbm, ⟨51, _⟩ => ⟨S8x128x256, .f32⟩
  | .hbm, ⟨52, _⟩ => ⟨S1x8x128x256, .f32⟩
  | .hbm, ⟨53, _⟩ => ⟨S1x8x128x256, .f32⟩
  | .hbm, ⟨54, _⟩ => ⟨S2x8x128x256, .f32⟩
  | .hbm, ⟨55, _⟩ => ⟨S1x512, .f32⟩
  | .hbm, ⟨56, _⟩ => ⟨S1x512, .f32⟩
  | .hbm, ⟨57, _⟩ => ⟨S2x8x256x128, .f32⟩
  | .hbm, ⟨58, _⟩ => ⟨S8x128x128, .f32⟩
  | .hbm, ⟨59, _⟩ => ⟨S8192x512, .bf16⟩
  | .hbm, ⟨60, _⟩ => ⟨S8192x256, .f32⟩
  | .hbm, ⟨61, _⟩ => ⟨S8192x1024, .bf16⟩
  | .hbm, ⟨62, _⟩ => ⟨S1x128, .f32⟩
  | .hbm, ⟨63, _⟩ => ⟨S1x512, .f32⟩
  | .hbm, ⟨64, _⟩ => ⟨S1x512, .f32⟩
  | .hbm, ⟨65, _⟩ => ⟨S8x128x128, .f32⟩
  | .hbm, ⟨66, _⟩ => ⟨S128x128, .f32⟩
  | .local _ .vmem, ⟨0, _⟩ => ⟨S128x1024, .bf16⟩
  | .local _ .vmem, ⟨1, _⟩ => ⟨S128x1024, .bf16⟩
  | .local _ .vmem, ⟨2, _⟩ => ⟨S128x1792, .bf16⟩
  | .local _ .vmem, ⟨3, _⟩ => ⟨S128x1792, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S1x8x256x128, .f32⟩
  | .local _ .vmem, ⟨9, _⟩ => ⟨S1x8x256x128, .f32⟩
  | .local _ .vmem, ⟨10, _⟩ => ⟨S1x512, .f32⟩
  | .local _ .vmem, ⟨11, _⟩ => ⟨S1x512, .f32⟩
  | .local _ .vmem, ⟨12, _⟩ => ⟨S8x128x128, .f32⟩
  | .local _ .vmem, ⟨13, _⟩ => ⟨S8x128x128, .f32⟩
  | .local _ .vmem, ⟨14, _⟩ => ⟨S128x512, .f32⟩
  | .local _ .vmem, ⟨15, _⟩ => ⟨S128x512, .bf16⟩
  | .local _ .vmem, ⟨16, _⟩ => ⟨S128x512, .bf16⟩
  | .local _ .vmem, ⟨17, _⟩ => ⟨S8192x256, .f32⟩
  | .local _ .vmem, ⟨18, _⟩ => ⟨S128x1024, .bf16⟩
  | .local _ .vmem, ⟨19, _⟩ => ⟨S128x1024, .bf16⟩
  | .local _ .vmem, ⟨20, _⟩ => ⟨S1x128, .f32⟩
  | .local _ .vmem, ⟨21, _⟩ => ⟨S1x512, .f32⟩
  | .local _ .vmem, ⟨22, _⟩ => ⟨S1x512, .f32⟩
  | .local _ .vmem, ⟨23, _⟩ => ⟨S8x128x128, .f32⟩
  | .local _ .vmem, ⟨24, _⟩ => ⟨S128x128, .f32⟩
  | .local _ .vmem, ⟨25, _⟩ => ⟨S8x256x128, .f32⟩
  | .local _ .vmem, ⟨26, _⟩ => ⟨S8x256x128, .f32⟩
  | .local _ .vmem, ⟨27, _⟩ => ⟨S8x256x128, .bf16⟩
  | .local _ .vmem, ⟨28, _⟩ => ⟨S8x256x128, .bf16⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S128x512, .f32⟩
  | .local _ .vmem, ⟨34, _⟩ => ⟨S128x128, .f32⟩
  | .local _ .vmem, ⟨35, _⟩ => ⟨S128x512, .f32⟩
  | .local _ .smem, ⟨0, _⟩ => ⟨S8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev main_v39_5 : Ref sig .tc := ⟨.hbm, 64, rfl⟩
abbrev main_v39_6 : Ref sig .tc := ⟨.hbm, 65, rfl⟩
abbrev main_v39_7 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v927 : BitVec 32 := Scalar.muli arg0 c128_i32
  v927
def k0_off1 (i : grid0.Coords) : Fin 2 → Nat :=
  let arg0 : BitVec 32 := BitVec.ofNat 32 (i 0).val
  let c128_i32 : BitVec 32 := 128#32
  let v927 : BitVec 32 := Scalar.muli arg0 c128_i32
  let v928 : BitVec 32 := v927
  let v930 : Index := Scalar.indexCast v928
  let c0_476 : Index := 0#32
  ![v930.toNat, 0]
def k0_off2 (i : grid0.Coords) : Fin 2 → Nat :=
  let arg0 : BitVec 32 := BitVec.ofNat 32 (i 0).val
  let c128_i32 : BitVec 32 := 128#32
  let v927 : BitVec 32 := Scalar.muli arg0 c128_i32
  let v928 : BitVec 32 := v927
  let v933 : Index := Scalar.indexCast v928
  let c128_477 : Index := 128#32
  ![v933.toNat, 128]
def k0_cond1 (i : grid0.Coords) : BitVec 1 :=
  let arg0 : BitVec 32 := BitVec.ofNat 32 (i 0).val
  let c0_i32_478 : BitVec 32 := 0#32
  let v935 : BitVec 1 := Scalar.cmpi .sgt arg0 c0_i32_478
  let v936 : BitVec 32 := Scalar.extui v935
  let c0_i32_479 : BitVec 32 := 0#32
  let v937 : BitVec 1 := Scalar.cmpi .ne v936 c0_i32_479
  v937

def k0_mult2 (i : grid0.Coords) : BitVec 32 :=
  let arg0 : BitVec 32 := BitVec.ofNat 32 (i 0).val
  let c1_i32_1265 : BitVec 32 := 1#32
  let v2644 : BitVec 32 := Scalar.subi arg0 c1_i32_1265
  let c128_i32_1266 : BitVec 32 := 128#32
  let v2645 : BitVec 32 := Scalar.muli v2644 c128_i32_1266
  v2645
def k0_off3 (i : grid0.Coords) : Fin 2 → Nat :=
  let arg0 : BitVec 32 := BitVec.ofNat 32 (i 0).val
  let c1_i32_1265 : BitVec 32 := 1#32
  let v2644 : BitVec 32 := Scalar.subi arg0 c1_i32_1265
  let c128_i32_1266 : BitVec 32 := 128#32
  let v2645 : BitVec 32 := Scalar.muli v2644 c128_i32_1266
  let v2646 : BitVec 32 := v2645
  let v2647 : Index := Scalar.indexCast v2646
  let c0_1267 : Index := 0#32
  ![v2647.toNat, 0]
def k0_off4 (i : grid0.Coords) : Fin 2 → Nat :=
  let arg0 : BitVec 32 := BitVec.ofNat 32 (i 0).val
  let c1_i32_1265 : BitVec 32 := 1#32
  let v2644 : BitVec 32 := Scalar.subi arg0 c1_i32_1265
  let c128_i32_1266 : BitVec 32 := 128#32
  let v2645 : BitVec 32 := Scalar.muli v2644 c128_i32_1266
  let v2646 : BitVec 32 := v2645
  let v2654 : Index := Scalar.indexCast v2646
  let c128_1269 : Index := 128#32
  ![v2654.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8192x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x1024 : Shape := ⟨2, ![8192, 1024]⟩
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S1x8192x1792 : Shape := ⟨3, ![1, 8192, 1792]⟩
abbrev S8192x512 : Shape := ⟨2, ![8192, 512]⟩
abbrev S1x8192x512 : Shape := ⟨3, ![1, 8192, 512]⟩
abbrev S1x8192x128 : Shape := ⟨3, ![1, 8192, 128]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x512 : Shape := ⟨2, ![1, 512]⟩
abbrev S8192 : Shape := ⟨1, ![8192]⟩
abbrev S1x8192x1024 : Shape := ⟨3, ![1, 8192, 1024]⟩
abbrev S128x120 : Shape := ⟨2, ![128, 120]⟩

abbrev nBuf : Space → Nat
  | .hbm => 239
  | .vmem => 0
  | .smem => 0
  | _ => 0

abbrev hbmTy0_0 (i : Nat) : BufTy := match i % 128 with
  | 0 => ⟨S8192x1024, .bf16⟩
  | 1 => ⟨S8192x1792, .bf16⟩
  | 2 => ⟨S8, .f32⟩
  | 3 => ⟨S512, .f32⟩
  | 4 => ⟨S512, .f32⟩
  | 5 => ⟨S8x128x128, .f32⟩
  | 6 => ⟨S8x128, .f32⟩
  | 7 => ⟨S8192x1792, .f32⟩
  | 8 => ⟨S1x8192x1792, .f32⟩
  | 9 => ⟨S8192x512, .bf16⟩
  | 10 => ⟨S8192x512, .f32⟩
  | 11 => ⟨S1x8192x512, .f32⟩
  | 12 => ⟨S1x8192x512, .f32⟩
  | 13 => ⟨S1x8192x128, .f32⟩
  | 14 => ⟨S1x8192x128, .f32⟩
  | 15 => ⟨S1x8192x512, .f32⟩
  | 16 => ⟨S1x8192x512, .f32⟩
  | 17 => ⟨S_, .f32⟩
  | 18 => ⟨S_, .f32⟩
  | 19 => ⟨S_, .f32⟩
  | 20 => ⟨S1x8192x512, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S_, .f32⟩
  | 30 => ⟨S1x8192x512, .f32⟩
  | 31 => ⟨S1x8192x512, .f32⟩
  | 32 => ⟨S1x8192x512, .f32⟩
  | 33 => ⟨S_, .f32⟩
  | 34 => ⟨S1x8192x512, .f32⟩
  | 35 => ⟨S1x8192x512, .f32⟩
  | 36 => ⟨S_, .f32⟩
  | 37 => ⟨S1x8192x512, .f32⟩
  | 38 => ⟨S1x8192x512, .f32⟩
  | 39 => ⟨S1x8192x512, .f32⟩
  | 40 => ⟨S_, .f32⟩
  | 41 => ⟨S1x8192x512, .f32⟩
  | 42 => ⟨S1x8192x512, .f32⟩
  | 43 => ⟨S_, .f32⟩
  | 44 => ⟨S1x8192x512, .f32⟩
  | 45 => ⟨S1x8192x512, .f32⟩
  | 46 => ⟨S1x8192x512, .f32⟩
  | 47 => ⟨S_, .f32⟩
  | 48 => ⟨S_, .f32⟩
  | 49 => ⟨S_, .f32⟩
  | 50 => ⟨S1x8192x512, .f32⟩
  | 51 => ⟨S1x8192x512, .f32⟩
  | 52 => ⟨S1x8192x512, .f32⟩
  | 53 => ⟨S_, .f32⟩
  | 54 => ⟨S1x8192x512, .f32⟩
  | 55 => ⟨S1x8192x512, .f32⟩
  | 56 => ⟨S1x8192x512, .f32⟩
  | 57 => ⟨S1x8192x512, .f32⟩
  | 58 => ⟨S1x8192x512, .f32⟩
  | 59 => ⟨S_, .f32⟩
  | 60 => ⟨S1x8192x512, .f32⟩
  | 61 => ⟨S1x8192x512, .f32⟩
  | 62 => ⟨S1x8192x512, .f32⟩
  | 63 => ⟨S_, .f32⟩
  | 64 => ⟨S1x8192x512, .f32⟩
  | 65 => ⟨S1x8192x512, .f32⟩
  | 66 => ⟨S_, .f32⟩
  | 67 => ⟨S1x8192x512, .f32⟩
  | 68 => ⟨S1x8192x512, .f32⟩
  | 69 => ⟨S1x8192x512, .f32⟩
  | 70 => ⟨S_, .f32⟩
  | 71 => ⟨S1x8192x512, .f32⟩
  | 72 => ⟨S1x8192x512, .f32⟩
  | 73 => ⟨S_, .f32⟩
  | 74 => ⟨S1x8192x512, .f32⟩
  | 75 => ⟨S1x8192x512, .f32⟩
  | 76 => ⟨S1x8192x512, .f32⟩
  | 77 => ⟨S_, .f32⟩
  | 78 => ⟨S1x8192, .f32⟩
  | 79 => ⟨S1x8192x1, .f32⟩
  | 80 => ⟨S_, .f32⟩
  | 81 => ⟨S1x8192x1, .f32⟩
  | 82 => ⟨S1x8192x1, .f32⟩
  | 83 => ⟨S1x8192x512, .f32⟩
  | 84 => ⟨S1x8192x512, .f32⟩
  | 85 => ⟨S1x8192x512, .f32⟩
  | 86 => ⟨S_, .f32⟩
  | 87 => ⟨S1x8192, .f32⟩
  | 88 => ⟨S1x8192x1, .f32⟩
  | 89 => ⟨S_, .f32⟩
  | 90 => ⟨S1x8192x1, .f32⟩
  | 91 => ⟨S1x8192x1, .f32⟩
  | 92 => ⟨S_, .f32⟩
  | 93 => ⟨S1x8192x1, .f32⟩
  | 94 => ⟨S1x8192x1, .f32⟩
  | 95 => ⟨S1x8192x1, .f32⟩
  | 96 => ⟨S1x8192x1, .f32⟩
  | 97 => ⟨S_, .f32⟩
  | 98 => ⟨S1x8192x1, .f32⟩
  | 99 => ⟨S1x8192x1, .f32⟩
  | 100 => ⟨S1x8192x512, .f32⟩
  | 101 => ⟨S1x8192x512, .f32⟩
  | 102 => ⟨S1x1x512, .f32⟩
  | 103 => ⟨S1x8192x512, .f32⟩
  | 104 => ⟨S1x8192x512, .f32⟩
  | 105 => ⟨S1x1x512, .f32⟩
  | 106 => ⟨S1x8192x512, .f32⟩
  | 107 => ⟨S1x8192x512, .f32⟩
  | 108 => ⟨S1x64x128x8x64, .f32⟩
  | 109 => ⟨S_, .i1⟩
  | 110 => ⟨S128x128, .i1⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S_, .i1⟩
  | 118 => ⟨S128x128, .i1⟩
  | 119 => ⟨S128x128, .i1⟩
  | 120 => ⟨S1x128x128, .i1⟩
  | 121 => ⟨S_, .f32⟩
  | 122 => ⟨S8x128x128, .f32⟩
  | 123 => ⟨S8x128x128, .i1⟩
  | 124 => ⟨S8x128x128, .f32⟩
  | 125 => ⟨S_, .f32⟩
  | 126 => ⟨S8x128x128, .f32⟩
  | 127 => ⟨S8x1x64x64x128, .f32⟩
  | _ => ⟨S8192x1024, .bf16⟩

abbrev hbmTy0_1 (i : Nat) : BufTy := match i % 128 with
  | 0 => ⟨S1x64x128x8x64, .f32⟩
  | 1 => ⟨S128x8, .f32⟩
  | 2 => ⟨S1x1x128x8x1, .f32⟩
  | 3 => ⟨S1x64x128x8x64, .f32⟩
  | 4 => ⟨S1x64x128x8x64, .f32⟩
  | 5 => ⟨S1x8192x512, .f32⟩
  | 6 => ⟨S1x8192x512, .f32⟩
  | 7 => ⟨S1x8192x512, .f32⟩
  | 8 => ⟨S1x8192x512, .f32⟩
  | 9 => ⟨S1x64x128x8x64, .f32⟩
  | 10 => ⟨S_, .f32⟩
  | 11 => ⟨S1x128x8, .f32⟩
  | 12 => ⟨S1x1x128x8x1, .f32⟩
  | 13 => ⟨S_, .f32⟩
  | 14 => ⟨S128x8, .f32⟩
  | 15 => ⟨S8x128, .f32⟩
  | 16 => ⟨S8x1x64x64x128, .f32⟩
  | 17 => ⟨S8x128x128, .f32⟩
  | 18 => ⟨S8x1x64x64x128, .f32⟩
  | 19 => ⟨S1x64x128x8x64, .f32⟩
  | 20 => ⟨S_, .f32⟩
  | 21 => ⟨S8x128x128, .f32⟩
  | 22 => ⟨S8x128x128, .f32⟩
  | 23 => ⟨S1x8192x512, .f32⟩
  | 24 => ⟨S_, .f32⟩
  | 25 => ⟨S1x512, .f32⟩
  | 26 => ⟨S1x1x512, .f32⟩
  | 27 => ⟨S_, .f32⟩
  | 28 => ⟨S512, .f32⟩
  | 29 => ⟨S1x8192x512, .f32⟩
  | 30 => ⟨S_, .f32⟩
  | 31 => ⟨S1x512, .f32⟩
  | 32 => ⟨S1x1x512, .f32⟩
  | 33 => ⟨S1x8192x512, .f32⟩
  | 34 => ⟨S1x8192x512, .f32⟩
  | 35 => ⟨S_, .f32⟩
  | 36 => ⟨S512, .f32⟩
  | 37 => ⟨S1x8192x512, .f32⟩
  | 38 => ⟨S_, .f32⟩
  | 39 => ⟨S1x8192, .f32⟩
  | 40 => ⟨S1x8192x1, .f32⟩
  | 41 => ⟨S1x8192x512, .f32⟩
  | 42 => ⟨S1x8192x512, .f32⟩
  | 43 => ⟨S1x8192x1, .f32⟩
  | 44 => ⟨S_, .f32⟩
  | 45 => ⟨S1x8192x1, .f32⟩
  | 46 => ⟨S1x8192x1, .f32⟩
  | 47 => ⟨S_, .f32⟩
  | 48 => ⟨S8192, .f32⟩
  | 49 => ⟨S1x8192, .f32⟩
  | 50 => ⟨S1x8192x512, .f32⟩
  | 51 => ⟨S1x8192x512, .f32⟩
  | 52 => ⟨S1x8192x512, .f32⟩
  | 53 => ⟨S1x8192x512, .f32⟩
  | 54 => ⟨S1x8192x512, .f32⟩
  | 55 => ⟨S1x8192x512, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S_, .f32⟩
  | 63 => ⟨S8192, .f32⟩
  | 64 => ⟨S1x8192, .f32⟩
  | 65 => ⟨S1x8192x512, .f32⟩
  | 66 => ⟨S1x8192x512, .f32⟩
  | 67 => ⟨S1x8192x512, .f32⟩
  | 68 => ⟨S1x8192x512, .f32⟩
  | 69 => ⟨S_, .f32⟩
  | 70 => ⟨S1x8192x512, .f32⟩
  | 71 => ⟨S1x8192x512, .f32⟩
  | 72 => ⟨S1x8192x512, .f32⟩
  | 73 => ⟨S_, .f32⟩
  | 74 => ⟨S1x8192x512, .f32⟩
  | 75 => ⟨S1x8192x512, .f32⟩
  | 76 => ⟨S1x8192x512, .f32⟩
  | 77 => ⟨S1x8192x512, .f32⟩
  | 78 => ⟨S1x8192x512, .f32⟩
  | 79 => ⟨S1x8192x512, .f32⟩
  | 80 => ⟨S1x8192x512, .f32⟩
  | 81 => ⟨S1x8192x512, .f32⟩
  | 82 => ⟨S1x8192x512, .f32⟩
  | 83 => ⟨S_, .f32⟩
  | 84 => ⟨S1x8192x512, .f32⟩
  | 85 => ⟨S1x8192x512, .f32⟩
  | 86 => ⟨S1x8192x512, .f32⟩
  | 87 => ⟨S_, .f32⟩
  | 88 => ⟨S1x8192x512, .f32⟩
  | 89 => ⟨S1x8192x512, .f32⟩
  | 90 => ⟨S1x8192x512, .f32⟩
  | 91 => ⟨S1x8192x512, .f32⟩
  | 92 => ⟨S1x8192x512, .f32⟩
  | 93 => ⟨S1x8192x512, .f32⟩
  | 94 => ⟨S1x8192x512, .f32⟩
  | 95 => ⟨S_, .f32⟩
  | 96 => ⟨S1x8192x512, .f32⟩
  | 97 => ⟨S_, .f32⟩
  | 98 => ⟨S1x8192x128, .f32⟩
  | 99 => ⟨S_, .f32⟩
  | 100 => ⟨S1x8192x128, .f32⟩
  | 101 => ⟨S1x8192x1792, .f32⟩
  | 102 => ⟨S1x8192x1024, .f32⟩
  | 103 => ⟨S8192x1024, .f32⟩
  | 104 => ⟨S8192x1024, .bf16⟩
  | 105 => ⟨S1x512, .f32⟩
  | 106 => ⟨S1x512, .f32⟩
  | 107 => ⟨S128x8, .f32⟩
  | 108 => ⟨S_, .f32⟩
  | 109 => ⟨S128x120, .f32⟩
  | 110 => ⟨S128x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c : Ref sig .tc := ⟨.hbm, 109, rfl⟩
abbrev main_v80 : Ref sig .tc := ⟨.hbm, 110, rfl⟩
abbrev main_call0_v0 : Ref sig .tc := ⟨.hbm, 111, rfl⟩
abbrev main_call0_c : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_c_0 : Ref sig .tc := ⟨.hbm, 117, rfl⟩
abbrev main_call0_v5 : Ref sig .tc := ⟨.hbm, 118, rfl⟩
abbrev main_v81 : Ref sig .tc := ⟨.hbm, 119, rfl⟩
abbrev main_v82 : Ref sig .tc := ⟨.hbm, 120, rfl⟩
abbrev main_cst_21 : Ref sig .tc := ⟨.hbm, 121, rfl⟩
abbrev main_v83 : Ref sig .tc := ⟨.hbm, 122, rfl⟩
abbrev main_v84_1 : Ref sig .tc := ⟨.hbm, 123, rfl⟩
abbrev main_v84_0 : Ref sig .tc := ⟨.hbm, 124, rfl⟩
abbrev main_call1_cst : Ref sig .tc := ⟨.hbm, 125, rfl⟩
abbrev main_v84_2 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_cst_23 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_call2_cst : Ref sig .tc := ⟨.hbm, 148, rfl⟩
abbrev main_call2_v0 : Ref sig .tc := ⟨.hbm, 149, rfl⟩
abbrev main_v104 : Ref sig .tc := ⟨.hbm, 150, rfl⟩
abbrev main_v105 : Ref sig .tc := ⟨.hbm, 151, rfl⟩
abbrev main_cst_24 : Ref sig .tc := ⟨.hbm, 152, rfl⟩
abbrev main_v106 : Ref sig .tc := ⟨.hbm, 153, rfl⟩
abbrev main_v107 : Ref sig .tc := ⟨.hbm, 154, rfl⟩
abbrev main_cst_25 : Ref sig .tc := ⟨.hbm, 155, rfl⟩
abbrev main_v108 : Ref sig .tc := ⟨.hbm, 156, rfl⟩
abbrev main_v109 : Ref sig .tc := ⟨.hbm, 157, rfl⟩
abbrev main_cst_26 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_27 : Ref sig .tc := ⟨.hbm, 163, rfl⟩
abbrev main_v114 : Ref sig .tc := ⟨.hbm, 164, rfl⟩
abbrev main_v115 : Ref sig .tc := ⟨.hbm, 165, rfl⟩
abbrev main_cst_28 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_29 : Ref sig .tc := ⟨.hbm, 172, rfl⟩
abbrev main_v121 : Ref sig .tc := ⟨.hbm, 173, rfl⟩
abbrev main_v122 : Ref sig .tc := ⟨.hbm, 174, rfl⟩
abbrev main_cst_30 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_31 : Ref sig .tc := ⟨.hbm, 184, rfl⟩
abbrev main_v131 : Ref sig .tc := ⟨.hbm, 185, rfl⟩
abbrev main_v132 : Ref sig .tc := ⟨.hbm, 186, rfl⟩
abbrev main_cst_32 : Ref sig .tc := ⟨.hbm, 187, rfl⟩
abbrev main_v133 : Ref sig .tc := ⟨.hbm, 188, rfl⟩
abbrev main_v134 : Ref sig .tc := ⟨.hbm, 189, rfl⟩
abbrev main_cst_33 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_34 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_35 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_cst_36 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_37 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_38 : Ref sig .tc := ⟨.hbm, 223, rfl⟩
abbrev main_v163 : Ref sig .tc := ⟨.hbm, 224, rfl⟩
abbrev main_cst_39 : Ref sig .tc := ⟨.hbm, 225, rfl⟩
abbrev main_v164 : Ref sig .tc := ⟨.hbm, 226, rfl⟩
abbrev main_cst_40 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_cst_41 : Ref sig .tc := ⟨.hbm, 236, rfl⟩
abbrev main_v173 : Ref sig .tc := ⟨.hbm, 237, rfl⟩
abbrev main_v174 : Ref sig .tc := ⟨.hbm, 238, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x512 : Shape := ⟨2, ![8192, 512]⟩
abbrev S8192x256 : Shape := ⟨2, ![8192, 256]⟩
abbrev S8192x1024 : Shape := ⟨2, ![8192, 1024]⟩
abbrev S1792x1024 : Shape := ⟨2, ![1792, 1024]⟩
abbrev S1024x512 : Shape := ⟨2, ![1024, 512]⟩
abbrev S1024x256 : Shape := ⟨2, ![1024, 256]⟩
abbrev S1024x1024 : Shape := ⟨2, ![1024, 1024]⟩
abbrev S1024x1792 : Shape := ⟨2, ![1024, 1792]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x1024, .bf16⟩
  | .hbm, ⟨3, _⟩ => ⟨S8192x1024, .bf16⟩
  | .hbm, ⟨4, _⟩ => ⟨S1792x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .f32⟩
  | .local _ .vmem, ⟨3, _⟩ => ⟨S1024x256, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1792x1024, .bf16⟩
  | .local _ .vmem, ⟨9, _⟩ => ⟨S1792x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S8192x512 : Shape := ⟨2, ![8192, 512]⟩
abbrev S8192x256 : Shape := ⟨2, ![8192, 256]⟩
abbrev S8192x1024 : Shape := ⟨2, ![8192, 1024]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x1024, .bf16⟩
  | .hbm, ⟨3, _⟩ => ⟨S8192x1024, .bf16⟩
  | .hbm, ⟨4, _⟩ => ⟨S8192x512, .f32⟩
  | .hbm, ⟨5, _⟩ => ⟨S8192x1024, .f32⟩
  | .hbm, ⟨6, _⟩ => ⟨S8192x1792, .f32⟩
  | .hbm, ⟨7, _⟩ => ⟨S_, .f32⟩
  | .hbm, ⟨8, _⟩ => ⟨S1024x1792, .f32⟩
  | .hbm, ⟨9, _⟩ => ⟨S8192x1024, .f32⟩
  | .hbm, ⟨10, _⟩ => ⟨S8192x1792, .f32⟩
  | .hbm, ⟨11, _⟩ => ⟨S1792x1024, .f32⟩
  | .hbm, ⟨12, _⟩ => ⟨S1024x1792, .f32⟩
  | .hbm, ⟨13, _⟩ => ⟨S1792x1024, .f32⟩
  | .hbm, ⟨14, _⟩ => ⟨S1792x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x2816, .bf16⟩
  | .hbm, ⟨8, _⟩ => ⟨S1024x2816, .bf16⟩
  | .hbm, ⟨9, _⟩ => ⟨S8192x2816, .f32⟩
  | .hbm, ⟨10, _⟩ => ⟨S8192x2816, .f32⟩
  | .hbm, ⟨11, _⟩ => ⟨S1024x2816, .f32⟩
  | .hbm, ⟨12, _⟩ => ⟨S1024x2816, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel6.lean ====
abbrev S8192x512 : Shape := ⟨2, ![8192, 512]⟩
abbrev S8192x256 : Shape := ⟨2, ![8192, 256]⟩
abbrev S8192x1024 : Shape := ⟨2, ![8192, 1024]⟩
abbrev S1792x1024 : Shape := ⟨2, ![1792, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x1024, .bf16⟩
  | .hbm, ⟨3, _⟩ => ⟨S1792x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S1792x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x512 : Shape := ⟨2, ![8192, 512]⟩
abbrev S8192x256 : Shape := ⟨2, ![8192, 256]⟩
abbrev S8192x1024 : Shape := ⟨2, ![8192, 1024]⟩
abbrev S1792x1024 : Shape := ⟨2, ![1792, 1024]⟩
abbrev S1x1024 : Shape := ⟨2, ![1, 1024]⟩
abbrev S8192x1792 : Shape := ⟨2, ![8192, 1792]⟩
abbrev S1024x1792 : Shape := ⟨2, ![1024, 1792]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x1024, .bf16⟩
  | .hbm, ⟨3, _⟩ => ⟨S1792x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x512, .f32⟩
  | .hbm, ⟨8, _⟩ => ⟨S8192x1024, .f32⟩
  | .hbm, ⟨9, _⟩ => ⟨S8192x1792, .f32⟩
  | .hbm, ⟨10, _⟩ => ⟨S1792x1024, .f32⟩
  | .hbm, ⟨11, _⟩ => ⟨S1024x1792, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1792, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S256x256 : Shape := ⟨2, ![256, 256]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S2816x1024, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x1024, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S_, .f32⟩
  | .hbm, ⟨81, _⟩ => ⟨S8192x2816, .f32⟩
  | .hbm, ⟨82, _⟩ => ⟨S8192x2816, .f32⟩
  | .hbm, ⟨83, _⟩ => ⟨S_, .f32⟩
  | .hbm, ⟨84, _⟩ => ⟨S8192x2816, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x1024, .bf16⟩
  | .hbm, ⟨89, _⟩ => ⟨S8192x2816, .bf16⟩
  | .hbm, ⟨90, _⟩ => ⟨S8192x2816, .bf16⟩
  | .hbm, ⟨91, _⟩ => ⟨S8192x2816, .bf16⟩
  | .hbm, ⟨92, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v41_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v41_1 : Ref sig .tc := ⟨.hbm, 67, rfl⟩
abbrev main_v41_0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1792x1024, .bf16⟩
  | .hbm, ⟨3, _⟩ => ⟨S8192x1792, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1792, .bf16⟩
  | .local _ .vmem, ⟨5, _⟩ => ⟨S512x1792, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S1x1024 : Shape := ⟨2, ![1, 1024]⟩
abbrev S1792x1024 : Shape := ⟨2, ![1792, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1792 : Shape := ⟨2, ![1024, 1792]⟩
abbrev S8192x1792 : Shape := ⟨2, ![8192, 1792]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1792x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1792x1024, .f32⟩
  | .hbm, ⟨21, _⟩ => ⟨S1024x1792, .f32⟩
  | .hbm, ⟨22, _⟩ => ⟨S8192x1792, .f32⟩
  | .hbm, ⟨23, _⟩ => ⟨S8192x1792, .bf16⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S8192x1024, .bf16⟩
  | .hbm, ⟨5, _⟩ => ⟨S8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x2816, .f32⟩
  | .hbm, ⟨27, _⟩ => ⟨S8192x2816, .bf16⟩
  | .hbm, ⟨28, _⟩ => ⟨S8192x2816, .f32⟩
  | .hbm, ⟨29, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel10.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x1024, .bf16⟩
  | .hbm, ⟨20, _⟩ => ⟨S1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024, .f32⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024, .f32⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S8192x1024, .bf16⟩
  | .hbm, ⟨76, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel12.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference12Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S1x1024, .f32⟩
  | .hbm, ⟨6, _⟩ => ⟨S8192x1024, .bf16⟩
  | .hbm, ⟨7, _⟩ => ⟨S8192x1024, .bf16⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S1x1024, .f32⟩
  | .hbm, ⟨6, _⟩ => ⟨S8192x1024, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x1024, .bf16⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x1024 : Shape := ⟨2, ![1024, 1024]⟩
abbrev S1x512 : Shape := ⟨2, ![1, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1024x1024, .bf16⟩
  | .hbm, ⟨4, _⟩ => ⟨S8192x1024, .bf16⟩
  | .hbm, ⟨5, _⟩ => ⟨S1x512, .f32⟩
  | .hbm, ⟨6, _⟩ => ⟨S1x512, .f32⟩
  | .hbm, ⟨7, _⟩ => ⟨S8192x1024, .bf16⟩
  | .hbm, ⟨8, _⟩ => ⟨S8192x1024, .bf16⟩
  | .hbm, ⟨9, _⟩ => ⟨S1x1024, .f32⟩
  | .hbm, ⟨10, _⟩ => ⟨S1x512, .f32⟩
  | .hbm, ⟨11, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x512, .f32⟩
  | .local _ .vmem, ⟨16, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference14Ideal.lean ====
abbrev S8192x1024 : Shape := ⟨2, ![8192, 1024]⟩
abbrev S1x1024 : Shape := ⟨2, ![1, 1024]⟩
abbrev S1024x1024 : Shape := ⟨2, ![1024, 1024]⟩
abbrev S1x512 : Shape := ⟨2, ![1, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x512 : Shape := ⟨2, ![8192, 512]⟩

abbrev nBuf : Space → Nat
  | .hbm => 165
  | .vmem => 0
  | .smem => 0
  | _ => 0

abbrev hbmTy0_0 (i : Nat) : BufTy := match i % 128 with
  | 0 => ⟨S8192x1024, .f32⟩
  | 1 => ⟨S8192x1024, .bf16⟩
  | 2 => ⟨S1x1024, .f32⟩
  | 3 => ⟨S1024x1024, .bf16⟩
  | 4 => ⟨S8192x1024, .bf16⟩
  | 5 => ⟨S1x512, .f32⟩
  | 6 => ⟨S1x512, .f32⟩
  | 7 => ⟨S8192x1024, .f32⟩
  | 8 => ⟨S1024x1024, .f32⟩
  | 9 => ⟨S8192x1024, .f32⟩
  | 10 => ⟨S1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S8192x1024, .f32⟩
  | 36 => ⟨S8192x1024, .f32⟩
  | 37 => ⟨S_, .f32⟩
  | 38 => ⟨S1024, .f32⟩
  | 39 => ⟨S8192x1024, .f32⟩
  | 40 => ⟨S_, .f32⟩
  | 41 => ⟨S8192, .f32⟩
  | 42 => ⟨S8192x1, .f32⟩
  | 43 => ⟨S8192x1024, .f32⟩
  | 44 => ⟨S8192x1024, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S512, .f32⟩
  | 57 => ⟨S512, .f32⟩
  | 58 => ⟨S8192x512, .f32⟩
  | 59 => ⟨S8192x512, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x512, .f32⟩
  | 96 => ⟨S8192x512, .f32⟩
  | 97 => ⟨S1x512, .f32⟩
  | 98 => ⟨S8192x512, .f32⟩
  | 99 => ⟨S8192x512, .f32⟩
  | 100 => ⟨S8192x1024, .f32⟩
  | 101 => ⟨S8192x1024, .f32⟩
  | 102 => ⟨S8192x1024, .f32⟩
  | 103 => ⟨S8192x512, .f32⟩
  | 104 => ⟨S8192x512, .f32⟩
  | 105 => ⟨S8192x512, .f32⟩
  | 106 => ⟨S_, .f32⟩
  | 107 => ⟨S512, .f32⟩
  | 108 => ⟨S1x512, .f32⟩
  | 109 => ⟨S8192x512, .f32⟩
  | 110 => ⟨S8192x512, .f32⟩
  | 111 => ⟨S_, .f32⟩
  | 112 => ⟨S512, .f32⟩
  | 113 => ⟨S8192x512, .f32⟩
  | 114 => ⟨S_, .f32⟩
  | 115 => ⟨S8192, .f32⟩
  | 116 => ⟨S8192x1, .f32⟩
  | 117 => ⟨S8192x512, .f32⟩
  | 118 => ⟨S8192x512, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S_, .f32⟩
  | 3 => ⟨S8192x1024, .f32⟩
  | 4 => ⟨S8192x512, .f32⟩
  | 5 => ⟨S_, .f32⟩
  | 6 => ⟨S512, .f32⟩
  | 7 => ⟨S1x512, .f32⟩
  | 8 => ⟨S8192x512, .f32⟩
  | 9 => ⟨S8192x512, .f32⟩
  | 10 => ⟨S_, .f32⟩
  | 11 => ⟨S512, .f32⟩
  | 12 => ⟨S8192x512, .f32⟩
  | 13 => ⟨S_, .f32⟩
  | 14 => ⟨S8192, .f32⟩
  | 15 => ⟨S8192x1, .f32⟩
  | 16 => ⟨S8192x512, .f32⟩
  | 17 => ⟨S8192x512, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192x1024, .f32⟩
  | 31 => ⟨S8192x1024, .f32⟩
  | 32 => ⟨S8192x1024, .bf16⟩
  | 33 => ⟨S8192x1024, .bf16⟩
  | 34 => ⟨S1x1024, .f32⟩
  | 35 => ⟨S1x512, .f32⟩
  | 36 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_17 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_cst_20 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_21 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_23 : Ref sig .tc := ⟨.hbm, 138, rfl⟩
abbrev main_v107 : Ref sig .tc := ⟨.hbm, 139, rfl⟩
abbrev main_v108 : Ref sig .tc := ⟨.hbm, 140, rfl⟩
abbrev main_cst_24 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_25 : Ref sig .tc := ⟨.hbm, 147, rfl⟩
abbrev main_v114 : Ref sig .tc := ⟨.hbm, 148, rfl⟩
abbrev main_v115 : Ref sig .tc := ⟨.hbm, 149, rfl⟩
abbrev main_cst_26 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_27 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x256, .f32⟩
  | .hbm, ⟨4, _⟩ => ⟨S256x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x256, .f32⟩
  | .hbm, ⟨4, _⟩ => ⟨S256x1024, .bf16⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x256, .f32⟩
  | .hbm, ⟨4, _⟩ => ⟨S256x1024, .bf16⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference16Ideal.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x256, .f32⟩
  | .hbm, ⟨4, _⟩ => ⟨S256x1024, .bf16⟩
  | .hbm, ⟨5, _⟩ => ⟨S8192x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S_, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel17.lean ====
abbrev S8x1112x128 : Shape := ⟨3, ![8, 1112, 128]⟩
abbrev S1112x128 : Shape := ⟨2, ![1112, 128]⟩
abbrev S1x1112x128 : Shape := ⟨3, ![1, 1112, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S1112x128, .f32⟩
  | .hbm, ⟨5, _⟩ => ⟨S1112x128, .f32⟩
  | .hbm, ⟨6, _⟩ => ⟨S1112x128, .f32⟩
  | .hbm, ⟨7, _⟩ => ⟨S1112x128, .f32⟩
  | .local _ .vmem, ⟨0, _⟩ => ⟨S8x1112x128, .f32⟩
  | .local _ .vmem, ⟨1, _⟩ => ⟨S1112x128, .f32⟩
  | .local _ .vmem, ⟨2, _⟩ => ⟨S1112x128, .f32⟩
  | .local _ .vmem, ⟨3, _⟩ => ⟨S1112x128, .f32⟩
  | .local _ .vmem, ⟨4, _⟩ => ⟨S1112x128, .f32⟩
  | .local _ .vmem, ⟨5, _⟩ => ⟨S1112x128, .f32⟩
  | .local _ .vmem, ⟨6, _⟩ => ⟨S1112x128, .f32⟩
  | .local _ .vmem, ⟨7, _⟩ => ⟨S1112x128, .f32⟩
  | _, _ => ⟨S8x1112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S8x1112x128 : Shape := ⟨3, ![8, 1112, 128]⟩
abbrev S1112x128 : Shape := ⟨2, ![1112, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S_, .f32⟩
  | .hbm, ⟨5, _⟩ => ⟨S1112x128, .f32⟩
  | .hbm, ⟨6, _⟩ => ⟨S_, .f32⟩
  | .hbm, ⟨7, _⟩ => ⟨S1112x128, .f32⟩
  | .hbm, ⟨8, _⟩ => ⟨S1112x128, .f32⟩
  | .hbm, ⟨9, _⟩ => ⟨S_, .f32⟩
  | .hbm, ⟨10, _⟩ => ⟨S1112x128, .f32⟩
  | .hbm, ⟨11, _⟩ => ⟨S1112x128, .f32⟩
  | .hbm, ⟨12, _⟩ => ⟨S1112x128, .f32⟩
  | .hbm, ⟨13, _⟩ => ⟨S_, .f32⟩
  | .hbm, ⟨14, _⟩ => ⟨S1112x128, .f32⟩
  | .hbm, ⟨15, _⟩ => ⟨S1112x128, .f32⟩
  | .hbm, ⟨16, _⟩ => ⟨S1112x128, .f32⟩
  | .hbm, ⟨17, _⟩ => ⟨S_, .f32⟩
  | .hbm, ⟨18, _⟩ => ⟨S1112x128, .f32⟩
  | .hbm, ⟨19, _⟩ => ⟨S1112x128, .f32⟩
  | .hbm, ⟨20, _⟩ => ⟨S1112x128, .f32⟩
  | .hbm, ⟨21, _⟩ => ⟨S_, .f32⟩
  | .hbm, ⟨22, _⟩ => ⟨S1112x128, .f32⟩
  | .hbm, ⟨23, _⟩ => ⟨S1112x128, .f32⟩
  | .hbm, ⟨24, _⟩ => ⟨S_, .f32⟩
  | .hbm, ⟨25, _⟩ => ⟨S1112x128, .f32⟩
  | .hbm, ⟨26, _⟩ => ⟨S1112x128, .f32⟩
  | .hbm, ⟨27, _⟩ => ⟨S1112x128, .f32⟩
  | .hbm, ⟨28, _⟩ => ⟨S_, .f32⟩
  | .hbm, ⟨29, _⟩ => ⟨S1112x128, .f32⟩
  | .hbm, ⟨30, _⟩ => ⟨S1112x128, .f32⟩
  | .hbm, ⟨31, _⟩ => ⟨S1112x128, .f32⟩
  | .hbm, ⟨32, _⟩ => ⟨S_, .f32⟩
  | .hbm, ⟨33, _⟩ => ⟨S1112x128, .f32⟩
  | .hbm, ⟨34, _⟩ => ⟨S1112x128, .f32⟩
  | .hbm, ⟨35, _⟩ => ⟨S1112x128, .f32⟩
  | .hbm, ⟨36, _⟩ => ⟨S_, .f32⟩
  | .hbm, ⟨37, _⟩ => ⟨S1112x128, .f32⟩
  | .hbm, ⟨38, _⟩ => ⟨S1112x128, .f32⟩
  | _, _ => ⟨S8x1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S448x1024 : Shape := ⟨2, ![448, 1024]⟩
abbrev S4x448x1024 : Shape := ⟨3, ![4, 448, 1024]⟩
abbrev S224x1024 : Shape := ⟨2, ![224, 1024]⟩
abbrev S1x224x1024 : Shape := ⟨3, ![1, 224, 1024]⟩

abbrev nBuf : Space → Nat
  | .hbm => 13
  | .vmem => 18
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S4x448x1024, .f32⟩
  | .hbm, ⟨3, _⟩ => ⟨S4x448x1024, .f32⟩
  | .hbm, ⟨4, _⟩ => ⟨S4x448x1024, .f32⟩
  | .hbm, ⟨5, _⟩ => ⟨S4x448x1024, .f32⟩
  | .hbm, ⟨6, _⟩ => ⟨S4x448x1024, .f32⟩
  | .hbm, ⟨7, _⟩ => ⟨S4x448x1024, .f32⟩
  | .hbm, ⟨8, _⟩ => ⟨S4x448x1024, .f32⟩
  | .hbm, ⟨9, _⟩ => ⟨S4x448x1024, .f32⟩
  | .hbm, ⟨10, _⟩ => ⟨S4x448x1024, .f32⟩
  | .hbm, ⟨11, _⟩ => ⟨S4x448x1024, .f32⟩
  | .hbm, ⟨12, _⟩ => ⟨S4x448x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | .local _ .vmem, ⟨16, _⟩ => ⟨S1x224x1024, .f32⟩
  | .local _ .vmem, ⟨17, _⟩ => ⟨S1x224x1024, .f32⟩
  | _, _ => ⟨S448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x224x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S448x1024 : Shape := ⟨2, ![448, 1024]⟩
abbrev S4x448x1024 : Shape := ⟨3, ![4, 448, 1024]⟩
abbrev S224x1024 : Shape := ⟨2, ![224, 1024]⟩
abbrev S1x224x1024 : Shape := ⟨3, ![1, 224, 1024]⟩

abbrev nBuf : Space → Nat
  | .hbm => 13
  | .vmem => 18
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S4x448x1024, .f32⟩
  | .hbm, ⟨3, _⟩ => ⟨S4x448x1024, .f32⟩
  | .hbm, ⟨4, _⟩ => ⟨S4x448x1024, .f32⟩
  | .hbm, ⟨5, _⟩ => ⟨S4x448x1024, .f32⟩
  | .hbm, ⟨6, _⟩ => ⟨S4x448x1024, .f32⟩
  | .hbm, ⟨7, _⟩ => ⟨S4x448x1024, .f32⟩
  | .hbm, ⟨8, _⟩ => ⟨S4x448x1024, .f32⟩
  | .hbm, ⟨9, _⟩ => ⟨S4x448x1024, .f32⟩
  | .hbm, ⟨10, _⟩ => ⟨S4x448x1024, .f32⟩
  | .hbm, ⟨11, _⟩ => ⟨S4x448x1024, .f32⟩
  | .hbm, ⟨12, _⟩ => ⟨S4x448x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | .local _ .vmem, ⟨16, _⟩ => ⟨S1x224x1024, .f32⟩
  | .local _ .vmem, ⟨17, _⟩ => ⟨S1x224x1024, .f32⟩
  | _, _ => ⟨S448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x224x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S448x1024 : Shape := ⟨2, ![448, 1024]⟩
abbrev S4x448x1024 : Shape := ⟨3, ![4, 448, 1024]⟩
abbrev S1x448x1024 : Shape := ⟨3, ![1, 448, 1024]⟩
abbrev S_ : Shape := ⟨0, ![]⟩
abbrev S3x448x1024 : Shape := ⟨3, ![3, 448, 1024]⟩

abbrev nBuf : Space → Nat
  | .hbm => 61
  | .vmem => 0
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S4x448x1024, .f32⟩
  | .hbm, ⟨3, _⟩ => ⟨S4x448x1024, .f32⟩
  | .hbm, ⟨4, _⟩ => ⟨S4x448x1024, .f32⟩
  | .hbm, ⟨5, _⟩ => ⟨S4x448x1024, .f32⟩
  | .hbm, ⟨6, _⟩ => ⟨S4x448x1024, .f32⟩
  | .hbm, ⟨7, _⟩ => ⟨S4x448x1024, .f32⟩
  | .hbm, ⟨8, _⟩ => ⟨S4x448x1024, .f32⟩
  | .hbm, ⟨9, _⟩ => ⟨S448x1024, .f32⟩
  | .hbm, ⟨10, _⟩ => ⟨S1x448x1024, .f32⟩
  | .hbm, ⟨11, _⟩ => ⟨S448x1024, .f32⟩
  | .hbm, ⟨12, _⟩ => ⟨S1x448x1024, .f32⟩
  | .hbm, ⟨13, _⟩ => ⟨S448x1024, .f32⟩
  | .hbm, ⟨14, _⟩ => ⟨S1x448x1024, .f32⟩
  | .hbm, ⟨15, _⟩ => ⟨S448x1024, .f32⟩
  | .hbm, ⟨16, _⟩ => ⟨S_, .f32⟩
  | .hbm, ⟨17, _⟩ => ⟨S448x1024, .f32⟩
  | .hbm, ⟨18, _⟩ => ⟨S448x1024, .f32⟩
  | .hbm, ⟨19, _⟩ => ⟨S_, .f32⟩
  | .hbm, ⟨20, _⟩ => ⟨S448x1024, .f32⟩
  | .hbm, ⟨21, _⟩ => ⟨S448x1024, .f32⟩
  | .hbm, ⟨22, _⟩ => ⟨S448x1024, .f32⟩
  | .hbm, ⟨23, _⟩ => ⟨S_, .f32⟩
  | .hbm, ⟨24, _⟩ => ⟨S448x1024, .f32⟩
  | .hbm, ⟨25, _⟩ => ⟨S448x1024, .f32⟩
  | .hbm, ⟨26, _⟩ => ⟨S448x1024, .f32⟩
  | .hbm, ⟨27, _⟩ => ⟨S_, .f32⟩
  | .hbm, ⟨28, _⟩ => ⟨S448x1024, .f32⟩
  | .hbm, ⟨29, _⟩ => ⟨S448x1024, .f32⟩
  | .hbm, ⟨30, _⟩ => ⟨S448x1024, .f32⟩
  | .hbm, ⟨31, _⟩ => ⟨S_, .f32⟩
  | .hbm, ⟨32, _⟩ => ⟨S448x1024, .f32⟩
  | .hbm, ⟨33, _⟩ => ⟨S448x1024, .f32⟩
  | .hbm, ⟨34, _⟩ => ⟨S_, .f32⟩
  | .hbm, ⟨35, _⟩ => ⟨S448x1024, .f32⟩
  | .hbm, ⟨36, _⟩ => ⟨S448x1024, .f32⟩
  | .hbm, ⟨37, _⟩ => ⟨S448x1024, .f32⟩
  | .hbm, ⟨38, _⟩ => ⟨S_, .f32⟩
  | .hbm, ⟨39, _⟩ => ⟨S448x1024, .f32⟩
  | .hbm, ⟨40, _⟩ => ⟨S448x1024, .f32⟩
  | .hbm, ⟨41, _⟩ => ⟨S448x1024, .f32⟩
  | .hbm, ⟨42, _⟩ => ⟨S_, .f32⟩
  | .hbm, ⟨43, _⟩ => ⟨S448x1024, .f32⟩
  | .hbm, ⟨44, _⟩ => ⟨S448x1024, .f32⟩
  | .hbm, ⟨45, _⟩ => ⟨S448x1024, .f32⟩
  | .hbm, ⟨46, _⟩ => ⟨S_, .f32⟩
  | .hbm, ⟨47, _⟩ => ⟨S448x1024, .f32⟩
  | .hbm, ⟨48, _⟩ => ⟨S448x1024, .f32⟩
  | .hbm, ⟨49, _⟩ => ⟨S1x448x1024, .f32⟩
  | .hbm, ⟨50, _⟩ => ⟨S3x448x1024, .f32⟩
  | .hbm, ⟨51, _⟩ => ⟨S4x448x1024, .f32⟩
  | .hbm, ⟨52, _⟩ => ⟨S1x448x1024, .f32⟩
  | .hbm, ⟨53, _⟩ => ⟨S3x448x1024, .f32⟩
  | .hbm, ⟨54, _⟩ => ⟨S4x448x1024, .f32⟩
  | .hbm, ⟨55, _⟩ => ⟨S1x448x1024, .f32⟩
  | .hbm, ⟨56, _⟩ => ⟨S3x448x1024, .f32⟩
  | .hbm, ⟨57, _⟩ => ⟨S4x448x1024, .f32⟩
  | .hbm, ⟨58, _⟩ => ⟨S1x448x1024, .f32⟩
  | .hbm, ⟨59, _⟩ => ⟨S3x448x1024, .f32⟩
  | .hbm, ⟨60, _⟩ => ⟨S4x448x1024, .f32⟩
  | _, _ => ⟨S448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel19.lean ====
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel19Ideal.lean ====
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference19Ideal.lean ====
abbrev S256x1024 : Shape := ⟨2, ![256, 1024]⟩
abbrev S4x256x1024 : Shape := ⟨3, ![4, 256, 1024]⟩
abbrev S1x256x1024 : Shape := ⟨3, ![1, 256, 1024]⟩
abbrev S_ : Shape := ⟨0, ![]⟩
abbrev S3x256x1024 : Shape := ⟨3, ![3, 256, 1024]⟩

abbrev nBuf : Space → Nat
  | .hbm => 61
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S1x256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | .hbm, ⟨49, _⟩ => ⟨S1x256x1024, .f32⟩
  | .hbm, ⟨50, _⟩ => ⟨S3x256x1024, .f32⟩
  | .hbm, ⟨51, _⟩ => ⟨S4x256x1024, .f32⟩
  | .hbm, ⟨52, _⟩ => ⟨S1x256x1024, .f32⟩
  | .hbm, ⟨53, _⟩ => ⟨S3x256x1024, .f32⟩
  | .hbm, ⟨54, _⟩ => ⟨S4x256x1024, .f32⟩
  | .hbm, ⟨55, _⟩ => ⟨S1x256x1024, .f32⟩
  | .hbm, ⟨56, _⟩ => ⟨S3x256x1024, .f32⟩
  | .hbm, ⟨57, _⟩ => ⟨S4x256x1024, .f32⟩
  | .hbm, ⟨58, _⟩ => ⟨S1x256x1024, .f32⟩
  | .hbm, ⟨59, _⟩ => ⟨S3x256x1024, .f32⟩
  | .hbm, ⟨60, _⟩ => ⟨S4x256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel20.lean ====
abbrev S704x1024 : Shape := ⟨2, ![704, 1024]⟩
abbrev S4x704x1024 : Shape := ⟨3, ![4, 704, 1024]⟩
abbrev S352x1024 : Shape := ⟨2, ![352, 1024]⟩
abbrev S1x352x1024 : Shape := ⟨3, ![1, 352, 1024]⟩

abbrev nBuf : Space → Nat
  | .hbm => 13
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel20Ideal.lean ====
abbrev S704x1024 : Shape := ⟨2, ![704, 1024]⟩
abbrev S4x704x1024 : Shape := ⟨3, ![4, 704, 1024]⟩
abbrev S352x1024 : Shape := ⟨2, ![352, 1024]⟩
abbrev S1x352x1024 : Shape := ⟨3, ![1, 352, 1024]⟩

abbrev nBuf : Space → Nat
  | .hbm => 13
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S704x1024 : Shape := ⟨2, ![704, 1024]⟩
abbrev S4x704x1024 : Shape := ⟨3, ![4, 704, 1024]⟩
abbrev S1x704x1024 : Shape := ⟨3, ![1, 704, 1024]⟩
abbrev S_ : Shape := ⟨0, ![]⟩
abbrev S3x704x1024 : Shape := ⟨3, ![3, 704, 1024]⟩

abbrev nBuf : Space → Nat
  | .hbm => 61
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S704x1024, .f32⟩
  | .hbm, ⟨10, _⟩ => ⟨S1x704x1024, .f32⟩
  | .hbm, ⟨11, _⟩ => ⟨S704x1024, .f32⟩
  | .hbm, ⟨12, _⟩ => ⟨S1x704x1024, .f32⟩
  | .hbm, ⟨13, _⟩ => ⟨S704x1024, .f32⟩
  | .hbm, ⟨14, _⟩ => ⟨S1x704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | .hbm, ⟨49, _⟩ => ⟨S1x704x1024, .f32⟩
  | .hbm, ⟨50, _⟩ => ⟨S3x704x1024, .f32⟩
  | .hbm, ⟨51, _⟩ => ⟨S4x704x1024, .f32⟩
  | .hbm, ⟨52, _⟩ => ⟨S1x704x1024, .f32⟩
  | .hbm, ⟨53, _⟩ => ⟨S3x704x1024, .f32⟩
  | .hbm, ⟨54, _⟩ => ⟨S4x704x1024, .f32⟩
  | .hbm, ⟨55, _⟩ => ⟨S1x704x1024, .f32⟩
  | .hbm, ⟨56, _⟩ => ⟨S3x704x1024, .f32⟩
  | .hbm, ⟨57, _⟩ => ⟨S4x704x1024, .f32⟩
  | .hbm, ⟨58, _⟩ => ⟨S1x704x1024, .f32⟩
  | .hbm, ⟨59, _⟩ => ⟨S3x704x1024, .f32⟩
  | .hbm, ⟨60, _⟩ => ⟨S4x704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel21.lean ====
abbrev S256x256 : Shape := ⟨2, ![256, 256]⟩
abbrev S4x256x256 : Shape := ⟨3, ![4, 256, 256]⟩
abbrev S1x256x256 : Shape := ⟨3, ![1, 256, 256]⟩

abbrev nBuf : Space → Nat
  | .hbm => 13
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S4x256x256, .f32⟩
  | .local _ .vmem, ⟨0, _⟩ => ⟨S256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference21Ideal.lean ====
abbrev S256x256 : Shape := ⟨2, ![256, 256]⟩
abbrev S4x256x256 : Shape := ⟨3, ![4, 256, 256]⟩
abbrev S1x256x256 : Shape := ⟨3, ![1, 256, 256]⟩
abbrev S_ : Shape := ⟨0, ![]⟩
abbrev S3x256x256 : Shape := ⟨3, ![3, 256, 256]⟩

abbrev nBuf : Space → Nat
  | .hbm => 61
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S256x256, .f32⟩
  | .hbm, ⟨10, _⟩ => ⟨S1x256x256, .f32⟩
  | .hbm, ⟨11, _⟩ => ⟨S256x256, .f32⟩
  | .hbm, ⟨12, _⟩ => ⟨S1x256x256, .f32⟩
  | .hbm, ⟨13, _⟩ => ⟨S256x256, .f32⟩
  | .hbm, ⟨14, _⟩ => ⟨S1x256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S1x256x256, .f32⟩
  | .hbm, ⟨50, _⟩ => ⟨S3x256x256, .f32⟩
  | .hbm, ⟨51, _⟩ => ⟨S4x256x256, .f32⟩
  | .hbm, ⟨52, _⟩ => ⟨S1x256x256, .f32⟩
  | .hbm, ⟨53, _⟩ => ⟨S3x256x256, .f32⟩
  | .hbm, ⟨54, _⟩ => ⟨S4x256x256, .f32⟩
  | .hbm, ⟨55, _⟩ => ⟨S1x256x256, .f32⟩
  | .hbm, ⟨56, _⟩ => ⟨S3x256x256, .f32⟩
  | .hbm, ⟨57, _⟩ => ⟨S4x256x256, .f32⟩
  | .hbm, ⟨58, _⟩ => ⟨S1x256x256, .f32⟩
  | .hbm, ⟨59, _⟩ => ⟨S3x256x256, .f32⟩
  | .hbm, ⟨60, _⟩ => ⟨S4x256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel22.lean ====
abbrev S8192x1792 : Shape := ⟨2, ![8192, 1792]⟩
abbrev S8 : Shape := ⟨1, ![8]⟩
abbrev S1x512 : Shape := ⟨2, ![1, 512]⟩
abbrev S8x128x128 : Shape := ⟨3, ![8, 128, 128]⟩
abbrev S8x128 : Shape := ⟨2, ![8, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S1x8x128x256 : Shape := ⟨4, ![1, 8, 128, 256]⟩
abbrev S2x8x128x256 : Shape := ⟨4, ![2, 8, 128, 256]⟩
abbrev S128x8 : Shape := ⟨2, ![128, 8]⟩
abbrev S128x8x64 : Shape := ⟨3, ![128, 8, 64]⟩
abbrev S128x512 : Shape := ⟨2, ![128, 512]⟩
abbrev S8192x1024 : Shape := ⟨2, ![8192, 1024]⟩
abbrev S128x1792 : Shape := ⟨2, ![128, 1792]⟩
abbrev S128x128 : Shape := ⟨2, ![128, 128]⟩
abbrev S128x1024 : Shape := ⟨2, ![128, 1024]⟩
abbrev S1x128 : Shape := ⟨2, ![1, 128]⟩
abbrev S256x128 : Shape := ⟨2, ![256, 128]⟩
abbrev S1 : Shape := ⟨1, ![1]⟩
abbrev S1x16x256 : Shape := ⟨3, ![1, 16, 256]⟩
abbrev S16x256 : Shape := ⟨2, ![16, 256]⟩
abbrev S1x1x16x256 : Shape := ⟨4, ![1, 1, 16, 256]⟩
abbrev S16 : Shape := ⟨1, ![16]⟩
abbrev S16x1 : Shape := ⟨2, ![16, 1]⟩
abbrev S16x512 : Shape := ⟨2, ![16, 512]⟩
abbrev S1x128x128 : Shape := ⟨3, ![1, 128, 128]⟩
abbrev S8192x512 : Shape := ⟨2, ![8192, 512]⟩

abbrev nBuf : Space → Nat
  | .hbm => 56
  | .vmem => 18
  | .smem => 1
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S8, .f32⟩
  | .hbm, ⟨7, _⟩ => ⟨S128, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S8x1x1, .f32⟩
  | .hbm, ⟨25, _⟩ => ⟨S8x1x1, .f32⟩
  | .hbm, ⟨26, _⟩ => ⟨S128x256, .f32⟩
  | .hbm, ⟨27, _⟩ => ⟨S1x128x256, .f32⟩
  | .hbm, ⟨28, _⟩ => ⟨S8x128x256, .f32⟩
  | .hbm, ⟨29, _⟩ => ⟨S8x128x256, .f32⟩
  | .hbm, ⟨30, _⟩ => ⟨S8x128x256, .f32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S128x256, .i1⟩
  | .hbm, ⟨35, _⟩ => ⟨S128x256, .i1⟩
  | .hbm, ⟨36, _⟩ => ⟨S1x128x256, .i1⟩
  | .hbm, ⟨37, _⟩ => ⟨S_, .f32⟩
  | .hbm, ⟨38, _⟩ => ⟨S_, .f32⟩
  | .hbm, ⟨39, _⟩ => ⟨S8x128x256, .i1⟩
  | .hbm, ⟨40, _⟩ => ⟨S8x128x256, .f32⟩
  | .hbm, ⟨41, _⟩ => ⟨S8x128x256, .f32⟩
  | .hbm, ⟨42, _⟩ => ⟨S1x128x256, .i1⟩
  | .hbm, ⟨43, _⟩ => ⟨S_, .f32⟩
  | .hbm, ⟨44, _⟩ => ⟨S_, .f32⟩
  | .hbm, ⟨45, _⟩ => ⟨S8x128x256, .i1⟩
  | .hbm, ⟨46, _⟩ => ⟨S8x128x256, .f32⟩
  | .hbm, ⟨47, _⟩ => ⟨S8x128x256, .f32⟩
  | .hbm, ⟨48, _⟩ => ⟨S1x8x128x256, .f32⟩
  | .hbm, ⟨49, _⟩ => ⟨S1x8x128x256, .f32⟩
  | .hbm, ⟨50, _⟩ => ⟨S2x8x128x256, .f32⟩
  | .hbm, ⟨51, _⟩ => ⟨S128x8, .f32⟩
  | .hbm, ⟨52, _⟩ => ⟨S128x8x64, .f32⟩
  | .hbm, ⟨53, _⟩ => ⟨S128x512, .f32⟩
  | .hbm, ⟨54, _⟩ => ⟨S8192x1024, .bf16⟩
  | .hbm, ⟨55, _⟩ => ⟨S8192x512, .bf16⟩
  | .local _ .vmem, ⟨0, _⟩ => ⟨S128x1792, .bf16⟩
  | .local _ .vmem, ⟨1, _⟩ => ⟨S128x1792, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x8x128x256, .f32⟩
  | .local _ .vmem, ⟨7, _⟩ => ⟨S1x8x128x256, .f32⟩
  | .local _ .vmem, ⟨8, _⟩ => ⟨S1x512, .f32⟩
  | .local _ .vmem, ⟨9, _⟩ => ⟨S1x512, .f32⟩
  | .local _ .vmem, ⟨10, _⟩ => ⟨S8x128x128, .f32⟩
  | .local _ .vmem, ⟨11, _⟩ => ⟨S128x512, .f32⟩
  | .local _ .vmem, ⟨12, _⟩ => ⟨S128x1024, .bf16⟩
  | .local _ .vmem, ⟨13, _⟩ => ⟨S128x1024, .bf16⟩
  | .local _ .vmem, ⟨14, _⟩ => ⟨S8x128x256, .f32⟩
  | .local _ .vmem, ⟨15, _⟩ => ⟨S8x128x256, .bf16⟩
  | .local _ .vmem, ⟨16, _⟩ => ⟨S128x512, .f32⟩
  | .local _ .vmem, ⟨17, _⟩ => ⟨S128x512, .f32⟩
  | .local _ .smem, ⟨0, _⟩ => ⟨S8, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel22Ideal.lean ====
variable {F : FTy → Type} [FloatOps F] [Named F]
def κ : String → Option EReal := fun
  | "gelu_c" => some ((8943 / 200000 : ℝ) : EReal)
  | _ => none
-- ==== Reference22Ideal.lean ====
abbrev S8192x1792 : Shape := ⟨2, ![8192, 1792]⟩
abbrev S8 : Shape := ⟨1, ![8]⟩
abbrev S1x512 : Shape := ⟨2, ![1, 512]⟩
abbrev S8x128x128 : Shape := ⟨3, ![8, 128, 128]⟩
abbrev S8x128 : Shape := ⟨2, ![8, 128]⟩
abbrev S1x8192x1792 : Shape := ⟨3, ![1, 8192, 1792]⟩
abbrev S512 : Shape := ⟨1, ![512]⟩
abbrev S1x8192x512 : Shape := ⟨3, ![1, 8192, 512]⟩
abbrev S1x8192x128 : Shape := ⟨3, ![1, 8192, 128]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S8192x512 : Shape := ⟨2, ![8192, 512]⟩

abbrev nBuf : Space → Nat
  | .hbm => 107
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S8192x1792, .f32⟩
  | .hbm, ⟨7, _⟩ => ⟨S1x8192x1792, .f32⟩
  | .hbm, ⟨8, _⟩ => ⟨S512, .f32⟩
  | .hbm, ⟨9, _⟩ => ⟨S512, .f32⟩
  | .hbm, ⟨10, _⟩ => ⟨S1x8192x512, .f32⟩
  | .hbm, ⟨11, _⟩ => ⟨S1x8192x128, .f32⟩
  | .hbm, ⟨12, _⟩ => ⟨S1x8192x128, .f32⟩
  | .hbm, ⟨13, _⟩ => ⟨S1x8192x512, .f32⟩
  | .hbm, ⟨14, _⟩ => ⟨S1x8192x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x8192x512, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S_, .f32⟩
  | .hbm, ⟨24, _⟩ => ⟨S1x8192x512, .f32⟩
  | .hbm, ⟨25, _⟩ => ⟨S1x8192x512, .f32⟩
  | .hbm, ⟨26, _⟩ => ⟨S1x8192x512, .f32⟩
  | .hbm, ⟨27, _⟩ => ⟨S_, .f32⟩
  | .hbm, ⟨28, _⟩ => ⟨S1x8192x512, .f32⟩
  | .hbm, ⟨29, _⟩ => ⟨S1x8192x512, .f32⟩
  | .hbm, ⟨30, _⟩ => ⟨S_, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x8192x512, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .hbm, ⟨41, _⟩ => ⟨S1x8192x512, .f32⟩
  | .hbm, ⟨42, _⟩ => ⟨S_, .f32⟩
  | .hbm, ⟨43, _⟩ => ⟨S1x8192x512, .f32⟩
  | .hbm, ⟨44, _⟩ => ⟨S1x8192x512, .f32⟩
  | .hbm, ⟨45, _⟩ => ⟨S1x8192x512, .f32⟩
  | .hbm, ⟨46, _⟩ => ⟨S_, .f32⟩
  | .hbm, ⟨47, _⟩ => ⟨S1x8192x512, .f32⟩
  | .hbm, ⟨48, _⟩ => ⟨S1x8192x512, .f32⟩
  | .hbm, ⟨49, _⟩ => ⟨S_, .f32⟩
  | .hbm, ⟨50, _⟩ => ⟨S1x8192x512, .f32⟩
  | .hbm, ⟨51, _⟩ => ⟨S1x8192x512, .f32⟩
  | .hbm, ⟨52, _⟩ => ⟨S1x8192x512, .f32⟩
  | .hbm, ⟨53, _⟩ => ⟨S_, .f32⟩
  | .hbm, ⟨54, _⟩ => ⟨S1x8192, .f32⟩
  | .hbm, ⟨55, _⟩ => ⟨S1x8192x1, .f32⟩
  | .hbm, ⟨56, _⟩ => ⟨S_, .f32⟩
  | .hbm, ⟨57, _⟩ => ⟨S1x8192x1, .f32⟩
  | .hbm, ⟨58, _⟩ => ⟨S1x8192x1, .f32⟩
  | .hbm, ⟨59, _⟩ => ⟨S1x8192x512, .f32⟩
  | .hbm, ⟨60, _⟩ => ⟨S1x8192x512, .f32⟩
  | .hbm, ⟨61, _⟩ => ⟨S1x8192x512, .f32⟩
  | .hbm, ⟨62, _⟩ => ⟨S_, .f32⟩
  | .hbm, ⟨63, _⟩ => ⟨S1x8192, .f32⟩
  | .hbm, ⟨64, _⟩ => ⟨S1x8192x1, .f32⟩
  | .hbm, ⟨65, _⟩ => ⟨S_, .f32⟩
  | .hbm, ⟨66, _⟩ => ⟨S1x8192x1, .f32⟩
  | .hbm, ⟨67, _⟩ => ⟨S1x8192x1, .f32⟩
  | .hbm, ⟨68, _⟩ => ⟨S_, .f32⟩
  | .hbm, ⟨69, _⟩ => ⟨S1x8192x1, .f32⟩
  | .hbm, ⟨70, _⟩ => ⟨S1x8192x1, .f32⟩
  | .hbm, ⟨71, _⟩ => ⟨S1x8192x1, .f32⟩
  | .hbm, ⟨72, _⟩ => ⟨S1x8192x512, .f32⟩
  | .hbm, ⟨73, _⟩ => ⟨S1x8192x512, .f32⟩
  | .hbm, ⟨74, _⟩ => ⟨S1x1x512, .f32⟩
  | .hbm, ⟨75, _⟩ => ⟨S1x8192x512, .f32⟩
  | .hbm, ⟨76, _⟩ => ⟨S1x8192x512, .f32⟩
  | .hbm, ⟨77, _⟩ => ⟨S1x1x512, .f32⟩
  | .hbm, ⟨78, _⟩ => ⟨S1x8192x512, .f32⟩
  | .hbm, ⟨79, _⟩ => ⟨S1x8192x512, .f32⟩
  | .hbm, ⟨80, _⟩ => ⟨S1x64x128x8x64, .f32⟩
  | .hbm, ⟨81, _⟩ => ⟨S_, .i1⟩
  | .hbm, ⟨82, _⟩ => ⟨S128x128, .i1⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S_, .i1⟩
  | .hbm, ⟨90, _⟩ => ⟨S128x128, .i1⟩
  | .hbm, ⟨91, _⟩ => ⟨S128x128, .i1⟩
  | .hbm, ⟨92, _⟩ => ⟨S1x128x128, .i1⟩
  | .hbm, ⟨93, _⟩ => ⟨S_, .f32⟩
  | .hbm, ⟨94, _⟩ => ⟨S8x128x128, .f32⟩
  | .hbm, ⟨95, _⟩ => ⟨S8x128x128, .i1⟩
  | .hbm, ⟨96, _⟩ => ⟨S8x128x128, .f32⟩
  | .hbm, ⟨97, _⟩ => ⟨S8x1x64x64x128, .f32⟩
  | .hbm, ⟨98, _⟩ => ⟨S1x64x128x8x64, .f32⟩
  | .hbm, ⟨99, _⟩ => ⟨S128x8, .f32⟩
  | .hbm, ⟨100, _⟩ => ⟨S1x1x128x8x1, .f32⟩
  | .hbm, ⟨101, _⟩ => ⟨S1x64x128x8x64, .f32⟩
  | .hbm, ⟨102, _⟩ => ⟨S1x64x128x8x64, .f32⟩
  | .hbm, ⟨103, _⟩ => ⟨S1x8192x512, .f32⟩
  | .hbm, ⟨104, _⟩ => ⟨S1x8192x512, .f32⟩
  | .hbm, ⟨105, _⟩ => ⟨S8192x512, .f32⟩
  | .hbm, ⟨106, _⟩ => ⟨S8192x512, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c : Ref sig .tc := ⟨.hbm, 81, rfl⟩
abbrev main_v60 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel23.lean ====
abbrev S8192x1792 : Shape := ⟨2, ![8192, 1792]⟩
abbrev S8 : Shape := ⟨1, ![8]⟩
abbrev S1x512 : Shape := ⟨2, ![1, 512]⟩
abbrev S8x128x128 : Shape := ⟨3, ![8, 128, 128]⟩
abbrev S8x128 : Shape := ⟨2, ![8, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S1x8x128x256 : Shape := ⟨4, ![1, 8, 128, 256]⟩
abbrev S2x8x128x256 : Shape := ⟨4, ![2, 8, 128, 256]⟩
abbrev S128x8 : Shape := ⟨2, ![128, 8]⟩
abbrev S128x8x64 : Shape := ⟨3, ![128, 8, 64]⟩
abbrev S128x512 : Shape := ⟨2, ![128, 512]⟩
abbrev S8192x1024 : Shape := ⟨2, ![8192, 1024]⟩
abbrev S128x1792 : Shape := ⟨2, ![128, 1792]⟩
abbrev S128x128 : Shape := ⟨2, ![128, 128]⟩
abbrev S128x1024 : Shape := ⟨2, ![128, 1024]⟩
abbrev S1x128 : Shape := ⟨2, ![1, 128]⟩
abbrev S256x128 : Shape := ⟨2, ![256, 128]⟩
abbrev S1 : Shape := ⟨1, ![1]⟩
abbrev S1x16x256 : Shape := ⟨3, ![1, 16, 256]⟩
abbrev S16x256 : Shape := ⟨2, ![16, 256]⟩
abbrev S1x1x16x256 : Shape := ⟨4, ![1, 1, 16, 256]⟩
abbrev S16 : Shape := ⟨1, ![16]⟩
abbrev S16x1 : Shape := ⟨2, ![16, 1]⟩
abbrev S16x512 : Shape := ⟨2, ![16, 512]⟩
abbrev S1x128x128 : Shape := ⟨3, ![1, 128, 128]⟩
abbrev S8192x512 : Shape := ⟨2, ![8192, 512]⟩

abbrev nBuf : Space → Nat
  | .hbm => 56
  | .vmem => 18
  | .smem => 1
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S8, .f32⟩
  | .hbm, ⟨7, _⟩ => ⟨S128, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S8x1x1, .f32⟩
  | .hbm, ⟨25, _⟩ => ⟨S8x1x1, .f32⟩
  | .hbm, ⟨26, _⟩ => ⟨S128x256, .f32⟩
  | .hbm, ⟨27, _⟩ => ⟨S1x128x256, .f32⟩
  | .hbm, ⟨28, _⟩ => ⟨S8x128x256, .f32⟩
  | .hbm, ⟨29, _⟩ => ⟨S8x128x256, .f32⟩
  | .hbm, ⟨30, _⟩ => ⟨S8x128x256, .f32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S128x256, .i1⟩
  | .hbm, ⟨35, _⟩ => ⟨S128x256, .i1⟩
  | .hbm, ⟨36, _⟩ => ⟨S1x128x256, .i1⟩
  | .hbm, ⟨37, _⟩ => ⟨S_, .f32⟩
  | .hbm, ⟨38, _⟩ => ⟨S_, .f32⟩
  | .hbm, ⟨39, _⟩ => ⟨S8x128x256, .i1⟩
  | .hbm, ⟨40, _⟩ => ⟨S8x128x256, .f32⟩
  | .hbm, ⟨41, _⟩ => ⟨S8x128x256, .f32⟩
  | .hbm, ⟨42, _⟩ => ⟨S1x128x256, .i1⟩
  | .hbm, ⟨43, _⟩ => ⟨S_, .f32⟩
  | .hbm, ⟨44, _⟩ => ⟨S_, .f32⟩
  | .hbm, ⟨45, _⟩ => ⟨S8x128x256, .i1⟩
  | .hbm, ⟨46, _⟩ => ⟨S8x128x256, .f32⟩
  | .hbm, ⟨47, _⟩ => ⟨S8x128x256, .f32⟩
  | .hbm, ⟨48, _⟩ => ⟨S1x8x128x256, .f32⟩
  | .hbm, ⟨49, _⟩ => ⟨S1x8x128x256, .f32⟩
  | .hbm, ⟨50, _⟩ => ⟨S2x8x128x256, .f32⟩
  | .hbm, ⟨51, _⟩ => ⟨S128x8, .f32⟩
  | .hbm, ⟨52, _⟩ => ⟨S128x8x64, .f32⟩
  | .hbm, ⟨53, _⟩ => ⟨S128x512, .f32⟩
  | .hbm, ⟨54, _⟩ => ⟨S8192x1024, .bf16⟩
  | .hbm, ⟨55, _⟩ => ⟨S8192x512, .bf16⟩
  | .local _ .vmem, ⟨0, _⟩ => ⟨S128x1792, .bf16⟩
  | .local _ .vmem, ⟨1, _⟩ => ⟨S128x1792, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x8x128x256, .f32⟩
  | .local _ .vmem, ⟨7, _⟩ => ⟨S1x8x128x256, .f32⟩
  | .local _ .vmem, ⟨8, _⟩ => ⟨S1x512, .f32⟩
  | .local _ .vmem, ⟨9, _⟩ => ⟨S1x512, .f32⟩
  | .local _ .vmem, ⟨10, _⟩ => ⟨S8x128x128, .f32⟩
  | .local _ .vmem, ⟨11, _⟩ => ⟨S128x512, .f32⟩
  | .local _ .vmem, ⟨12, _⟩ => ⟨S128x1024, .bf16⟩
  | .local _ .vmem, ⟨13, _⟩ => ⟨S128x1024, .bf16⟩
  | .local _ .vmem, ⟨14, _⟩ => ⟨S8x128x256, .f32⟩
  | .local _ .vmem, ⟨15, _⟩ => ⟨S8x128x256, .bf16⟩
  | .local _ .vmem, ⟨16, _⟩ => ⟨S128x512, .f32⟩
  | .local _ .vmem, ⟨17, _⟩ => ⟨S128x512, .f32⟩
  | .local _ .smem, ⟨0, _⟩ => ⟨S8, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference23Ideal.lean ====
abbrev S8192x1792 : Shape := ⟨2, ![8192, 1792]⟩
abbrev S8 : Shape := ⟨1, ![8]⟩
abbrev S1x512 : Shape := ⟨2, ![1, 512]⟩
abbrev S8x128x128 : Shape := ⟨3, ![8, 128, 128]⟩
abbrev S8x128 : Shape := ⟨2, ![8, 128]⟩
abbrev S8192x768 : Shape := ⟨2, ![8192, 768]⟩
abbrev S1x8192x768 : Shape := ⟨3, ![1, 8192, 768]⟩
abbrev S1x8192x512 : Shape := ⟨3, ![1, 8192, 512]⟩
abbrev S1x8192x128 : Shape := ⟨3, ![1, 8192, 128]⟩
abbrev S1x64x128x2x4x64 : Shape := ⟨6, ![1, 64, 128, 2, 4, 64]⟩
abbrev S1x64x128x2x64 : Shape := ⟨5, ![1, 64, 128, 2, 64]⟩
abbrev S1x63x128x2x64 : Shape := ⟨5, ![1, 63, 128, 2, 64]⟩
abbrev S_ : Shape := ⟨0, ![]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x64x1x1x128x256 : Shape := ⟨6, ![1, 64, 1, 1, 128, 256]⟩
abbrev S1x1x2x4x128x256 : Shape := ⟨6, ![1, 1, 2, 4, 128, 256]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S8192x512 : Shape := ⟨2, ![8192, 512]⟩

abbrev nBuf : Space → Nat
  | .hbm => 115
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S8192x1792, .f32⟩
  | .hbm, ⟨7, _⟩ => ⟨S8192x768, .f32⟩
  | .hbm, ⟨8, _⟩ => ⟨S1x8192x768, .f32⟩
  | .hbm, ⟨9, _⟩ => ⟨S1x8192x512, .f32⟩
  | .hbm, ⟨10, _⟩ => ⟨S1x8192x128, .f32⟩
  | .hbm, ⟨11, _⟩ => ⟨S1x8192x128, .f32⟩
  | .hbm, ⟨12, _⟩ => ⟨S1x64x128x2x4x64, .f32⟩
  | .hbm, ⟨13, _⟩ => ⟨S1x64x128x2x64, .f32⟩
  | .hbm, ⟨14, _⟩ => ⟨S1x64x128x2x64, .f32⟩
  | .hbm, ⟨15, _⟩ => ⟨S1x63x128x2x64, .f32⟩
  | .hbm, ⟨16, _⟩ => ⟨S_, .i32⟩
  | .hbm, ⟨17, _⟩ => ⟨S_, .f32⟩
  | .hbm, ⟨18, _⟩ => ⟨S1x64x128x2x64, .f32⟩
  | .hbm, ⟨19, _⟩ => ⟨S1x64x256x2x64, .f32⟩
  | .hbm, ⟨20, _⟩ => ⟨S1x63x128x2x64, .f32⟩
  | .hbm, ⟨21, _⟩ => ⟨S_, .i32⟩
  | .hbm, ⟨22, _⟩ => ⟨S_, .f32⟩
  | .hbm, ⟨23, _⟩ => ⟨S1x64x128x2x64, .f32⟩
  | .hbm, ⟨24, _⟩ => ⟨S1x64x256x2x64, .f32⟩
  | .hbm, ⟨25, _⟩ => ⟨S1x64x2x256x128x4, .f32⟩
  | .hbm, ⟨26, _⟩ => ⟨S1x64x2x4x128x256, .f32⟩
  | .hbm, ⟨27, _⟩ => ⟨S_, .f32⟩
  | .hbm, ⟨28, _⟩ => ⟨S1x64x2x4x128x256, .f32⟩
  | .hbm, ⟨29, _⟩ => ⟨S1x64x2x4x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S64x1x1, .i32⟩
  | .hbm, ⟨49, _⟩ => ⟨S1x128x256, .i1⟩
  | .hbm, ⟨50, _⟩ => ⟨S_, .i32⟩
  | .hbm, ⟨51, _⟩ => ⟨S64x1x1, .i32⟩
  | .hbm, ⟨52, _⟩ => ⟨S64x1x1, .i1⟩
  | .hbm, ⟨53, _⟩ => ⟨S_, .i32⟩
  | .hbm, ⟨54, _⟩ => ⟨S1x256, .i32⟩
  | .hbm, ⟨55, _⟩ => ⟨S1x256, .i1⟩
  | .hbm, ⟨56, _⟩ => ⟨S1x1x256, .i1⟩
  | .hbm, ⟨57, _⟩ => ⟨S64x1x256, .i1⟩
  | .hbm, ⟨58, _⟩ => ⟨S64x1x256, .i1⟩
  | .hbm, ⟨59, _⟩ => ⟨S64x1x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S_, .i32⟩
  | .hbm, ⟨64, _⟩ => ⟨S8, .i32⟩
  | .hbm, ⟨65, _⟩ => ⟨S8, .i32⟩
  | .hbm, ⟨66, _⟩ => ⟨S_, .i32⟩
  | .hbm, ⟨67, _⟩ => ⟨S8, .i32⟩
  | .hbm, ⟨68, _⟩ => ⟨S8, .i32⟩
  | .hbm, ⟨69, _⟩ => ⟨S8, .i32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S2x4, .f32⟩
  | .hbm, ⟨75, _⟩ => ⟨S2x4x1x1, .f32⟩
  | .hbm, ⟨76, _⟩ => ⟨S2x4x1x1, .f32⟩
  | .hbm, ⟨77, _⟩ => ⟨S128x256, .f32⟩
  | .hbm, ⟨78, _⟩ => ⟨S1x1x128x256, .f32⟩
  | .hbm, ⟨79, _⟩ => ⟨S2x4x128x256, .f32⟩
  | .hbm, ⟨80, _⟩ => ⟨S2x4x128x256, .f32⟩
  | .hbm, ⟨81, _⟩ => ⟨S2x4x128x256, .f32⟩
  | .hbm, ⟨82, _⟩ => ⟨S1x64x1x1x128x256, .i1⟩
  | .hbm, ⟨83, _⟩ => ⟨S1x1x2x4x128x256, .f32⟩
  | .hbm, ⟨84, _⟩ => ⟨S1x64x2x4x128x256, .f32⟩
  | .hbm, ⟨85, _⟩ => ⟨S1x64x2x4x128x256, .f32⟩
  | .hbm, ⟨86, _⟩ => ⟨S_, .f32⟩
  | .hbm, ⟨87, _⟩ => ⟨S_, .f32⟩
  | .hbm, ⟨88, _⟩ => ⟨S1x64x2x4x128x256, .i1⟩
  | .hbm, ⟨89, _⟩ => ⟨S1x64x2x4x128x256, .f32⟩
  | .hbm, ⟨90, _⟩ => ⟨S1x64x2x4x128x256, .f32⟩
  | .hbm, ⟨91, _⟩ => ⟨S2x4, .f32⟩
  | .hbm, ⟨92, _⟩ => ⟨S1x1x2x4x1x1, .f32⟩
  | .hbm, ⟨93, _⟩ => ⟨S_, .f32⟩
  | .hbm, ⟨94, _⟩ => ⟨S1x64x2x4x128, .f32⟩
  | .hbm, ⟨95, _⟩ => ⟨S1x64x2x4x128x1, .f32⟩
  | .hbm, ⟨96, _⟩ => ⟨S1x64x2x4x128x1, .f32⟩
  | .hbm, ⟨97, _⟩ => ⟨S1x64x2x4x128x1, .f32⟩
  | .hbm, ⟨98, _⟩ => ⟨S1x64x2x4x128x256, .f32⟩
  | .hbm, ⟨99, _⟩ => ⟨S1x64x2x4x128x256, .f32⟩
  | .hbm, ⟨100, _⟩ => ⟨S1x64x2x4x128x256, .f32⟩
  | .hbm, ⟨101, _⟩ => ⟨S_, .f32⟩
  | .hbm, ⟨102, _⟩ => ⟨S1x64x2x4x128, .f32⟩
  | .hbm, ⟨103, _⟩ => ⟨S1x64x2x4x128x1, .f32⟩
  | .hbm, ⟨104, _⟩ => ⟨S1x64x2x4x128x1, .f32⟩
  | .hbm, ⟨105, _⟩ => ⟨S1x64x2x4x128x1, .f32⟩
  | .hbm, ⟨106, _⟩ => ⟨S1x64x2x4x128x1, .f32⟩
  | .hbm, ⟨107, _⟩ => ⟨S1x64x2x4x128x1, .f32⟩
  | .hbm, ⟨108, _⟩ => ⟨S1x64x2x4x128x256, .f32⟩
  | .hbm, ⟨109, _⟩ => ⟨S1x64x2x4x128x256, .f32⟩
  | .hbm, ⟨110, _⟩ => ⟨S1x64x2x64x4x128, .f32⟩
  | .hbm, ⟨111, _⟩ => ⟨S1x64x128x2x4x64, .f32⟩
  | .hbm, ⟨112, _⟩ => ⟨S1x8192x512, .f32⟩
  | .hbm, ⟨113, _⟩ => ⟨S8192x512, .f32⟩
  | .hbm, ⟨114, _⟩ => ⟨S8192x512, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Proof.Setup.lean ====
module

public import proofs.«01_k».proof.Proof.Gen.KernelIdeal.Frame
public import proofs.«01_k».proof.Proof.Gen.KernelIdeal.Skeleton

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The point is the grid's first, as the body's conditionals compute it. -/
abbrev firstPoint (i : grid0.Coords) : Prop :=
  (Scalar.cmpi .ne (Scalar.extui (Scalar.cmpi .eq (BitVec.ofNat 32 (i 0).val) 0#32)) 0#32) = 1#1

theorem firstPoint_iff : ∀ t : Fin cfg0.N, firstPoint (grid0.coords t) ↔ t.val = 0 :=
  (by decide +kernel : ∀ t : Fin grid0.N, firstPoint (grid0.coords t) ↔ t.val = 0)

theorem laterPoint_iff : ∀ t : Fin cfg0.N, k0_cond1 (grid0.coords t) = 1#1 ↔ t.val ≠ 0 :=
  (by decide +kernel : ∀ t : Fin grid0.N, k0_cond1 (grid0.coords t) = 1#1 ↔ t.val ≠ 0)

theorem coord_lt (i : grid0.Coords) : (i 0).val < 64 := lt_of_lt_of_eq (i 0).isLt (by rfl)

theorem curRow_eq (i : grid0.Coords) (b : ℕ) (hb : (i 0).val = b) :
    (Scalar.indexCast (Scalar.muli (BitVec.ofNat 32 (i 0).val) 128#32)).toNat = 128 * b := by
  subst hb
  exact (by decide +kernel : ∀ b : Fin 64, (Scalar.indexCast (Scalar.muli (BitVec.ofNat 32 b.val) 128#32)).toNat = 128 * b.val)
    ⟨(i 0).val, coord_lt i⟩

theorem prevRow_eq (i : grid0.Coords) (b : ℕ) (hb : (i 0).val = b + 1) :
    (Scalar.indexCast (Scalar.muli (Scalar.subi (BitVec.ofNat 32 (i 0).val) 1#32) 128#32)).toNat = 128 * b := by
  have h := coord_lt i
  rw [hb] at h ⊢
  exact (by decide +kernel : ∀ b : Fin 63, (Scalar.indexCast (Scalar.muli (Scalar.subi (BitVec.ofNat 32 (b.val + 1)) 1#32) 128#32)).toNat
    = 128 * b.val) ⟨b, by omega⟩

/-- The rows of the key and value gradients the point writes, and the rows of the point before, in closed form. -/
theorem off1_eq (i : grid0.Coords) (b : ℕ) (hb : (i 0).val = b + 1) : k0_off1 i = ![128 * b + 128, 0] := by
  unfold k0_off1; dsimp only; rw [curRow_eq i _ hb]; rfl
theorem off2_eq (i : grid0.Coords) (b : ℕ) (hb : (i 0).val = b + 1) : k0_off2 i = ![128 * b + 128, 128] := by
  unfold k0_off2; dsimp only; rw [curRow_eq i _ hb]; rfl
theorem off3_eq (i : grid0.Coords) (b : ℕ) (hb : (i 0).val = b + 1) : k0_off3 i = ![128 * b, 0] := by
  unfold k0_off3; dsimp only; rw [prevRow_eq i _ hb]
theorem off4_eq (i : grid0.Coords) (b : ℕ) (hb : (i 0).val = b + 1) : k0_off4 i = ![128 * b, 128] := by
  unfold k0_off4; dsimp only; rw [prevRow_eq i _ hb]

end Cert.KernelIdeal.Mixer

end
-- ==== Proof.RunFirst.lean ====
module

public import proofs.«01_k».proof.Proof.Setup

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- The kernel body at the first point, on whole staging buffers: the inputs hold `x0 … x10`, the key and value
    gradients hold `x12`, everything else holds anything; the body leaves the inputs as they were and every
    output written piece by piece, the pieces being the witness this run finds. -/
noncomputable def runFirst (c : Dev nD) (i : grid0.Coords) (arg1 : Memref sig .tc .vmem S128x1024 .bf16) (harg1 : arg1.IsWhole) (arg2 : Memref sig .tc .vmem S128x1792 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .smem S8 .f32) (harg5 : arg5.IsWhole) (arg6 : Memref sig .tc .vmem S1x8x256x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S128x512 .f32) (harg11 : arg11.IsWhole) (arg12 : Memref sig .tc .vmem S128x512 .bf16) (harg12 : arg12.IsWhole) (arg13 : Memref sig .tc .vmem S8192x256 .f32) (harg13 : arg13.IsWhole) (arg14 : Memref sig .tc .vmem S128x1024 .bf16) (harg14 : arg14.IsWhole) (arg15 : Memref sig .tc .vmem S1x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S8x128x128 .f32) (harg18 : arg18.IsWhole) (arg19 : Memref sig .tc .vmem S128x128 .f32) (harg19 : arg19.IsWhole) (arg20 : Memref sig .tc .vmem S8x256x128 .f32) (harg20 : arg20.IsWhole) (arg21 : Memref sig .tc .vmem S8x256x128 .f32) (harg21 : arg21.IsWhole) (arg22 : Memref sig .tc .vmem S8x256x128 .bf16) (harg22 : arg22.IsWhole) (arg23 : Memref sig .tc .vmem S8x256x128 .bf16) (harg23 : arg23.IsWhole) (arg24 : Memref sig .tc .vmem S128x512 .f32) (harg24 : arg24.IsWhole) (arg25 : Memref sig .tc .vmem S128x512 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x128 .f32) (harg29 : arg29.IsWhole) (arg30 : Memref sig .tc .vmem S128x512 .f32) (harg30 : arg30.IsWhole) (hc0 : firstPoint i) (hc1 : ¬ k0_cond1 i = 1#1)
    (x0 : Vec F S128x1024 .bf16) (x1 : Vec F S128x1792 .bf16) (x2 : Vec F S128x128 .bf16) (x3 : Vec F S128x128 .bf16) (x4 : Vec F S8 .f32) (x5 : Vec F S1x8x256x128 .f32) (x6 : Vec F S1x512 .f32) (x7 : Vec F S1x512 .f32) (x8 : Vec F S8x128x128 .f32) (x9 : Vec F S8x128x128 .f32) (x10 : Vec F S128x512 .f32) (x12 : Vec F S8192x256 .f32) :
    Σ' (L11 : List (View.Piece (Elt F) S128x512 .bf16)), Σ' (L12 : List (View.Piece (Elt F) S8192x256 .f32)), Σ' (L13 : List (View.Piece (Elt F) S128x1024 .bf16)), Σ' (L14 : List (View.Piece (Elt F) S1x128 .f32)), Σ' (L15 : List (View.Piece (Elt F) S1x512 .f32)), Σ' (L16 : List (View.Piece (Elt F) S1x512 .f32)), Σ' (L17 : List (View.Piece (Elt F) S8x128x128 .f32)), { L18 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread x12) L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_b2_attn_gm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, fun E K => ?run⟩
  case run =>
    simp only [cc0_b2_attn_gm_eq_skeleton]; unfold cc0_b2_attn_gm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d20, %f20, -, S20⟩, ⟨%d21, %f21, -, S21⟩, ⟨%d22, %f22, -, S22⟩, ⟨%d23, %f23, -, S23⟩, ⟨%d24, %f24, -, S24⟩, ⟨%d25, %f25, -, S25⟩, ⟨%d26, %f26, -, S26⟩, ⟨%d27, %f27, -, S27⟩, ⟨%d28, %f28, -, S28⟩, ⟨%d29, %f29, -, S29⟩, ⟨%d30, %f30, -, S30⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [S20]
    · iexists _, _; isplitr; swap; · iexact S20
      ipureintro; rfl
    isplitl [S21]
    · iexists _, _; isplitr; swap; · iexact S21
      ipureintro; rfl
    isplitl [S22]
    · iexists _, _; isplitr; swap; · iexact S22
      ipureintro; rfl
    isplitl [S23]
    · iexists _, _; isplitr; swap; · iexact S23
      ipureintro; rfl
    isplitl [S24]
    · iexists _, _; isplitr; swap; · iexact S24
      ipureintro; rfl
    isplitl [S25]
    · iexists _, _; isplitr; swap; · iexact S25
      ipureintro; rfl
    isplitl [S26]
    · iexists _, _; isplitr; swap; · iexact S26
      ipureintro; rfl
    isplitl [S27]
    · iexists _, _; isplitr; swap; · iexact S27
      ipureintro; rfl
    isplitl [S28]
    · iexists _, _; isplitr; swap; · iexact S28
      ipureintro; rfl
    isplitl [S29]
    · iexists _, _; isplitr; swap; · iexact S29
      ipureintro; rfl
    iexists _, _; isplitr; swap; · iexact S30
    ipureintro; rfl

end Cert.KernelIdeal.Mixer

end
-- ==== Proof.RunLater.lean ====
module

public import proofs.«01_k».proof.Proof.RunFirst

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- The kernel body at every later point, on whole staging buffers: the inputs hold `x0 … x10`, the key and value
    gradients hold `x12`, the sums hold what the point before left, everything else holds anything; the body leaves the inputs as they were and every
    output written piece by piece, the pieces being the witness this run finds. -/
noncomputable def runLater (c : Dev nD) (i : grid0.Coords) (arg1 : Memref sig .tc .vmem S128x1024 .bf16) (harg1 : arg1.IsWhole) (arg2 : Memref sig .tc .vmem S128x1792 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .smem S8 .f32) (harg5 : arg5.IsWhole) (arg6 : Memref sig .tc .vmem S1x8x256x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S128x512 .f32) (harg11 : arg11.IsWhole) (arg12 : Memref sig .tc .vmem S128x512 .bf16) (harg12 : arg12.IsWhole) (arg13 : Memref sig .tc .vmem S8192x256 .f32) (harg13 : arg13.IsWhole) (arg14 : Memref sig .tc .vmem S128x1024 .bf16) (harg14 : arg14.IsWhole) (arg15 : Memref sig .tc .vmem S1x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S8x128x128 .f32) (harg18 : arg18.IsWhole) (arg19 : Memref sig .tc .vmem S128x128 .f32) (harg19 : arg19.IsWhole) (arg20 : Memref sig .tc .vmem S8x256x128 .f32) (harg20 : arg20.IsWhole) (arg21 : Memref sig .tc .vmem S8x256x128 .f32) (harg21 : arg21.IsWhole) (arg22 : Memref sig .tc .vmem S8x256x128 .bf16) (harg22 : arg22.IsWhole) (arg23 : Memref sig .tc .vmem S8x256x128 .bf16) (harg23 : arg23.IsWhole) (arg24 : Memref sig .tc .vmem S128x512 .f32) (harg24 : arg24.IsWhole) (arg25 : Memref sig .tc .vmem S128x512 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x128 .f32) (harg29 : arg29.IsWhole) (arg30 : Memref sig .tc .vmem S128x512 .f32) (harg30 : arg30.IsWhole) (hc0 : ¬ firstPoint i) (hc1 : k0_cond1 i = 1#1) (b : ℕ) (hb : (i 0).val = b + 1)
    (x0 : Vec F S128x1024 .bf16) (x1 : Vec F S128x1792 .bf16) (x2 : Vec F S128x128 .bf16) (x3 : Vec F S128x128 .bf16) (x4 : Vec F S8 .f32) (x5 : Vec F S1x8x256x128 .f32) (x6 : Vec F S1x512 .f32) (x7 : Vec F S1x512 .f32) (x8 : Vec F S8x128x128 .f32) (x9 : Vec F S8x128x128 .f32) (x10 : Vec F S128x512 .f32) (x12 : Vec F S8192x256 .f32) (x14 : Vec F S1x128 .f32) (x15 : Vec F S1x512 .f32) (x16 : Vec F S1x512 .f32) (x17 : Vec F S8x128x128 .f32) (x18 : Vec F S128x128 .f32) :
    Σ' (L11 : List (View.Piece (Elt F) S128x512 .bf16)), Σ' (L12 : List (View.Piece (Elt F) S8192x256 .f32)), Σ' (L13 : List (View.Piece (Elt F) S128x1024 .bf16)), Σ' (L14 : List (View.Piece (Elt F) S1x128 .f32)), Σ' (L15 : List (View.Piece (Elt F) S1x512 .f32)), Σ' (L16 : List (View.Piece (Elt F) S1x512 .f32)), Σ' (L17 : List (View.Piece (Elt F) S8x128x128 .f32)), { L18 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare x12 ∗ (∃ d, owns (c : Thread nD τ) arg14 fullShare d) ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread x12) L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_b2_attn_gm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, fun E K => ?run⟩
  case run =>
    simp only [cc0_b2_attn_gm_eq_skeleton]; unfold cc0_b2_attn_gm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%d20, %f20, -, S20⟩, ⟨%d21, %f21, -, S21⟩, ⟨%d22, %f22, -, S22⟩, ⟨%d23, %f23, -, S23⟩, ⟨%d24, %f24, -, S24⟩, ⟨%d25, %f25, -, S25⟩, ⟨%d26, %f26, -, S26⟩, ⟨%d27, %f27, -, S27⟩, ⟨%d28, %f28, -, S28⟩, ⟨%d29, %f29, -, S29⟩, ⟨%d30, %f30, -, S30⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg15.eq_unread hf14; obtain rfl := harg16.eq_unread hf15; obtain rfl := harg17.eq_unread hf16; obtain rfl := harg18.eq_unread hf17; obtain rfl := harg19.eq_unread hf18
    letI : ClosedOff (k0_off1 i) := ⟨![128 * b + 128, 0], off1_eq i b hb⟩
    letI : ClosedOff (k0_off2 i) := ⟨![128 * b + 128, 128], off2_eq i b hb⟩
    letI : ClosedOff (k0_off3 i) := ⟨![128 * b, 0], off3_eq i b hb⟩
    letI : ClosedOff (k0_off4 i) := ⟨![128 * b, 128], off4_eq i b hb⟩
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [S20]
    · iexists _, _; isplitr; swap; · iexact S20
      ipureintro; rfl
    isplitl [S21]
    · iexists _, _; isplitr; swap; · iexact S21
      ipureintro; rfl
    isplitl [S22]
    · iexists _, _; isplitr; swap; · iexact S22
      ipureintro; rfl
    isplitl [S23]
    · iexists _, _; isplitr; swap; · iexact S23
      ipureintro; rfl
    isplitl [S24]
    · iexists _, _; isplitr; swap; · iexact S24
      ipureintro; rfl
    isplitl [S25]
    · iexists _, _; isplitr; swap; · iexact S25
      ipureintro; rfl
    isplitl [S26]
    · iexists _, _; isplitr; swap; · iexact S26
      ipureintro; rfl
    isplitl [S27]
    · iexists _, _; isplitr; swap; · iexact S27
      ipureintro; rfl
    isplitl [S28]
    · iexists _, _; isplitr; swap; · iexact S28
      ipureintro; rfl
    isplitl [S29]
    · iexists _, _; isplitr; swap; · iexact S29
      ipureintro; rfl
    iexists _, _; isplitr; swap; · iexact S30
    ipureintro; rfl

end Cert.KernelIdeal.Mixer

end
-- ==== Proof.Run.lean ====
module

public import proofs.«01_k».proof.Proof.RunLater

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers at a point and the scratch -/
abbrev stg0 (t : Fin cfg0.N) : Memref sig .tc .vmem S128x1024 .bf16 := win0_0.stage (cfg0.slots t 0)
abbrev stgW0 (t : Fin cfg0.N) : (stg0 t).IsWhole := hstage0_0 ((cfg0.slots t 0).cast nbuf0_0)
abbrev stg1 (t : Fin cfg0.N) : Memref sig .tc .vmem S128x1792 .bf16 := win0_1.stage (cfg0.slots t 1)
abbrev stgW1 (t : Fin cfg0.N) : (stg1 t).IsWhole := hstage0_1 ((cfg0.slots t 1).cast nbuf0_1)
abbrev stg2 (t : Fin cfg0.N) : Memref sig .tc .vmem S128x128 .bf16 := win0_2.stage (cfg0.slots t 2)
abbrev stgW2 (t : Fin cfg0.N) : (stg2 t).IsWhole := hstage0_2 ((cfg0.slots t 2).cast nbuf0_2)
abbrev stg3 (t : Fin cfg0.N) : Memref sig .tc .vmem S128x128 .bf16 := win0_3.stage (cfg0.slots t 3)
abbrev stgW3 (t : Fin cfg0.N) : (stg3 t).IsWhole := hstage0_3 ((cfg0.slots t 3).cast nbuf0_3)
abbrev stg4 (t : Fin cfg0.N) : Memref sig .tc .smem S8 .f32 := win0_4.stage (cfg0.slots t 4)
abbrev stgW4 (t : Fin cfg0.N) : (stg4 t).IsWhole := hstage0_4 ((cfg0.slots t 4).cast nbuf0_4)
abbrev stg5 (t : Fin cfg0.N) : Memref sig .tc .vmem S1x8x256x128 .f32 := win0_5.stage (cfg0.slots t 5)
abbrev stgW5 (t : Fin cfg0.N) : (stg5 t).IsWhole := hstage0_5 ((cfg0.slots t 5).cast nbuf0_5)
abbrev stg6 (t : Fin cfg0.N) : Memref sig .tc .vmem S1x512 .f32 := win0_6.stage (cfg0.slots t 6)
abbrev stgW6 (t : Fin cfg0.N) : (stg6 t).IsWhole := hstage0_6 ((cfg0.slots t 6).cast nbuf0_6)
abbrev stg7 (t : Fin cfg0.N) : Memref sig .tc .vmem S1x512 .f32 := win0_7.stage (cfg0.slots t 7)
abbrev stgW7 (t : Fin cfg0.N) : (stg7 t).IsWhole := hstage0_7 ((cfg0.slots t 7).cast nbuf0_7)
abbrev stg8 (t : Fin cfg0.N) : Memref sig .tc .vmem S8x128x128 .f32 := win0_8.stage (cfg0.slots t 8)
abbrev stgW8 (t : Fin cfg0.N) : (stg8 t).IsWhole := hstage0_8 ((cfg0.slots t 8).cast nbuf0_8)
abbrev stg9 (t : Fin cfg0.N) : Memref sig .tc .vmem S8x128x128 .f32 := win0_9.stage (cfg0.slots t 9)
abbrev stgW9 (t : Fin cfg0.N) : (stg9 t).IsWhole := hstage0_9 ((cfg0.slots t 9).cast nbuf0_9)
abbrev stg10 (t : Fin cfg0.N) : Memref sig .tc .vmem S128x512 .f32 := win0_10.stage (cfg0.slots t 10)
abbrev stgW10 (t : Fin cfg0.N) : (stg10 t).IsWhole := hstage0_10 ((cfg0.slots t 10).cast nbuf0_10)
abbrev stg11 (t : Fin cfg0.N) : Memref sig .tc .vmem S128x512 .bf16 := win0_11.stage (cfg0.slots t 11)
abbrev stgW11 (t : Fin cfg0.N) : (stg11 t).IsWhole := hstage0_11 ((cfg0.slots t 11).cast nbuf0_11)
abbrev stg12 (t : Fin cfg0.N) : Memref sig .tc .vmem S8192x256 .f32 := win0_12.stage (cfg0.slots t 12)
abbrev stgW12 (t : Fin cfg0.N) : (stg12 t).IsWhole := hstage0_12 ((cfg0.slots t 12).cast nbuf0_12)
abbrev stg13 (t : Fin cfg0.N) : Memref sig .tc .vmem S128x1024 .bf16 := win0_13.stage (cfg0.slots t 13)
abbrev stgW13 (t : Fin cfg0.N) : (stg13 t).IsWhole := hstage0_13 ((cfg0.slots t 13).cast nbuf0_13)
abbrev stg14 (t : Fin cfg0.N) : Memref sig .tc .vmem S1x128 .f32 := win0_14.stage (cfg0.slots t 14)
abbrev stgW14 (t : Fin cfg0.N) : (stg14 t).IsWhole := hstage0_14 ((cfg0.slots t 14).cast nbuf0_14)
abbrev stg15 (t : Fin cfg0.N) : Memref sig .tc .vmem S1x512 .f32 := win0_15.stage (cfg0.slots t 15)
abbrev stgW15 (t : Fin cfg0.N) : (stg15 t).IsWhole := hstage0_15 ((cfg0.slots t 15).cast nbuf0_15)
abbrev stg16 (t : Fin cfg0.N) : Memref sig .tc .vmem S1x512 .f32 := win0_16.stage (cfg0.slots t 16)
abbrev stgW16 (t : Fin cfg0.N) : (stg16 t).IsWhole := hstage0_16 ((cfg0.slots t 16).cast nbuf0_16)
abbrev stg17 (t : Fin cfg0.N) : Memref sig .tc .vmem S8x128x128 .f32 := win0_17.stage (cfg0.slots t 17)
abbrev stgW17 (t : Fin cfg0.N) : (stg17 t).IsWhole := hstage0_17 ((cfg0.slots t 17).cast nbuf0_17)
abbrev stg18 (t : Fin cfg0.N) : Memref sig .tc .vmem S128x128 .f32 := win0_18.stage (cfg0.slots t 18)
abbrev stgW18 (t : Fin cfg0.N) : (stg18 t).IsWhole := hstage0_18 ((cfg0.slots t 18).cast nbuf0_18)
abbrev scr0 : Memref sig .tc .vmem S8x256x128 .f32 := Memref.whole cc0_scratch0
abbrev scr1 : Memref sig .tc .vmem S8x256x128 .f32 := Memref.whole cc0_scratch1
abbrev scr2 : Memref sig .tc .vmem S8x256x128 .bf16 := Memref.whole cc0_scratch2
abbrev scr3 : Memref sig .tc .vmem S8x256x128 .bf16 := Memref.whole cc0_scratch3
abbrev scr4 : Memref sig .tc .vmem S128x512 .f32 := Memref.whole cc0_scratch4
abbrev scr5 : Memref sig .tc .vmem S128x512 .f32 := Memref.whole cc0_scratch5
abbrev scr6 : Memref sig .tc .vmem S128x512 .f32 := Memref.whole cc0_scratch6
abbrev scr7 : Memref sig .tc .vmem S128x512 .f32 := Memref.whole cc0_scratch7
abbrev scr8 : Memref sig .tc .vmem S128x512 .f32 := Memref.whole cc0_scratch8
abbrev scr9 : Memref sig .tc .vmem S128x128 .f32 := Memref.whole cc0_scratch9
abbrev scr10 : Memref sig .tc .vmem S128x512 .f32 := Memref.whole cc0_scratch10

/-- The region's invariant: every scratch buffer at some contents, and the generator register. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d) ∗ (∃ d, owns (c : Thread nD τ) scr10 fullShare d)) ∗ (∃ r, prngReg c r)) := by
  unfold Pipeline.ΦA; rw [scopedRest0_eq]; simp only [scr0, scr1, scr2, scr3, scr4, scr5, scr6, scr7, scr8, scr9, scr10, owns_whole]; try rfl

theorem coord0 (t : Fin cfg0.N) : (grid0.coords t 0).val = t.val := by
  have e0 : (grid0.coords t 0).val = t.val / 1 % 64 := Pipeline.Grid.coords_val t 0 (by decide) rfl
  have ht : t.val < 64 := Nat.lt_of_lt_of_eq t.isLt N_0
  omega

/-- The first point's run, at the point's buffers and input blocks, the key and value gradients' buffer at `x12`. -/
def atFirst (c : Dev nD) (t : Fin cfg0.N) (h : t.val = 0) (x12 : Vec F S8192x256 .f32) :=
  runFirst (F := F) c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) scr8 (Memref.isWhole_whole _) scr9 (Memref.isWhole_whole _) scr10 (Memref.isWhole_whole _) ((firstPoint_iff t).mpr h) (fun h' => (laterPoint_iff t).mp h' h) (iblk m c 0 t) (iblk m c 1 t) (iblk m c 2 t) (iblk m c 3 t) (iblk m c 4 t) (iblk m c 5 t) (iblk m c 6 t) (iblk m c 7 t) (iblk m c 8 t) (iblk m c 9 t) (iblk m c 10 t) x12

/-- A later point's run, the buffers carried between points at `x12`, `x14 … x18`. -/
def atLater (c : Dev nD) (t : Fin cfg0.N) (h : t.val ≠ 0) (x12 : Vec F S8192x256 .f32) (x14 : Vec F S1x128 .f32) (x15 : Vec F S1x512 .f32) (x16 : Vec F S1x512 .f32) (x17 : Vec F S8x128x128 .f32) (x18 : Vec F S128x128 .f32) :=
  runLater (F := F) c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) scr8 (Memref.isWhole_whole _) scr9 (Memref.isWhole_whole _) scr10 (Memref.isWhole_whole _) (fun h' => h ((firstPoint_iff t).mp h')) ((laterPoint_iff t).mpr h) (t.val - 1)
    (by rw [coord0]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 x14 x15 x16 x17 x18

/-! ## What the body leaves in each output's buffer: the pieces its run found, over anything; over what was found there, for the key and
value gradients -/
def left11 (c : Dev nD) (t : Fin cfg0.N) (Y X : Vec F S128x512 .bf16) : Prop :=
  (∃ h : t.val = 0, ∃ x12 f, X = (stg11 t).view.read (Elt F) ((stg11 t).view.writes (Elt F) f (atFirst m c t h x12).1))
    ∨ ∃ h : t.val ≠ 0, ∃ (x12 : Vec F S8192x256 .f32) (x14 : Vec F S1x128 .f32) (x15 : Vec F S1x512 .f32) (x16 : Vec F S1x512 .f32) (x17 : Vec F S8x128x128 .f32) (x18 : Vec F S128x128 .f32), ∃ f, X = (stg11 t).view.read (Elt F) ((stg11 t).view.writes (Elt F) f (atLater m c t h x12 x14 x15 x16 x17 x18).1)
def left12 (c : Dev nD) (t : Fin cfg0.N) (Y X : Vec F S8192x256 .f32) : Prop :=
  (∃ h : t.val = 0, X = (stg12 t).view.read (Elt F) ((stg12 t).view.writes (Elt F) ((stgW12 t).unread Y) (atFirst m c t h Y).2.1))
    ∨ ∃ h : t.val ≠ 0, ∃ (x14 : Vec F S1x128 .f32) (x15 : Vec F S1x512 .f32) (x16 : Vec F S1x512 .f32) (x17 : Vec F S8x128x128 .f32) (x18 : Vec F S128x128 .f32), X = (stg12 t).view.read (Elt F) ((stg12 t).view.writes (Elt F) ((stgW12 t).unread Y) (atLater m c t h Y x14 x15 x16 x17 x18).2.1)
def left13 (c : Dev nD) (t : Fin cfg0.N) (Y X : Vec F S128x1024 .bf16) : Prop :=
  (∃ h : t.val = 0, ∃ x12 f, X = (stg13 t).view.read (Elt F) ((stg13 t).view.writes (Elt F) f (atFirst m c t h x12).2.2.1))
    ∨ ∃ h : t.val ≠ 0, ∃ (x12 : Vec F S8192x256 .f32) (x14 : Vec F S1x128 .f32) (x15 : Vec F S1x512 .f32) (x16 : Vec F S1x512 .f32) (x17 : Vec F S8x128x128 .f32) (x18 : Vec F S128x128 .f32), ∃ f, X = (stg13 t).view.read (Elt F) ((stg13 t).view.writes (Elt F) f (atLater m c t h x12 x14 x15 x16 x17 x18).2.2.1)
def left14 (c : Dev nD) (t : Fin cfg0.N) (Y X : Vec F S1x128 .f32) : Prop :=
  (∃ h : t.val = 0, ∃ x12 f, X = (stg14 t).view.read (Elt F) ((stg14 t).view.writes (Elt F) f (atFirst m c t h x12).2.2.2.1))
    ∨ ∃ h : t.val ≠ 0, ∃ (x12 : Vec F S8192x256 .f32)  (x15 : Vec F S1x512 .f32) (x16 : Vec F S1x512 .f32) (x17 : Vec F S8x128x128 .f32) (x18 : Vec F S128x128 .f32), ∃ f, X = (stg14 t).view.read (Elt F) ((stg14 t).view.writes (Elt F) f (atLater m c t h x12 Y x15 x16 x17 x18).2.2.2.1)
def left15 (c : Dev nD) (t : Fin cfg0.N) (Y X : Vec F S1x512 .f32) : Prop :=
  (∃ h : t.val = 0, ∃ x12 f, X = (stg15 t).view.read (Elt F) ((stg15 t).view.writes (Elt F) f (atFirst m c t h x12).2.2.2.2.1))
    ∨ ∃ h : t.val ≠ 0, ∃ (x12 : Vec F S8192x256 .f32) (x14 : Vec F S1x128 .f32)  (x16 : Vec F S1x512 .f32) (x17 : Vec F S8x128x128 .f32) (x18 : Vec F S128x128 .f32), ∃ f, X = (stg15 t).view.read (Elt F) ((stg15 t).view.writes (Elt F) f (atLater m c t h x12 x14 Y x16 x17 x18).2.2.2.2.1)
def left16 (c : Dev nD) (t : Fin cfg0.N) (Y X : Vec F S1x512 .f32) : Prop :=
  (∃ h : t.val = 0, ∃ x12 f, X = (stg16 t).view.read (Elt F) ((stg16 t).view.writes (Elt F) f (atFirst m c t h x12).2.2.2.2.2.1))
    ∨ ∃ h : t.val ≠ 0, ∃ (x12 : Vec F S8192x256 .f32) (x14 : Vec F S1x128 .f32) (x15 : Vec F S1x512 .f32)  (x17 : Vec F S8x128x128 .f32) (x18 : Vec F S128x128 .f32), ∃ f, X = (stg16 t).view.read (Elt F) ((stg16 t).view.writes (Elt F) f (atLater m c t h x12 x14 x15 Y x17 x18).2.2.2.2.2.1)
def left17 (c : Dev nD) (t : Fin cfg0.N) (Y X : Vec F S8x128x128 .f32) : Prop :=
  (∃ h : t.val = 0, ∃ x12 f, X = (stg17 t).view.read (Elt F) ((stg17 t).view.writes (Elt F) f (atFirst m c t h x12).2.2.2.2.2.2.1))
    ∨ ∃ h : t.val ≠ 0, ∃ (x12 : Vec F S8192x256 .f32) (x14 : Vec F S1x128 .f32) (x15 : Vec F S1x512 .f32) (x16 : Vec F S1x512 .f32)  (x18 : Vec F S128x128 .f32), ∃ f, X = (stg17 t).view.read (Elt F) ((stg17 t).view.writes (Elt F) f (atLater m c t h x12 x14 x15 x16 Y x18).2.2.2.2.2.2.1)
def left18 (c : Dev nD) (t : Fin cfg0.N) (Y X : Vec F S128x128 .f32) : Prop :=
  (∃ h : t.val = 0, ∃ x12 f, X = (stg18 t).view.read (Elt F) ((stg18 t).view.writes (Elt F) f (atFirst m c t h x12).2.2.2.2.2.2.2.1))
    ∨ ∃ h : t.val ≠ 0, ∃ (x12 : Vec F S8192x256 .f32) (x14 : Vec F S1x128 .f32) (x15 : Vec F S1x512 .f32) (x16 : Vec F S1x512 .f32) (x17 : Vec F S8x128x128 .f32) , ∃ f, X = (stg18 t).view.read (Elt F) ((stg18 t).view.writes (Elt F) f (atLater m c t h x12 x14 x15 x16 x17 Y).2.2.2.2.2.2.2.1)

/-- What the body leaves, window by window: an input's buffer as found, an output's as `left…` says. -/
def leftBy (c : Dev nD) (t : Fin cfg0.N) : (w : Fin 19) → (Y X : (cfg0.win w).block.Idx → Elt F (cfg0.win w).elt) → Prop
  | 0 => fun Y X => X = Y
  | 1 => fun Y X => X = Y
  | 2 => fun Y X => X = Y
  | 3 => fun Y X => X = Y
  | 4 => fun Y X => X = Y
  | 5 => fun Y X => X = Y
  | 6 => fun Y X => X = Y
  | 7 => fun Y X => X = Y
  | 8 => fun Y X => X = Y
  | 9 => fun Y X => X = Y
  | 10 => fun Y X => X = Y
  | 11 => fun Y X => left11 m c t Y X
  | 12 => fun Y X => left12 m c t Y X
  | 13 => fun Y X => left13 m c t Y X
  | 14 => fun Y X => left14 m c t Y X
  | 15 => fun Y X => left15 m c t Y X
  | 16 => fun Y X => left16 m c t Y X
  | 17 => fun Y X => left17 m c t Y X
  | 18 => fun Y X => left18 m c t Y X
  | ⟨_ + 19, h⟩ => absurd h (Nat.not_lt.2 (Nat.le_add_left _ _))

/-- The proof data. -/
def rdat (c : Dev nD) : Pipeline.RDat τ (Elt F) Unit ℕ (UR sig nD τ) ℕ cfg0 c where
  A w := V m c (Pipeline.arrRef spec0 w)
  after w t := leftBy m c t w
  Φ _ := Pipeline.ΦA spec0 c
  q w := Pipeline.shareOf spec0 w
  owed _ := 0

theorem rdat_A (c : Dev nD) (w : Fin cfg0.W) : (rdat m c).A w = V m c (Pipeline.arrRef spec0 w) := by dsimp only [rdat]

theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold Pipeline.RDat.fetched Pipeline.RDat.blockOf iblk; rw [rdat_A]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold Pipeline.RDat.fetched Pipeline.RDat.blockOf iblk; rw [rdat_A]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold Pipeline.RDat.fetched Pipeline.RDat.blockOf iblk; rw [rdat_A]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold Pipeline.RDat.fetched Pipeline.RDat.blockOf iblk; rw [rdat_A]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold Pipeline.RDat.fetched Pipeline.RDat.blockOf iblk; rw [rdat_A]; try rfl
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold Pipeline.RDat.fetched Pipeline.RDat.blockOf iblk; rw [rdat_A]; try rfl
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold Pipeline.RDat.fetched Pipeline.RDat.blockOf iblk; rw [rdat_A]; try rfl
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold Pipeline.RDat.fetched Pipeline.RDat.blockOf iblk; rw [rdat_A]; try rfl
theorem finds8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  rw [hd]; unfold Pipeline.RDat.fetched Pipeline.RDat.blockOf iblk; rw [rdat_A]; try rfl
theorem finds9 (c : Dev nD) (t : Fin cfg0.N) (Y) (h : (rdat m c).Finds 9 t Y) : Y = iblk m c 9 t := by
  obtain ⟨d, hd⟩ := (rdat m c).finds_in_eq_fetched 9 rfl (fun _ _ _ => rfl) (fun _ _ _ h => h) t Y h
  rw [hd]; unfold Pipeline.RDat.fetched Pipeline.RDat.blockOf iblk; rw [rdat_A]; try rfl
theorem finds10 (c : Dev nD) (t : Fin cfg0.N) (Y) (h : (rdat m c).Finds 10 t Y) : Y = iblk m c 10 t := by
  obtain ⟨d, hd⟩ := (rdat m c).finds_in_eq_fetched 10 rfl (fun _ _ _ => rfl) (fun _ _ _ h => h) t Y h
  rw [hd]; unfold Pipeline.RDat.fetched Pipeline.RDat.blockOf iblk; rw [rdat_A]; try rfl

/-! ## The body obligation, at a generic point -/

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (stg0 t) fullShare (Y 0) ∗ owns (c : Thread nD τ) (stg1 t) fullShare (Y 1) ∗ owns (c : Thread nD τ) (stg2 t) fullShare (Y 2) ∗ owns (c : Thread nD τ) (stg3 t) fullShare (Y 3) ∗ owns (c : Thread nD τ) (stg4 t) fullShare (Y 4) ∗ owns (c : Thread nD τ) (stg5 t) fullShare (Y 5) ∗ owns (c : Thread nD τ) (stg6 t) fullShare (Y 6) ∗ owns (c : Thread nD τ) (stg7 t) fullShare (Y 7) ∗ owns (c : Thread nD τ) (stg8 t) fullShare (Y 8) ∗ owns (c : Thread nD τ) (stg9 t) fullShare (Y 9) ∗ owns (c : Thread nD τ) (stg10 t) fullShare (Y 10) ∗ owns (c : Thread nD τ) (stg11 t) fullShare (Y 11) ∗ owns (c : Thread nD τ) (stg12 t) fullShare (Y 12) ∗ owns (c : Thread nD τ) (stg13 t) fullShare (Y 13) ∗ owns (c : Thread nD τ) (stg14 t) fullShare (Y 14) ∗ owns (c : Thread nD τ) (stg15 t) fullShare (Y 15) ∗ owns (c : Thread nD τ) (stg16 t) fullShare (Y 16) ∗ owns (c : Thread nD τ) (stg17 t) fullShare (Y 17) ∗ owns (c : Thread nD τ) (stg18 t) fullShare (Y 18))

def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (stg0 t) fullShare X) ∗ (∃ X, ⌜(rdat m c).after 1 t (Y 1) X⌝ ∗ owns (c : Thread nD τ) (stg1 t) fullShare X) ∗ (∃ X, ⌜(rdat m c).after 2 t (Y 2) X⌝ ∗ owns (c : Thread nD τ) (stg2 t) fullShare X) ∗ (∃ X, ⌜(rdat m c).after 3 t (Y 3) X⌝ ∗ owns (c : Thread nD τ) (stg3 t) fullShare X) ∗ (∃ X, ⌜(rdat m c).after 4 t (Y 4) X⌝ ∗ owns (c : Thread nD τ) (stg4 t) fullShare X) ∗ (∃ X, ⌜(rdat m c).after 5 t (Y 5) X⌝ ∗ owns (c : Thread nD τ) (stg5 t) fullShare X) ∗ (∃ X, ⌜(rdat m c).after 6 t (Y 6) X⌝ ∗ owns (c : Thread nD τ) (stg6 t) fullShare X) ∗ (∃ X, ⌜(rdat m c).after 7 t (Y 7) X⌝ ∗ owns (c : Thread nD τ) (stg7 t) fullShare X) ∗ (∃ X, ⌜(rdat m c).after 8 t (Y 8) X⌝ ∗ owns (c : Thread nD τ) (stg8 t) fullShare X) ∗ (∃ X, ⌜(rdat m c).after 9 t (Y 9) X⌝ ∗ owns (c : Thread nD τ) (stg9 t) fullShare X) ∗ (∃ X, ⌜(rdat m c).after 10 t (Y 10) X⌝ ∗ owns (c : Thread nD τ) (stg10 t) fullShare X) ∗ (∃ X, ⌜(rdat m c).after 11 t (Y 11) X⌝ ∗ owns (c : Thread nD τ) (stg11 t) fullShare X) ∗ (∃ X, ⌜(rdat m c).after 12 t (Y 12) X⌝ ∗ owns (c : Thread nD τ) (stg12 t) fullShare X) ∗ (∃ X, ⌜(rdat m c).after 13 t (Y 13) X⌝ ∗ owns (c : Thread nD τ) (stg13 t) fullShare X) ∗ (∃ X, ⌜(rdat m c).after 14 t (Y 14) X⌝ ∗ owns (c : Thread nD τ) (stg14 t) fullShare X) ∗ (∃ X, ⌜(rdat m c).after 15 t (Y 15) X⌝ ∗ owns (c : Thread nD τ) (stg15 t) fullShare X) ∗ (∃ X, ⌜(rdat m c).after 16 t (Y 16) X⌝ ∗ owns (c : Thread nD τ) (stg16 t) fullShare X) ∗ (∃ X, ⌜(rdat m c).after 17 t (Y 17) X⌝ ∗ owns (c : Thread nD τ) (stg17 t) fullShare X) ∗ (∃ X, ⌜(rdat m c).after 18 t (Y 18) X⌝ ∗ owns (c : Thread nD τ) (stg18 t) fullShare X))

set_option maxHeartbeats 4000000 in
/-- The body at any point: each input's buffer holds its block, so the point's run applies, and it leaves what the proof data say. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t _ (hY 0)]
  rw [finds1 m c t _ (hY 1)]
  rw [finds2 m c t _ (hY 2)]
  rw [finds3 m c t _ (hY 3)]
  rw [finds4 m c t _ (hY 4)]
  rw [finds5 m c t _ (hY 5)]
  rw [finds6 m c t _ (hY 6)]
  rw [finds7 m c t _ (hY 7)]
  rw [finds8 m c t _ (hY 8)]
  rw [finds9 m c t _ (hY 9)]
  rw [finds10 m c t _ (hY 10)]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  by_cases h0 : t.val = 0
  · iintro ⟨⟨⟨S0, S1, S2, S3, S4, S5, S6, S7, S8, S9, S10⟩, Hr⟩, Ho, H0, H1, H2, H3, H4, H5, H6, H7, H8, H9, H10, H11, H12, H13, H14, H15, H16, H17, H18⟩
    iapply ((atFirst m c t h0 (Y 12)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iintro ⟨H0, H1, H2, H3, H4, H5, H6, H7, H8, H9, H10, ⟨%f11, H11⟩, H12, ⟨%f13, H13⟩, ⟨%f14, H14⟩, ⟨%f15, H15⟩, ⟨%f16, H16⟩, ⟨%f17, H17⟩, ⟨%f18, H18⟩, S0, S1, S2, S3, S4, S5, S6, S7, S8, S9, S10⟩
    isplitl [Hr S0 S1 S2 S3 S4 S5 S6 S7 S8 S9 S10]
    · isplitr [Hr]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      iexact Hr
    isplitl [Ho]; · iexact Ho
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    isplitl [H3]
    · iexists _; isplitr; swap
      · iexact H3
      ipureintro; exact rfl
    isplitl [H4]
    · iexists _; isplitr; swap
      · iexact H4
      ipureintro; exact rfl
    isplitl [H5]
    · iexists _; isplitr; swap
      · iexact H5
      ipureintro; exact rfl
    isplitl [H6]
    · iexists _; isplitr; swap
      · iexact H6
      ipureintro; exact rfl
    isplitl [H7]
    · iexists _; isplitr; swap
      · iexact H7
      ipureintro; exact rfl
    isplitl [H8]
    · iexists _; isplitr; swap
      · iexact H8
      ipureintro; exact rfl
    isplitl [H9]
    · iexists _; isplitr; swap
      · iexact H9
      ipureintro; exact rfl
    isplitl [H10]
    · iexists _; isplitr; swap
      · iexact H10
      ipureintro; exact rfl
    isplitl [H11]
    · iexists _; isplitr; swap
      · unfold owns; iexists _; isplitr; swap; · iexact H11
        ipureintro; rfl
      ipureintro; exact Or.inl ⟨h0, _, _, rfl⟩
    isplitl [H12]
    · iexists _; isplitr; swap
      · unfold owns; iexists _; isplitr; swap; · iexact H12
        ipureintro; rfl
      ipureintro; exact Or.inl ⟨h0, rfl⟩
    isplitl [H13]
    · iexists _; isplitr; swap
      · unfold owns; iexists _; isplitr; swap; · iexact H13
        ipureintro; rfl
      ipureintro; exact Or.inl ⟨h0, _, _, rfl⟩
    isplitl [H14]
    · iexists _; isplitr; swap
      · unfold owns; iexists _; isplitr; swap; · iexact H14
        ipureintro; rfl
      ipureintro; exact Or.inl ⟨h0, _, _, rfl⟩
    isplitl [H15]
    · iexists _; isplitr; swap
      · unfold owns; iexists _; isplitr; swap; · iexact H15
        ipureintro; rfl
      ipureintro; exact Or.inl ⟨h0, _, _, rfl⟩
    isplitl [H16]
    · iexists _; isplitr; swap
      · unfold owns; iexists _; isplitr; swap; · iexact H16
        ipureintro; rfl
      ipureintro; exact Or.inl ⟨h0, _, _, rfl⟩
    isplitl [H17]
    · iexists _; isplitr; swap
      · unfold owns; iexists _; isplitr; swap; · iexact H17
        ipureintro; rfl
      ipureintro; exact Or.inl ⟨h0, _, _, rfl⟩
    iexists _; isplitr; swap
    · unfold owns; iexists _; isplitr; swap; · iexact H18
      ipureintro; rfl
    ipureintro; exact Or.inl ⟨h0, _, _, rfl⟩
  · iintro ⟨⟨⟨S0, S1, S2, S3, S4, S5, S6, S7, S8, S9, S10⟩, Hr⟩, Ho, H0, H1, H2, H3, H4, H5, H6, H7, H8, H9, H10, H11, H12, H13, H14, H15, H16, H17, H18⟩
    iapply ((atLater m c t h0 (Y 12) (Y 14) (Y 15) (Y 16) (Y 17) (Y 18)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexists _; iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iintro ⟨H0, H1, H2, H3, H4, H5, H6, H7, H8, H9, H10, ⟨%f11, H11⟩, H12, ⟨%f13, H13⟩, ⟨%f14, H14⟩, ⟨%f15, H15⟩, ⟨%f16, H16⟩, ⟨%f17, H17⟩, ⟨%f18, H18⟩, S0, S1, S2, S3, S4, S5, S6, S7, S8, S9, S10⟩
    isplitl [Hr S0 S1 S2 S3 S4 S5 S6 S7 S8 S9 S10]
    · isplitr [Hr]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      iexact Hr
    isplitl [Ho]; · iexact Ho
    isplitl [H0]
    · iexists _; isplitr; swap
      · iexact H0
      ipureintro; exact rfl
    isplitl [H1]
    · iexists _; isplitr; swap
      · iexact H1
      ipureintro; exact rfl
    isplitl [H2]
    · iexists _; isplitr; swap
      · iexact H2
      ipureintro; exact rfl
    isplitl [H3]
    · iexists _; isplitr; swap
      · iexact H3
      ipureintro; exact rfl
    isplitl [H4]
    · iexists _; isplitr; swap
      · iexact H4
      ipureintro; exact rfl
    isplitl [H5]
    · iexists _; isplitr; swap
      · iexact H5
      ipureintro; exact rfl
    isplitl [H6]
    · iexists _; isplitr; swap
      · iexact H6
      ipureintro; exact rfl
    isplitl [H7]
    · iexists _; isplitr; swap
      · iexact H7
      ipureintro; exact rfl
    isplitl [H8]
    · iexists _; isplitr; swap
      · iexact H8
      ipureintro; exact rfl
    isplitl [H9]
    · iexists _; isplitr; swap
      · iexact H9
      ipureintro; exact rfl
    isplitl [H10]
    · iexists _; isplitr; swap
      · iexact H10
      ipureintro; exact rfl
    isplitl [H11]
    · iexists _; isplitr; swap
      · unfold owns; iexists _; isplitr; swap; · iexact H11
        ipureintro; rfl
      ipureintro; exact Or.inr ⟨h0, _, _, _, _, _, _, _, rfl⟩
    isplitl [H12]
    · iexists _; isplitr; swap
      · unfold owns; iexists _; isplitr; swap; · iexact H12
        ipureintro; rfl
      ipureintro; exact Or.inr ⟨h0, _, _, _, _, _, rfl⟩
    isplitl [H13]
    · iexists _; isplitr; swap
      · unfold owns; iexists _; isplitr; swap; · iexact H13
        ipureintro; rfl
      ipureintro; exact Or.inr ⟨h0, _, _, _, _, _, _, _, rfl⟩
    isplitl [H14]
    · iexists _; isplitr; swap
      · unfold owns; iexists _; isplitr; swap; · iexact H14
        ipureintro; rfl
      ipureintro; exact Or.inr ⟨h0, _, _, _, _, _, _, rfl⟩
    isplitl [H15]
    · iexists _; isplitr; swap
      · unfold owns; iexists _; isplitr; swap; · iexact H15
        ipureintro; rfl
      ipureintro; exact Or.inr ⟨h0, _, _, _, _, _, _, rfl⟩
    isplitl [H16]
    · iexists _; isplitr; swap
      · unfold owns; iexists _; isplitr; swap; · iexact H16
        ipureintro; rfl
      ipureintro; exact Or.inr ⟨h0, _, _, _, _, _, _, rfl⟩
    isplitl [H17]
    · iexists _; isplitr; swap
      · unfold owns; iexists _; isplitr; swap; · iexact H17
        ipureintro; rfl
      ipureintro; exact Or.inr ⟨h0, _, _, _, _, _, _, rfl⟩
    iexists _; isplitr; swap
    · unfold owns; iexists _; isplitr; swap; · iexact H18
      ipureintro; rfl
    ipureintro; exact Or.inr ⟨h0, _, _, _, _, _, _, rfl⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run -/

set_option backward.isDefEq.respectTransparency.types false in
/-- Every weakly fair execution of @main ends with each windowed array as the proof data say, every other buffer as the region found it, and
    every semaphore counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (body_obligation m) (fun _ _ _ => rfl) (fun _ _ => rfl) (V m) (hmain m Variants.none) (rdat_A m)
    (fun _ => .rfl) (fun _ => .rfl)

/-- The run ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1.arr_in c 0 rfl).trans ((rdat_A m c 0).trans (V_main_arg0 m c)),
      (h.1.arr_in c 3 rfl).trans ((rdat_A m c 3).trans (V_main_arg1 m c)),
      (h.1.arr_in c 4 rfl).trans ((rdat_A m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 8 rfl).trans ((rdat_A m c 8).trans (V_main_arg5 m c)),
      ((h.1 c).2 main_arg6 (Pipeline.mem_restRefs_of main_arg6 (by decide) (by decide))).trans (V_main_arg6 m c)⟩, h.2⟩) (run_main m ρ)

end Cert.KernelIdeal.Mixer

end
-- ==== Proof.Frames.lean ====
/- The frames of the mixer's backward call: of the printed program and of its idealization,
   whose constants differ. -/
module

public import proofs.«01_k».proof.Defs
public import proofs.«01_k».proof.Proof.Run
public import proofs.«01_k».proof.Proof.Bits.Run

@[expose] public section

noncomputable section

namespace Cert.Proof

open Idealize.ShloMosaic Idealize.SL.Sem

theorem frame_kernelIdeal : Cert.quiescent_KernelIdeal := fun m ρ _ =>
  Cert.KernelIdeal.Mixer.frame (F := Ideal) m ρ

theorem frame_kernel : Cert.quiescent_Kernel := fun m ρ _ =>
  Cert.Kernel.Mixer.frame (F := Bits) m ρ

theorem preserves_kernel : Cert.preserves_Kernel_KernelIdeal :=
  ⟨IdealRules.named_const.statement Cert.KernelIdeal.κ "gelu_c" .f32 0x3D372713#32 _ rfl,
   IdealRules.named_const.statement Cert.KernelIdeal.κ "gelu_3c" .f32 0x3E095D4F#32 _ rfl⟩

end Cert.Proof

end
-- ==== Proof.Blocks.lean ====
/- Sums taken a block at a time: adding the next block's sum to the sum of the rows before it gives
   the sum of the rows up to the end of that block. -/
module

public import Idealize.ShloMosaic.Lib.Pipeline.Value
public import Idealize.ShloMosaic.Lib.ValueIdx
public import Idealize.ShloMosaic.Lib.Pointwise
public import Idealize.ShloMosaic.PureOps.Ideal.Laws

@[expose] public section

noncomputable section

namespace Cert.Blocks

open Idealize.ShloMosaic

/-- The zero offset of a two-axis array. -/
theorem hz : (![0, 0] : Fin 2 → Nat) = fun _ => 0 := funext fun a => by fin_cases a <;> rfl

/-- The rows of the first block. -/
theorem first_sum (b : ℕ) (g : ℕ → EReal) : ∑ k : Fin b, g (0 * b + k.val) = ∑ r ∈ Finset.range (1 * b), g r := by
  rw [one_mul, Finset.sum_range]; simp

/-- The rows of the first `n` blocks and of the next one. -/
theorem step_sum (b : ℕ) (g : ℕ → EReal) (n : ℕ) :
    ∑ r ∈ Finset.range (n * b), g r + ∑ k : Fin b, g (n * b + k.val) = ∑ r ∈ Finset.range ((n + 1) * b), g r := by
  rw [Nat.succ_mul, Finset.sum_range_add, Finset.sum_range (fun x => g (n * b + x))]

/-- A vector whose element after block `n` is what it held before plus that block's sum holds the
    sum of all the rows up to there. -/
theorem carried {I : Type} (b : ℕ) (N : ℕ) (s : (n : ℕ) → n < N → I → EReal) (g : I → ℕ → EReal)
    (h0 : ∀ h i, s 0 h i = ∑ k : Fin b, g i (0 * b + k.val))
    (hs : ∀ n h i, s (n + 1) h i = s n (Nat.lt_of_succ_lt h) i + ∑ k : Fin b, g i ((n + 1) * b + k.val)) :
    ∀ n h i, s n h i = ∑ r ∈ Finset.range ((n + 1) * b), g i r
  | 0, h, i => by rw [h0, first_sum]
  | n + 1, h, i => by rw [hs, carried b N s g h0 hs n _ i, step_sum]

/-- The row a number names. -/
abbrev row (r : ℕ) : Fin 8192 := Fin.ofNat 8192 r

theorem row_val {r : ℕ} (h : r < 8192) : r = (row r).val := (Nat.mod_eq_of_lt h).symm

/-- All the rows. -/
theorem all_rows (g : Fin 8192 → EReal) : ∑ r ∈ Finset.range 8192, g (row r) = ∑ k : Fin 8192, g k := by
  rw [Finset.sum_range]
  exact Finset.sum_congr rfl fun k _ => congrArg g (Fin.ext (Nat.mod_eq_of_lt k.isLt))

/-- A two-axis index by its coordinates. -/
theorem ix2_of {n m : ℕ} {i : (⟨2, ![n, m]⟩ : Shape).Idx} {r : Fin n} {c : Fin m} (h0 : (i 0).val = r.val)
    (h1 : (i 1).val = c.val) : i = ix2 r c :=
  (eq_ix2 i).trans (congrArg₂ ix2 (Fin.ext h0) (Fin.ext h1))

/-- An array of zeros reads zero. -/
theorem zero_apply {S : Shape} (i : S.Idx) : (constant (F := Ideal) S .f32 0x00000000#32 : FVec Ideal S .f32) i = 0 :=
  Ideal.ofBits_zero_f32

end Cert.Blocks

end
-- ==== Proof.WeightGrad2.lean ====
/- The gradient of a feed-forward weight matrix: the kernel adds, block of rows by block of rows,
   the products of the activations with the gradients, and what it writes back at the last block is
   the sum over all the rows. -/
module

public import proofs.«01_k».proof.Defs
public import proofs.«01_k».proof.Proof.Blocks
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Tactic

@[expose] public section

noncomputable section

namespace Cert.Kernel2Ideal.Grad

open Cert.Kernel2Ideal Cert.Kernel2Ideal.Gen Cert.Kernel2Ideal.Value Cert.Blocks
open Idealize.ShloMosaic Idealize.ShloMosaic.TcCoe Idealize.SL.Sem

variable (m : (ℓ : Loc nD τ sig) → Buf (Elt Ideal) ℓ) (c : Dev nD)

/-- The block's product at an index. -/
theorem pay1_apply (x : Vec Ideal S1024x2816 .bf16) (dy : Vec Ideal S1024x1024 .bf16) (i : S2816x1024.Idx) :
    k0_pay1 x dy i = ∑ k : Fin 1024, x (ix2 k (i 0)) * dy (ix2 k (i 1)) := by
  unfold k0_pay1
  simp only [shapeCast_self]
  simp only [pointwise, zero_apply, zero_add]

/-- What was carried, and the block's product. -/
theorem pay2_apply (acc : Vec Ideal S2816x1024 .f32) (x : Vec Ideal S1024x2816 .bf16)
    (dy : Vec Ideal S1024x1024 .bf16) (i : S2816x1024.Idx) :
    k0_pay2 acc x dy i = acc i + ∑ k : Fin 1024, x (ix2 k (i 0)) * dy (ix2 k (i 1)) := by
  unfold k0_pay2
  simp only [shapeCast_self]
  simp only [pointwise, zero_apply, zero_add]

section Cases

variable (i : grid0.Coords) (a1 : Memref sig .tc .vmem S1024x2816 .bf16) (h1 : a1.IsWhole)
  (a2 : Memref sig .tc .vmem S1024x1024 .bf16) (h2 : a2.IsWhole)
  (a3 : Memref sig .tc .vmem S2816x1024 .bf16) (h3 : a3.IsWhole)
  (a4 : Memref sig .tc .vmem S2816x1024 .f32) (h4 : a4.IsWhole)
  (x : Vec Ideal S1024x2816 .bf16) (dy : Vec Ideal S1024x1024 .bf16) (s : Vec Ideal S2816x1024 .f32)

theorem carry_first (p q r) : sout0_A_0 c i a1 h1 a2 h2 a3 h3 a4 h4 p q r x dy = k0_pay1 x dy := by
  unfold sout0_A_0
  rw [View.read_writes_eq_canon _ _ _ (scover0_A_0 c i a1 h1 a2 h2 a3 h3 a4 h4 p q r x dy)]
  unfold kernelRun0_A
  dsimp only
  sl_unfold_words
  rw [View.canon_unit_zero hz]
  simp only [View.readAt_eq_ld, h1.read_unread, h2.read_unread, View.ld_unit_zero (S := S1024x2816) hz,
    View.ld_unit_zero (S := S1024x1024) hz]

theorem carry_next (p q r) : sout0_B_0 c i a1 h1 a2 h2 a3 h3 a4 h4 p q r x dy s = k0_pay2 s x dy := by
  unfold sout0_B_0
  rw [View.read_writes_eq_canon _ _ _ (scover0_B_0 c i a1 h1 a2 h2 a3 h3 a4 h4 p q r x dy s)]
  unfold kernelRun0_B
  dsimp only
  sl_unfold_words
  rw [View.canon_unit_zero hz]
  simp only [View.readAt_eq_ld, h1.read_unread, h2.read_unread, h4.read_unread,
    View.ld_unit_zero (S := S1024x2816) hz, View.ld_unit_zero (S := S1024x1024) hz,
    View.ld_unit_zero (S := S2816x1024) hz]

theorem carry_last (p q r) : sout0_C_0 c i a1 h1 a2 h2 a3 h3 a4 h4 p q r x dy s = k0_pay2 s x dy := by
  unfold sout0_C_0
  rw [View.read_writes_eq_canon _ _ _ (scover0_C_0 c i a1 h1 a2 h2 a3 h3 a4 h4 p q r x dy s)]
  unfold kernelRun0_C
  dsimp only
  sl_unfold_words
  rw [View.canon_unit_zero hz]
  simp only [View.readAt_eq_ld, h1.read_unread, h2.read_unread, h4.read_unread,
    View.ld_unit_zero (S := S1024x2816) hz, View.ld_unit_zero (S := S1024x1024) hz,
    View.ld_unit_zero (S := S2816x1024) hz]

theorem write_last (p q r) : out0_C_2 c i a1 h1 a2 h2 a3 h3 a4 h4 p q r x dy s = k0_pay3 (k0_pay2 s x dy) := by
  unfold out0_C_2
  rw [View.read_writes_eq_canon _ _ _ (cover0_C_2 c i a1 h1 a2 h2 a3 h3 a4 h4 p q r x dy s)]
  unfold kernelRun0_C
  dsimp only
  sl_unfold_words
  rw [View.canon_unit_zero hz, View.readCov_unit_zero (S := S2816x1024) _ hz]
  simp only [View.readAt_eq_ld, h1.read_unread, h2.read_unread, h4.read_unread,
    View.ld_unit_zero (S := S1024x2816) hz, View.ld_unit_zero (S := S1024x1024) hz,
    View.ld_unit_zero (S := S2816x1024) hz]

end Cases

/-- The activations and the gradients, and one row's product of them. -/
def acts : Vec Ideal S8192x2816 .bf16 := m ((c : Thread nD τ).loc main_arg0)
def grads : Vec Ideal S8192x1024 .bf16 := m ((c : Thread nD τ).loc main_arg1)
def term (i : S2816x1024.Idx) (k : Fin 8192) : EReal := acts m c (ix2 k (i 0)) * grads m c (ix2 k (i 1))

/-- A block of the activations is a block of rows of the argument. -/
theorem block0 (t : Fin cfg0.N) (k : Fin 1024) (a : Fin 2816) :
    (iblk m c 0 t : Vec Ideal S1024x2816 .bf16) (ix2 k a)
      = acts m c (ix2 (row (t.val * 1024 + k.val)) a) := by
  have hi : ∀ t : Fin cfg0.N, win0_0.index t 0 = t.val ∧ win0_0.index t 1 = 0 :=
    (by decide +kernel : ∀ t : Fin grid0.N, win0_0.index t 0 = t.val ∧ win0_0.index t 1 = 0)
  have ht : t.val < 8 := lt_of_lt_of_eq t.isLt N_0
  unfold iblk
  rw [View.read_apply]
  refine (congrFun (V_main_arg0 m c) _).trans (congrArg (acts m c) ?_)
  funext d
  apply Fin.ext
  match d with
  | ⟨0, _⟩ =>
    show win0_0.index t 0 * 1024 + 1 * k.val = (t.val * 1024 + k.val) % 8192
    rw [(hi t).1]; omega
  | ⟨1, _⟩ => show win0_0.index t 1 * 2816 + 1 * a.val = a.val; rw [(hi t).2]; omega

/-- A block of the gradients is a block of rows of the argument. -/
theorem block1 (t : Fin cfg0.N) (k : Fin 1024) (a : Fin 1024) :
    (iblk m c 1 t : Vec Ideal S1024x1024 .bf16) (ix2 k a)
      = grads m c (ix2 (row (t.val * 1024 + k.val)) a) := by
  have hi : ∀ t : Fin cfg0.N, win0_1.index t 0 = t.val ∧ win0_1.index t 1 = 0 :=
    (by decide +kernel : ∀ t : Fin grid0.N, win0_1.index t 0 = t.val ∧ win0_1.index t 1 = 0)
  have ht : t.val < 8 := lt_of_lt_of_eq t.isLt N_0
  unfold iblk
  rw [View.read_apply]
  refine (congrFun (V_main_arg1 m c) _).trans (congrArg (grads m c) ?_)
  funext d
  apply Fin.ext
  match d with
  | ⟨0, _⟩ =>
    show win0_1.index t 0 * 1024 + 1 * k.val = (t.val * 1024 + k.val) % 8192
    rw [(hi t).1]; omega
  | ⟨1, _⟩ => show win0_1.index t 1 * 1024 + 1 * a.val = a.val; rw [(hi t).2]; omega

/-- What is carried after a block: the sum over the rows so far. -/
theorem carried_eq (n : ℕ) (h : n < cfg0.N) (i : S2816x1024.Idx) :
    (outsAt0 m c n h).2 i = ∑ r ∈ Finset.range ((n + 1) * 1024), term m c i (row r) := by
  refine carried 1024 cfg0.N (fun n h => (outsAt0 m c n h).2) (fun i r => term m c i (row r)) ?_ ?_ n h i
  · intro h i
    show (outsAt0 m c (⟨0, h⟩ : Fin cfg0.N).val _).2 i = _
    rw [outsAt0_A m c ⟨0, h⟩ rfl (by dsimp only; omega) (by dsimp only; omega)]
    dsimp only
    rw [carry_first, pay1_apply]
    exact Finset.sum_congr rfl fun k _ => congrArg₂ (fun a b : EReal => a * b) (block0 m c ⟨0, h⟩ k _) (block1 m c ⟨0, h⟩ k _)
  · intro n h i
    have hN := lt_of_lt_of_eq h (show cfg0.N = 8 from N_0)
    have e : (outsAt0 m c (n + 1) h).2
        = k0_pay2 (outsAt0 m c n (Nat.lt_of_succ_lt h)).2 (iblk m c 0 ⟨n + 1, h⟩) (iblk m c 1 ⟨n + 1, h⟩) := by
      show (outsAt0 m c (⟨n + 1, h⟩ : Fin cfg0.N).val _).2 = _
      by_cases hl : (n + 1) % 8 = 7
      · rw [outsAt0_C m c ⟨n + 1, h⟩ (by dsimp only; omega) (by dsimp only; omega) hl]
        dsimp only
        rw [carry_last]
        rfl
      · rw [outsAt0_B m c ⟨n + 1, h⟩ (by dsimp only; omega) (by dsimp only; omega) hl]
        dsimp only
        rw [carry_next]
        rfl
    show (outsAt0 m c (n + 1) h).2 i = _
    rw [e, pay2_apply]
    exact congrArg (_ + ·) (Finset.sum_congr rfl fun k _ =>
      congrArg₂ (fun a b : EReal => a * b) (block0 m c ⟨n + 1, h⟩ k _) (block1 m c ⟨n + 1, h⟩ k _))

/-- The array after the run: the sum over all the rows. -/
theorem result_apply (i : S2816x1024.Idx) : (G2 m c : Vec Ideal S2816x1024 .bf16) i = ∑ k : Fin 8192, term m c i k := by
  have h7 : 7 < cfg0.N := lt_of_lt_of_eq (by decide) N_0.symm
  have e : G2 m c = (outsAt0 m c 7 h7).1 := by rw [G2_last, outsAt0_sweep]
  have e1 : (outsAt0 m c 7 h7).1 = k0_pay3 (outsAt0 m c 7 h7).2 := by
    show (outsAt0 m c (⟨7, h7⟩ : Fin cfg0.N).val _).1 = k0_pay3 (outsAt0 m c (⟨7, h7⟩ : Fin cfg0.N).val _).2
    rw [outsAt0_C m c ⟨7, h7⟩ (by dsimp only; omega) (by dsimp only; omega) rfl]
    dsimp only
    rw [carry_last, write_last]
  rw [e, e1]
  exact (carried_eq m c 7 h7 i).trans (all_rows (term m c i))

end Cert.Kernel2Ideal.Grad

namespace Cert.Proof

open Idealize.ShloMosaic Idealize.SL.Sem

/-- The reference's result at an index, the same sum. -/
theorem reference2_apply (x0 : (⟨Cert.Reference2Ideal.S8192x2816, .bf16⟩ : BufTy).Contents (Elt Ideal))
    (x1 : (⟨Cert.Reference2Ideal.S8192x1024, .bf16⟩ : BufTy).Contents (Elt Ideal)) (i : Cert.Reference2Ideal.S2816x1024.Idx) :
    Cert.Reference2Ideal.Read.val_main_v6 (F := Ideal) x0 x1 i = ∑ k : Fin 8192, x0 (ix2 k (i 0)) * x1 (ix2 k (i 1)) := by
  rw [Cert.Reference2Ideal.Read.val_main_v6_apply, Cert.Reference2Ideal.Read.val_main_v5_apply]
  refine (Cert.Reference2Ideal.Read.val_main_v4_apply x0 x1 _).trans (Finset.sum_congr rfl fun k _ => ?_)
  rw [mul_comm]
  exact congrArg₂ (fun a b : EReal => a * b) (congrArg x0 (eq_ix2 _)) (congrArg x1 (eq_ix2 _))

theorem algebraic2 : Cert.algebraic_Kernel2Ideal_Reference2Ideal := fun m g m' g' _ hagree =>
  ⟨fun c => Cert.Kernel2Ideal.Value.G2 m c, Cert.Kernel2Ideal.Value.run m g,
    (θ_run (Cert.Reference2Ideal.defs (F := Ideal)) _ _).mono (fun r h c => by
      refine ⟨(h c).1.trans ?_, (h c).2⟩
      rw [(hagree c).1, (hagree c).2]
      refine (Cert.Reference2Ideal.Read.val_main_v6_eq (F := Ideal) _ _).trans ?_
      funext i
      refine (reference2_apply _ _ i).trans ?_
      exact (Cert.Kernel2Ideal.Grad.result_apply m c i).symm)
    (Cert.Reference2Ideal.Value.run m' g')⟩

end Cert.Proof

end
-- ==== Proof.WeightGrad3.lean ====
/- The gradient of a square weight matrix: the kernel adds, block of rows by block of rows,
   the products of the activations with the gradients, and what it writes back at the last block is
   the sum over all the rows. -/
module

public import proofs.«01_k».proof.Defs
public import proofs.«01_k».proof.Proof.Blocks
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Tactic

@[expose] public section

noncomputable section

namespace Cert.Kernel3Ideal.Grad

open Cert.Kernel3Ideal Cert.Kernel3Ideal.Gen Cert.Kernel3Ideal.Value Cert.Blocks
open Idealize.ShloMosaic Idealize.ShloMosaic.TcCoe Idealize.SL.Sem

variable (m : (ℓ : Loc nD τ sig) → Buf (Elt Ideal) ℓ) (c : Dev nD)

/-- The block's product at an index. -/
theorem pay1_apply (x : Vec Ideal S1024x1024 .bf16) (dy : Vec Ideal S1024x1024 .bf16) (i : S1024x1024.Idx) :
    k0_pay1 x dy i = ∑ k : Fin 1024, x (ix2 k (i 0)) * dy (ix2 k (i 1)) := by
  unfold k0_pay1
  simp only [shapeCast_self]
  simp only [pointwise, zero_apply, zero_add]

/-- What was carried, and the block's product. -/
theorem pay2_apply (acc : Vec Ideal S1024x1024 .f32) (x : Vec Ideal S1024x1024 .bf16)
    (dy : Vec Ideal S1024x1024 .bf16) (i : S1024x1024.Idx) :
    k0_pay2 acc x dy i = acc i + ∑ k : Fin 1024, x (ix2 k (i 0)) * dy (ix2 k (i 1)) := by
  unfold k0_pay2
  simp only [shapeCast_self]
  simp only [pointwise, zero_apply, zero_add]

section Cases

variable (i : grid0.Coords) (a1 : Memref sig .tc .vmem S1024x1024 .bf16) (h1 : a1.IsWhole)
  (a2 : Memref sig .tc .vmem S1024x1024 .bf16) (h2 : a2.IsWhole)
  (a3 : Memref sig .tc .vmem S1024x1024 .bf16) (h3 : a3.IsWhole)
  (a4 : Memref sig .tc .vmem S1024x1024 .f32) (h4 : a4.IsWhole)
  (x : Vec Ideal S1024x1024 .bf16) (dy : Vec Ideal S1024x1024 .bf16) (s : Vec Ideal S1024x1024 .f32)

theorem carry_first (p q r) : sout0_A_0 c i a1 h1 a2 h2 a3 h3 a4 h4 p q r x dy = k0_pay1 x dy := by
  unfold sout0_A_0
  rw [View.read_writes_eq_canon _ _ _ (scover0_A_0 c i a1 h1 a2 h2 a3 h3 a4 h4 p q r x dy)]
  unfold kernelRun0_A
  dsimp only
  sl_unfold_words
  rw [View.canon_unit_zero hz]
  simp only [View.readAt_eq_ld, h1.read_unread, h2.read_unread, View.ld_unit_zero (S := S1024x1024) hz,
    View.ld_unit_zero (S := S1024x1024) hz]

theorem carry_next (p q r) : sout0_B_0 c i a1 h1 a2 h2 a3 h3 a4 h4 p q r x dy s = k0_pay2 s x dy := by
  unfold sout0_B_0
  rw [View.read_writes_eq_canon _ _ _ (scover0_B_0 c i a1 h1 a2 h2 a3 h3 a4 h4 p q r x dy s)]
  unfold kernelRun0_B
  dsimp only
  sl_unfold_words
  rw [View.canon_unit_zero hz]
  simp only [View.readAt_eq_ld, h1.read_unread, h2.read_unread, h4.read_unread,
    View.ld_unit_zero (S := S1024x1024) hz, View.ld_unit_zero (S := S1024x1024) hz,
    View.ld_unit_zero (S := S1024x1024) hz]

theorem carry_last (p q r) : sout0_C_0 c i a1 h1 a2 h2 a3 h3 a4 h4 p q r x dy s = k0_pay2 s x dy := by
  unfold sout0_C_0
  rw [View.read_writes_eq_canon _ _ _ (scover0_C_0 c i a1 h1 a2 h2 a3 h3 a4 h4 p q r x dy s)]
  unfold kernelRun0_C
  dsimp only
  sl_unfold_words
  rw [View.canon_unit_zero hz]
  simp only [View.readAt_eq_ld, h1.read_unread, h2.read_unread, h4.read_unread,
    View.ld_unit_zero (S := S1024x1024) hz, View.ld_unit_zero (S := S1024x1024) hz,
    View.ld_unit_zero (S := S1024x1024) hz]

theorem write_last (p q r) : out0_C_2 c i a1 h1 a2 h2 a3 h3 a4 h4 p q r x dy s = k0_pay3 (k0_pay2 s x dy) := by
  unfold out0_C_2
  rw [View.read_writes_eq_canon _ _ _ (cover0_C_2 c i a1 h1 a2 h2 a3 h3 a4 h4 p q r x dy s)]
  unfold kernelRun0_C
  dsimp only
  sl_unfold_words
  rw [View.canon_unit_zero hz, View.readCov_unit_zero (S := S1024x1024) _ hz]
  simp only [View.readAt_eq_ld, h1.read_unread, h2.read_unread, h4.read_unread,
    View.ld_unit_zero (S := S1024x1024) hz, View.ld_unit_zero (S := S1024x1024) hz,
    View.ld_unit_zero (S := S1024x1024) hz]

end Cases

/-- The activations and the gradients, and one row's product of them. -/
def acts : Vec Ideal S8192x1024 .bf16 := m ((c : Thread nD τ).loc main_arg0)
def grads : Vec Ideal S8192x1024 .bf16 := m ((c : Thread nD τ).loc main_arg1)
def term (i : S1024x1024.Idx) (k : Fin 8192) : EReal := acts m c (ix2 k (i 0)) * grads m c (ix2 k (i 1))

/-- A block of the activations is a block of rows of the argument. -/
theorem block0 (t : Fin cfg0.N) (k : Fin 1024) (a : Fin 1024) :
    (iblk m c 0 t : Vec Ideal S1024x1024 .bf16) (ix2 k a)
      = acts m c (ix2 (row (t.val * 1024 + k.val)) a) := by
  have hi : ∀ t : Fin cfg0.N, win0_0.index t 0 = t.val ∧ win0_0.index t 1 = 0 :=
    (by decide +kernel : ∀ t : Fin grid0.N, win0_0.index t 0 = t.val ∧ win0_0.index t 1 = 0)
  have ht : t.val < 8 := lt_of_lt_of_eq t.isLt N_0
  unfold iblk
  rw [View.read_apply]
  refine (congrFun (V_main_arg0 m c) _).trans (congrArg (acts m c) ?_)
  funext d
  apply Fin.ext
  match d with
  | ⟨0, _⟩ =>
    show win0_0.index t 0 * 1024 + 1 * k.val = (t.val * 1024 + k.val) % 8192
    rw [(hi t).1]; omega
  | ⟨1, _⟩ => show win0_0.index t 1 * 1024 + 1 * a.val = a.val; rw [(hi t).2]; omega

/-- A block of the gradients is a block of rows of the argument. -/
theorem block1 (t : Fin cfg0.N) (k : Fin 1024) (a : Fin 1024) :
    (iblk m c 1 t : Vec Ideal S1024x1024 .bf16) (ix2 k a)
      = grads m c (ix2 (row (t.val * 1024 + k.val)) a) := by
  have hi : ∀ t : Fin cfg0.N, win0_1.index t 0 = t.val ∧ win0_1.index t 1 = 0 :=
    (by decide +kernel : ∀ t : Fin grid0.N, win0_1.index t 0 = t.val ∧ win0_1.index t 1 = 0)
  have ht : t.val < 8 := lt_of_lt_of_eq t.isLt N_0
  unfold iblk
  rw [View.read_apply]
  refine (congrFun (V_main_arg1 m c) _).trans (congrArg (grads m c) ?_)
  funext d
  apply Fin.ext
  match d with
  | ⟨0, _⟩ =>
    show win0_1.index t 0 * 1024 + 1 * k.val = (t.val * 1024 + k.val) % 8192
    rw [(hi t).1]; omega
  | ⟨1, _⟩ => show win0_1.index t 1 * 1024 + 1 * a.val = a.val; rw [(hi t).2]; omega

/-- What is carried after a block: the sum over the rows so far. -/
theorem carried_eq (n : ℕ) (h : n < cfg0.N) (i : S1024x1024.Idx) :
    (outsAt0 m c n h).2 i = ∑ r ∈ Finset.range ((n + 1) * 1024), term m c i (row r) := by
  refine carried 1024 cfg0.N (fun n h => (outsAt0 m c n h).2) (fun i r => term m c i (row r)) ?_ ?_ n h i
  · intro h i
    show (outsAt0 m c (⟨0, h⟩ : Fin cfg0.N).val _).2 i = _
    rw [outsAt0_A m c ⟨0, h⟩ rfl (by dsimp only; omega) (by dsimp only; omega)]
    dsimp only
    rw [carry_first, pay1_apply]
    exact Finset.sum_congr rfl fun k _ => congrArg₂ (fun a b : EReal => a * b) (block0 m c ⟨0, h⟩ k _) (block1 m c ⟨0, h⟩ k _)
  · intro n h i
    have hN := lt_of_lt_of_eq h (show cfg0.N = 8 from N_0)
    have e : (outsAt0 m c (n + 1) h).2
        = k0_pay2 (outsAt0 m c n (Nat.lt_of_succ_lt h)).2 (iblk m c 0 ⟨n + 1, h⟩) (iblk m c 1 ⟨n + 1, h⟩) := by
      show (outsAt0 m c (⟨n + 1, h⟩ : Fin cfg0.N).val _).2 = _
      by_cases hl : (n + 1) % 8 = 7
      · rw [outsAt0_C m c ⟨n + 1, h⟩ (by dsimp only; omega) (by dsimp only; omega) hl]
        dsimp only
        rw [carry_last]
        rfl
      · rw [outsAt0_B m c ⟨n + 1, h⟩ (by dsimp only; omega) (by dsimp only; omega) hl]
        dsimp only
        rw [carry_next]
        rfl
    show (outsAt0 m c (n + 1) h).2 i = _
    rw [e, pay2_apply]
    exact congrArg (_ + ·) (Finset.sum_congr rfl fun k _ =>
      congrArg₂ (fun a b : EReal => a * b) (block0 m c ⟨n + 1, h⟩ k _) (block1 m c ⟨n + 1, h⟩ k _))

/-- The array after the run: the sum over all the rows. -/
theorem result_apply (i : S1024x1024.Idx) : (G2 m c : Vec Ideal S1024x1024 .bf16) i = ∑ k : Fin 8192, term m c i k := by
  have h7 : 7 < cfg0.N := lt_of_lt_of_eq (by decide) N_0.symm
  have e : G2 m c = (outsAt0 m c 7 h7).1 := by rw [G2_last, outsAt0_sweep]
  have e1 : (outsAt0 m c 7 h7).1 = k0_pay3 (outsAt0 m c 7 h7).2 := by
    show (outsAt0 m c (⟨7, h7⟩ : Fin cfg0.N).val _).1 = k0_pay3 (outsAt0 m c (⟨7, h7⟩ : Fin cfg0.N).val _).2
    rw [outsAt0_C m c ⟨7, h7⟩ (by dsimp only; omega) (by dsimp only; omega) rfl]
    dsimp only
    rw [carry_last, write_last]
  rw [e, e1]
  exact (carried_eq m c 7 h7 i).trans (all_rows (term m c i))

end Cert.Kernel3Ideal.Grad

namespace Cert.Proof

open Idealize.ShloMosaic Idealize.SL.Sem

/-- The reference's result at an index, the same sum. -/
theorem reference3_apply (x0 : (⟨Cert.Reference3Ideal.S8192x1024, .bf16⟩ : BufTy).Contents (Elt Ideal))
    (x1 : (⟨Cert.Reference3Ideal.S8192x1024, .bf16⟩ : BufTy).Contents (Elt Ideal)) (i : Cert.Reference3Ideal.S1024x1024.Idx) :
    Cert.Reference3Ideal.Read.val_main_v6 (F := Ideal) x0 x1 i = ∑ k : Fin 8192, x0 (ix2 k (i 0)) * x1 (ix2 k (i 1)) := by
  rw [Cert.Reference3Ideal.Read.val_main_v6_apply, Cert.Reference3Ideal.Read.val_main_v5_apply]
  refine (Cert.Reference3Ideal.Read.val_main_v4_apply x0 x1 _).trans (Finset.sum_congr rfl fun k _ => ?_)
  rw [mul_comm]
  exact congrArg₂ (fun a b : EReal => a * b) (congrArg x0 (eq_ix2 _)) (congrArg x1 (eq_ix2 _))

theorem algebraic3 : Cert.algebraic_Kernel3Ideal_Reference3Ideal := fun m g m' g' _ hagree =>
  ⟨fun c => Cert.Kernel3Ideal.Value.G2 m c, Cert.Kernel3Ideal.Value.run m g,
    (θ_run (Cert.Reference3Ideal.defs (F := Ideal)) _ _).mono (fun r h c => by
      refine ⟨(h c).1.trans ?_, (h c).2⟩
      rw [(hagree c).1, (hagree c).2]
      refine (Cert.Reference3Ideal.Read.val_main_v6_eq (F := Ideal) _ _).trans ?_
      funext i
      refine (reference3_apply _ _ i).trans ?_
      exact (Cert.Kernel3Ideal.Grad.result_apply m c i).symm)
    (Cert.Reference3Ideal.Value.run m' g')⟩

end Cert.Proof

end
-- ==== Proof.WeightGrad4.lean ====
/- The gradient of the mixer's input matrix: three arrays side by side make the left operand; the
   kernel adds the products block of rows by block of rows, and what it writes back at the last block
   is the sum over all the rows. -/
module

public import proofs.«01_k».proof.Defs
public import proofs.«01_k».proof.Proof.Blocks
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Tactic

@[expose] public section

noncomputable section

namespace Cert.Kernel4Ideal.Grad

open Cert.Kernel4Ideal Cert.Kernel4Ideal.Gen Cert.Kernel4Ideal.Value Cert.Blocks
open Idealize.ShloMosaic Idealize.ShloMosaic.TcCoe Idealize.SL.Sem

variable (m : (ℓ : Loc nD τ sig) → Buf (Elt Ideal) ℓ) (c : Dev nD)

/-- Three arrays side by side, read at a row and a column. -/
def beside {R : Type} (x : R → Fin 512 → EReal) (y : R → Fin 256 → EReal) (z : R → Fin 1024 → EReal)
    (r : R) (a : Fin 1792) : EReal :=
  if h : a.val < 512 then x r ⟨a.val, h⟩ else
  if h' : a.val - 512 < 256 then y r ⟨a.val - 512, h'⟩ else z r ⟨a.val - 512 - 256, by omega⟩

/-- The block's product at an index. -/
theorem pay1_apply (x : Vec Ideal S1024x512 .bf16) (y : Vec Ideal S1024x256 .f32) (z : Vec Ideal S1024x1024 .bf16)
    (dy : Vec Ideal S1024x1024 .bf16) (i : S1792x1024.Idx) :
    k0_pay1 x y z dy i = ∑ k : Fin 1024, beside (fun k a => x (ix2 k a)) (fun k a => y (ix2 k a))
      (fun k a => z (ix2 k a)) k (i 0) * dy (ix2 k (i 1)) := by
  unfold k0_pay1 beside
  simp only [shapeCast_self]
  simp only [pointwise, zero_apply, zero_add]
  rfl

/-- What was carried, and the block's product. -/
theorem pay2_apply (acc : Vec Ideal S1792x1024 .f32) (x : Vec Ideal S1024x512 .bf16) (y : Vec Ideal S1024x256 .f32)
    (z : Vec Ideal S1024x1024 .bf16) (dy : Vec Ideal S1024x1024 .bf16) (i : S1792x1024.Idx) :
    k0_pay2 acc x y z dy i = acc i + ∑ k : Fin 1024, beside (fun k a => x (ix2 k a)) (fun k a => y (ix2 k a))
      (fun k a => z (ix2 k a)) k (i 0) * dy (ix2 k (i 1)) := by
  unfold k0_pay2 beside
  simp only [shapeCast_self]
  simp only [pointwise, zero_apply, zero_add]
  rfl

section Cases

variable (i : grid0.Coords) (a1 : Memref sig .tc .vmem S1024x512 .bf16) (h1 : a1.IsWhole)
  (a2 : Memref sig .tc .vmem S1024x256 .f32) (h2 : a2.IsWhole)
  (a3 : Memref sig .tc .vmem S1024x1024 .bf16) (h3 : a3.IsWhole)
  (a4 : Memref sig .tc .vmem S1024x1024 .bf16) (h4 : a4.IsWhole)
  (a5 : Memref sig .tc .vmem S1792x1024 .bf16) (h5 : a5.IsWhole)
  (a6 : Memref sig .tc .vmem S1792x1024 .f32) (h6 : a6.IsWhole)
  (x : Vec Ideal S1024x512 .bf16) (y : Vec Ideal S1024x256 .f32) (z : Vec Ideal S1024x1024 .bf16)
  (dy : Vec Ideal S1024x1024 .bf16) (s : Vec Ideal S1792x1024 .f32)

theorem carry_first (p q r) : sout0_A_0 c i a1 h1 a2 h2 a3 h3 a4 h4 a5 h5 a6 h6 p q r x y z dy = k0_pay1 x y z dy := by
  unfold sout0_A_0
  rw [View.read_writes_eq_canon _ _ _ (scover0_A_0 c i a1 h1 a2 h2 a3 h3 a4 h4 a5 h5 a6 h6 p q r x y z dy)]
  unfold kernelRun0_A
  dsimp only
  sl_unfold_words
  rw [View.canon_unit_zero hz]
  simp only [View.readAt_eq_ld, h1.read_unread, h2.read_unread, h3.read_unread, h4.read_unread,
    View.ld_unit_zero (S := S1024x512) hz, View.ld_unit_zero (S := S1024x256) hz,
    View.ld_unit_zero (S := S1024x1024) hz]

theorem carry_next (p q r) : sout0_B_0 c i a1 h1 a2 h2 a3 h3 a4 h4 a5 h5 a6 h6 p q r x y z dy s = k0_pay2 s x y z dy := by
  unfold sout0_B_0
  rw [View.read_writes_eq_canon _ _ _ (scover0_B_0 c i a1 h1 a2 h2 a3 h3 a4 h4 a5 h5 a6 h6 p q r x y z dy s)]
  unfold kernelRun0_B
  dsimp only
  sl_unfold_words
  rw [View.canon_unit_zero hz]
  simp only [View.readAt_eq_ld, h1.read_unread, h2.read_unread, h3.read_unread, h4.read_unread, h6.read_unread,
    View.ld_unit_zero (S := S1024x512) hz, View.ld_unit_zero (S := S1024x256) hz, View.ld_unit_zero (S := S1024x1024) hz,
    View.ld_unit_zero (S := S1792x1024) hz]

theorem carry_last (p q r) : sout0_C_0 c i a1 h1 a2 h2 a3 h3 a4 h4 a5 h5 a6 h6 p q r x y z dy s = k0_pay2 s x y z dy := by
  unfold sout0_C_0
  rw [View.read_writes_eq_canon _ _ _ (scover0_C_0 c i a1 h1 a2 h2 a3 h3 a4 h4 a5 h5 a6 h6 p q r x y z dy s)]
  unfold kernelRun0_C
  dsimp only
  sl_unfold_words
  rw [View.canon_unit_zero hz]
  simp only [View.readAt_eq_ld, h1.read_unread, h2.read_unread, h3.read_unread, h4.read_unread, h6.read_unread,
    View.ld_unit_zero (S := S1024x512) hz, View.ld_unit_zero (S := S1024x256) hz, View.ld_unit_zero (S := S1024x1024) hz,
    View.ld_unit_zero (S := S1792x1024) hz]

theorem write_last (p q r) : out0_C_4 c i a1 h1 a2 h2 a3 h3 a4 h4 a5 h5 a6 h6 p q r x y z dy s = k0_pay3 (k0_pay2 s x y z dy) := by
  unfold out0_C_4
  rw [View.read_writes_eq_canon _ _ _ (cover0_C_4 c i a1 h1 a2 h2 a3 h3 a4 h4 a5 h5 a6 h6 p q r x y z dy s)]
  unfold kernelRun0_C
  dsimp only
  sl_unfold_words
  rw [View.canon_unit_zero hz, View.readCov_unit_zero (S := S1792x1024) _ hz]
  simp only [View.readAt_eq_ld, h1.read_unread, h2.read_unread, h3.read_unread, h4.read_unread, h6.read_unread,
    View.ld_unit_zero (S := S1024x512) hz, View.ld_unit_zero (S := S1024x256) hz, View.ld_unit_zero (S := S1024x1024) hz,
    View.ld_unit_zero (S := S1792x1024) hz]

end Cases

/-- The arguments, the three of the left operand side by side, and one row's product. -/
def left0 : Vec Ideal S8192x512 .bf16 := m ((c : Thread nD τ).loc main_arg0)
def left1 : Vec Ideal S8192x256 .f32 := m ((c : Thread nD τ).loc main_arg1)
def left2 : Vec Ideal S8192x1024 .bf16 := m ((c : Thread nD τ).loc main_arg2)
def acts : Vec Ideal S8192x1024 .bf16 := m ((c : Thread nD τ).loc main_arg3)
def term (i : S1792x1024.Idx) (k : Fin 8192) : EReal :=
  beside (fun k a => left0 m c (ix2 k a)) (fun k a => left1 m c (ix2 k a)) (fun k a => left2 m c (ix2 k a)) k (i 0)
    * acts m c (ix2 k (i 1))

/-! A block of an argument is a block of its rows. -/

theorem block0 (t : Fin cfg0.N) (k : Fin 1024) (a : Fin 512) :
    (iblk m c 0 t : Vec Ideal S1024x512 .bf16) (ix2 k a) = left0 m c (ix2 (row (t.val * 1024 + k.val)) a) := by
  have hi : ∀ t : Fin cfg0.N, win0_0.index t 0 = t.val ∧ win0_0.index t 1 = 0 :=
    (by decide +kernel : ∀ t : Fin grid0.N, win0_0.index t 0 = t.val ∧ win0_0.index t 1 = 0)
  have ht : t.val < 8 := lt_of_lt_of_eq t.isLt N_0
  unfold iblk
  rw [View.read_apply]
  refine (congrFun (V_main_arg0 m c) _).trans (congrArg (left0 m c) ?_)
  funext d
  apply Fin.ext
  match d with
  | ⟨0, _⟩ =>
    show win0_0.index t 0 * 1024 + 1 * k.val = (t.val * 1024 + k.val) % 8192
    rw [(hi t).1]; omega
  | ⟨1, _⟩ => show win0_0.index t 1 * 512 + 1 * a.val = a.val; rw [(hi t).2]; omega

theorem block1 (t : Fin cfg0.N) (k : Fin 1024) (a : Fin 256) :
    (iblk m c 1 t : Vec Ideal S1024x256 .f32) (ix2 k a) = left1 m c (ix2 (row (t.val * 1024 + k.val)) a) := by
  have hi : ∀ t : Fin cfg0.N, win0_1.index t 0 = t.val ∧ win0_1.index t 1 = 0 :=
    (by decide +kernel : ∀ t : Fin grid0.N, win0_1.index t 0 = t.val ∧ win0_1.index t 1 = 0)
  have ht : t.val < 8 := lt_of_lt_of_eq t.isLt N_0
  unfold iblk
  rw [View.read_apply]
  refine (congrFun (V_main_arg1 m c) _).trans (congrArg (left1 m c) ?_)
  funext d
  apply Fin.ext
  match d with
  | ⟨0, _⟩ =>
    show win0_1.index t 0 * 1024 + 1 * k.val = (t.val * 1024 + k.val) % 8192
    rw [(hi t).1]; omega
  | ⟨1, _⟩ => show win0_1.index t 1 * 256 + 1 * a.val = a.val; rw [(hi t).2]; omega

theorem block2 (t : Fin cfg0.N) (k : Fin 1024) (a : Fin 1024) :
    (iblk m c 2 t : Vec Ideal S1024x1024 .bf16) (ix2 k a) = left2 m c (ix2 (row (t.val * 1024 + k.val)) a) := by
  have hi : ∀ t : Fin cfg0.N, win0_2.index t 0 = t.val ∧ win0_2.index t 1 = 0 :=
    (by decide +kernel : ∀ t : Fin grid0.N, win0_2.index t 0 = t.val ∧ win0_2.index t 1 = 0)
  have ht : t.val < 8 := lt_of_lt_of_eq t.isLt N_0
  unfold iblk
  rw [View.read_apply]
  refine (congrFun (V_main_arg2 m c) _).trans (congrArg (left2 m c) ?_)
  funext d
  apply Fin.ext
  match d with
  | ⟨0, _⟩ =>
    show win0_2.index t 0 * 1024 + 1 * k.val = (t.val * 1024 + k.val) % 8192
    rw [(hi t).1]; omega
  | ⟨1, _⟩ => show win0_2.index t 1 * 1024 + 1 * a.val = a.val; rw [(hi t).2]; omega

theorem block3 (t : Fin cfg0.N) (k : Fin 1024) (a : Fin 1024) :
    (iblk m c 3 t : Vec Ideal S1024x1024 .bf16) (ix2 k a) = acts m c (ix2 (row (t.val * 1024 + k.val)) a) := by
  have hi : ∀ t : Fin cfg0.N, win0_3.index t 0 = t.val ∧ win0_3.index t 1 = 0 :=
    (by decide +kernel : ∀ t : Fin grid0.N, win0_3.index t 0 = t.val ∧ win0_3.index t 1 = 0)
  have ht : t.val < 8 := lt_of_lt_of_eq t.isLt N_0
  unfold iblk
  rw [View.read_apply]
  refine (congrFun (V_main_arg3 m c) _).trans (congrArg (acts m c) ?_)
  funext d
  apply Fin.ext
  match d with
  | ⟨0, _⟩ =>
    show win0_3.index t 0 * 1024 + 1 * k.val = (t.val * 1024 + k.val) % 8192
    rw [(hi t).1]; omega
  | ⟨1, _⟩ => show win0_3.index t 1 * 1024 + 1 * a.val = a.val; rw [(hi t).2]; omega

/-- One row's product, from the blocks. -/
theorem term_block (t : Fin cfg0.N) (i : S1792x1024.Idx) (k : Fin 1024) :
    beside (fun k a => (iblk m c 0 t : Vec Ideal S1024x512 .bf16) (ix2 k a))
        (fun k a => (iblk m c 1 t : Vec Ideal S1024x256 .f32) (ix2 k a))
        (fun k a => (iblk m c 2 t : Vec Ideal S1024x1024 .bf16) (ix2 k a)) k (i 0)
      * (iblk m c 3 t : Vec Ideal S1024x1024 .bf16) (ix2 k (i 1))
    = term m c i (row (t.val * 1024 + k.val)) := by
  unfold term beside
  refine congrArg₂ (fun a b : EReal => a * b) ?_ (block3 m c t k _)
  dsimp only
  split
  · exact block0 m c t k _
  · split
    · exact block1 m c t k _
    · exact block2 m c t k _

/-- What is carried after a block: the sum over the rows so far. -/
theorem carried_eq (n : ℕ) (h : n < cfg0.N) (i : S1792x1024.Idx) :
    (outsAt0 m c n h).2 i = ∑ r ∈ Finset.range ((n + 1) * 1024), term m c i (row r) := by
  refine carried 1024 cfg0.N (fun n h => (outsAt0 m c n h).2) (fun i r => term m c i (row r)) ?_ ?_ n h i
  · intro h i
    show (outsAt0 m c (⟨0, h⟩ : Fin cfg0.N).val _).2 i = _
    rw [outsAt0_A m c ⟨0, h⟩ rfl (by dsimp only; omega) (by dsimp only; omega)]
    dsimp only
    rw [carry_first, pay1_apply]
    exact Finset.sum_congr rfl fun k _ => term_block m c ⟨0, h⟩ i k
  · intro n h i
    have hN := lt_of_lt_of_eq h (show cfg0.N = 8 from N_0)
    have e : (outsAt0 m c (n + 1) h).2
        = k0_pay2 (outsAt0 m c n (Nat.lt_of_succ_lt h)).2 (iblk m c 0 ⟨n + 1, h⟩) (iblk m c 1 ⟨n + 1, h⟩)
          (iblk m c 2 ⟨n + 1, h⟩) (iblk m c 3 ⟨n + 1, h⟩) := by
      show (outsAt0 m c (⟨n + 1, h⟩ : Fin cfg0.N).val _).2 = _
      by_cases hl : (n + 1) % 8 = 7
      · rw [outsAt0_C m c ⟨n + 1, h⟩ (by dsimp only; omega) (by dsimp only; omega) hl]
        dsimp only
        rw [carry_last]
        rfl
      · rw [outsAt0_B m c ⟨n + 1, h⟩ (by dsimp only; omega) (by dsimp only; omega) hl]
        dsimp only
        rw [carry_next]
        rfl
    show (outsAt0 m c (n + 1) h).2 i = _
    rw [e, pay2_apply]
    exact congrArg (_ + ·) (Finset.sum_congr rfl fun k _ => term_block m c ⟨n + 1, h⟩ i k)

/-- The array after the run: the sum over all the rows. -/
theorem result_apply (i : S1792x1024.Idx) : (G4 m c : Vec Ideal S1792x1024 .bf16) i = ∑ k : Fin 8192, term m c i k := by
  have h7 : 7 < cfg0.N := lt_of_lt_of_eq (by decide) N_0.symm
  have e : G4 m c = (outsAt0 m c 7 h7).1 := by rw [G4_last, outsAt0_sweep]
  have e1 : (outsAt0 m c 7 h7).1 = k0_pay3 (outsAt0 m c 7 h7).2 := by
    show (outsAt0 m c (⟨7, h7⟩ : Fin cfg0.N).val _).1 = k0_pay3 (outsAt0 m c (⟨7, h7⟩ : Fin cfg0.N).val _).2
    rw [outsAt0_C m c ⟨7, h7⟩ (by dsimp only; omega) (by dsimp only; omega) rfl]
    dsimp only
    rw [carry_last, write_last]
  rw [e, e1]
  exact (carried_eq m c 7 h7 i).trans (all_rows (term m c i))

end Cert.Kernel4Ideal.Grad

namespace Cert.Proof

open Idealize.ShloMosaic Idealize.SL.Sem

/-- The reference's left operand: the three arrays side by side. -/
theorem reference4_left (x0 : (⟨Cert.Reference4Ideal.S8192x512, .bf16⟩ : BufTy).Contents (Elt Ideal))
    (x1 : (⟨Cert.Reference4Ideal.S8192x256, .f32⟩ : BufTy).Contents (Elt Ideal))
    (x2 : (⟨Cert.Reference4Ideal.S8192x1024, .bf16⟩ : BufTy).Contents (Elt Ideal)) (k : Fin 8192) (a : Fin 1792) :
    Cert.Reference4Ideal.Read.val_main_v2 (F := Ideal) x0 x1 x2 (ix2 k a)
      = Cert.Kernel4Ideal.Grad.beside (fun k a => x0 (ix2 k a)) (fun k a => x1 (ix2 k a)) (fun k a => x2 (ix2 k a)) k a := by
  unfold Cert.Reference4Ideal.Read.val_main_v2 Cert.Reference4Ideal.Read.val_main_v0 Cert.Reference4Ideal.Read.val_main_v1
    Cert.Kernel4Ideal.Grad.beside
  simp only [pointwise]
  rfl

/-- The reference's result at an index, the same sum. -/
theorem reference4_apply (x0 : (⟨Cert.Reference4Ideal.S8192x512, .bf16⟩ : BufTy).Contents (Elt Ideal))
    (x1 : (⟨Cert.Reference4Ideal.S8192x256, .f32⟩ : BufTy).Contents (Elt Ideal))
    (x2 x3 : (⟨Cert.Reference4Ideal.S8192x1024, .bf16⟩ : BufTy).Contents (Elt Ideal)) (i : Cert.Reference4Ideal.S1792x1024.Idx) :
    Cert.Reference4Ideal.Read.val_main_v9 (F := Ideal) x0 x1 x2 x3 i = ∑ k : Fin 8192,
      Cert.Kernel4Ideal.Grad.beside (fun k a => x0 (ix2 k a)) (fun k a => x1 (ix2 k a)) (fun k a => x2 (ix2 k a)) k (i 0)
        * x3 (ix2 k (i 1)) := by
  rw [Cert.Reference4Ideal.Read.val_main_v9_apply, Cert.Reference4Ideal.Read.val_main_v8_apply,
    Cert.Reference4Ideal.Read.val_main_v7_apply]
  refine (Cert.Reference4Ideal.Read.val_main_v6_apply x0 x1 x2 x3 _).trans (Finset.sum_congr rfl fun k _ => ?_)
  refine congrArg₂ (fun a b : EReal => a * b) ?_ (congrArg x3 (eq_ix2 _))
  exact (congrArg _ (eq_ix2 _)).trans (reference4_left x0 x1 x2 k (i 0))

theorem algebraic4 : Cert.algebraic_Kernel4Ideal_Reference4Ideal := fun m g m' g' _ hagree =>
  ⟨fun c => Cert.Kernel4Ideal.Value.G4 m c, Cert.Kernel4Ideal.Value.run m g,
    (θ_run (Cert.Reference4Ideal.defs (F := Ideal)) _ _).mono (fun r h c => by
      refine ⟨(h c).1.trans ?_, (h c).2⟩
      rw [(hagree c).1, (hagree c).2.1, (hagree c).2.2.1, (hagree c).2.2.2]
      refine (Cert.Reference4Ideal.Read.val_main_v9_eq (F := Ideal) _ _ _ _).trans ?_
      funext i
      refine (reference4_apply _ _ _ _ i).trans ?_
      exact (Cert.Kernel4Ideal.Grad.result_apply m c i).symm)
    (Cert.Reference4Ideal.Value.run m' g')⟩

end Cert.Proof

end
-- ==== Proof.Norm.lean ====
/- Arithmetic shared by the calls with a normalisation: the root mean square of a row, its gradient
   as the kernels and as the references write it, and the logistic function by way of the hyperbolic
   tangent. -/
module

public import proofs.«01_k».proof.Defs
public import Idealize.ShloMosaic.Lib.Tactic
public import Idealize.ShloMosaic.Lib.StableHlo
public import Idealize.ShloMosaic.PureOps

@[expose] public section

noncomputable section

namespace Cert.Norm

open Idealize.ShloMosaic

/-! ### The constants -/

/-- The small number added to the mean of the squares. -/
abbrev eps : EReal := Ideal.ofBits FTy.f32 897988541#32
abbrev half : EReal := Ideal.ofBits FTy.f32 1056964608#32
abbrev mhalf : EReal := Ideal.ofBits FTy.f32 3204448256#32
abbrev one : EReal := Ideal.ofBits FTy.f32 1065353216#32
abbrev width : EReal := Ideal.ofBits FTy.f32 1149239296#32

theorem width_eq : width = ((1024 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

theorem mhalf_eq : mhalf = ((-(1 / 2) : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem eps_eq : ∃ e : ℝ, 0 < e ∧ eps = (e : EReal) := by
  refine ⟨8796093 / 8796093022208, by norm_num, ?_⟩
  simp [Ideal.ofBits, Ideal.ieee, -EReal.coe_mul]; norm_num

/-! ### Real values -/

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ k, IsReal (f k)) : IsReal (∑ k ∈ s, f k) := by
  choose F hF using h
  exact ⟨∑ k ∈ s, F k, by rw [coe_sum]; exact Finset.sum_congr rfl fun k _ => hF k⟩

/-- A real factor passes a sum of products with it. -/
theorem sum_mul_pos {ι : Type} (s : Finset ι) (f : ι → EReal) (r : ℝ) (hr : 0 < r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr.le) (EReal.coe_ne_top r)]

/-- Two equal real multiples of a value make the multiple with twice the factor. -/
theorem mul_add_self (S : EReal) (c : ℝ) : S * (c : EReal) + S * (c : EReal) = S * ((c + c : ℝ) : EReal) := by
  induction S with
  | coe s => rw [← EReal.coe_mul, ← EReal.coe_mul, ← EReal.coe_add]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem mul_self_nonneg' (a : EReal) : 0 ≤ a * a := by
  induction a with
  | bot => simp
  | top => simp
  | coe r => exact_mod_cast mul_self_nonneg r

/-- A value whose absolute value lies under infinity is a real number. -/
theorem isReal_of_lt {x : EReal} (h : max x (-x) < ⊤) : IsReal x := by
  induction x with
  | bot => simp at h
  | top => simp at h
  | coe r => exact ⟨r, rfl⟩

/-- An array whose every absolute value compares under infinity holds real numbers. -/
theorem real_of_finite {S S0 : Shape} (x : FVec Ideal S .f32) (d : Fin S0.rank → Fin S.rank)
    (hb : S0.BroadcastsInDim S d)
    (h : cmpf .olt (Host.absf x) (broadcastInDim S d hb (constant (F := Ideal) S0 .f32 0x7F800000#32)) = fun _ => 1#1)
    (i : S.Idx) : IsReal (x i) := by
  have e : BitVec.ofBool (decide (max (x i) (-x i) < Ideal.ofBits FTy.f32 0x7F800000#32)) = 1#1 := congrFun h i
  have t : Ideal.ofBits FTy.f32 0x7F800000#32 = (⊤ : EReal) := by simp [Ideal.ofBits, Ideal.ieee]
  rw [t] at e
  refine isReal_of_lt ?_
  by_contra hn
  rw [decide_eq_false hn] at e
  exact absurd e (by decide)

/-! ### The normalisation of a row -/

variable {n : ℕ} (x dy g : Fin n → EReal) (N : EReal)

/-- The mean of the squares, and the small number. -/
def meanSq : EReal := Ideal.div (∑ k, x k * x k) N + eps

/-- The reciprocal of the root mean square. -/
def rms : EReal := Ideal.rsqrt (meanSq x N)

/-- The gradient of the normalisation by its input, as the kernels write it. -/
def backK (j : Fin n) : EReal :=
  rms x N * (dy j * g j - x j * rms x N * Ideal.div (∑ k, dy k * g k * (x k * rms x N)) N)

/-- The share of the mean of the squares in that gradient, as the references write it. -/
def shareR : EReal :=
  Ideal.div ((∑ k, x k * (dy k * g k)) * (mhalf * Ideal.div (rms x N) (meanSq x N))) N

/-- The normalised row, scaled. -/
def scaled (j : Fin n) : EReal := x j * rms x N * g j

variable {x dy g N}

theorem meanSq_real (hn : 0 < n) (hN : N = ((n : ℝ) : EReal)) (X : Fin n → ℝ) (hx : ∀ k, x k = (X k : EReal)) :
    ∃ M : ℝ, 0 < M ∧ meanSq x N = (M : EReal) := by
  obtain ⟨e, he, heq⟩ := eps_eq
  have hn' : (n : ℝ) ≠ 0 := by exact_mod_cast hn.ne'
  refine ⟨(∑ k, X k * X k) * (1 / n) + e, ?_, ?_⟩
  · have : 0 ≤ ∑ k, X k * X k := Finset.sum_nonneg fun k _ => mul_self_nonneg _
    positivity
  · unfold meanSq
    rw [heq, hN, Ideal.div_coe hn', EReal.coe_add, EReal.coe_mul, coe_sum]
    simp only [hx, EReal.coe_mul]

/-- The square of the reciprocal root times the mean is one. -/
theorem rms_real (hn : 0 < n) (hN : N = ((n : ℝ) : EReal)) (X : Fin n → ℝ) (hx : ∀ k, x k = (X k : EReal)) :
    ∃ M ρ : ℝ, 0 < M ∧ ρ * ρ * M = 1 ∧ meanSq x N = (M : EReal) ∧ rms x N = (ρ : EReal) := by
  obtain ⟨M, hM, h⟩ := meanSq_real hn hN X hx
  refine ⟨M, (Real.sqrt M)⁻¹, hM, ?_, h, ?_⟩
  · rw [← mul_inv, Real.mul_self_sqrt hM.le, inv_mul_cancel₀ hM.ne']
  · unfold rms
    rw [h, Ideal.rsqrt_coe, if_neg (not_lt.mpr hM.le), if_neg hM.ne']

/-- With an infinite entry the mean of the squares is infinite. -/
theorem meanSq_top (hn : 0 < n) (hN : N = ((n : ℝ) : EReal)) (h : ¬∀ k, IsReal (x k)) : meanSq x N = ⊤ := by
  obtain ⟨e, he, heq⟩ := eps_eq
  have hn' : (n : ℝ) ≠ 0 := by exact_mod_cast hn.ne'
  push Not at h
  obtain ⟨q, hq⟩ := h
  have hsq : x q * x q = ⊤ := by
    generalize x q = a at hq
    induction a with
    | bot => rfl
    | top => rfl
    | coe r => exact absurd ⟨r, rfl⟩ hq
  have hs : ∑ k, x k * x k = ⊤ := by
    refine top_le_iff.mp ?_
    rw [← hsq]
    exact Finset.single_le_sum (f := fun k => x k * x k) (fun k _ => mul_self_nonneg' _) (Finset.mem_univ q)
  unfold meanSq
  rw [hs, hN, Ideal.div_coe hn', EReal.top_mul_coe_of_pos (by positivity), heq]
  exact EReal.top_add_coe e

theorem rms_of_not_real (hn : 0 < n) (hN : N = ((n : ℝ) : EReal)) (h : ¬∀ k, IsReal (x k)) : rms x N = 0 := by
  unfold rms; rw [meanSq_top hn hN h, Ideal.rsqrt_top]

theorem isReal_backK (hn : 0 < n) (hN : N = ((n : ℝ) : EReal)) (hdy : ∀ k, IsReal (dy k)) (hg : ∀ k, IsReal (g k))
    (j : Fin n) : IsReal (backK x dy g N j) := by
  have hn' : (n : ℝ) ≠ 0 := by exact_mod_cast hn.ne'
  by_cases hx : ∀ k, IsReal (x k)
  · have hr : IsReal (rms x N) := by
      choose X hX using hx
      obtain ⟨M, ρ, _, _, _, h⟩ := rms_real hn hN X hX
      exact ⟨ρ, h⟩
    unfold backK
    rw [show ∀ y, Ideal.div y N = y * ((1 / (n : ℝ) : ℝ) : EReal) from fun y => by rw [hN, Ideal.div_coe hn']]
    exact hr.mul (((hdy j).mul (hg j)).sub (((hx j).mul hr).mul
      ((IsReal.sum _ fun k => ((hdy k).mul (hg k)).mul ((hx k).mul hr)).mul ⟨_, rfl⟩)))
  · unfold backK
    rw [rms_of_not_real hn hN hx, zero_mul]
    exact ⟨0, rfl⟩

/-- The two ways of writing the gradient agree. -/
theorem back_eq (hn : 0 < n) (hN : N = ((n : ℝ) : EReal)) (j : Fin n) :
    backK x dy g N j = dy j * g j * rms x N + x j * shareR x dy g N + shareR x dy g N * x j := by
  have hn' : (n : ℝ) ≠ 0 := by exact_mod_cast hn.ne'
  by_cases hx : ∀ k, IsReal (x k)
  · choose X hX using hx
    obtain ⟨M, ρ, hM, hρ, hm, hr⟩ := rms_real hn hN X hX
    have hρ0 : 0 < ρ := by
      have h := hr
      unfold rms at h
      rw [hm, Ideal.rsqrt_coe, if_neg (not_lt.mpr hM.le), if_neg hM.ne'] at h
      rw [← EReal.coe_eq_coe_iff.mp h]
      exact inv_pos.mpr (Real.sqrt_pos.mpr hM)
    have hd : Ideal.div (ρ : EReal) (M : EReal) = ((ρ * ρ * ρ : ℝ) : EReal) := by
      rw [Ideal.div_coe hM.ne', ← EReal.coe_mul]
      congr 1
      field_simp
      linarith [congrArg (ρ * ·) hρ]
    unfold backK shareR
    rw [hr, hm, hd, mhalf_eq, hN, Ideal.div_coe hn', Ideal.div_coe hn']
    have hs : ∑ k, dy k * g k * (x k * (ρ : EReal)) = (∑ k, x k * (dy k * g k)) * (ρ : EReal) := by
      rw [← sum_mul_pos _ _ ρ hρ0]
      exact Finset.sum_congr rfl fun k _ => by rw [← mul_assoc, mul_comm (dy k * g k)]
    rw [hs]
    generalize ∑ k, x k * (dy k * g k) = S
    generalize dy j * g j = a
    rw [hX, sub_eq_add_neg, EReal.left_distrib_of_nonneg_of_ne_top (by exact_mod_cast hρ0.le) (EReal.coe_ne_top ρ),
      mul_comm (ρ : EReal) a, add_assoc]
    congr 1
    have e : ∀ c : ℝ, S * (c : EReal) + S * (c : EReal) = S * ((c + c : ℝ) : EReal) := mul_add_self S
    have e1 : ((X j : ℝ) : EReal) * (S * (((-(1 / 2) : ℝ) : EReal) * ((ρ * ρ * ρ : ℝ) : EReal)) * ((1 / (n : ℝ) : ℝ) : EReal))
        = S * ((X j * (-(1 / 2)) * (ρ * ρ * ρ) * (1 / n) : ℝ) : EReal) := by
      simp only [EReal.coe_mul]; ac_rfl
    rw [mul_comm (_ * _ * _) ((X j : ℝ) : EReal), e1, e]
    rw [← EReal.coe_mul, show ∀ p q u v : EReal, p * -(q * (S * u * v)) = S * (-(p * q * u * v)) from ?_]
    · simp only [← EReal.coe_mul, ← EReal.coe_neg]
      congr 2
      ring
    · intro p q u v
      rw [mul_neg, mul_neg]
      congr 1
      ac_rfl
  · have hm := meanSq_top hn hN hx
    have hr := rms_of_not_real hn hN hx
    have hd : Ideal.div (0 : EReal) ⊤ = 0 := by
      unfold Ideal.div; rw [if_neg (by simp), zero_mul]
    unfold backK shareR
    rw [hr, hm, hd, hN, Ideal.div_coe hn', Ideal.div_coe hn']
    simp

/-- The same with a row it is added to, of the width the model's rows have. -/
theorem added_back_eq (x dy g : Fin 1024 → EReal) (d : EReal) (j : Fin 1024) :
    d + dy j * g j * rms x width + x j * shareR x dy g width + shareR x dy g width * x j = d + backK x dy g width j := by
  rw [back_eq (by decide) (width_eq.trans (by norm_num)), ← add_assoc, ← add_assoc]

/-! ### The logistic function -/

/-- As the kernels write it. -/
def sigK (x : EReal) : EReal := half * Ideal.tanh (half * x) + half

/-- As the references write it. -/
def sigR (x : EReal) : EReal := Ideal.div one (one + Ideal.exp (-x))

theorem sigR_coe (r : ℝ) : sigR (r : EReal) = (((1 + Real.exp (-r))⁻¹ : ℝ) : EReal) := by
  have h := Ideal.logistic_coe (r := r)
  unfold Ideal.logistic at h
  unfold sigR
  rw [one_eq, EReal.coe_one]
  exact h

theorem sigK_eq (x : EReal) : sigK x = sigR x := by
  induction x with
  | bot =>
    have h := Ideal.logistic_bot
    unfold Ideal.logistic at h
    unfold sigK sigR
    rw [one_eq, EReal.coe_one, h, half_eq, EReal.coe_mul_bot_of_pos (by norm_num), Ideal.tanh_bot]
    rw [show (-1 : EReal) = ((-1 : ℝ) : EReal) by simp, ← EReal.coe_mul, ← EReal.coe_add]
    norm_num
  | top =>
    have h := Ideal.logistic_top
    unfold Ideal.logistic at h
    unfold sigK sigR
    rw [one_eq, EReal.coe_one, h, half_eq, EReal.coe_mul_top_of_pos (by norm_num), Ideal.tanh_top]
    rw [mul_one, ← EReal.coe_add]
    norm_num
  | coe r =>
    rw [sigR_coe]
    unfold sigK
    rw [half_eq, ← EReal.coe_mul, Ideal.tanh_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = a at *
    generalize Real.exp (-(1 / 2 * r)) = b at *
    have hb : a = b⁻¹ := eq_inv_of_mul_eq_one_left h2
    subst hb
    field_simp
    ring

theorem isReal_sigR {x : EReal} (h : IsReal x) : IsReal (sigR x) := by
  obtain ⟨r, rfl⟩ := h; exact ⟨_, sigR_coe r⟩

theorem isReal_one : IsReal one := ⟨1, one_eq⟩

/-- The gradient of `x` times its logistic value, as the kernels and as the references write it. -/
theorem silu_eq {d u : EReal} (hd : IsReal d) (hu : IsReal u) (x : EReal) :
    d * u * (sigR x * (one + x * (one - sigR x))) = d * u * sigR x + x * (d * u) * (sigR x * (one - sigR x)) := by
  have hone : (1 : EReal) - 1 = 0 := by rw [← EReal.coe_one, ← EReal.coe_sub, sub_self, EReal.coe_zero]
  have h1 := one_eq.trans EReal.coe_one
  induction x with
  | bot =>
    have h : sigR ⊥ = 0 := by
      have h := Ideal.logistic_bot
      unfold Ideal.logistic at h
      unfold sigR
      rw [one_eq, EReal.coe_one, h]
    rw [h]; simp
  | top =>
    have h : sigR ⊤ = 1 := by
      have h := Ideal.logistic_top
      unfold Ideal.logistic at h
      unfold sigR
      rw [one_eq, EReal.coe_one, h]
    rw [h, h1, hone]; simp
  | coe x =>
    obtain ⟨s, hs⟩ := isReal_sigR ⟨x, rfl⟩
    obtain ⟨d, rfl⟩ := hd; obtain ⟨u, rfl⟩ := hu
    rw [one_eq, hs]
    simp only [← EReal.coe_mul, ← EReal.coe_sub, ← EReal.coe_add]
    congr 1
    ring

end Cert.Norm

end
-- ==== Proof.FfnInGrad5.lean ====
/- The gradient of the start of the feed-forward part: block of rows by block of rows, the kernel
   writes the gradient of its input, and adds up the gradient of the normalisation's scale. -/
module

public import proofs.«01_k».proof.Defs
public import proofs.«01_k».proof.Proof.Blocks
public import proofs.«01_k».proof.Proof.Norm
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Tactic
public import Idealize.ShloMosaic.Lib.Pipeline.ValueKit

@[expose] public section

noncomputable section

namespace Cert.Kernel5Ideal.Rows

open Cert.Kernel5Ideal Cert.Kernel5Ideal.Gen Cert.Kernel5Ideal.Value Cert.Blocks Cert.Norm
open Idealize.ShloMosaic Idealize.ShloMosaic.TcCoe Idealize.SL.Sem

section
variable (dgt : Vec Ideal S512x2816 .bf16) (wg : Vec Ideal S2816x1024 .bf16) (dup : Vec Ideal S512x2816 .bf16)
  (wu : Vec Ideal S2816x1024 .bf16) (x : Vec Ideal S512x1024 .f32) (g : Vec Ideal S1x1024 .f32)
  (d : Vec Ideal S512x1024 .f32)

theorem pay1_apply (j : Fin 1024) : (k0_pay1 (F := Ideal)) (ix2 0 j) = 0 := Ideal.ofBits_zero_f32

theorem pay2_apply (s old : Vec Ideal S1x1024 .f32) (j : Fin 1024) :
    k0_pay2 s old (ix2 0 j) = old (ix2 0 j) + s (ix2 0 j) := by
  unfold k0_pay2
  simp only [pointwise]

theorem pay3_apply (r : Fin 512) (j : Fin 1024) :
    k0_pay3 dgt wg dup wu (ix2 r j)
      = ∑ k, dgt (ix2 r k) * wg (ix2 k j) + ∑ k, dup (ix2 r k) * wu (ix2 k j) := by
  unfold k0_pay3
  simp only [pointwise, zero_apply, zero_add]

theorem pay6_apply (j : Fin 1024) :
    k0_pay6 dgt wg dup wu x (ix2 0 j)
      = ∑ r, k0_pay3 dgt wg dup wu (ix2 r j) * (x (ix2 r j) * rms (fun k => x (ix2 r k)) width) := by
  unfold k0_pay6 k0_pay5 k0_pay4
  generalize k0_pay3 dgt wg dup wu = dy
  simp only [pointwise, zero_apply, zero_add]
  rfl

theorem pay7_apply (r : Fin 512) (j : Fin 1024) :
    k0_pay7 dgt wg dup wu x g d (ix2 r j)
      = d (ix2 r j) + backK (fun k => x (ix2 r k)) (fun k => k0_pay3 dgt wg dup wu (ix2 r k)) (fun k => g (ix2 0 k))
          width j := by
  unfold k0_pay7 k0_pay5 k0_pay4
  generalize k0_pay3 dgt wg dup wu = dy
  simp only [pointwise, zero_apply, zero_add]
  rfl

end

variable (m : (ℓ : Loc nD τ sig) → Buf (Elt Ideal) ℓ) (c : Dev nD)

def arg0 : Vec Ideal S8192x2816 .bf16 := m ((c : Thread nD τ).loc main_arg0)
def arg1 : Vec Ideal S8192x2816 .bf16 := m ((c : Thread nD τ).loc main_arg1)
def arg2 : Vec Ideal S2816x1024 .bf16 := m ((c : Thread nD τ).loc main_arg2)
def arg3 : Vec Ideal S2816x1024 .bf16 := m ((c : Thread nD τ).loc main_arg3)
def arg4 : Vec Ideal S8192x1024 .f32 := m ((c : Thread nD τ).loc main_arg4)
def arg5 : Vec Ideal S1x1024 .f32 := m ((c : Thread nD τ).loc main_arg5)
def arg6 : Vec Ideal S8192x1024 .f32 := m ((c : Thread nD τ).loc main_arg6)

/-- A row's gradient of the normalised row, of the row itself, and its part in the scale's gradient. -/
def above (R : Fin 8192) (j : Fin 1024) : EReal :=
  ∑ k, arg0 m c (ix2 R k) * arg2 m c (ix2 k j) + ∑ k, arg1 m c (ix2 R k) * arg3 m c (ix2 k j)
def below (R : Fin 8192) (j : Fin 1024) : EReal :=
  arg6 m c (ix2 R j) + backK (fun k => arg4 m c (ix2 R k)) (above m c R) (fun k => arg5 m c (ix2 0 k)) width j
def scale (j : Fin 1024) (R : Fin 8192) : EReal :=
  above m c R j * (arg4 m c (ix2 R j) * rms (fun k => arg4 m c (ix2 R k)) width)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])

theorem block0 (t : Fin cfg0.N) (r : Fin 512) (k : Fin 2816) :
    (iblk m c 0 t : Vec Ideal S512x2816 .bf16) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 512) (k : Fin 2816) :
    (iblk m c 1 t : Vec Ideal S512x2816 .bf16) (ix2 r k) = arg1 m c (ix2 (row (t.val * 512 + r.val)) k) := by
  have ht : t.val < 16 := lt_of_lt_of_eq t.isLt N_0
  blk_simp [iblk]
  refine (congrFun (V_main_arg1 m c) _).trans (congrArg (arg1 m c) ?_)
  blk_ext [index1]
  exact row_val (by omega)

theorem block2 (t : Fin cfg0.N) : (iblk m c 2 t : Vec Ideal S2816x1024 .bf16) = arg2 m c := by
  funext y
  blk_simp [iblk]
  refine (congrFun (V_main_arg2 m c) _).trans (congrArg (arg2 m c) ?_)
  blk_ext [index2]

theorem block3 (t : Fin cfg0.N) : (iblk m c 3 t : Vec Ideal S2816x1024 .bf16) = arg3 m c := by
  funext y
  blk_simp [iblk]
  refine (congrFun (V_main_arg3 m c) _).trans (congrArg (arg3 m c) ?_)
  blk_ext [index3]

theorem block4 (t : Fin cfg0.N) (r : Fin 512) (k : Fin 1024) :
    (iblk m c 4 t : Vec Ideal S512x1024 .f32) (ix2 r k) = arg4 m c (ix2 (row (t.val * 512 + r.val)) k) := by
  have ht : t.val < 16 := lt_of_lt_of_eq t.isLt N_0
  blk_simp [iblk]
  refine (congrFun (V_main_arg4 m c) _).trans (congrArg (arg4 m c) ?_)
  blk_ext [index4]
  exact row_val (by omega)

theorem block5 (t : Fin cfg0.N) : (iblk m c 5 t : Vec Ideal S1x1024 .f32) = arg5 m c := by
  funext y
  blk_simp [iblk]
  refine (congrFun (V_main_arg5 m c) _).trans (congrArg (arg5 m c) ?_)
  blk_ext [index5]

theorem block6 (t : Fin cfg0.N) (r : Fin 512) (k : Fin 1024) :
    (iblk m c 6 t : Vec Ideal S512x1024 .f32) (ix2 r k) = arg6 m c (ix2 (row (t.val * 512 + r.val)) k) := by
  have ht : t.val < 16 := lt_of_lt_of_eq t.isLt N_0
  blk_simp [iblk]
  refine (congrFun (V_main_arg6 m c) _).trans (congrArg (arg6 m c) ?_)
  blk_ext [index6]
  exact row_val (by omega)

/-- What a block's bodies compute, in terms of the arguments' rows. -/
theorem stored3 (t : Fin cfg0.N) (r : Fin 512) (j : Fin 1024) :
    k0_pay3 (iblk m c 0 t) (iblk m c 2 t) (iblk m c 1 t) (iblk m c 3 t) (ix2 r j)
      = above m c (row (t.val * 512 + r.val)) j := by
  rw [block2, block3]
  refine (pay3_apply _ _ _ _ r j).trans ?_
  unfold above
  simp only [block0, block1]

theorem stored6 (t : Fin cfg0.N) (j : Fin 1024) :
    k0_pay6 (iblk m c 0 t) (iblk m c 2 t) (iblk m c 1 t) (iblk m c 3 t) (iblk m c 4 t) (ix2 0 j)
      = ∑ r : Fin 512, scale m c j (row (t.val * 512 + r.val)) := by
  refine (pay6_apply _ _ _ _ _ j).trans (Finset.sum_congr rfl fun r _ => ?_)
  unfold scale
  simp only [stored3, block4]

theorem stored7 (t : Fin cfg0.N) (r : Fin 512) (j : Fin 1024) :
    k0_pay7 (iblk m c 0 t) (iblk m c 2 t) (iblk m c 1 t) (iblk m c 3 t) (iblk m c 4 t) (iblk m c 5 t) (iblk m c 6 t)
        (ix2 r j)
      = below m c (row (t.val * 512 + r.val)) j := by
  rw [block5]
  refine (pay7_apply _ _ _ _ _ _ _ r j).trans ?_
  unfold below
  simp only [stored3, block4, block6]

theorem after7 (t : Fin cfg0.N) :
    (outsAt0 m c t.val t.isLt).1
      = k0_pay7 (iblk m c 0 t) (iblk m c 2 t) (iblk m c 1 t) (iblk m c 3 t) (iblk m c 4 t) (iblk m c 5 t) (iblk m c 6 t) := by
  by_cases h : t.val % 16 = 0
  · rw [outsAt0_A m c t h]; frame_out
  · rw [outsAt0_B m c t h]; frame_out

theorem result7 : ((dats m 0 c).arrAt 7 cfg0.N : Vec Ideal S8192x1024 .f32) = fun i => below m c (i 0) (i 1) := by
  refine (dats m 0 c).arrAt_eq_of_covers 7 _ (by decide +kernel) fun t hf y => ?_
  have ht : t.val < 16 := lt_of_lt_of_eq t.isLt N_0
  blk_simp
  rw [after0_7, after7]
  have e : (win0_7.blk t).view.emb y = ix2 (row (t.val * 512 + (y 0).val)) (y 1) := by
    idx_bounds y
    blk_ext [index7]
    exact row_val (by omega)
  show _ = (fun i => below m c (i 0) (i 1)) ((win0_7.blk t).view.emb y)
  rw [e]
  exact (congrArg (k0_pay7 _ _ _ _ _ _ _) (eq_ix2 y)).trans (stored7 m c t (y 0) (y 1))

/-- The scale's gradient after a block: the block's rows added to what was there. -/
theorem first8 (t : Fin cfg0.N) (h : t.val % 16 = 0) (j : Fin 1024) :
    (outsAt0 m c t.val t.isLt).2 (ix2 0 j) = ∑ r : Fin 512, scale m c j (row (t.val * 512 + r.val)) := by
  rw [outsAt0_A m c t h]; frame_out
  rw [pay2_apply, pay1_apply, zero_add, stored6]

theorem later8 (t : Fin cfg0.N) (h : ¬t.val % 16 = 0) (j : Fin 1024) :
    (outsAt0 m c t.val t.isLt).2 (ix2 0 j)
      = (outsAt0 m c (t.val - 1) (Nat.lt_of_le_of_lt (Nat.sub_le _ _) t.isLt)).2 (ix2 0 j)
        + ∑ r : Fin 512, scale m c j (row (t.val * 512 + r.val)) := by
  rw [outsAt0_B m c t h]; frame_out
  rw [pay2_apply, stored6]

theorem after8 (n : ℕ) (h : n < cfg0.N) (j : Fin 1024) :
    (outsAt0 m c n h).2 (ix2 0 j) = ∑ r ∈ Finset.range ((n + 1) * 512), scale m c j (row r) :=
  carried 512 cfg0.N (fun n h j => (outsAt0 m c n h).2 (ix2 0 j)) (fun j r => scale m c j (row r))
    (fun h j => first8 m c ⟨0, h⟩ rfl j)
    (fun n h j => later8 m c ⟨n + 1, h⟩ (by have := lt_of_lt_of_eq h N_0; show ¬(n + 1) % 16 = 0; omega) j) n h j

theorem result8 : ((dats m 0 c).arrAt 8 cfg0.N : Vec Ideal S1x1024 .f32) = fun i => ∑ R, scale m c (i 1) R := by
  refine (dats m 0 c).arrAt_eq_of_after_last 8 ⟨15, lt_of_lt_of_eq (by decide) N_0.symm⟩ (by decide +kernel) _ fun y => ?_
  rw [after0_8]
  refine (congrArg (outsAt0 m c 15 _).2 (ix2_of (r := 0) (c := y 1) ?_ rfl)).trans ((after8 m c 15 _ (y 1)).trans ?_)
  · exact Nat.lt_one_iff.mp (y 0).isLt
  · exact all_rows (scale m c (y 1))

end Cert.Kernel5Ideal.Rows

namespace Cert.Proof

open Cert.Reference5Ideal.Read Cert.Norm Cert.Blocks
open Idealize.ShloMosaic Idealize.SL.Sem

section
variable (x0 x1 : (⟨Cert.Reference5Ideal.S8192x2816, .bf16⟩ : BufTy).Contents (Elt Ideal))
  (x2 x3 : (⟨Cert.Reference5Ideal.S2816x1024, .bf16⟩ : BufTy).Contents (Elt Ideal))
  (x4 : (⟨Cert.Reference5Ideal.S8192x1024, .f32⟩ : BufTy).Contents (Elt Ideal))
  (x5 : (⟨Cert.Reference5Ideal.S1x1024, .f32⟩ : BufTy).Contents (Elt Ideal))
  (x6 : (⟨Cert.Reference5Ideal.S8192x1024, .f32⟩ : BufTy).Contents (Elt Ideal))

theorem reference5_meanSq (i : Cert.Reference5Ideal.S8192x1.Idx) :
    val_main_v13 (F := Ideal) x4 i = meanSq (fun k => x4 (ix2 (i 0) k)) width := by
  rw [val_main_v13_apply, val_main_v11_apply, val_main_v9_apply, val_main_v8_apply]
  unfold meanSq
  refine congrArg₂ (fun a b : EReal => a + b) (congrArg₂ Ideal.div ?_ rfl) rfl
  refine (congrArg₂ (fun a b : EReal => a + b) Ideal.ofBits_zero_f32 (Finset.sum_congr rfl fun k _ => ?_)).trans
    (zero_add _)
  exact congrArg (fun a : EReal => a * a) (congrArg x4 (eq_ix2 _))

theorem reference5_rms (i : Cert.Reference5Ideal.S8192x1.Idx) :
    val_main_v14 (F := Ideal) x4 i = rms (fun k => x4 (ix2 (i 0) k)) width :=
  (val_main_v14_apply x4 i).trans (congrArg Ideal.rsqrt (reference5_meanSq x4 i))

theorem reference5_above (i : Cert.Reference5Ideal.S8192x1024.Idx) :
    val_main_v27 (F := Ideal) x0 x1 x2 x3 i
      = ∑ k : Fin 2816, x0 (ix2 (i 0) k) * x2 (ix2 k (i 1)) + ∑ k : Fin 2816, x1 (ix2 (i 0) k) * x3 (ix2 k (i 1)) := by
  refine (val_main_v27_apply x0 x1 x2 x3 i).trans ((congrArg₂ (fun a b : EReal => a + b)
    ((val_main_v25_apply x1 x3 i).trans (Finset.sum_congr rfl fun k _ => ?_))
    ((val_main_v26_apply x0 x2 i).trans (Finset.sum_congr rfl fun k _ => ?_))).trans (add_comm _ _))
  · rw [val_main_v5_apply, val_main_v1_apply]
    exact congrArg₂ (fun a b : EReal => a * b) (congrArg x1 (eq_ix2 _)) (congrArg x3 (eq_ix2 _))
  · rw [val_main_v4_apply, val_main_v0_apply]
    exact congrArg₂ (fun a b : EReal => a * b) (congrArg x0 (eq_ix2 _)) (congrArg x2 (eq_ix2 _))

theorem reference5_scaled (i : Cert.Reference5Ideal.S8192x1024.Idx) :
    val_main_v32 (F := Ideal) x0 x1 x2 x3 x5 i = val_main_v27 (F := Ideal) x0 x1 x2 x3 i * x5 (ix2 0 (i 1)) := by
  rw [val_main_v32_apply, val_main_v31_apply, val_main_v20_apply, val_main_v6_apply]
  exact congrArg (fun a : EReal => _ * a) (congrArg x5 (ix2_of rfl (Nat.mod_eq_of_lt (i 1).isLt)))

theorem reference5_share (i : Cert.Reference5Ideal.S8192.Idx) :
    val_main_v43 (F := Ideal) x0 x1 x2 x3 x4 x5 i
      = shareR (fun k => x4 (ix2 (i 0) k)) (fun k => val_main_v27 (F := Ideal) x0 x1 x2 x3 (ix2 (i 0) k))
          (fun k => x5 (ix2 0 k)) width := by
  rw [val_main_v43_apply, Fin.sum_univ_one]
  refine (congrArg₂ (fun a b : EReal => a + b) Ideal.ofBits_zero_f32 ?_).trans (zero_add _)
  rw [val_main_v42_apply, val_main_v40_apply, val_main_v36_apply, val_main_v35_apply, val_main_v17_apply,
    val_main_v15_apply, reference5_rms, reference5_meanSq]
  unfold shareR
  refine congrArg₂ Ideal.div (congrArg₂ (fun a b : EReal => a * b) ?_ rfl) rfl
  refine (congrArg₂ (fun a b : EReal => a + b) Ideal.ofBits_zero_f32 (Finset.sum_congr rfl fun k _ => ?_)).trans
    (zero_add _)
  rw [val_main_v34_apply, reference5_scaled]
  have e : idx_main_v35 (idx_main_v36 (idx_main_v43 i 0)) k = ix2 (i 0) k := ix2_of (Nat.mul_one _) rfl
  rw [e]
  rfl

theorem reference5_below (dy : Fin 8192 → Fin 1024 → EReal)
    (e : (fun R j => val_main_v27 (F := Ideal) x0 x1 x2 x3 (ix2 R j)) = dy) (R : Fin 8192) (j : Fin 1024) :
    val_main_v48 (F := Ideal) x0 x1 x2 x3 x4 x5 x6 (ix2 R j)
      = x6 (ix2 R j) + dy R j * x5 (ix2 0 j) * rms (fun k => x4 (ix2 R k)) width
        + x4 (ix2 R j) * shareR (fun k => x4 (ix2 R k)) (dy R) (fun k => x5 (ix2 0 k)) width
        + shareR (fun k => x4 (ix2 R k)) (dy R) (fun k => x5 (ix2 0 k)) width * x4 (ix2 R j) := by
  subst e
  rw [val_main_v48_apply, val_main_v46_apply, val_main_v39_apply, val_main_v38_apply, val_main_v37_apply,
    val_main_v45_apply, val_main_v47_apply, val_main_v44_apply, reference5_rms, reference5_scaled, reference5_share]
  rfl

theorem reference5_scale (dy : Fin 8192 → Fin 1024 → EReal)
    (e : (fun R j => val_main_v27 (F := Ideal) x0 x1 x2 x3 (ix2 R j)) = dy) (i : Cert.Reference5Ideal.S1x1024.Idx) :
    val_main_v49 (F := Ideal) x0 x1 x2 x3 x4 i
      = ∑ R : Fin 8192, dy R (i 1) * (x4 (ix2 R (i 1)) * rms (fun k => x4 (ix2 R k)) width) := by
  subst e
  rw [val_main_v49_apply, val_main_v33_apply, Fin.sum_univ_one]
  refine (congrArg₂ (fun a b : EReal => a + b) Ideal.ofBits_zero_f32 ?_).trans (zero_add _)
  rw [val_main_v30_apply, val_main_v29_apply]
  refine (congrArg₂ (fun a b : EReal => a + b) Ideal.ofBits_zero_f32 (Finset.sum_congr rfl fun R _ => ?_)).trans
    (zero_add _)
  refine (congrArg (val_main_v28 (F := Ideal) x0 x1 x2 x3 x4) (ix2_of (r := R) (c := i 1) rfl
    ((congrArg (· + (i 1).val) (Nat.zero_mul 1024)).trans (Nat.zero_add _)))).trans ?_
  refine (val_main_v28_apply x0 x1 x2 x3 x4 _).trans ((congrArg (fun a : EReal => a * _)
    ((val_main_v19_apply x4 _).trans (congrArg (fun a : EReal => _ * a)
      ((val_main_v18_apply x4 _).trans (reference5_rms x4 _))))).trans (mul_comm (_ : EReal) _))

end

theorem algebraic5 : Cert.algebraic_Kernel5Ideal_Reference5Ideal :=
  fun m g m' g' _ hagree =>
  ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    Cert.Kernel5Ideal.Value.run_blocks m g,
    (θ_run (Cert.Reference5Ideal.defs (F := Ideal)) _ _).mono (fun r h c => by
      obtain ⟨a0, a1, a2, a3, a4, a5, a6⟩ := hagree c
      refine ⟨(h c).1.trans ?_, (h c).2.1.trans ?_, (h c).2.2⟩
      · refine (val_main_v48_eq (F := Ideal) m' c).trans (Eq.trans ?_ (Cert.Kernel5Ideal.Rows.result7 m c).symm)
        rw [a0, a1, a2, a3, a4, a5, a6]
        funext i
        refine (congrArg (val_main_v48 (F := Ideal) _ _ _ _ _ _ _) (eq_ix2 i)).trans
          ((reference5_below _ _ _ _ _ _ _ (Cert.Kernel5Ideal.Rows.above m c)
            (funext fun R => funext fun j => reference5_above _ _ _ _ (ix2 R j)) (i 0) (i 1)).trans ?_)
        exact added_back_eq (fun k => Cert.Kernel5Ideal.Rows.arg4 m c (ix2 (i 0) k)) (Cert.Kernel5Ideal.Rows.above m c (i 0))
          (fun k => Cert.Kernel5Ideal.Rows.arg5 m c (ix2 0 k)) _ _
      · rw [a0, a1, a2, a3, a4]
        refine (val_main_v49_eq (F := Ideal) _ _ _ _ _).trans (Eq.trans ?_ (Cert.Kernel5Ideal.Rows.result8 m c).symm)
        funext i
        exact reference5_scale _ _ _ _ _ (Cert.Kernel5Ideal.Rows.above m c)
          (funext fun R => funext fun j => reference5_above _ _ _ _ (ix2 R j)) i)
    (Cert.Reference5Ideal.Value.run m' g')⟩

end Cert.Proof

end
-- ==== Proof.NormInGrad6.lean ====
/- The gradient of the start of the attention part: block of rows by block of rows, the kernel lays
   three gradients side by side, multiplies them by the weights, writes the gradient of its input, and
   adds up the gradient of the normalisation's scale. -/
module

public import proofs.«01_k».proof.Defs
public import proofs.«01_k».proof.Proof.Blocks
public import proofs.«01_k».proof.Proof.Norm
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Tactic
public import Idealize.ShloMosaic.Lib.Pipeline.ValueKit

@[expose] public section

noncomputable section

namespace Cert.Norm

open Cert.Blocks
open Idealize.ShloMosaic

/-- Three rows laid end to end. -/
def joined (a : Fin 512 → EReal) (b : Fin 256 → EReal) (c : Fin 1024 → EReal) (k : Fin 1792) : EReal :=
  if h : k.val < 512 then a ⟨k.val, h⟩
  else if h' : k.val - 512 < 256 then b ⟨k.val - 512, h'⟩
  else c ⟨k.val - 512 - 256, by have := k.isLt; omega⟩

theorem joined_apply {n : ℕ} (a : (⟨2, ![n, 512]⟩ : Shape).Idx → EReal) (b : (⟨2, ![n, 256]⟩ : Shape).Idx → EReal)
    (c : (⟨2, ![n, 1024]⟩ : Shape).Idx → EReal)
    (h : Shape.Concatenates [⟨2, ![n, 512]⟩, ⟨2, ![n, 256]⟩, ⟨2, ![n, 1024]⟩] (⟨2, ![n, 1792]⟩ : Shape) 1)
    (R : Fin n) (k : Fin 1792) :
    concatenate (⟨2, ![n, 1792]⟩ : Shape) 1 [⟨⟨2, ![n, 512]⟩, a⟩, ⟨⟨2, ![n, 256]⟩, b⟩, ⟨⟨2, ![n, 1024]⟩, c⟩] h (ix2 R k)
      = joined (fun q => a (ix2 R q)) (fun q => b (ix2 R q)) (fun q => c (ix2 R q)) k := by
  unfold joined
  simp only [pointwise]
  refine dite_congr rfl (fun _ => congrArg a (ix2_of rfl rfl)) fun _ =>
    dite_congr rfl (fun _ => congrArg b (ix2_of rfl rfl)) fun _ => congrArg c (ix2_of rfl rfl)

end Cert.Norm

namespace Cert.Kernel6Ideal.Rows

open Cert.Kernel6Ideal Cert.Kernel6Ideal.Gen Cert.Kernel6Ideal.Value Cert.Blocks Cert.Norm
open Idealize.ShloMosaic Idealize.ShloMosaic.TcCoe Idealize.SL.Sem

section
variable (dq : Vec Ideal S512x512 .bf16) (dkv : Vec Ideal S512x256 .f32) (duv : Vec Ideal S512x1024 .bf16)
  (w : Vec Ideal S1792x1024 .bf16) (x : Vec Ideal S512x1024 .f32) (g : Vec Ideal S1x1024 .f32)
  (d : Vec Ideal S512x1024 .f32)

theorem pay1_apply (j : Fin 1024) : (k0_pay1 (F := Ideal)) (ix2 0 j) = 0 := Ideal.ofBits_zero_f32

theorem pay2_apply (s old : Vec Ideal S1x1024 .f32) (j : Fin 1024) :
    k0_pay2 s old (ix2 0 j) = old (ix2 0 j) + s (ix2 0 j) := by
  unfold k0_pay2
  simp only [pointwise]

theorem pay3_apply (r : Fin 512) (j : Fin 1024) :
    k0_pay3 dq dkv duv w (ix2 r j)
      = ∑ k, joined (fun k => dq (ix2 r k)) (fun k => dkv (ix2 r k)) (fun k => duv (ix2 r k)) k * w (ix2 k j) := by
  unfold k0_pay3
  generalize hJ : concatenate _ _ _ _ = J
  simp only [pointwise, zero_apply, zero_add]
  subst hJ
  exact Finset.sum_congr rfl fun k _ => congrArg (fun a : EReal => a * _) (joined_apply _ _ _ _ r k)

theorem pay6_apply (j : Fin 1024) :
    k0_pay6 dq dkv duv w x (ix2 0 j)
      = ∑ r, k0_pay3 dq dkv duv w (ix2 r j) * (x (ix2 r j) * rms (fun k => x (ix2 r k)) width) := by
  unfold k0_pay6 k0_pay5 k0_pay4
  generalize k0_pay3 dq dkv duv w = dy
  simp only [pointwise, zero_apply, zero_add]
  rfl

theorem pay7_apply (r : Fin 512) (j : Fin 1024) :
    k0_pay7 dq dkv duv w x g d (ix2 r j)
      = d (ix2 r j) + backK (fun k => x (ix2 r k)) (fun k => k0_pay3 dq dkv duv w (ix2 r k)) (fun k => g (ix2 0 k))
          width j := by
  unfold k0_pay7 k0_pay5 k0_pay4
  generalize k0_pay3 dq dkv duv w = dy
  simp only [pointwise, zero_apply, zero_add]
  rfl

end

variable (m : (ℓ : Loc nD τ sig) → Buf (Elt Ideal) ℓ) (c : Dev nD)

def arg0 : Vec Ideal S8192x512 .bf16 := m ((c : Thread nD τ).loc main_arg0)
def arg1 : Vec Ideal S8192x256 .f32 := m ((c : Thread nD τ).loc main_arg1)
def arg2 : Vec Ideal S8192x1024 .bf16 := m ((c : Thread nD τ).loc main_arg2)
def arg3 : Vec Ideal S1792x1024 .bf16 := m ((c : Thread nD τ).loc main_arg3)
def arg4 : Vec Ideal S8192x1024 .f32 := m ((c : Thread nD τ).loc main_arg4)
def arg5 : Vec Ideal S1x1024 .f32 := m ((c : Thread nD τ).loc main_arg5)
def arg6 : Vec Ideal S8192x1024 .f32 := m ((c : Thread nD τ).loc main_arg6)

/-- A row's gradient of the normalised row, of the row itself, and its part in the scale's gradient. -/
def above (R : Fin 8192) (j : Fin 1024) : EReal :=
  ∑ k, joined (fun k => arg0 m c (ix2 R k)) (fun k => arg1 m c (ix2 R k)) (fun k => arg2 m c (ix2 R k)) k
    * arg3 m c (ix2 k j)
def below (R : Fin 8192) (j : Fin 1024) : EReal :=
  arg6 m c (ix2 R j) + backK (fun k => arg4 m c (ix2 R k)) (above m c R) (fun k => arg5 m c (ix2 0 k)) width j
def scale (j : Fin 1024) (R : Fin 8192) : EReal :=
  above m c R j * (arg4 m c (ix2 R j) * rms (fun k => arg4 m c (ix2 R k)) width)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])

theorem block0 (t : Fin cfg0.N) (r : Fin 512) (k : Fin 512) :
    (iblk m c 0 t : Vec Ideal S512x512 .bf16) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 512) (k : Fin 256) :
    (iblk m c 1 t : Vec Ideal S512x256 .f32) (ix2 r k) = arg1 m c (ix2 (row (t.val * 512 + r.val)) k) := by
  have ht : t.val < 16 := lt_of_lt_of_eq t.isLt N_0
  blk_simp [iblk]
  refine (congrFun (V_main_arg1 m c) _).trans (congrArg (arg1 m c) ?_)
  blk_ext [index1]
  exact row_val (by omega)

theorem block2 (t : Fin cfg0.N) (r : Fin 512) (k : Fin 1024) :
    (iblk m c 2 t : Vec Ideal S512x1024 .bf16) (ix2 r k) = arg2 m c (ix2 (row (t.val * 512 + r.val)) k) := by
  have ht : t.val < 16 := lt_of_lt_of_eq t.isLt N_0
  blk_simp [iblk]
  refine (congrFun (V_main_arg2 m c) _).trans (congrArg (arg2 m c) ?_)
  blk_ext [index2]
  exact row_val (by omega)

theorem block3 (t : Fin cfg0.N) : (iblk m c 3 t : Vec Ideal S1792x1024 .bf16) = arg3 m c := by
  funext y
  blk_simp [iblk]
  refine (congrFun (V_main_arg3 m c) _).trans (congrArg (arg3 m c) ?_)
  blk_ext [index3]

theorem block4 (t : Fin cfg0.N) (r : Fin 512) (k : Fin 1024) :
    (iblk m c 4 t : Vec Ideal S512x1024 .f32) (ix2 r k) = arg4 m c (ix2 (row (t.val * 512 + r.val)) k) := by
  have ht : t.val < 16 := lt_of_lt_of_eq t.isLt N_0
  blk_simp [iblk]
  refine (congrFun (V_main_arg4 m c) _).trans (congrArg (arg4 m c) ?_)
  blk_ext [index4]
  exact row_val (by omega)

theorem block5 (t : Fin cfg0.N) : (iblk m c 5 t : Vec Ideal S1x1024 .f32) = arg5 m c := by
  funext y
  blk_simp [iblk]
  refine (congrFun (V_main_arg5 m c) _).trans (congrArg (arg5 m c) ?_)
  blk_ext [index5]

theorem block6 (t : Fin cfg0.N) (r : Fin 512) (k : Fin 1024) :
    (iblk m c 6 t : Vec Ideal S512x1024 .f32) (ix2 r k) = arg6 m c (ix2 (row (t.val * 512 + r.val)) k) := by
  have ht : t.val < 16 := lt_of_lt_of_eq t.isLt N_0
  blk_simp [iblk]
  refine (congrFun (V_main_arg6 m c) _).trans (congrArg (arg6 m c) ?_)
  blk_ext [index6]
  exact row_val (by omega)

/-- What a block's bodies compute, in terms of the arguments' rows. -/
theorem stored3 (t : Fin cfg0.N) (r : Fin 512) (j : Fin 1024) :
    k0_pay3 (iblk m c 0 t) (iblk m c 1 t) (iblk m c 2 t) (iblk m c 3 t) (ix2 r j)
      = above m c (row (t.val * 512 + r.val)) j := by
  rw [block3]
  refine (pay3_apply _ _ _ _ r j).trans ?_
  unfold above
  simp only [block0, block1, block2]

theorem stored6 (t : Fin cfg0.N) (j : Fin 1024) :
    k0_pay6 (iblk m c 0 t) (iblk m c 1 t) (iblk m c 2 t) (iblk m c 3 t) (iblk m c 4 t) (ix2 0 j)
      = ∑ r : Fin 512, scale m c j (row (t.val * 512 + r.val)) := by
  refine (pay6_apply _ _ _ _ _ j).trans (Finset.sum_congr rfl fun r _ => ?_)
  unfold scale
  simp only [stored3, block4]

theorem stored7 (t : Fin cfg0.N) (r : Fin 512) (j : Fin 1024) :
    k0_pay7 (iblk m c 0 t) (iblk m c 1 t) (iblk m c 2 t) (iblk m c 3 t) (iblk m c 4 t) (iblk m c 5 t) (iblk m c 6 t)
        (ix2 r j)
      = below m c (row (t.val * 512 + r.val)) j := by
  rw [block5]
  refine (pay7_apply _ _ _ _ _ _ _ r j).trans ?_
  unfold below
  simp only [stored3, block4, block6]

theorem after7 (t : Fin cfg0.N) :
    (outsAt0 m c t.val t.isLt).1
      = k0_pay7 (iblk m c 0 t) (iblk m c 1 t) (iblk m c 2 t) (iblk m c 3 t) (iblk m c 4 t) (iblk m c 5 t) (iblk m c 6 t) := by
  by_cases h : t.val % 16 = 0
  · rw [outsAt0_A m c t h]; frame_out
  · rw [outsAt0_B m c t h]; frame_out

theorem result7 : ((dats m 0 c).arrAt 7 cfg0.N : Vec Ideal S8192x1024 .f32) = fun i => below m c (i 0) (i 1) := by
  refine (dats m 0 c).arrAt_eq_of_covers 7 _ (by decide +kernel) fun t hf y => ?_
  have ht : t.val < 16 := lt_of_lt_of_eq t.isLt N_0
  blk_simp
  rw [after0_7, after7]
  have e : (win0_7.blk t).view.emb y = ix2 (row (t.val * 512 + (y 0).val)) (y 1) := by
    idx_bounds y
    blk_ext [index7]
    exact row_val (by omega)
  show _ = (fun i => below m c (i 0) (i 1)) ((win0_7.blk t).view.emb y)
  rw [e]
  exact (congrArg (k0_pay7 _ _ _ _ _ _ _) (eq_ix2 y)).trans (stored7 m c t (y 0) (y 1))

/-- The scale's gradient after a block: the block's rows added to what was there. -/
theorem first8 (t : Fin cfg0.N) (h : t.val % 16 = 0) (j : Fin 1024) :
    (outsAt0 m c t.val t.isLt).2 (ix2 0 j) = ∑ r : Fin 512, scale m c j (row (t.val * 512 + r.val)) := by
  rw [outsAt0_A m c t h]; frame_out
  rw [pay2_apply, pay1_apply, zero_add, stored6]

theorem later8 (t : Fin cfg0.N) (h : ¬t.val % 16 = 0) (j : Fin 1024) :
    (outsAt0 m c t.val t.isLt).2 (ix2 0 j)
      = (outsAt0 m c (t.val - 1) (Nat.lt_of_le_of_lt (Nat.sub_le _ _) t.isLt)).2 (ix2 0 j)
        + ∑ r : Fin 512, scale m c j (row (t.val * 512 + r.val)) := by
  rw [outsAt0_B m c t h]; frame_out
  rw [pay2_apply, stored6]

theorem after8 (n : ℕ) (h : n < cfg0.N) (j : Fin 1024) :
    (outsAt0 m c n h).2 (ix2 0 j) = ∑ r ∈ Finset.range ((n + 1) * 512), scale m c j (row r) :=
  carried 512 cfg0.N (fun n h j => (outsAt0 m c n h).2 (ix2 0 j)) (fun j r => scale m c j (row r))
    (fun h j => first8 m c ⟨0, h⟩ rfl j)
    (fun n h j => later8 m c ⟨n + 1, h⟩ (by have := lt_of_lt_of_eq h N_0; show ¬(n + 1) % 16 = 0; omega) j) n h j

theorem result8 : ((dats m 0 c).arrAt 8 cfg0.N : Vec Ideal S1x1024 .f32) = fun i => ∑ R, scale m c (i 1) R := by
  refine (dats m 0 c).arrAt_eq_of_after_last 8 ⟨15, lt_of_lt_of_eq (by decide) N_0.symm⟩ (by decide +kernel) _ fun y => ?_
  rw [after0_8]
  refine (congrArg (outsAt0 m c 15 _).2 (ix2_of (r := 0) (c := y 1) ?_ rfl)).trans ((after8 m c 15 _ (y 1)).trans ?_)
  · exact Nat.lt_one_iff.mp (y 0).isLt
  · exact all_rows (scale m c (y 1))

end Cert.Kernel6Ideal.Rows

namespace Cert.Proof

open Cert.Reference6Ideal.Read Cert.Norm Cert.Blocks
open Idealize.ShloMosaic Idealize.SL.Sem

section
variable (x0 : (⟨Cert.Reference6Ideal.S8192x512, .bf16⟩ : BufTy).Contents (Elt Ideal))
  (x1 : (⟨Cert.Reference6Ideal.S8192x256, .f32⟩ : BufTy).Contents (Elt Ideal))
  (x2 : (⟨Cert.Reference6Ideal.S8192x1024, .bf16⟩ : BufTy).Contents (Elt Ideal))
  (x3 : (⟨Cert.Reference6Ideal.S1792x1024, .bf16⟩ : BufTy).Contents (Elt Ideal))
  (x4 : (⟨Cert.Reference6Ideal.S8192x1024, .f32⟩ : BufTy).Contents (Elt Ideal))
  (x5 : (⟨Cert.Reference6Ideal.S1x1024, .f32⟩ : BufTy).Contents (Elt Ideal))
  (x6 : (⟨Cert.Reference6Ideal.S8192x1024, .f32⟩ : BufTy).Contents (Elt Ideal))

theorem reference6_meanSq (i : Cert.Reference6Ideal.S8192x1.Idx) :
    val_main_v12 (F := Ideal) x4 i = meanSq (fun k => x4 (ix2 (i 0) k)) width := by
  rw [val_main_v12_apply, val_main_v10_apply, val_main_v8_apply, val_main_v7_apply]
  unfold meanSq
  refine congrArg₂ (fun a b : EReal => a + b) (congrArg₂ Ideal.div ?_ rfl) rfl
  refine (congrArg₂ (fun a b : EReal => a + b) Ideal.ofBits_zero_f32 (Finset.sum_congr rfl fun k _ => ?_)).trans
    (zero_add _)
  exact congrArg (fun a : EReal => a * a) (congrArg x4 (eq_ix2 _))

theorem reference6_rms (i : Cert.Reference6Ideal.S8192x1.Idx) :
    val_main_v13 (F := Ideal) x4 i = rms (fun k => x4 (ix2 (i 0) k)) width :=
  (val_main_v13_apply x4 i).trans (congrArg Ideal.rsqrt (reference6_meanSq x4 i))

theorem reference6_above (i : Cert.Reference6Ideal.S8192x1024.Idx) :
    val_main_v23 (F := Ideal) x0 x1 x2 x3 i
      = ∑ k : Fin 1792, joined (fun k => x0 (ix2 (i 0) k)) (fun k => x1 (ix2 (i 0) k)) (fun k => x2 (ix2 (i 0) k)) k
          * x3 (ix2 k (i 1)) := by
  refine (val_main_v23_apply x0 x1 x2 x3 i).trans (Finset.sum_congr rfl fun k _ => ?_)
  rw [val_main_v4_apply, val_main_v3_apply]
  refine congrArg₂ (fun a b : EReal => a * b) ?_ (congrArg x3 (eq_ix2 _))
  unfold val_main_v2
  exact (congrArg (concatenate _ _ _ _) (eq_ix2 _)).trans (joined_apply _ _ _ _ (i 0) k)

theorem reference6_scaled (i : Cert.Reference6Ideal.S8192x1024.Idx) :
    val_main_v28 (F := Ideal) x0 x1 x2 x3 x5 i = val_main_v23 (F := Ideal) x0 x1 x2 x3 i * x5 (ix2 0 (i 1)) := by
  rw [val_main_v28_apply, val_main_v27_apply, val_main_v19_apply, val_main_v5_apply]
  exact congrArg (fun a : EReal => _ * a) (congrArg x5 (ix2_of rfl (Nat.mod_eq_of_lt (i 1).isLt)))

theorem reference6_share (i : Cert.Reference6Ideal.S8192.Idx) :
    val_main_v39 (F := Ideal) x0 x1 x2 x3 x4 x5 i
      = shareR (fun k => x4 (ix2 (i 0) k)) (fun k => val_main_v23 (F := Ideal) x0 x1 x2 x3 (ix2 (i 0) k))
          (fun k => x5 (ix2 0 k)) width := by
  rw [val_main_v39_apply, Fin.sum_univ_one]
  refine (congrArg₂ (fun a b : EReal => a + b) Ideal.ofBits_zero_f32 ?_).trans (zero_add _)
  rw [val_main_v38_apply, val_main_v36_apply, val_main_v32_apply, val_main_v31_apply, val_main_v16_apply,
    val_main_v14_apply, reference6_rms, reference6_meanSq]
  unfold shareR
  refine congrArg₂ Ideal.div (congrArg₂ (fun a b : EReal => a * b) ?_ rfl) rfl
  refine (congrArg₂ (fun a b : EReal => a + b) Ideal.ofBits_zero_f32 (Finset.sum_congr rfl fun k _ => ?_)).trans
    (zero_add _)
  rw [val_main_v30_apply, reference6_scaled]
  have e : idx_main_v31 (idx_main_v32 (idx_main_v39 i 0)) k = ix2 (i 0) k := ix2_of (Nat.mul_one _) rfl
  rw [e]
  rfl

theorem reference6_below (dy : Fin 8192 → Fin 1024 → EReal)
    (e : (fun R j => val_main_v23 (F := Ideal) x0 x1 x2 x3 (ix2 R j)) = dy) (R : Fin 8192) (j : Fin 1024) :
    val_main_v44 (F := Ideal) x0 x1 x2 x3 x4 x5 x6 (ix2 R j)
      = x6 (ix2 R j) + dy R j * x5 (ix2 0 j) * rms (fun k => x4 (ix2 R k)) width
        + x4 (ix2 R j) * shareR (fun k => x4 (ix2 R k)) (dy R) (fun k => x5 (ix2 0 k)) width
        + shareR (fun k => x4 (ix2 R k)) (dy R) (fun k => x5 (ix2 0 k)) width * x4 (ix2 R j) := by
  subst e
  rw [val_main_v44_apply, val_main_v42_apply, val_main_v35_apply, val_main_v34_apply, val_main_v33_apply,
    val_main_v41_apply, val_main_v43_apply, val_main_v40_apply, reference6_rms, reference6_scaled, reference6_share]
  rfl

theorem reference6_scale (dy : Fin 8192 → Fin 1024 → EReal)
    (e : (fun R j => val_main_v23 (F := Ideal) x0 x1 x2 x3 (ix2 R j)) = dy) (i : Cert.Reference6Ideal.S1x1024.Idx) :
    val_main_v45 (F := Ideal) x0 x1 x2 x3 x4 i
      = ∑ R : Fin 8192, dy R (i 1) * (x4 (ix2 R (i 1)) * rms (fun k => x4 (ix2 R k)) width) := by
  subst e
  rw [val_main_v45_apply, val_main_v29_apply, Fin.sum_univ_one]
  refine (congrArg₂ (fun a b : EReal => a + b) Ideal.ofBits_zero_f32 ?_).trans (zero_add _)
  rw [val_main_v26_apply, val_main_v25_apply]
  refine (congrArg₂ (fun a b : EReal => a + b) Ideal.ofBits_zero_f32 (Finset.sum_congr rfl fun R _ => ?_)).trans
    (zero_add _)
  refine (congrArg (val_main_v24 (F := Ideal) x0 x1 x2 x3 x4) (ix2_of (r := R) (c := i 1) rfl
    ((congrArg (· + (i 1).val) (Nat.zero_mul 1024)).trans (Nat.zero_add _)))).trans ?_
  refine (val_main_v24_apply x0 x1 x2 x3 x4 _).trans ((congrArg (fun a : EReal => a * _)
    ((val_main_v18_apply x4 _).trans (congrArg (fun a : EReal => _ * a)
      ((val_main_v17_apply x4 _).trans (reference6_rms x4 _))))).trans (mul_comm (_ : EReal) _))

end

theorem algebraic6 : Cert.algebraic_Kernel6Ideal_Reference6Ideal :=
  fun m g m' g' _ hagree =>
  ⟨fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks m g,
    (θ_run (Cert.Reference6Ideal.defs (F := Ideal)) _ _).mono (fun r h c => by
      obtain ⟨a0, a1, a2, a3, a4, a5, a6⟩ := hagree c
      refine ⟨(h c).1.trans ?_, (h c).2.1.trans ?_, (h c).2.2⟩
      · refine (val_main_v44_eq (F := Ideal) m' c).trans (Eq.trans ?_ (Cert.Kernel6Ideal.Rows.result7 m c).symm)
        rw [a0, a1, a2, a3, a4, a5, a6]
        funext i
        refine (congrArg (val_main_v44 (F := Ideal) _ _ _ _ _ _ _) (eq_ix2 i)).trans
          ((reference6_below _ _ _ _ _ _ _ (Cert.Kernel6Ideal.Rows.above m c)
            (funext fun R => funext fun j => reference6_above _ _ _ _ (ix2 R j)) (i 0) (i 1)).trans ?_)
        exact added_back_eq (fun k => Cert.Kernel6Ideal.Rows.arg4 m c (ix2 (i 0) k)) (Cert.Kernel6Ideal.Rows.above m c (i 0))
          (fun k => Cert.Kernel6Ideal.Rows.arg5 m c (ix2 0 k)) _ _
      · rw [a0, a1, a2, a3, a4]
        refine (val_main_v45_eq (F := Ideal) _ _ _ _ _).trans (Eq.trans ?_ (Cert.Kernel6Ideal.Rows.result8 m c).symm)
        funext i
        exact reference6_scale _ _ _ _ _ (Cert.Kernel6Ideal.Rows.above m c)
          (funext fun R => funext fun j => reference6_above _ _ _ _ (ix2 R j)) i)
    (Cert.Reference6Ideal.Value.run m' g')⟩

end Cert.Proof

end
-- ==== Proof.FfnOutGrad7.lean ====
/- The backward pass of the feed-forward part's output: block of rows by block of rows, the kernel
   writes the gradient of the norm's input, the activation, and the gradients of its two factors, the
   last three in tiles of columns, and adds up the gradient of the normalisation's scale. -/
module

public import proofs.«01_k».proof.Defs
public import proofs.«01_k».proof.Proof.Blocks
public import proofs.«01_k».proof.Proof.Norm
public import proofs.«01_k».proof.Proof.Gen.Kernel7Ideal.Value
public import proofs.«01_k».proof.Proof.Gen.Pre_finite_ffn_out_grad
public import proofs.«01_k».proof.Proof.Gen.Reference7Ideal
public import proofs.«01_k».proof.Proof.Gen.Reference7Ideal.Run
public import proofs.«01_k».proof.Proof.Gen.Reference7Ideal.Read
public import Idealize.ShloMosaic.Lib.Tactic
public import Idealize.ShloMosaic.Lib.Pipeline.ValueKit

@[expose] public section

noncomputable section

namespace Cert.Kernel7Ideal.Rows

open Cert.Kernel7Ideal Cert.Kernel7Ideal.Gen Cert.Kernel7Ideal.Value Cert.Blocks Cert.Norm
open Idealize.ShloMosaic Idealize.ShloMosaic.TcCoe Idealize.SL.Sem

/-- The activation, and the gradients of its two factors, from the gradient `d` of the activation. -/
def act (x u : EReal) : EReal := x * sigK x * u
def gateGrad (d u x : EReal) : EReal := d * u * (sigK x * (one + x * (one - sigK x)))
def upGrad (d x : EReal) : EReal := d * (x * sigK x)

theorem act_congr {x x' u u' : EReal} (hx : x = x') (hu : u = u') : act x u = act x' u' := by rw [hx, hu]
theorem gate_congr {d d' u u' x x' : EReal} (hd : d = d') (hu : u = u') (hx : x = x') :
    gateGrad d u x = gateGrad d' u' x' := by rw [hd, hu, hx]
theorem up_congr {d d' x x' : EReal} (hd : d = d') (hx : x = x') : upGrad d x = upGrad d' x' := by rw [hd, hx]

section
variable (dh : Vec Ideal S256x1024 .f32) (x : Vec Ideal S256x1024 .bf16) (g : Vec Ideal S1x1024 .f32)

theorem pay6_apply (j : Fin 1024) : (k0_pay6 (F := Ideal)) (ix2 0 j) = 0 := Ideal.ofBits_zero_f32

theorem pay7_apply (old : Vec Ideal S1x1024 .f32) (j : Fin 1024) :
    k0_pay7 dh x old (ix2 0 j)
      = old (ix2 0 j) + ∑ r, dh (ix2 r j) * (x (ix2 r j) * rms (fun k => x (ix2 r k)) width) := by
  unfold k0_pay7 k0_pay5 k0_pay4 k0_pay3
  simp only [pointwise, zero_apply, zero_add]
  rfl

theorem pay8_apply (r : Fin 256) (j : Fin 1024) :
    k0_pay8 dh x g (ix2 r j)
      = backK (fun k => x (ix2 r k)) (fun k => dh (ix2 r k)) (fun k => g (ix2 0 k)) width j := by
  unfold k0_pay8 k0_pay5 k0_pay4 k0_pay3
  simp only [pointwise, zero_apply, zero_add]
  rfl

end

/-! ### A tile of columns -/

section
variable (d : Vec Ideal S256x1024 .bf16) (w : Vec Ideal S256x1024 .bf16) (x u : Vec Ideal S256x256 .bf16)

theorem tile_act (i : S256x256.Idx) : k0_pay14 x u i = act (x i) (u i) := by
  unfold k0_pay14 k0_pay13 k0_pay12 k0_pay11 k0_pay10
  simp only [pointwise]
  rfl

theorem tile_product (i : S256x256.Idx) : k0_pay9 d w i = ∑ k : Fin 1024, d (ix2 (i 0) k) * w (ix2 (i 1) k) := by
  refine (congrArg (k0_pay9 d w) (eq_ix2 i)).trans ?_
  unfold k0_pay9
  simp only [pointwise, zero_apply, zero_add]

theorem tile_up (i : S256x256.Idx) :
    k0_pay15 d w x i = upGrad (∑ k : Fin 1024, d (ix2 (i 0) k) * w (ix2 (i 1) k)) (x i) := by
  rw [← tile_product]
  unfold k0_pay15 k0_pay13 k0_pay12 k0_pay10
  simp only [pointwise]
  rfl

theorem tile_gate (i : S256x256.Idx) :
    k0_pay16 d w x u i = gateGrad (∑ k : Fin 1024, d (ix2 (i 0) k) * w (ix2 (i 1) k)) (u i) (x i) := by
  rw [← tile_product]
  unfold gateGrad one k0_pay16 k0_pay12 k0_pay11 k0_pay10
  simp only [pointwise]
  rfl

end

variable (m : (ℓ : Loc nD τ sig) → Buf (Elt Ideal) ℓ) (c : Dev nD)

def arg0 : Vec Ideal S8192x1024 .f32 := m ((c : Thread nD τ).loc main_arg0)
def arg1 : Vec Ideal S8192x1024 .bf16 := m ((c : Thread nD τ).loc main_arg1)
def arg2 : Vec Ideal S1x1024 .f32 := m ((c : Thread nD τ).loc main_arg2)
def arg3 : Vec Ideal S2816x1024 .bf16 := m ((c : Thread nD τ).loc main_arg3)
def arg4 : Vec Ideal S8192x2816 .bf16 := m ((c : Thread nD τ).loc main_arg4)
def arg5 : Vec Ideal S8192x2816 .bf16 := m ((c : Thread nD τ).loc main_arg5)

/-- A row's gradient of the norm's input, that of the activation, and its part in the scale's gradient. -/
def below (R : Fin 8192) (j : Fin 1024) : EReal :=
  backK (fun k => arg1 m c (ix2 R k)) (fun k => arg0 m c (ix2 R k)) (fun k => arg2 m c (ix2 0 k)) width j
def actGrad (R : Fin 8192) (j : Fin 2816) : EReal := ∑ k, below m c R k * arg3 m c (ix2 j k)
def scale (j : Fin 1024) (R : Fin 8192) : EReal :=
  arg0 m c (ix2 R j) * (arg1 m c (ix2 R j) * rms (fun k => arg1 m c (ix2 R k)) width)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])

theorem block0 (t : Fin cfg0.N) (r : Fin 256) (k : Fin 1024) :
    (iblk m c 0 t : Vec Ideal S256x1024 .f32) (ix2 r k) = arg0 m c (ix2 (row (t.val * 256 + r.val)) k) := by
  have ht : t.val < 32 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 256) (k : Fin 1024) :
    (iblk m c 1 t : Vec Ideal S256x1024 .bf16) (ix2 r k) = arg1 m c (ix2 (row (t.val * 256 + r.val)) k) := by
  have ht : t.val < 32 := lt_of_lt_of_eq t.isLt N_0
  blk_simp [iblk]
  refine (congrFun (V_main_arg1 m c) _).trans (congrArg (arg1 m c) ?_)
  blk_ext [index1]
  exact row_val (by omega)

theorem block2 (t : Fin cfg0.N) : (iblk m c 2 t : Vec Ideal S1x1024 .f32) = arg2 m c := by
  funext y
  blk_simp [iblk]
  refine (congrFun (V_main_arg2 m c) _).trans (congrArg (arg2 m c) ?_)
  blk_ext [index2]

theorem block3 (t : Fin cfg0.N) : (iblk m c 3 t : Vec Ideal S2816x1024 .bf16) = arg3 m c := by
  funext y
  blk_simp [iblk]
  refine (congrFun (V_main_arg3 m c) _).trans (congrArg (arg3 m c) ?_)
  blk_ext [index3]

theorem block4 (t : Fin cfg0.N) (r : Fin 256) (k : Fin 2816) :
    (iblk m c 4 t : Vec Ideal S256x2816 .bf16) (ix2 r k) = arg4 m c (ix2 (row (t.val * 256 + r.val)) k) := by
  have ht : t.val < 32 := lt_of_lt_of_eq t.isLt N_0
  blk_simp [iblk]
  refine (congrFun (V_main_arg4 m c) _).trans (congrArg (arg4 m c) ?_)
  blk_ext [index4]
  exact row_val (by omega)

theorem block5 (t : Fin cfg0.N) (r : Fin 256) (k : Fin 2816) :
    (iblk m c 5 t : Vec Ideal S256x2816 .bf16) (ix2 r k) = arg5 m c (ix2 (row (t.val * 256 + r.val)) k) := by
  have ht : t.val < 32 := lt_of_lt_of_eq t.isLt N_0
  blk_simp [iblk]
  refine (congrFun (V_main_arg5 m c) _).trans (congrArg (arg5 m c) ?_)
  blk_ext [index5]
  exact row_val (by omega)

/-- A tile's entries of the two factors, at the tile's place in the block. -/
theorem loaded4 (t : Fin cfg0.N) (off : Fin 2 → ℕ) (inb) (x : S256x256.Idx) (y : S256x2816.Idx)
    (hi : ∀ a, (y a).val = off a + (x a).val) :
    View.ld (iblk m c 4 t : Vec Ideal S256x2816 .bf16) (Rect.unit off ![256, 256] inb) x
      = arg4 m c (ix2 (row (t.val * 256 + (y 0).val)) (y 1)) :=
  (View.ld_unit_apply_of _ off _ inb x y hi).trans
    ((congrArg (iblk m c 4 t : Vec Ideal S256x2816 .bf16) (eq_ix2 y)).trans (block4 m c t (y 0) (y 1)))

theorem loaded5 (t : Fin cfg0.N) (off : Fin 2 → ℕ) (inb) (x : S256x256.Idx) (y : S256x2816.Idx)
    (hi : ∀ a, (y a).val = off a + (x a).val) :
    View.ld (iblk m c 5 t : Vec Ideal S256x2816 .bf16) (Rect.unit off ![256, 256] inb) x
      = arg5 m c (ix2 (row (t.val * 256 + (y 0).val)) (y 1)) :=
  (View.ld_unit_apply_of _ off _ inb x y hi).trans
    ((congrArg (iblk m c 5 t : Vec Ideal S256x2816 .bf16) (eq_ix2 y)).trans (block5 m c t (y 0) (y 1)))

/-- What a block's bodies compute, in terms of the arguments' rows. -/
theorem stored (t : Fin cfg0.N) (r : Fin 256) (j : Fin 1024) :
    k0_pay8 (iblk m c 0 t) (iblk m c 1 t) (iblk m c 2 t) (ix2 r j) = below m c (row (t.val * 256 + r.val)) j := by
  rw [block2]
  refine (pay8_apply _ _ _ r j).trans ?_
  unfold below
  simp only [block0, block1]

theorem after6 (t : Fin cfg0.N) :
    (outsAt0 m c t.val t.isLt).1 = k0_pay8 (iblk m c 0 t) (iblk m c 1 t) (iblk m c 2 t) := by
  by_cases h : t.val % 32 = 0
  · rw [outsAt0_A m c t h]; frame_out
  · rw [outsAt0_B m c t h]; frame_out

theorem result6 : ((dats m 0 c).arrAt 6 cfg0.N : Vec Ideal S8192x1024 .bf16) = fun i => below m c (i 0) (i 1) := by
  refine (dats m 0 c).arrAt_eq_of_covers 6 _ (by decide +kernel) fun t hf y => ?_
  have ht : t.val < 32 := lt_of_lt_of_eq t.isLt N_0
  blk_simp
  rw [after0_6, after6]
  have e : (win0_6.blk t).view.emb y = ix2 (row (t.val * 256 + (y 0).val)) (y 1) := by
    idx_bounds y
    blk_ext [index6]
    exact row_val (by omega)
  show _ = (fun i => below m c (i 0) (i 1)) ((win0_6.blk t).view.emb y)
  rw [e]
  exact (congrArg (k0_pay8 _ _ _) (eq_ix2 y)).trans (stored m c t (y 0) (y 1))

/-- The product behind a tile of columns, at the tile's place in the block. -/
theorem product_at (t : Fin cfg0.N) (w : Vec Ideal S256x1024 .bf16) (x : S256x256.Idx) (y : S256x2816.Idx)
    (h0 : (y 0).val = (x 0).val)
    (hw : ∀ k : Fin 1024, w (ix2 (x 1) k) = (iblk m c 3 t : Vec Ideal S2816x1024 .bf16) (ix2 (y 1) k)) :
    ∑ k : Fin 1024, k0_pay8 (iblk m c 0 t) (iblk m c 1 t) (iblk m c 2 t) (ix2 (x 0) k) * w (ix2 (x 1) k)
      = actGrad m c (row (t.val * 256 + (y 0).val)) (y 1) := by
  refine Finset.sum_congr rfl fun k _ => congrArg₂ (fun a b : EReal => a * b) ?_ ((hw k).trans ?_)
  · exact (stored m c t (x 0) k).trans (by rw [h0])
  · rw [block3]

theorem after7 (t : Fin cfg0.N) (y : S256x2816.Idx) :
    (outsAt0 m c t.val t.isLt).2.1 y
      = act (arg4 m c (ix2 (row (t.val * 256 + (y 0).val)) (y 1))) (arg5 m c (ix2 (row (t.val * 256 + (y 0).val)) (y 1))) := by
  rcases em (t.val % 32 = 0) with h | h
  on_goal 1 => rw [outsAt0_A m c t h]; frame_out
  on_goal 2 => rw [outsAt0_B m c t h]; frame_out
  all_goals canon_tiles x h
  all_goals
    exact (tile_act _ _ x).trans (act_congr (loaded4 m c t _ _ x y (by intro a; fin_cases a <;> simp [h0, h1]))
      (loaded5 m c t _ _ x y (by intro a; fin_cases a <;> simp [h0, h1])))

theorem result7 : ((dats m 0 c).arrAt 7 cfg0.N : Vec Ideal S8192x2816 .bf16)
    = fun i => act (arg4 m c i) (arg5 m c i) := by
  refine (dats m 0 c).arrAt_eq_of_covers 7 _ (by decide +kernel) fun t hf y => ?_
  have ht : t.val < 32 := lt_of_lt_of_eq t.isLt N_0
  blk_simp
  rw [after0_7, after7]
  have e : (win0_7.blk t).view.emb y = ix2 (row (t.val * 256 + (y 0).val)) (y 1) := by
    idx_bounds y
    blk_ext [index7]
    exact row_val (by omega)
  show _ = (fun i => act (arg4 m c i) (arg5 m c i)) ((win0_7.blk t).view.emb y)
  rw [e]
  rfl

theorem after8 (t : Fin cfg0.N) (y : S256x2816.Idx) :
    (outsAt0 m c t.val t.isLt).2.2.1 y
      = gateGrad (actGrad m c (row (t.val * 256 + (y 0).val)) (y 1))
          (arg5 m c (ix2 (row (t.val * 256 + (y 0).val)) (y 1))) (arg4 m c (ix2 (row (t.val * 256 + (y 0).val)) (y 1))) := by
  rcases em (t.val % 32 = 0) with h | h
  on_goal 1 => rw [outsAt0_A m c t h]; frame_out
  on_goal 2 => rw [outsAt0_B m c t h]; frame_out
  all_goals canon_tiles x h
  all_goals
    exact (tile_gate _ _ _ _ x).trans (gate_congr (product_at m c t _ x y h0
      fun k => View.ld_unit_apply_of _ _ _ _ (ix2 (x 1) k) (ix2 (y 1) k)
      (by intro a; fin_cases a <;> simp [h1]))
      (loaded5 m c t _ _ x y (by intro a; fin_cases a <;> simp [h0, h1]))
      (loaded4 m c t _ _ x y (by intro a; fin_cases a <;> simp [h0, h1])))

theorem result8 : ((dats m 0 c).arrAt 8 cfg0.N : Vec Ideal S8192x2816 .bf16)
    = fun i => gateGrad (actGrad m c (i 0) (i 1)) (arg5 m c i) (arg4 m c i) := by
  refine (dats m 0 c).arrAt_eq_of_covers 8 _ (by decide +kernel) fun t hf y => ?_
  have ht : t.val < 32 := lt_of_lt_of_eq t.isLt N_0
  blk_simp
  rw [after0_8, after8]
  have e : (win0_8.blk t).view.emb y = ix2 (row (t.val * 256 + (y 0).val)) (y 1) := by
    idx_bounds y
    blk_ext [index8]
    exact row_val (by omega)
  show _ = (fun i => gateGrad (actGrad m c (i 0) (i 1)) (arg5 m c i) (arg4 m c i)) ((win0_8.blk t).view.emb y)
  rw [e]
  rfl

theorem after9 (t : Fin cfg0.N) (y : S256x2816.Idx) :
    (outsAt0 m c t.val t.isLt).2.2.2.1 y
      = upGrad (actGrad m c (row (t.val * 256 + (y 0).val)) (y 1)) (arg4 m c (ix2 (row (t.val * 256 + (y 0).val)) (y 1))) := by
  rcases em (t.val % 32 = 0) with h | h
  on_goal 1 => rw [outsAt0_A m c t h]; frame_out
  on_goal 2 => rw [outsAt0_B m c t h]; frame_out
  all_goals canon_tiles x h
  all_goals
    exact (tile_up _ _ _ x).trans (up_congr (product_at m c t _ x y h0
      fun k => View.ld_unit_apply_of _ _ _ _ (ix2 (x 1) k) (ix2 (y 1) k)
      (by intro a; fin_cases a <;> simp [h1]))
      (loaded4 m c t _ _ x y (by intro a; fin_cases a <;> simp [h0, h1])))

theorem result9 : ((dats m 0 c).arrAt 9 cfg0.N : Vec Ideal S8192x2816 .bf16)
    = fun i => upGrad (actGrad m c (i 0) (i 1)) (arg4 m c i) := by
  refine (dats m 0 c).arrAt_eq_of_covers 9 _ (by decide +kernel) fun t hf y => ?_
  have ht : t.val < 32 := lt_of_lt_of_eq t.isLt N_0
  blk_simp
  rw [after0_9, after9]
  have e : (win0_9.blk t).view.emb y = ix2 (row (t.val * 256 + (y 0).val)) (y 1) := by
    idx_bounds y
    blk_ext [index9]
    exact row_val (by omega)
  show _ = (fun i => upGrad (actGrad m c (i 0) (i 1)) (arg4 m c i)) ((win0_9.blk t).view.emb y)
  rw [e]
  rfl

/-- The scale's gradient after a block: the block's rows added to what was there. -/
theorem first10 (t : Fin cfg0.N) (h : t.val % 32 = 0) (j : Fin 1024) :
    (outsAt0 m c t.val t.isLt).2.2.2.2 (ix2 0 j) = ∑ r : Fin 256, scale m c j (row (t.val * 256 + r.val)) := by
  rw [outsAt0_A m c t h]; frame_out
  rw [pay7_apply, pay6_apply, zero_add]
  unfold scale
  simp only [block0, block1]

theorem later10 (t : Fin cfg0.N) (h : ¬t.val % 32 = 0) (j : Fin 1024) :
    (outsAt0 m c t.val t.isLt).2.2.2.2 (ix2 0 j)
      = (outsAt0 m c (t.val - 1) (Nat.lt_of_le_of_lt (Nat.sub_le _ _) t.isLt)).2.2.2.2 (ix2 0 j)
        + ∑ r : Fin 256, scale m c j (row (t.val * 256 + r.val)) := by
  rw [outsAt0_B m c t h]; frame_out
  rw [pay7_apply]
  unfold scale
  simp only [block0, block1]

theorem after10 (n : ℕ) (h : n < cfg0.N) (j : Fin 1024) :
    (outsAt0 m c n h).2.2.2.2 (ix2 0 j) = ∑ r ∈ Finset.range ((n + 1) * 256), scale m c j (row r) :=
  carried 256 cfg0.N (fun n h j => (outsAt0 m c n h).2.2.2.2 (ix2 0 j)) (fun j r => scale m c j (row r))
    (fun h j => first10 m c ⟨0, h⟩ rfl j)
    (fun n h j => later10 m c ⟨n + 1, h⟩ (by have := lt_of_lt_of_eq h N_0; show ¬(n + 1) % 32 = 0; omega) j) n h j

theorem result10 : ((dats m 0 c).arrAt 10 cfg0.N : Vec Ideal S1x1024 .f32) = fun i => ∑ R, scale m c (i 1) R := by
  refine (dats m 0 c).arrAt_eq_of_after_last 10 ⟨31, lt_of_lt_of_eq (by decide) N_0.symm⟩ (by decide +kernel) _ fun y => ?_
  rw [after0_10]
  refine (congrArg (outsAt0 m c 31 _).2.2.2.2 (ix2_of (r := 0) (c := y 1) ?_ rfl)).trans ((after10 m c 31 _ (y 1)).trans ?_)
  · exact Nat.lt_one_iff.mp (y 0).isLt
  · exact all_rows (scale m c (y 1))

end Cert.Kernel7Ideal.Rows

namespace Cert.Proof

open Cert.Blocks Cert.Norm Cert.Reference7Ideal.Read
open Idealize.ShloMosaic Idealize.SL.Sem

section
variable (x0 : (⟨Cert.Reference7Ideal.S8192x1024, .f32⟩ : BufTy).Contents (Elt Ideal))
  (x1 : (⟨Cert.Reference7Ideal.S8192x1024, .bf16⟩ : BufTy).Contents (Elt Ideal))
  (x2 : (⟨Cert.Reference7Ideal.S1x1024, .f32⟩ : BufTy).Contents (Elt Ideal))
  (x3 : (⟨Cert.Reference7Ideal.S2816x1024, .bf16⟩ : BufTy).Contents (Elt Ideal))
  (x4 x5 : (⟨Cert.Reference7Ideal.S8192x2816, .bf16⟩ : BufTy).Contents (Elt Ideal))

theorem reference7_meanSq (i : Cert.Reference7Ideal.S8192x1.Idx) :
    val_main_v11 (F := Ideal) x1 i = meanSq (fun k => x1 (ix2 (i 0) k)) width := by
  rw [val_main_v11_apply, val_main_v9_apply, val_main_v7_apply, val_main_v6_apply]
  unfold meanSq
  refine congrArg₂ (fun a b : EReal => a + b) (congrArg₂ Ideal.div ?_ rfl) rfl
  refine (congrArg₂ (fun a b : EReal => a + b) Ideal.ofBits_zero_f32 (Finset.sum_congr rfl fun k _ => ?_)).trans
    (zero_add _)
  exact congrArg (fun a : EReal => a * a) (congrArg x1 (eq_ix2 _))

theorem reference7_rms (i : Cert.Reference7Ideal.S8192x1.Idx) :
    val_main_v12 (F := Ideal) x1 i = rms (fun k => x1 (ix2 (i 0) k)) width :=
  (val_main_v12_apply x1 i).trans (congrArg Ideal.rsqrt (reference7_meanSq x1 i))

theorem reference7_scaled (i : Cert.Reference7Ideal.S8192x1024.Idx) :
    val_main_v25 (F := Ideal) x0 x2 i = x0 i * x2 (ix2 0 (i 1)) := by
  rw [val_main_v25_apply, val_main_v24_apply, val_main_v18_apply, val_main_v4_apply]
  exact congrArg (fun a : EReal => _ * a) (congrArg x2 (ix2_of rfl (Nat.mod_eq_of_lt (i 1).isLt)))

theorem reference7_share (i : Cert.Reference7Ideal.S8192.Idx) :
    val_main_v35 (F := Ideal) x0 x1 x2 i
      = shareR (fun k => x1 (ix2 (i 0) k)) (fun k => x0 (ix2 (i 0) k)) (fun k => x2 (ix2 0 k)) width := by
  rw [val_main_v35_apply, Fin.sum_univ_one]
  refine (congrArg₂ (fun a b : EReal => a + b) Ideal.ofBits_zero_f32 ?_).trans (zero_add _)
  rw [val_main_v34_apply, val_main_v32_apply, val_main_v29_apply, val_main_v28_apply, val_main_v15_apply,
    val_main_v13_apply, reference7_rms, reference7_meanSq]
  unfold shareR
  refine congrArg₂ Ideal.div (congrArg₂ (fun a b : EReal => a * b) ?_ rfl) rfl
  refine (congrArg₂ (fun a b : EReal => a + b) Ideal.ofBits_zero_f32 (Finset.sum_congr rfl fun k _ => ?_)).trans
    (zero_add _)
  rw [val_main_v27_apply, reference7_scaled]
  have e : idx_main_v28 (idx_main_v29 (idx_main_v35 i 0)) k = ix2 (i 0) k := ix2_of (Nat.mul_one _) rfl
  rw [e]
  rfl

theorem reference7_below (R : Fin 8192) (j : Fin 1024) :
    val_main_v40 (F := Ideal) x0 x1 x2 (ix2 R j)
      = backK (fun k => x1 (ix2 R k)) (fun k => x0 (ix2 R k)) (fun k => x2 (ix2 0 k)) width j := by
  rw [val_main_v40_apply, val_main_v38_apply, val_main_v31_apply, val_main_v30_apply, val_main_v37_apply,
    val_main_v39_apply, val_main_v36_apply, reference7_rms, reference7_scaled, reference7_share]
  exact (back_eq (x := fun k => x1 (ix2 R k)) (dy := fun k => x0 (ix2 R k)) (g := fun k => x2 (ix2 0 k)) (by decide)
    (width_eq.trans (by norm_num)) j).symm

theorem reference7_product (d : Fin 8192 → Fin 1024 → EReal)
    (e : (fun R j => val_main_v40 (F := Ideal) x0 x1 x2 (ix2 R j)) = d) (i : Cert.Reference7Ideal.S8192x2816.Idx) :
    val_main_v44 (F := Ideal) x0 x1 x2 x3 i = ∑ k, d (i 0) k * x3 (ix2 (i 1) k) := by
  subst e
  refine (val_main_v44_apply x0 x1 x2 x3 i).trans (Finset.sum_congr rfl fun k _ => ?_)
  rw [val_main_v1_apply]
  exact congrArg₂ (fun a b : EReal => a * b) (congrArg (val_main_v40 (F := Ideal) x0 x1 x2) (eq_ix2 _))
    (congrArg x3 (eq_ix2 _))

theorem reference7_act (i : Cert.Reference7Ideal.S8192x2816.Idx) :
    val_main_v51 (F := Ideal) x4 x5 i = x4 i * sigR (x4 i) * x5 i := by
  rfl

theorem reference7_gate (i : Cert.Reference7Ideal.S8192x2816.Idx) :
    val_main_v52 (F := Ideal) x0 x1 x2 x3 x4 x5 i
      = val_main_v44 (F := Ideal) x0 x1 x2 x3 i * x5 i * sigR (x4 i)
        + x4 i * (val_main_v44 (F := Ideal) x0 x1 x2 x3 i * x5 i) * (sigR (x4 i) * (one - sigR (x4 i))) := by
  rw [val_main_v52_apply, val_main_v47_apply, val_main_call1_v1_apply, val_main_call1_v2_apply,
    val_main_call1_v0_apply, val_main_v46_apply]
  rfl

theorem reference7_up (i : Cert.Reference7Ideal.S8192x2816.Idx) :
    val_main_v53 (F := Ideal) x0 x1 x2 x3 x4 i = x4 i * sigR (x4 i) * val_main_v44 (F := Ideal) x0 x1 x2 x3 i := by
  rw [val_main_v53_apply, val_main_v45_apply]
  rfl

theorem reference7_scale (i : Cert.Reference7Ideal.S1x1024.Idx) :
    val_main_v54 (F := Ideal) x0 x1 i
      = ∑ R : Fin 8192, x0 (ix2 R (i 1)) * (x1 (ix2 R (i 1)) * rms (fun k => x1 (ix2 R k)) width) := by
  rw [val_main_v54_apply, val_main_v26_apply, Fin.sum_univ_one]
  refine (congrArg₂ (fun a b : EReal => a + b) Ideal.ofBits_zero_f32 ?_).trans (zero_add _)
  rw [val_main_v23_apply, val_main_v22_apply]
  refine (congrArg₂ (fun a b : EReal => a + b) Ideal.ofBits_zero_f32 (Finset.sum_congr rfl fun R _ => ?_)).trans
    (zero_add _)
  refine (congrArg (val_main_v21 (F := Ideal) x0 x1) (ix2_of (r := R) (c := i 1) rfl
    ((congrArg (· + (i 1).val) (Nat.zero_mul 1024)).trans (Nat.zero_add _)))).trans ?_
  refine (val_main_v21_apply x0 x1 _).trans ((congrArg (fun a : EReal => a * _)
    ((val_main_v17_apply x1 _).trans (congrArg (fun a : EReal => _ * a)
      ((val_main_v16_apply x1 _).trans (reference7_rms x1 _))))).trans (mul_comm (_ : EReal) _))

end

theorem algebraic7 : Cert.algebraic_Kernel7Ideal_Reference7Ideal_pre_finite_ffn_out_grad :=
  fun m g m' g' hpre hagree =>
  ⟨fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    Cert.Kernel7Ideal.Value.run_blocks m g,
    (θ_run (Cert.Reference7Ideal.defs (F := Ideal)) _ _).mono (fun r h c => by
      obtain ⟨a0, a1, a2, a3, a4, a5⟩ := hagree c
      obtain ⟨p0, p2, p3, p5⟩ := hpre c
      have product := reference7_product (Cert.Kernel7Ideal.Rows.arg0 m c) (Cert.Kernel7Ideal.Rows.arg1 m c)
        (Cert.Kernel7Ideal.Rows.arg2 m c) (Cert.Kernel7Ideal.Rows.arg3 m c) (Cert.Kernel7Ideal.Rows.below m c)
        (funext fun R => funext fun j => reference7_below _ _ _ R j)
      refine ⟨(h c).1.trans ?_, (h c).2.1.trans ?_, (h c).2.2.1.trans ?_, (h c).2.2.2.1.trans ?_,
        (h c).2.2.2.2.1.trans ?_, (h c).2.2.2.2.2⟩
      · refine (val_main_v50_eq (F := Ideal) m' c).trans (Eq.trans ?_ (Cert.Kernel7Ideal.Rows.result6 m c).symm)
        rw [a0, a1, a2]
        funext i
        exact (congrArg (val_main_v50 (F := Ideal) _ _ _) (eq_ix2 i)).trans (reference7_below _ _ _ (i 0) (i 1))
      · rw [a4, a5]
        refine (val_main_v51_eq (F := Ideal) _ _).trans (Eq.trans ?_ (Cert.Kernel7Ideal.Rows.result7 m c).symm)
        funext i
        refine (reference7_act _ _ i).trans ?_
        rw [← sigK_eq]
        rfl
      · refine (val_main_v52_eq (F := Ideal) m' c).trans (Eq.trans ?_ (Cert.Kernel7Ideal.Rows.result8 m c).symm)
        rw [a0, a1, a2, a3, a4, a5]
        funext i
        refine (reference7_gate _ _ _ _ _ _ i).trans ((silu_eq ?_ ?_ _).symm.trans ?_)
        · refine product i ▸ IsReal.sum _ fun k => (isReal_backK (by decide) (width_eq.trans (by norm_num))
            (fun k => ?_) (fun k => ?_) k).mul ?_
          · exact real_of_finite _ _ _ p0 _
          · exact real_of_finite _ _ _ p2 _
          · exact real_of_finite _ _ _ p3 _
        · exact real_of_finite _ _ _ p5 _
        · rw [← sigK_eq]
          exact congrArg (fun d => Cert.Kernel7Ideal.Rows.gateGrad d _ _) (product i)
      · refine (val_main_v53_eq (F := Ideal) m' c).trans (Eq.trans ?_ (Cert.Kernel7Ideal.Rows.result9 m c).symm)
        rw [a0, a1, a2, a3, a4]
        funext i
        refine (reference7_up _ _ _ _ _ i).trans ((mul_comm (_ : EReal) _).trans ?_)
        rw [← sigK_eq]
        exact congrArg (fun d => Cert.Kernel7Ideal.Rows.upGrad d _) (product i)
      · rw [a0, a1]
        refine (val_main_v54_eq (F := Ideal) _ _).trans (Eq.trans ?_ (Cert.Kernel7Ideal.Rows.result10 m c).symm)
        funext i
        exact reference7_scale _ _ i)
    (Cert.Reference7Ideal.Value.run m' g')⟩

end Cert.Proof

end
-- ==== Proof.NormIn8.lean ====
/- The normalisation and the products it feeds: block of rows by block of rows, the kernel writes the
   normalised rows and their products with the weights. -/
module

public import proofs.«01_k».proof.Defs
public import proofs.«01_k».proof.Proof.Blocks
public import proofs.«01_k».proof.Proof.Norm
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Tactic
public import Idealize.ShloMosaic.Lib.Pipeline.ValueKit

@[expose] public section

noncomputable section

namespace Cert.Kernel8Ideal.Rows

open Cert.Kernel8Ideal Cert.Kernel8Ideal.Gen Cert.Kernel8Ideal.Value Cert.Blocks Cert.Norm
open Idealize.ShloMosaic Idealize.ShloMosaic.TcCoe Idealize.SL.Sem

theorem pay1_apply (x : Vec Ideal S512x1024 .f32) (g : Vec Ideal S1x1024 .f32) (r : Fin 512) (j : Fin 1024) :
    k0_pay1 x g (ix2 r j) = scaled (fun k => x (ix2 r k)) (fun k => g (ix2 0 k)) width j := by
  unfold k0_pay1
  simp only [pointwise, zero_apply, zero_add]
  rfl

theorem pay2_apply (x : Vec Ideal S512x1024 .f32) (g : Vec Ideal S1x1024 .f32) (w : Vec Ideal S1792x1024 .bf16)
    (r : Fin 512) (j : Fin 1792) :
    k0_pay2 x g w (ix2 r j) = ∑ k, scaled (fun k => x (ix2 r k)) (fun k => g (ix2 0 k)) width k * w (ix2 j k) := by
  unfold k0_pay2
  simp only [pointwise, zero_apply, zero_add]
  exact Finset.sum_congr rfl fun k _ => congrArg (· * w (ix2 j k)) (pay1_apply x g r k)

variable (m : (ℓ : Loc nD τ sig) → Buf (Elt Ideal) ℓ) (c : Dev nD)

def arg0 : Vec Ideal S8192x1024 .f32 := m ((c : Thread nD τ).loc main_arg0)
def arg1 : Vec Ideal S1x1024 .f32 := m ((c : Thread nD τ).loc main_arg1)
def arg2 : Vec Ideal S1792x1024 .bf16 := m ((c : Thread nD τ).loc main_arg2)

/-- A row's normalised values, and their products with the weights. -/
def normed (R : Fin 8192) (j : Fin 1024) : EReal :=
  scaled (fun k => arg0 m c (ix2 R k)) (fun k => arg1 m c (ix2 0 k)) width j
def product (R : Fin 8192) (j : Fin 1792) : EReal := ∑ k, normed m c R k * arg2 m c (ix2 j k)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])

theorem block0 (t : Fin cfg0.N) (r : Fin 512) (k : Fin 1024) :
    (iblk m c 0 t : Vec Ideal S512x1024 .f32) (ix2 r k) = arg0 m c (ix2 (row (t.val * 512 + r.val)) k) := by
  have ht : t.val < 16 := lt_of_lt_of_eq t.isLt N_0
  have hr := r.isLt
  blk_simp [iblk]
  refine (congrFun (V_main_arg0 m c) _).trans (congrArg (arg0 m c) ?_)
  blk_ext [index0]
  exact row_val (by omega)

theorem block1 (t : Fin cfg0.N) : (iblk m c 1 t : Vec Ideal S1x1024 .f32) = arg1 m c := by
  funext y
  blk_simp [iblk]
  refine (congrFun (V_main_arg1 m c) _).trans (congrArg (arg1 m c) ?_)
  blk_ext [index1]

theorem block2 (t : Fin cfg0.N) : (iblk m c 2 t : Vec Ideal S1792x1024 .bf16) = arg2 m c := by
  funext y
  blk_simp [iblk]
  refine (congrFun (V_main_arg2 m c) _).trans (congrArg (arg2 m c) ?_)
  blk_ext [index2]

/-- What a block's bodies store, in terms of the arguments' rows. -/
theorem stored4 (t : Fin cfg0.N) (r : Fin 512) (j : Fin 1024) :
    k0_pay1 (iblk m c 0 t) (iblk m c 1 t) (ix2 r j) = normed m c (row (t.val * 512 + r.val)) j := by
  rw [block1]
  refine (pay1_apply _ _ r j).trans ?_
  unfold normed
  simp only [block0]

theorem stored3 (t : Fin cfg0.N) (r : Fin 512) (j : Fin 1792) :
    k0_pay2 (iblk m c 0 t) (iblk m c 1 t) (iblk m c 2 t) (ix2 r j) = product m c (row (t.val * 512 + r.val)) j := by
  rw [block1, block2]
  refine (pay2_apply _ _ _ r j).trans ?_
  unfold product normed
  simp only [block0]

theorem result3 : ((dats m 0 c).arrAt 3 cfg0.N : Vec Ideal S8192x1792 .bf16) = fun i => product m c (i 0) (i 1) := by
  refine (dats m 0 c).arrAt_eq_of_covers 3 _ (by decide +kernel) fun t hf y => ?_
  have ht : t.val < 16 := lt_of_lt_of_eq t.isLt N_0
  blk_simp
  rw [after0_3]; frame_out
  have e : (win0_3.blk t).view.emb y = ix2 (row (t.val * 512 + (y 0).val)) (y 1) := by
    idx_bounds y
    blk_ext [index3]
    exact row_val (by omega)
  show _ = (fun i => product m c (i 0) (i 1)) ((win0_3.blk t).view.emb y)
  rw [e]
  exact (congrArg (k0_pay2 _ _ _) (eq_ix2 y)).trans (stored3 m c t (y 0) (y 1))

theorem result4 : ((dats m 0 c).arrAt 4 cfg0.N : Vec Ideal S8192x1024 .bf16) = fun i => normed m c (i 0) (i 1) := by
  refine (dats m 0 c).arrAt_eq_of_covers 4 _ (by decide +kernel) fun t hf y => ?_
  have ht : t.val < 16 := lt_of_lt_of_eq t.isLt N_0
  blk_simp
  rw [after0_4]; frame_out
  have e : (win0_4.blk t).view.emb y = ix2 (row (t.val * 512 + (y 0).val)) (y 1) := by
    idx_bounds y
    blk_ext [index4]
    exact row_val (by omega)
  show _ = (fun i => normed m c (i 0) (i 1)) ((win0_4.blk t).view.emb y)
  rw [e]
  exact (congrArg (k0_pay1 _ _) (eq_ix2 y)).trans (stored4 m c t (y 0) (y 1))

end Cert.Kernel8Ideal.Rows

namespace Cert.Proof

open Cert.Reference8Ideal.Read Cert.Norm Cert.Blocks
open Idealize.ShloMosaic Idealize.SL.Sem

section
variable (x0 : (⟨Cert.Reference8Ideal.S8192x1024, .f32⟩ : BufTy).Contents (Elt Ideal))
  (x1 : (⟨Cert.Reference8Ideal.S1x1024, .f32⟩ : BufTy).Contents (Elt Ideal))
  (x2 : (⟨Cert.Reference8Ideal.S1792x1024, .bf16⟩ : BufTy).Contents (Elt Ideal))

theorem reference8_scaled (i : Cert.Reference8Ideal.S8192x1024.Idx) :
    val_main_v13 (F := Ideal) x0 x1 i
      = scaled (fun k => x0 (ix2 (i 0) k)) (fun k => x1 (ix2 0 k)) width (i 1) := by
  rw [val_main_v13_apply, val_main_v10_apply, val_main_v12_apply, val_main_v11_apply, val_main_v9_apply,
    val_main_v8_apply, val_main_v7_apply, val_main_v5_apply, val_main_v0_apply, val_main_v3_apply,
    val_main_v2_apply]
  simp only [pointwise]
  unfold scaled rms meanSq
  refine congrArg₂ (fun a b : EReal => a * b) (congrArg₂ (fun a b : EReal => a * b) (congrArg x0 (eq_ix2 i))
    (congrArg Ideal.rsqrt (congrArg₂ (fun a b : EReal => a + b) (congrArg₂ Ideal.div ?_ rfl) rfl)))
    (congrArg x1 (ix2_of rfl (Nat.mod_eq_of_lt (i 1).isLt)))
  refine (congrArg₂ (fun a b : EReal => a + b) Ideal.ofBits_zero_f32 (Finset.sum_congr rfl fun k _ => ?_)).trans
    (zero_add _)
  exact congrArg (fun a : EReal => a * a) (congrArg x0 (eq_ix2 _))

theorem reference8_product (i : Cert.Reference8Ideal.S8192x1792.Idx) :
    val_main_v17 (F := Ideal) x0 x1 x2 i
      = ∑ k, scaled (fun k => x0 (ix2 (i 0) k)) (fun k => x1 (ix2 0 k)) width k * x2 (ix2 (i 1) k) := by
  rw [val_main_v17_apply]
  refine (val_main_v16_apply x0 x1 x2 i).trans (Finset.sum_congr rfl fun k _ => ?_)
  rw [reference8_scaled, val_main_v15_apply, val_main_v14_apply]
  exact congrArg (_ * ·) (congrArg x2 (eq_ix2 _))
end

theorem algebraic8 : Cert.algebraic_Kernel8Ideal_Reference8Ideal := fun m g m' g' _ hagree =>
  ⟨fun c => (Cert.Kernel8Ideal.Gen.dats m 0 c).arrAt 3 Cert.Kernel8Ideal.cfg0.N,
    fun c => (Cert.Kernel8Ideal.Gen.dats m 0 c).arrAt 4 Cert.Kernel8Ideal.cfg0.N,
    Cert.Kernel8Ideal.Value.run_blocks m g,
    (θ_run (Cert.Reference8Ideal.defs (F := Ideal)) _ _).mono (fun r h c => by
      refine ⟨(h c).1.trans ?_, (h c).2.1.trans ?_, (h c).2.2⟩
      · rw [(hagree c).1, (hagree c).2.1, (hagree c).2.2]
        refine (val_main_v17_eq (F := Ideal) _ _ _).trans (Eq.trans ?_ (Cert.Kernel8Ideal.Rows.result3 m c).symm)
        exact funext fun i => reference8_product _ _ _ i
      · rw [(hagree c).1, (hagree c).2.1]
        refine (val_main_v18_eq (F := Ideal) _ _).trans (Eq.trans ?_ (Cert.Kernel8Ideal.Rows.result4 m c).symm)
        exact funext fun i => (val_main_v18_apply _ _ i).trans (reference8_scaled _ _ i))
    (Cert.Reference8Ideal.Value.run m' g')⟩

end Cert.Proof
end
-- ==== Proof.FfnIn9.lean ====
/- The entry of the feed-forward part: block of rows by block of rows, the kernel writes the normalised
   rows and their products with the two weight matrices. -/
module

public import proofs.«01_k».proof.Defs
public import proofs.«01_k».proof.Proof.Blocks
public import proofs.«01_k».proof.Proof.Norm
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Tactic
public import Idealize.ShloMosaic.Lib.Pipeline.ValueKit

@[expose] public section

noncomputable section

namespace Cert.Kernel9Ideal.Rows

open Cert.Kernel9Ideal Cert.Kernel9Ideal.Gen Cert.Kernel9Ideal.Value Cert.Blocks Cert.Norm
open Idealize.ShloMosaic Idealize.ShloMosaic.TcCoe Idealize.SL.Sem

section
variable (x : Vec Ideal S256x1024 .f32) (g : Vec Ideal S1x1024 .f32) (w : Vec Ideal S2816x1024 .bf16)

theorem pay1_apply (r : Fin 256) (j : Fin 1024) :
    k0_pay1 x g (ix2 r j) = scaled (fun k => x (ix2 r k)) (fun k => g (ix2 0 k)) width j := by
  unfold k0_pay1
  simp only [pointwise, zero_apply, zero_add]
  rfl

theorem pay2_apply (r : Fin 256) (j : Fin 2816) :
    k0_pay2 x g w (ix2 r j) = ∑ k, scaled (fun k => x (ix2 r k)) (fun k => g (ix2 0 k)) width k * w (ix2 j k) := by
  unfold k0_pay2
  simp only [pointwise, zero_apply, zero_add]
  exact Finset.sum_congr rfl fun k _ => congrArg (· * w (ix2 j k)) (pay1_apply x g r k)

/-- The two products are the same operation on different weights. -/
theorem pay3_eq : k0_pay3 x g w = k0_pay2 x g w := rfl

end

variable (m : (ℓ : Loc nD τ sig) → Buf (Elt Ideal) ℓ) (c : Dev nD)

def arg0 : Vec Ideal S8192x1024 .f32 := m ((c : Thread nD τ).loc main_arg0)
def arg1 : Vec Ideal S1x1024 .f32 := m ((c : Thread nD τ).loc main_arg1)
def arg2 : Vec Ideal S2816x1024 .bf16 := m ((c : Thread nD τ).loc main_arg2)
def arg3 : Vec Ideal S2816x1024 .bf16 := m ((c : Thread nD τ).loc main_arg3)

/-- A row's normalised values, and their products with a weight matrix. -/
def normed (R : Fin 8192) (j : Fin 1024) : EReal :=
  scaled (fun k => arg0 m c (ix2 R k)) (fun k => arg1 m c (ix2 0 k)) width j
def product (w : Vec Ideal S2816x1024 .bf16) (R : Fin 8192) (j : Fin 2816) : EReal :=
  ∑ k, normed m c R k * w (ix2 j k)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])

theorem block0 (t : Fin cfg0.N) (r : Fin 256) (k : Fin 1024) :
    (iblk m c 0 t : Vec Ideal S256x1024 .f32) (ix2 r k) = arg0 m c (ix2 (row (t.val * 256 + r.val)) k) := by
  have ht : t.val < 32 := lt_of_lt_of_eq t.isLt N_0
  blk_simp [iblk]
  refine (congrFun (V_main_arg0 m c) _).trans (congrArg (arg0 m c) ?_)
  blk_ext [index0]
  exact row_val (by omega)

theorem block1 (t : Fin cfg0.N) : (iblk m c 1 t : Vec Ideal S1x1024 .f32) = arg1 m c := by
  funext y
  blk_simp [iblk]
  refine (congrFun (V_main_arg1 m c) _).trans (congrArg (arg1 m c) ?_)
  blk_ext [index1]

theorem block2 (t : Fin cfg0.N) : (iblk m c 2 t : Vec Ideal S2816x1024 .bf16) = arg2 m c := by
  funext y
  blk_simp [iblk]
  refine (congrFun (V_main_arg2 m c) _).trans (congrArg (arg2 m c) ?_)
  blk_ext [index2]

theorem block3 (t : Fin cfg0.N) : (iblk m c 3 t : Vec Ideal S2816x1024 .bf16) = arg3 m c := by
  funext y
  blk_simp [iblk]
  refine (congrFun (V_main_arg3 m c) _).trans (congrArg (arg3 m c) ?_)
  blk_ext [index3]

/-- What a block's bodies store, in terms of the arguments' rows. -/
theorem stored1 (t : Fin cfg0.N) (r : Fin 256) (j : Fin 1024) :
    k0_pay1 (iblk m c 0 t) (iblk m c 1 t) (ix2 r j) = normed m c (row (t.val * 256 + r.val)) j := by
  rw [block1]
  refine (pay1_apply _ _ r j).trans ?_
  unfold normed
  simp only [block0]

theorem stored2 (t : Fin cfg0.N) (w : Vec Ideal S2816x1024 .bf16) (r : Fin 256) (j : Fin 2816) :
    k0_pay2 (iblk m c 0 t) (iblk m c 1 t) w (ix2 r j) = product m c w (row (t.val * 256 + r.val)) j := by
  rw [block1]
  refine (pay2_apply _ _ _ r j).trans ?_
  unfold product normed
  simp only [block0]

theorem result4 : ((dats m 0 c).arrAt 4 cfg0.N : Vec Ideal S8192x1024 .bf16) = fun i => normed m c (i 0) (i 1) := by
  refine (dats m 0 c).arrAt_eq_of_covers 4 _ (by decide +kernel) fun t hf y => ?_
  have ht : t.val < 32 := lt_of_lt_of_eq t.isLt N_0
  blk_simp
  rw [after0_4]; frame_out
  have e : (win0_4.blk t).view.emb y = ix2 (row (t.val * 256 + (y 0).val)) (y 1) := by
    idx_bounds y
    blk_ext [index4]
    exact row_val (by omega)
  show _ = (fun i => normed m c (i 0) (i 1)) ((win0_4.blk t).view.emb y)
  rw [e]
  exact (congrArg (k0_pay1 _ _) (eq_ix2 y)).trans (stored1 m c t (y 0) (y 1))

theorem result5 :
    ((dats m 0 c).arrAt 5 cfg0.N : Vec Ideal S8192x2816 .bf16) = fun i => product m c (arg2 m c) (i 0) (i 1) := by
  refine (dats m 0 c).arrAt_eq_of_covers 5 _ (by decide +kernel) fun t hf y => ?_
  have ht : t.val < 32 := lt_of_lt_of_eq t.isLt N_0
  blk_simp
  rw [after0_5]; frame_out
  have e : (win0_5.blk t).view.emb y = ix2 (row (t.val * 256 + (y 0).val)) (y 1) := by
    idx_bounds y
    blk_ext [index5]
    exact row_val (by omega)
  show _ = (fun i => product m c (arg2 m c) (i 0) (i 1)) ((win0_5.blk t).view.emb y)
  rw [e, block2]
  exact (congrArg (k0_pay2 _ _ _) (eq_ix2 y)).trans (stored2 m c t _ (y 0) (y 1))

theorem result6 :
    ((dats m 0 c).arrAt 6 cfg0.N : Vec Ideal S8192x2816 .bf16) = fun i => product m c (arg3 m c) (i 0) (i 1) := by
  refine (dats m 0 c).arrAt_eq_of_covers 6 _ (by decide +kernel) fun t hf y => ?_
  have ht : t.val < 32 := lt_of_lt_of_eq t.isLt N_0
  blk_simp
  rw [after0_6]; frame_out
  have e : (win0_6.blk t).view.emb y = ix2 (row (t.val * 256 + (y 0).val)) (y 1) := by
    idx_bounds y
    blk_ext [index6]
    exact row_val (by omega)
  show _ = (fun i => product m c (arg3 m c) (i 0) (i 1)) ((win0_6.blk t).view.emb y)
  rw [e, block3, pay3_eq]
  exact (congrArg (k0_pay2 _ _ _) (eq_ix2 y)).trans (stored2 m c t _ (y 0) (y 1))

end Cert.Kernel9Ideal.Rows

namespace Cert.Proof

open Cert.Reference9Ideal.Read Cert.Norm Cert.Blocks
open Idealize.ShloMosaic Idealize.SL.Sem

section
variable (x0 : (⟨Cert.Reference9Ideal.S8192x1024, .f32⟩ : BufTy).Contents (Elt Ideal))
  (x1 : (⟨Cert.Reference9Ideal.S1x1024, .f32⟩ : BufTy).Contents (Elt Ideal))
  (w : (⟨Cert.Reference9Ideal.S2816x1024, .bf16⟩ : BufTy).Contents (Elt Ideal))

theorem reference9_scaled (i : Cert.Reference9Ideal.S8192x1024.Idx) :
    val_main_v17 (F := Ideal) x0 x1 i
      = scaled (fun k => x0 (ix2 (i 0) k)) (fun k => x1 (ix2 0 k)) width (i 1) := by
  rw [val_main_v17_apply, val_main_v14_apply, val_main_v16_apply, val_main_v15_apply, val_main_v13_apply,
    val_main_v12_apply, val_main_v11_apply, val_main_v9_apply, val_main_v7_apply, val_main_v6_apply,
    val_main_v4_apply]
  simp only [pointwise]
  unfold scaled rms meanSq
  refine congrArg₂ (fun a b : EReal => a * b) (congrArg₂ (fun a b : EReal => a * b) (congrArg x0 (eq_ix2 i))
    (congrArg Ideal.rsqrt (congrArg₂ (fun a b : EReal => a + b) (congrArg₂ Ideal.div ?_ rfl) rfl)))
    (congrArg x1 (ix2_of rfl (Nat.mod_eq_of_lt (i 1).isLt)))
  refine (congrArg₂ (fun a b : EReal => a + b) Ideal.ofBits_zero_f32 (Finset.sum_congr rfl fun k _ => ?_)).trans
    (zero_add _)
  exact congrArg (fun a : EReal => a * a) (congrArg x0 (eq_ix2 _))

theorem reference9_first (i : Cert.Reference9Ideal.S8192x2816.Idx) :
    val_main_v20 (F := Ideal) x0 x1 w i
      = ∑ k, scaled (fun k => x0 (ix2 (i 0) k)) (fun k => x1 (ix2 0 k)) width k * w (ix2 (i 1) k) := by
  rw [val_main_v20_apply]
  refine (val_main_v19_apply x0 x1 w i).trans (Finset.sum_congr rfl fun k _ => ?_)
  rw [reference9_scaled, val_main_v1_apply, val_main_v0_apply]
  exact congrArg (_ * ·) (congrArg w (eq_ix2 _))

/-- The second product is the first one's operation on the other weights. -/
theorem reference9_second : val_main_v22 (F := Ideal) x0 x1 w = val_main_v20 (F := Ideal) x0 x1 w := rfl

end

theorem algebraic9 : Cert.algebraic_Kernel9Ideal_Reference9Ideal := fun m g m' g' _ hagree =>
  ⟨fun c => (Cert.Kernel9Ideal.Gen.dats m 0 c).arrAt 4 Cert.Kernel9Ideal.cfg0.N,
    fun c => (Cert.Kernel9Ideal.Gen.dats m 0 c).arrAt 5 Cert.Kernel9Ideal.cfg0.N,
    fun c => (Cert.Kernel9Ideal.Gen.dats m 0 c).arrAt 6 Cert.Kernel9Ideal.cfg0.N,
    Cert.Kernel9Ideal.Value.run_blocks m g,
    (θ_run (Cert.Reference9Ideal.defs (F := Ideal)) _ _).mono (fun r h c => by
      obtain ⟨a0, a1, a2, a3⟩ := hagree c
      refine ⟨(h c).1.trans ?_, (h c).2.1.trans ?_, (h c).2.2.1.trans ?_, (h c).2.2.2⟩
      · rw [a0, a1]
        refine (val_main_v18_eq (F := Ideal) _ _).trans (Eq.trans ?_ (Cert.Kernel9Ideal.Rows.result4 m c).symm)
        exact funext fun i => (val_main_v18_apply _ _ i).trans (reference9_scaled _ _ i)
      · rw [a0, a1, a2]
        refine (val_main_v20_eq (F := Ideal) _ _ _).trans (Eq.trans ?_ (Cert.Kernel9Ideal.Rows.result5 m c).symm)
        exact funext fun i => reference9_first _ _ _ i
      · rw [a0, a1, a3]
        refine (val_main_v22_eq (F := Ideal) _ _ _).trans (Eq.trans ?_ (Cert.Kernel9Ideal.Rows.result6 m c).symm)
        rw [reference9_second]
        exact funext fun i => reference9_first _ _ _ i)
    (Cert.Reference9Ideal.Value.run m' g')⟩

end Cert.Proof

end
-- ==== Proof.FfnOut10.lean ====
/- The end of the feed-forward part: block of rows by block of rows, the kernel writes the product of
   the gated activations with the weights, and its input with the normalised product added. -/
module

public import proofs.«01_k».proof.Defs
public import proofs.«01_k».proof.Proof.Blocks
public import proofs.«01_k».proof.Proof.Norm
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Tactic
public import Idealize.ShloMosaic.Lib.Pipeline.ValueKit

@[expose] public section

noncomputable section

namespace Cert.Kernel10Ideal.Rows

open Cert.Kernel10Ideal Cert.Kernel10Ideal.Gen Cert.Kernel10Ideal.Value Cert.Blocks Cert.Norm
open Idealize.ShloMosaic Idealize.ShloMosaic.TcCoe Idealize.SL.Sem

section
variable (gt up : Vec Ideal S256x2816 .bf16) (w : Vec Ideal S2816x1024 .bf16) (h : Vec Ideal S256x1024 .f32)
  (g : Vec Ideal S1x1024 .f32)

theorem pay1_apply (r : Fin 256) (j : Fin 1024) :
    k0_pay1 gt up w (ix2 r j) = ∑ k, gt (ix2 r k) * sigR (gt (ix2 r k)) * up (ix2 r k) * w (ix2 k j) := by
  unfold k0_pay1
  simp only [pointwise, zero_apply, zero_add]
  exact Finset.sum_congr rfl fun k _ => congrArg (fun a => gt (ix2 r k) * a * up (ix2 r k) * w (ix2 k j)) (sigK_eq _)

theorem pay2_eq : k0_pay2 gt up w = k0_pay1 gt up w := rfl

theorem pay3_apply (r : Fin 256) (j : Fin 1024) :
    k0_pay3 gt up w h g (ix2 r j)
      = h (ix2 r j) + scaled (fun k => k0_pay1 gt up w (ix2 r k)) (fun k => g (ix2 0 k)) width j := by
  unfold k0_pay3
  generalize k0_pay1 gt up w = n
  simp only [pointwise, zero_apply, zero_add]
  rfl

end

variable (m : (ℓ : Loc nD τ sig) → Buf (Elt Ideal) ℓ) (c : Dev nD)

def arg0 : Vec Ideal S8192x2816 .bf16 := m ((c : Thread nD τ).loc main_arg0)
def arg1 : Vec Ideal S8192x2816 .bf16 := m ((c : Thread nD τ).loc main_arg1)
def arg2 : Vec Ideal S2816x1024 .bf16 := m ((c : Thread nD τ).loc main_arg2)
def arg3 : Vec Ideal S8192x1024 .f32 := m ((c : Thread nD τ).loc main_arg3)
def arg4 : Vec Ideal S1x1024 .f32 := m ((c : Thread nD τ).loc main_arg4)

/-- A row's product of the gated activations with the weights, and the row the kernel adds it to. -/
def product (R : Fin 8192) (j : Fin 1024) : EReal :=
  ∑ k, arg0 m c (ix2 R k) * sigR (arg0 m c (ix2 R k)) * arg1 m c (ix2 R k) * arg2 m c (ix2 k j)
def added (R : Fin 8192) (j : Fin 1024) : EReal :=
  arg3 m c (ix2 R j) + scaled (product m c R) (fun k => arg4 m c (ix2 0 k)) width j

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])

theorem block0 (t : Fin cfg0.N) (r : Fin 256) (k : Fin 2816) :
    (iblk m c 0 t : Vec Ideal S256x2816 .bf16) (ix2 r k) = arg0 m c (ix2 (row (t.val * 256 + r.val)) k) := by
  have ht : t.val < 32 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 256) (k : Fin 2816) :
    (iblk m c 1 t : Vec Ideal S256x2816 .bf16) (ix2 r k) = arg1 m c (ix2 (row (t.val * 256 + r.val)) k) := by
  have ht : t.val < 32 := lt_of_lt_of_eq t.isLt N_0
  blk_simp [iblk]
  refine (congrFun (V_main_arg1 m c) _).trans (congrArg (arg1 m c) ?_)
  blk_ext [index1]
  exact row_val (by omega)

theorem block2 (t : Fin cfg0.N) : (iblk m c 2 t : Vec Ideal S2816x1024 .bf16) = arg2 m c := by
  funext y
  blk_simp [iblk]
  refine (congrFun (V_main_arg2 m c) _).trans (congrArg (arg2 m c) ?_)
  blk_ext [index2]

theorem block3 (t : Fin cfg0.N) (r : Fin 256) (k : Fin 1024) :
    (iblk m c 3 t : Vec Ideal S256x1024 .f32) (ix2 r k) = arg3 m c (ix2 (row (t.val * 256 + r.val)) k) := by
  have ht : t.val < 32 := lt_of_lt_of_eq t.isLt N_0
  blk_simp [iblk]
  refine (congrFun (V_main_arg3 m c) _).trans (congrArg (arg3 m c) ?_)
  blk_ext [index3]
  exact row_val (by omega)

theorem block4 (t : Fin cfg0.N) : (iblk m c 4 t : Vec Ideal S1x1024 .f32) = arg4 m c := by
  funext y
  blk_simp [iblk]
  refine (congrFun (V_main_arg4 m c) _).trans (congrArg (arg4 m c) ?_)
  blk_ext [index4]

/-- What a block's bodies store, in terms of the arguments' rows. -/
theorem stored1 (t : Fin cfg0.N) (r : Fin 256) (j : Fin 1024) :
    k0_pay1 (iblk m c 0 t) (iblk m c 1 t) (iblk m c 2 t) (ix2 r j) = product m c (row (t.val * 256 + r.val)) j := by
  rw [block2]
  refine (pay1_apply _ _ _ r j).trans ?_
  unfold product
  simp only [block0, block1]

theorem stored3 (t : Fin cfg0.N) (r : Fin 256) (j : Fin 1024) :
    k0_pay3 (iblk m c 0 t) (iblk m c 1 t) (iblk m c 2 t) (iblk m c 3 t) (iblk m c 4 t) (ix2 r j)
      = added m c (row (t.val * 256 + r.val)) j := by
  rw [block4]
  refine (pay3_apply _ _ _ _ _ r j).trans ?_
  unfold added
  simp only [block3, stored1]

theorem result5 : ((dats m 0 c).arrAt 5 cfg0.N : Vec Ideal S8192x1024 .bf16) = fun i => product m c (i 0) (i 1) := by
  refine (dats m 0 c).arrAt_eq_of_covers 5 _ (by decide +kernel) fun t hf y => ?_
  have ht : t.val < 32 := lt_of_lt_of_eq t.isLt N_0
  blk_simp
  rw [after0_5]; frame_out
  have e : (win0_5.blk t).view.emb y = ix2 (row (t.val * 256 + (y 0).val)) (y 1) := by
    idx_bounds y
    blk_ext [index5]
    exact row_val (by omega)
  show _ = (fun i => product m c (i 0) (i 1)) ((win0_5.blk t).view.emb y)
  rw [e, pay2_eq]
  exact (congrArg (k0_pay1 _ _ _) (eq_ix2 y)).trans (stored1 m c t (y 0) (y 1))

theorem result6 : ((dats m 0 c).arrAt 6 cfg0.N : Vec Ideal S8192x1024 .f32) = fun i => added m c (i 0) (i 1) := by
  refine (dats m 0 c).arrAt_eq_of_covers 6 _ (by decide +kernel) fun t hf y => ?_
  have ht : t.val < 32 := lt_of_lt_of_eq t.isLt N_0
  blk_simp
  rw [after0_6]; frame_out
  have e : (win0_6.blk t).view.emb y = ix2 (row (t.val * 256 + (y 0).val)) (y 1) := by
    idx_bounds y
    blk_ext [index6]
    exact row_val (by omega)
  show _ = (fun i => added m c (i 0) (i 1)) ((win0_6.blk t).view.emb y)
  rw [e]
  exact (congrArg (k0_pay3 _ _ _ _ _) (eq_ix2 y)).trans (stored3 m c t (y 0) (y 1))

end Cert.Kernel10Ideal.Rows

namespace Cert.Proof

open Cert.Reference10Ideal.Read Cert.Norm Cert.Blocks
open Idealize.ShloMosaic Idealize.SL.Sem

section
variable (x0 x1 : (⟨Cert.Reference10Ideal.S8192x2816, .bf16⟩ : BufTy).Contents (Elt Ideal))
  (x2 : (⟨Cert.Reference10Ideal.S2816x1024, .bf16⟩ : BufTy).Contents (Elt Ideal))
  (x3 : (⟨Cert.Reference10Ideal.S8192x1024, .f32⟩ : BufTy).Contents (Elt Ideal))
  (x4 : (⟨Cert.Reference10Ideal.S1x1024, .f32⟩ : BufTy).Contents (Elt Ideal))

theorem reference10_gated (i : Cert.Reference10Ideal.S8192x2816.Idx) :
    val_main_v4 (F := Ideal) x0 x1 i = x0 i * sigR (x0 i) * x1 i := by
  rw [val_main_v4_apply, val_main_v3_apply, val_main_call0_v5_apply, val_main_call0_v3_apply]
  simp only [pointwise]
  rfl

theorem reference10_product (i : Cert.Reference10Ideal.S8192x1024.Idx) :
    val_main_v5 (F := Ideal) x0 x1 x2 i
      = ∑ k : Fin 2816, x0 (ix2 (i 0) k) * sigR (x0 (ix2 (i 0) k)) * x1 (ix2 (i 0) k) * x2 (ix2 k (i 1)) := by
  refine (val_main_v5_apply x0 x1 x2 i).trans (Finset.sum_congr rfl fun k _ => ?_)
  rw [reference10_gated, show lidx_main_v5 i k = ix2 (i 0) k from eq_ix2 _]
  exact congrArg (_ * ·) (congrArg x2 (eq_ix2 _))

theorem reference10_added (i : Cert.Reference10Ideal.S8192x1024.Idx) :
    val_main_v21 (F := Ideal) x0 x1 x2 x3 x4 i
      = x3 i + scaled (fun k => val_main_v5 (F := Ideal) x0 x1 x2 (ix2 (i 0) k)) (fun k => x4 (ix2 0 k)) width (i 1) := by
  rw [val_main_v21_apply, val_main_v20_apply, val_main_v17_apply, val_main_v19_apply, val_main_v18_apply,
    val_main_v16_apply, val_main_v15_apply, val_main_v14_apply, val_main_v12_apply, val_main_v10_apply,
    val_main_v9_apply, val_main_v7_apply]
  simp only [pointwise]
  unfold scaled rms meanSq
  refine congrArg (x3 i + ·) (congrArg₂ (fun a b : EReal => a * b) (congrArg₂ (fun a b : EReal => a * b)
    (congrArg (val_main_v5 (F := Ideal) x0 x1 x2) (eq_ix2 i))
    (congrArg Ideal.rsqrt (congrArg₂ (fun a b : EReal => a + b) (congrArg₂ Ideal.div ?_ rfl) rfl)))
    (congrArg x4 (ix2_of rfl (Nat.mod_eq_of_lt (i 1).isLt))))
  refine (congrArg₂ (fun a b : EReal => a + b) Ideal.ofBits_zero_f32 (Finset.sum_congr rfl fun k _ => ?_)).trans
    (zero_add _)
  exact congrArg (fun a : EReal => a * a) (congrArg (val_main_v5 (F := Ideal) x0 x1 x2) (eq_ix2 _))

end

theorem algebraic10 : Cert.algebraic_Kernel10Ideal_Reference10Ideal := fun m g m' g' _ hagree =>
  ⟨fun c => (Cert.Kernel10Ideal.Gen.dats m 0 c).arrAt 5 Cert.Kernel10Ideal.cfg0.N,
    fun c => (Cert.Kernel10Ideal.Gen.dats m 0 c).arrAt 6 Cert.Kernel10Ideal.cfg0.N,
    Cert.Kernel10Ideal.Value.run_blocks m g,
    (θ_run (Cert.Reference10Ideal.defs (F := Ideal)) _ _).mono (fun r h c => by
      obtain ⟨a0, a1, a2, a3, a4⟩ := hagree c
      refine ⟨(h c).1.trans ?_, (h c).2.1.trans ?_, (h c).2.2⟩
      · rw [a0, a1, a2]
        refine (val_main_v6_eq (F := Ideal) _ _ _).trans (Eq.trans ?_ (Cert.Kernel10Ideal.Rows.result5 m c).symm)
        exact funext fun i => (val_main_v6_apply _ _ _ i).trans (reference10_product _ _ _ i)
      · rw [a0, a1, a2, a3, a4]
        refine (val_main_v21_eq (F := Ideal) _ _ _ _ _).trans (Eq.trans ?_ (Cert.Kernel10Ideal.Rows.result6 m c).symm)
        funext i
        refine (reference10_added _ _ _ _ _ i).trans (congrArg₂ (fun a b : EReal => a + b) (congrArg _ (eq_ix2 i)) ?_)
        exact congrArg (scaled · _ _ _) (funext fun k => reference10_product _ _ _ _))
    (Cert.Reference10Ideal.Value.run m' g')⟩

end Cert.Proof

end
-- ==== Proof.PleGrad11.lean ====
/- The gradient of the gated embedding: block of rows by block of rows, the kernel writes the gradients
   of the embedding, of the gate and of its input, and adds up the gradient of the normalisation's scale. -/
module

public import proofs.«01_k».proof.Defs
public import proofs.«01_k».proof.Proof.Blocks
public import proofs.«01_k».proof.Proof.Norm
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Tactic
public import Idealize.ShloMosaic.Lib.Pipeline.ValueKit

@[expose] public section

noncomputable section

namespace Cert.Norm

open Idealize.ShloMosaic

/-- The gradient `d` of `y` times the logistic value of `x`, carried to `x`: as the kernel writes it, and as
    the reference does. -/
def slope (d y x : EReal) : EReal := d * y * sigR x * (one - sigR x)

theorem slope_eq (d y x : EReal) : slope d y x = y * d * (sigR x * (one - sigR x)) := by
  unfold slope
  rw [mul_comm d y, mul_assoc (y * d)]

end Cert.Norm

namespace Cert.Kernel11Ideal.Rows

open Cert.Kernel11Ideal Cert.Kernel11Ideal.Gen Cert.Kernel11Ideal.Value Cert.Blocks Cert.Norm
open Idealize.ShloMosaic Idealize.ShloMosaic.TcCoe Idealize.SL.Sem

section
variable (d x : Vec Ideal S512x1024 .f32) (pg pe : Vec Ideal S512x1024 .bf16) (g : Vec Ideal S1x1024 .f32)
  (w : Vec Ideal S1024x1024 .bf16)

theorem pay4_apply (j : Fin 1024) : (k0_pay4 (F := Ideal)) (ix2 0 j) = 0 := Ideal.ofBits_zero_f32

theorem pay6_apply (i : S512x1024.Idx) : k0_pay6 pg i = sigR (pg i) := by
  unfold k0_pay6
  simp only [pointwise]
  exact sigK_eq _

theorem pay7_apply (i : S512x1024.Idx) : k0_pay7 d pg i = d i * sigR (pg i) := by
  unfold k0_pay7
  exact congrArg (fun a : EReal => d i * a) (pay6_apply pg i)

theorem pay8_apply (i : S512x1024.Idx) : k0_pay8 d pg pe i = slope (d i) (pe i) (pg i) := by
  unfold k0_pay8 Cert.Norm.slope
  rw [← pay6_apply]
  rfl

theorem pay9_apply (r : Fin 512) (j : Fin 1024) :
    k0_pay9 d pg pe w (ix2 r j)
      = ∑ k, slope (d (ix2 r k)) (pe (ix2 r k)) (pg (ix2 r k)) * w (ix2 j k) := by
  unfold k0_pay9
  simp only [pointwise, zero_apply, zero_add, pay8_apply]

theorem pay5_apply (dy : FVec Ideal S512x1024 .f32) (old : Vec Ideal S1x1024 .f32) (j : Fin 1024) :
    k0_pay5 dy x (k0_pay10 x) old (ix2 0 j)
      = old (ix2 0 j) + ∑ r, dy (ix2 r j) * (x (ix2 r j) * rms (fun k => x (ix2 r k)) width) := by
  unfold k0_pay5 k0_pay2 k0_pay1 k0_pay10
  simp only [pointwise, zero_apply, zero_add]
  rfl

theorem pay3_apply (dy : FVec Ideal S512x1024 .f32) (r : Fin 512) (j : Fin 1024) :
    k0_pay3 d dy x g (k0_pay10 x) (ix2 r j)
      = d (ix2 r j) + backK (fun k => x (ix2 r k)) (fun k => dy (ix2 r k)) (fun k => g (ix2 0 k)) width j := by
  unfold k0_pay3 k0_pay2 k0_pay1 k0_pay10
  simp only [pointwise, zero_apply, zero_add]
  rfl

end

variable (m : (ℓ : Loc nD τ sig) → Buf (Elt Ideal) ℓ) (c : Dev nD)

def arg0 : Vec Ideal S8192x1024 .f32 := m ((c : Thread nD τ).loc main_arg0)
def arg1 : Vec Ideal S8192x1024 .f32 := m ((c : Thread nD τ).loc main_arg1)
def arg2 : Vec Ideal S8192x1024 .bf16 := m ((c : Thread nD τ).loc main_arg2)
def arg3 : Vec Ideal S8192x1024 .bf16 := m ((c : Thread nD τ).loc main_arg3)
def arg4 : Vec Ideal S1x1024 .f32 := m ((c : Thread nD τ).loc main_arg4)
def arg5 : Vec Ideal S1024x1024 .bf16 := m ((c : Thread nD τ).loc main_arg5)

/-- A row's gradients: of the embedding, of the gate, of the normalised row, of the row itself; and its part
    in the scale's gradient. -/
def emb (R : Fin 8192) (j : Fin 1024) : EReal := arg0 m c (ix2 R j) * sigR (arg2 m c (ix2 R j))
def gate (R : Fin 8192) (j : Fin 1024) : EReal :=
  slope (arg0 m c (ix2 R j)) (arg3 m c (ix2 R j)) (arg2 m c (ix2 R j))
def above (R : Fin 8192) (j : Fin 1024) : EReal := ∑ k, gate m c R k * arg5 m c (ix2 j k)
def below (R : Fin 8192) (j : Fin 1024) : EReal :=
  arg0 m c (ix2 R j) + backK (fun k => arg1 m c (ix2 R k)) (above m c R) (fun k => arg4 m c (ix2 0 k)) width j
def scale (j : Fin 1024) (R : Fin 8192) : EReal :=
  above m c R j * (arg1 m c (ix2 R j) * rms (fun k => arg1 m c (ix2 R k)) width)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

theorem block0 (t : Fin cfg0.N) (r : Fin 512) (k : Fin 1024) :
    (iblk m c 0 t : Vec Ideal S512x1024 .f32) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 512) (k : Fin 1024) :
    (iblk m c 1 t : Vec Ideal S512x1024 .f32) (ix2 r k) = arg1 m c (ix2 (row (t.val * 512 + r.val)) k) := by
  have ht : t.val < 16 := lt_of_lt_of_eq t.isLt N_0
  blk_simp [iblk]
  refine (congrFun (V_main_arg1 m c) _).trans (congrArg (arg1 m c) ?_)
  blk_ext [index1]
  exact row_val (by omega)

theorem block2 (t : Fin cfg0.N) (r : Fin 512) (k : Fin 1024) :
    (iblk m c 2 t : Vec Ideal S512x1024 .bf16) (ix2 r k) = arg2 m c (ix2 (row (t.val * 512 + r.val)) k) := by
  have ht : t.val < 16 := lt_of_lt_of_eq t.isLt N_0
  blk_simp [iblk]
  refine (congrFun (V_main_arg2 m c) _).trans (congrArg (arg2 m c) ?_)
  blk_ext [index2]
  exact row_val (by omega)

theorem block3 (t : Fin cfg0.N) (r : Fin 512) (k : Fin 1024) :
    (iblk m c 3 t : Vec Ideal S512x1024 .bf16) (ix2 r k) = arg3 m c (ix2 (row (t.val * 512 + r.val)) k) := by
  have ht : t.val < 16 := lt_of_lt_of_eq t.isLt N_0
  blk_simp [iblk]
  refine (congrFun (V_main_arg3 m c) _).trans (congrArg (arg3 m c) ?_)
  blk_ext [index3]
  exact row_val (by omega)

theorem block4 (t : Fin cfg0.N) : (iblk m c 4 t : Vec Ideal S1x1024 .f32) = arg4 m c := by
  funext y
  blk_simp [iblk]
  refine (congrFun (V_main_arg4 m c) _).trans (congrArg (arg4 m c) ?_)
  blk_ext [index4]

theorem block5 (t : Fin cfg0.N) : (iblk m c 5 t : Vec Ideal S1024x1024 .bf16) = arg5 m c := by
  funext y
  blk_simp [iblk]
  refine (congrFun (V_main_arg5 m c) _).trans (congrArg (arg5 m c) ?_)
  blk_ext [index5]

/-- The gradient of the normalised rows that a block's bodies compute. -/
def dy (t : Fin cfg0.N) : FVec Ideal S512x1024 .f32 := k0_pay9 (iblk m c 0 t) (iblk m c 2 t) (iblk m c 3 t) (iblk m c 5 t)

/-- What a block's bodies compute, in terms of the arguments' rows. -/
theorem stored7 (t : Fin cfg0.N) (r : Fin 512) (j : Fin 1024) :
    k0_pay7 (iblk m c 0 t) (iblk m c 2 t) (ix2 r j) = emb m c (row (t.val * 512 + r.val)) j := by
  refine (pay7_apply _ _ _).trans ?_
  unfold emb
  rw [block0, block2]

theorem stored8 (t : Fin cfg0.N) (r : Fin 512) (j : Fin 1024) :
    k0_pay8 (iblk m c 0 t) (iblk m c 2 t) (iblk m c 3 t) (ix2 r j) = gate m c (row (t.val * 512 + r.val)) j := by
  refine (pay8_apply _ _ _ _).trans ?_
  unfold gate
  rw [block0, block2, block3]

theorem stored9 (t : Fin cfg0.N) (r : Fin 512) (j : Fin 1024) :
    dy m c t (ix2 r j) = above m c (row (t.val * 512 + r.val)) j := by
  unfold dy
  rw [block5]
  refine (pay9_apply _ _ _ _ r j).trans ?_
  unfold above gate
  simp only [block0, block2, block3]

theorem stored5 (t : Fin cfg0.N) (old : Vec Ideal S1x1024 .f32) (j : Fin 1024) :
    k0_pay5 (dy m c t) (iblk m c 1 t) (k0_pay10 (iblk m c 1 t)) old (ix2 0 j)
      = old (ix2 0 j) + ∑ r : Fin 512, scale m c j (row (t.val * 512 + r.val)) := by
  refine (pay5_apply _ _ _ j).trans (congrArg (fun a : EReal => _ + a) (Finset.sum_congr rfl fun r _ => ?_))
  unfold scale
  simp only [stored9, block1]

theorem stored3 (t : Fin cfg0.N) (r : Fin 512) (j : Fin 1024) :
    k0_pay3 (iblk m c 0 t) (dy m c t) (iblk m c 1 t) (iblk m c 4 t) (k0_pay10 (iblk m c 1 t)) (ix2 r j)
      = below m c (row (t.val * 512 + r.val)) j := by
  rw [block4]
  refine (pay3_apply _ _ _ _ r j).trans ?_
  unfold below
  simp only [stored9, block0, block1]

theorem after6 (t : Fin cfg0.N) :
    (outsAt0 m c t.val t.isLt).1 = k0_pay7 (iblk m c 0 t) (iblk m c 2 t) := by
  by_cases h : t.val % 16 = 0
  · rw [outsAt0_A m c t h]; frame_out
  · rw [outsAt0_B m c t h]; frame_out

theorem result6 : ((dats m 0 c).arrAt 6 cfg0.N : Vec Ideal S8192x1024 .bf16) = fun i => emb m c (i 0) (i 1) := by
  refine (dats m 0 c).arrAt_eq_of_covers 6 _ (by decide +kernel) fun t hf y => ?_
  have ht : t.val < 16 := lt_of_lt_of_eq t.isLt N_0
  blk_simp
  rw [after0_6, after6]
  have e : (win0_6.blk t).view.emb y = ix2 (row (t.val * 512 + (y 0).val)) (y 1) := by
    idx_bounds y
    blk_ext [index6]
    exact row_val (by omega)
  show _ = (fun i => emb m c (i 0) (i 1)) ((win0_6.blk t).view.emb y)
  rw [e]
  exact (congrArg (k0_pay7 _ _) (eq_ix2 y)).trans (stored7 m c t (y 0) (y 1))

theorem after7 (t : Fin cfg0.N) :
    (outsAt0 m c t.val t.isLt).2.1 = k0_pay8 (iblk m c 0 t) (iblk m c 2 t) (iblk m c 3 t) := by
  by_cases h : t.val % 16 = 0
  · rw [outsAt0_A m c t h]; frame_out
  · rw [outsAt0_B m c t h]; frame_out

theorem result7 : ((dats m 0 c).arrAt 7 cfg0.N : Vec Ideal S8192x1024 .bf16) = fun i => gate m c (i 0) (i 1) := by
  refine (dats m 0 c).arrAt_eq_of_covers 7 _ (by decide +kernel) fun t hf y => ?_
  have ht : t.val < 16 := lt_of_lt_of_eq t.isLt N_0
  blk_simp
  rw [after0_7, after7]
  have e : (win0_7.blk t).view.emb y = ix2 (row (t.val * 512 + (y 0).val)) (y 1) := by
    idx_bounds y
    blk_ext [index7]
    exact row_val (by omega)
  show _ = (fun i => gate m c (i 0) (i 1)) ((win0_7.blk t).view.emb y)
  rw [e]
  exact (congrArg (k0_pay8 _ _ _) (eq_ix2 y)).trans (stored8 m c t (y 0) (y 1))

theorem after8 (t : Fin cfg0.N) :
    (outsAt0 m c t.val t.isLt).2.2.1 = k0_pay3 (iblk m c 0 t) (dy m c t) (iblk m c 1 t) (iblk m c 4 t) (k0_pay10 (iblk m c 1 t)) := by
  by_cases h : t.val % 16 = 0
  · rw [outsAt0_A m c t h]; frame_out; rfl
  · rw [outsAt0_B m c t h]; frame_out; rfl

theorem result8 : ((dats m 0 c).arrAt 8 cfg0.N : Vec Ideal S8192x1024 .f32) = fun i => below m c (i 0) (i 1) := by
  refine (dats m 0 c).arrAt_eq_of_covers 8 _ (by decide +kernel) fun t hf y => ?_
  have ht : t.val < 16 := lt_of_lt_of_eq t.isLt N_0
  blk_simp
  rw [after0_8, after8]
  have e : (win0_8.blk t).view.emb y = ix2 (row (t.val * 512 + (y 0).val)) (y 1) := by
    idx_bounds y
    blk_ext [index8]
    exact row_val (by omega)
  show _ = (fun i => below m c (i 0) (i 1)) ((win0_8.blk t).view.emb y)
  rw [e]
  exact (congrArg (k0_pay3 _ _ _ _ _) (eq_ix2 y)).trans (stored3 m c t (y 0) (y 1))

/-- The scale's gradient after a block: the block's rows added to what was there. -/
theorem first9 (t : Fin cfg0.N) (h : t.val % 16 = 0) (j : Fin 1024) :
    (outsAt0 m c t.val t.isLt).2.2.2 (ix2 0 j) = ∑ r : Fin 512, scale m c j (row (t.val * 512 + r.val)) := by
  rw [outsAt0_A m c t h]; frame_out
  refine (stored5 m c t _ j).trans ?_
  rw [pay4_apply, zero_add]

theorem later9 (t : Fin cfg0.N) (h : ¬t.val % 16 = 0) (j : Fin 1024) :
    (outsAt0 m c t.val t.isLt).2.2.2 (ix2 0 j)
      = (outsAt0 m c (t.val - 1) (Nat.lt_of_le_of_lt (Nat.sub_le _ _) t.isLt)).2.2.2 (ix2 0 j)
        + ∑ r : Fin 512, scale m c j (row (t.val * 512 + r.val)) := by
  rw [outsAt0_B m c t h]; frame_out
  exact stored5 m c t _ j

theorem after9 (n : ℕ) (h : n < cfg0.N) (j : Fin 1024) :
    (outsAt0 m c n h).2.2.2 (ix2 0 j) = ∑ r ∈ Finset.range ((n + 1) * 512), scale m c j (row r) :=
  carried 512 cfg0.N (fun n h j => (outsAt0 m c n h).2.2.2 (ix2 0 j)) (fun j r => scale m c j (row r))
    (fun h j => first9 m c ⟨0, h⟩ rfl j)
    (fun n h j => later9 m c ⟨n + 1, h⟩ (by have := lt_of_lt_of_eq h N_0; show ¬(n + 1) % 16 = 0; omega) j) n h j

theorem result9 : ((dats m 0 c).arrAt 9 cfg0.N : Vec Ideal S1x1024 .f32) = fun i => ∑ R, scale m c (i 1) R := by
  refine (dats m 0 c).arrAt_eq_of_after_last 9 ⟨15, lt_of_lt_of_eq (by decide) N_0.symm⟩ (by decide +kernel) _ fun y => ?_
  rw [after0_9]
  refine (congrArg (outsAt0 m c 15 _).2.2.2 (ix2_of (r := 0) (c := y 1) ?_ rfl)).trans ((after9 m c 15 _ (y 1)).trans ?_)
  · exact Nat.lt_one_iff.mp (y 0).isLt
  · exact all_rows (scale m c (y 1))

end Cert.Kernel11Ideal.Rows

namespace Cert.Proof

open Cert.Reference11Ideal.Read Cert.Norm Cert.Blocks
open Idealize.ShloMosaic Idealize.SL.Sem

section
variable (x0 x1 : (⟨Cert.Reference11Ideal.S8192x1024, .f32⟩ : BufTy).Contents (Elt Ideal))
  (x2 x3 : (⟨Cert.Reference11Ideal.S8192x1024, .bf16⟩ : BufTy).Contents (Elt Ideal))
  (x4 : (⟨Cert.Reference11Ideal.S1x1024, .f32⟩ : BufTy).Contents (Elt Ideal))
  (x5 : (⟨Cert.Reference11Ideal.S1024x1024, .bf16⟩ : BufTy).Contents (Elt Ideal))

theorem reference11_sig (i : Cert.Reference11Ideal.S8192x1024.Idx) : val_main_v8 (F := Ideal) x2 i = sigR (x2 i) := by
  rw [val_main_v8_apply, val_main_v7_apply, val_main_v6_apply, val_main_v5_apply, val_main_v4_apply, val_main_v3_apply,
    val_main_v0_apply]
  rfl

theorem reference11_emb (i : Cert.Reference11Ideal.S8192x1024.Idx) :
    val_main_v56 (F := Ideal) x0 x2 i = x0 i * sigR (x2 i) :=
  (val_main_v56_apply x0 x2 i).trans ((val_main_v14_apply x0 x2 i).trans
    (congrArg (fun a : EReal => x0 i * a) (reference11_sig x2 i)))

theorem reference11_gate (i : Cert.Reference11Ideal.S8192x1024.Idx) :
    val_main_v15 (F := Ideal) x0 x2 x3 i = slope (x0 i) (x3 i) (x2 i) := by
  rw [val_main_v15_apply, val_main_v13_apply, val_main_v11_apply, val_main_v10_apply, val_main_v9_apply,
    val_main_v1_apply, reference11_sig]
  exact (slope_eq _ _ _).symm

theorem reference11_meanSq (i : Cert.Reference11Ideal.S8192x1.Idx) :
    val_main_v23 (F := Ideal) x1 i = meanSq (fun k => x1 (ix2 (i 0) k)) width := by
  rw [val_main_v23_apply, val_main_v21_apply, val_main_v19_apply, val_main_v18_apply]
  unfold meanSq
  refine congrArg₂ (fun a b : EReal => a + b) (congrArg₂ Ideal.div ?_ rfl) rfl
  refine (congrArg₂ (fun a b : EReal => a + b) Ideal.ofBits_zero_f32 (Finset.sum_congr rfl fun k _ => ?_)).trans
    (zero_add _)
  exact congrArg (fun a : EReal => a * a) (congrArg x1 (eq_ix2 _))

theorem reference11_rms (i : Cert.Reference11Ideal.S8192x1.Idx) :
    val_main_v24 (F := Ideal) x1 i = rms (fun k => x1 (ix2 (i 0) k)) width :=
  (val_main_v24_apply x1 i).trans (congrArg Ideal.rsqrt (reference11_meanSq x1 i))

theorem reference11_above (i : Cert.Reference11Ideal.S8192x1024.Idx) :
    val_main_v34 (F := Ideal) x0 x2 x3 x5 i
      = ∑ k : Fin 1024, slope (x0 (ix2 (i 0) k)) (x3 (ix2 (i 0) k)) (x2 (ix2 (i 0) k)) * x5 (ix2 (i 1) k) := by
  refine (val_main_v34_apply x0 x2 x3 x5 i).trans (Finset.sum_congr rfl fun k _ => ?_)
  rw [val_main_v2_apply]
  exact congrArg₂ (fun a b : EReal => a * b)
    ((congrArg (val_main_v15 (F := Ideal) x0 x2 x3) (eq_ix2 _)).trans (reference11_gate x0 x2 x3 _)) (congrArg x5 (eq_ix2 _))

theorem reference11_scaled (i : Cert.Reference11Ideal.S8192x1024.Idx) :
    val_main_v39 (F := Ideal) x0 x2 x3 x4 x5 i = val_main_v34 (F := Ideal) x0 x2 x3 x5 i * x4 (ix2 0 (i 1)) := by
  rw [val_main_v39_apply, val_main_v38_apply, val_main_v30_apply, val_main_v16_apply]
  exact congrArg (fun a : EReal => _ * a) (congrArg x4 (ix2_of rfl (Nat.mod_eq_of_lt (i 1).isLt)))

theorem reference11_share (i : Cert.Reference11Ideal.S8192.Idx) :
    val_main_v50 (F := Ideal) x0 x1 x2 x3 x4 x5 i
      = shareR (fun k => x1 (ix2 (i 0) k)) (fun k => val_main_v34 (F := Ideal) x0 x2 x3 x5 (ix2 (i 0) k))
          (fun k => x4 (ix2 0 k)) width := by
  rw [val_main_v50_apply, Fin.sum_univ_one]
  refine (congrArg₂ (fun a b : EReal => a + b) Ideal.ofBits_zero_f32 ?_).trans (zero_add _)
  rw [val_main_v49_apply, val_main_v47_apply, val_main_v43_apply, val_main_v42_apply, val_main_v27_apply,
    val_main_v25_apply, reference11_rms, reference11_meanSq]
  unfold shareR
  refine congrArg₂ Ideal.div (congrArg₂ (fun a b : EReal => a * b) ?_ rfl) rfl
  refine (congrArg₂ (fun a b : EReal => a + b) Ideal.ofBits_zero_f32 (Finset.sum_congr rfl fun k _ => ?_)).trans
    (zero_add _)
  rw [val_main_v41_apply, reference11_scaled]
  have e : idx_main_v42 (idx_main_v43 (idx_main_v50 i 0)) k = ix2 (i 0) k := ix2_of (Nat.mul_one _) rfl
  rw [e]
  rfl

theorem reference11_below (dy : Fin 8192 → Fin 1024 → EReal)
    (e : (fun R j => val_main_v34 (F := Ideal) x0 x2 x3 x5 (ix2 R j)) = dy) (R : Fin 8192) (j : Fin 1024) :
    val_main_v55 (F := Ideal) x0 x1 x2 x3 x4 x5 (ix2 R j)
      = x0 (ix2 R j) + dy R j * x4 (ix2 0 j) * rms (fun k => x1 (ix2 R k)) width
        + x1 (ix2 R j) * shareR (fun k => x1 (ix2 R k)) (dy R) (fun k => x4 (ix2 0 k)) width
        + shareR (fun k => x1 (ix2 R k)) (dy R) (fun k => x4 (ix2 0 k)) width * x1 (ix2 R j) := by
  subst e
  rw [val_main_v55_apply, val_main_v53_apply, val_main_v46_apply, val_main_v45_apply, val_main_v44_apply,
    val_main_v52_apply, val_main_v54_apply, val_main_v51_apply, reference11_rms, reference11_scaled, reference11_share]
  rfl

theorem reference11_scale (dy : Fin 8192 → Fin 1024 → EReal)
    (e : (fun R j => val_main_v34 (F := Ideal) x0 x2 x3 x5 (ix2 R j)) = dy) (i : Cert.Reference11Ideal.S1x1024.Idx) :
    val_main_v58 (F := Ideal) x0 x1 x2 x3 x5 i
      = ∑ R : Fin 8192, dy R (i 1) * (x1 (ix2 R (i 1)) * rms (fun k => x1 (ix2 R k)) width) := by
  subst e
  rw [val_main_v58_apply, val_main_v40_apply, Fin.sum_univ_one]
  refine (congrArg₂ (fun a b : EReal => a + b) Ideal.ofBits_zero_f32 ?_).trans (zero_add _)
  rw [val_main_v37_apply, val_main_v36_apply]
  refine (congrArg₂ (fun a b : EReal => a + b) Ideal.ofBits_zero_f32 (Finset.sum_congr rfl fun R _ => ?_)).trans
    (zero_add _)
  refine (congrArg (val_main_v35 (F := Ideal) x0 x1 x2 x3 x5) (ix2_of (r := R) (c := i 1) rfl
    ((congrArg (· + (i 1).val) (Nat.zero_mul 1024)).trans (Nat.zero_add _)))).trans ?_
  refine (val_main_v35_apply x0 x1 x2 x3 x5 _).trans ((congrArg (fun a : EReal => a * _)
    ((val_main_v29_apply x1 _).trans (congrArg (fun a : EReal => _ * a)
      ((val_main_v28_apply x1 _).trans (reference11_rms x1 _))))).trans (mul_comm (_ : EReal) _))

end

theorem algebraic11 : Cert.algebraic_Kernel11Ideal_Reference11Ideal :=
  fun m g m' g' _ hagree =>
  ⟨fun c => (Cert.Kernel11Ideal.Gen.dats m 0 c).arrAt 6 Cert.Kernel11Ideal.cfg0.N,
    fun c => (Cert.Kernel11Ideal.Gen.dats m 0 c).arrAt 7 Cert.Kernel11Ideal.cfg0.N,
    fun c => (Cert.Kernel11Ideal.Gen.dats m 0 c).arrAt 8 Cert.Kernel11Ideal.cfg0.N,
    fun c => (Cert.Kernel11Ideal.Gen.dats m 0 c).arrAt 9 Cert.Kernel11Ideal.cfg0.N,
    Cert.Kernel11Ideal.Value.run_blocks m g,
    (θ_run (Cert.Reference11Ideal.defs (F := Ideal)) _ _).mono (fun r h c => by
      obtain ⟨a0, a1, a2, a3, a4, a5⟩ := hagree c
      refine ⟨(h c).1.trans ?_, (h c).2.1.trans ?_, (h c).2.2.1.trans ?_, (h c).2.2.2.1.trans ?_, (h c).2.2.2.2⟩
      · rw [a0, a2]
        refine (val_main_v56_eq (F := Ideal) _ _).trans (Eq.trans ?_ (Cert.Kernel11Ideal.Rows.result6 m c).symm)
        funext i
        exact (congrArg (val_main_v56 (F := Ideal) _ _) (eq_ix2 i)).trans (reference11_emb _ _ _)
      · rw [a0, a2, a3]
        refine (val_main_v57_eq (F := Ideal) _ _ _).trans (Eq.trans ?_ (Cert.Kernel11Ideal.Rows.result7 m c).symm)
        funext i
        exact (congrArg (val_main_v15 (F := Ideal) _ _ _) (eq_ix2 i)).trans (reference11_gate _ _ _ _)
      · refine (val_main_v55_eq (F := Ideal) m' c).trans (Eq.trans ?_ (Cert.Kernel11Ideal.Rows.result8 m c).symm)
        rw [a0, a1, a2, a3, a4, a5]
        funext i
        refine (congrArg (val_main_v55 (F := Ideal) _ _ _ _ _ _) (eq_ix2 i)).trans
          ((reference11_below _ _ _ _ _ _ (Cert.Kernel11Ideal.Rows.above m c)
            (funext fun R => funext fun j => reference11_above _ _ _ _ (ix2 R j)) (i 0) (i 1)).trans ?_)
        exact added_back_eq (fun k => Cert.Kernel11Ideal.Rows.arg1 m c (ix2 (i 0) k)) (Cert.Kernel11Ideal.Rows.above m c (i 0))
          (fun k => Cert.Kernel11Ideal.Rows.arg4 m c (ix2 0 k)) _ _
      · rw [a0, a1, a2, a3, a5]
        refine (val_main_v58_eq (F := Ideal) _ _ _ _ _).trans (Eq.trans ?_ (Cert.Kernel11Ideal.Rows.result9 m c).symm)
        funext i
        exact reference11_scale _ _ _ _ _ (Cert.Kernel11Ideal.Rows.above m c)
          (funext fun R => funext fun j => reference11_above _ _ _ _ (ix2 R j)) i)
    (Cert.Reference11Ideal.Value.run m' g')⟩

end Cert.Proof

end
-- ==== Proof.PleWeight12.lean ====
/- The gradient of the embedding's weights: the kernel adds, block of rows by block of rows, the products
   of the embedded inputs with the gradients, and what it writes back at the last block is the sum over
   all the rows. -/
module

public import proofs.«01_k».proof.Defs
public import proofs.«01_k».proof.Proof.Blocks
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Tactic
public import Idealize.ShloMosaic.Lib.Pipeline.ValueKit
public import Idealize.ShloMosaic.Lib.Pipeline.ReadBack

@[expose] public section

noncomputable section

namespace Cert.Kernel12Ideal.Grad

open Cert.Kernel12Ideal Cert.Kernel12Ideal.Gen Cert.Kernel12Ideal.Value Cert.Blocks
open Idealize.ShloMosaic Idealize.ShloMosaic.TcCoe Idealize.SL.Sem

section
variable (acc : Vec Ideal S256x1024 .f32) (x : Vec Ideal S1024x256 .f32) (dy : Vec Ideal S1024x1024 .bf16)
  (i : S256x1024.Idx)

theorem pay1_apply : k0_pay1 x dy i = ∑ k : Fin 1024, x (ix2 k (i 0)) * dy (ix2 k (i 1)) := by
  unfold k0_pay1
  simp only [shapeCast_self]
  simp only [pointwise, zero_apply, zero_add]

theorem pay2_apply : k0_pay2 acc x dy i = acc i + ∑ k : Fin 1024, x (ix2 k (i 0)) * dy (ix2 k (i 1)) := by
  unfold k0_pay2
  simp only [shapeCast_self]
  simp only [pointwise, zero_apply, zero_add]

theorem pay3_eq : k0_pay3 acc = acc := rfl

end

variable (m : (ℓ : Loc nD τ sig) → Buf (Elt Ideal) ℓ) (c : Dev nD)

/-- The embedded inputs and the gradients, and one row's product of them. -/
def arg0 : Vec Ideal S8192x256 .f32 := m ((c : Thread nD τ).loc main_arg0)
def arg1 : Vec Ideal S8192x1024 .bf16 := m ((c : Thread nD τ).loc main_arg1)
def term (i : S256x1024.Idx) (k : Fin 8192) : EReal := arg0 m c (ix2 k (i 0)) * arg1 m c (ix2 k (i 1))

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])

theorem block0 (t : Fin cfg0.N) (r : Fin 1024) (k : Fin 256) :
    (iblk m c 0 t : Vec Ideal S1024x256 .f32) (ix2 r k) = arg0 m c (ix2 (row (t.val * 1024 + r.val)) k) := by
  have ht : t.val < 8 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 1024) (k : Fin 1024) :
    (iblk m c 1 t : Vec Ideal S1024x1024 .bf16) (ix2 r k) = arg1 m c (ix2 (row (t.val * 1024 + r.val)) k) := by
  have ht : t.val < 8 := lt_of_lt_of_eq t.isLt N_0
  blk_simp [iblk]
  refine (congrFun (V_main_arg1 m c) _).trans (congrArg (arg1 m c) ?_)
  blk_ext [index1]
  exact row_val (by omega)

/-- A block's product, at the arguments' rows. -/
theorem product_at (t : Fin cfg0.N) (i : S256x1024.Idx) (x : Vec Ideal S1024x256 .f32) (dy : Vec Ideal S1024x1024 .bf16)
    (hx : x = iblk m c 0 t) (hy : dy = iblk m c 1 t) :
    ∑ k : Fin 1024, x (ix2 k (i 0)) * dy (ix2 k (i 1)) = ∑ k : Fin 1024, term m c i (row (t.val * 1024 + k.val)) :=
  Finset.sum_congr rfl fun k _ =>
    congrArg₂ (fun a b : EReal => a * b) (hx ▸ block0 m c t k (i 0)) (hy ▸ block1 m c t k (i 1))

theorem first2 (t : Fin cfg0.N) (h : t.val = 0) (i : S256x1024.Idx) :
    (outsAt0 m c t.val t.isLt).2 i = ∑ k : Fin 1024, term m c i (row (t.val * 1024 + k.val)) := by
  rw [outsAt0_A m c t (by omega) (by omega) (by omega)]; frame_out
  exact (pay1_apply _ _ i).trans (product_at m c t i _ _ rfl rfl)

theorem later2 (t : Fin cfg0.N) (h : t.val ≠ 0) (i : S256x1024.Idx) :
    (outsAt0 m c t.val t.isLt).2 i = (outsAt0 m c (t.val - 1) (Nat.lt_of_le_of_lt (Nat.sub_le _ _) t.isLt)).2 i
      + ∑ k : Fin 1024, term m c i (row (t.val * 1024 + k.val)) := by
  have ht : t.val < 8 := lt_of_lt_of_eq t.isLt N_0
  refine Eq.trans ?_ ((pay2_apply _ (iblk m c 0 t) (iblk m c 1 t) i).trans (congrArg (_ + ·) (product_at m c t i _ _ rfl rfl)))
  by_cases hl : t.val % 8 = 7
  · rw [outsAt0_C m c t (by omega) (by omega) hl]; frame_out; rw [read_unread_whole]
  · rw [outsAt0_B m c t (by omega) (by omega) hl]; frame_out; rw [read_unread_whole]

/-- What is carried after a block: the sum over the rows so far. -/
theorem carried_eq (n : ℕ) (h : n < cfg0.N) (i : S256x1024.Idx) :
    (outsAt0 m c n h).2 i = ∑ r ∈ Finset.range ((n + 1) * 1024), term m c i (row r) :=
  carried 1024 cfg0.N (fun n h => (outsAt0 m c n h).2) (fun i r => term m c i (row r))
    (fun h i => first2 m c ⟨0, h⟩ rfl i) (fun n h i => later2 m c ⟨n + 1, h⟩ (Nat.succ_ne_zero n) i) n h i

theorem written (t : Fin cfg0.N) (h : t.val % 8 = 7) : (outsAt0 m c t.val t.isLt).1 = (outsAt0 m c t.val t.isLt).2 := by
  rw [outsAt0_C m c t (by omega) (by omega) h]; frame_out
  rw [pay3_eq]

/-- The array after the run: the sum over all the rows. -/
theorem result_apply (i : S256x1024.Idx) : (G2 m c : Vec Ideal S256x1024 .bf16) i = ∑ k : Fin 8192, term m c i k := by
  have h7 : 7 < cfg0.N := lt_of_lt_of_eq (by decide) N_0.symm
  have e : G2 m c = (outsAt0 m c 7 h7).1 := by rw [G2_last, outsAt0_sweep]
  rw [e, written m c ⟨7, h7⟩ rfl]
  exact (carried_eq m c 7 h7 i).trans (all_rows (term m c i))

end Cert.Kernel12Ideal.Grad

namespace Cert.Proof

open Cert.Reference12Ideal.Read
open Idealize.ShloMosaic Idealize.SL.Sem

/-- The reference's result at an index, the same sum. -/
theorem reference12_apply (x0 : (⟨Cert.Reference12Ideal.S8192x256, .f32⟩ : BufTy).Contents (Elt Ideal))
    (x1 : (⟨Cert.Reference12Ideal.S8192x1024, .bf16⟩ : BufTy).Contents (Elt Ideal)) (i : Cert.Reference12Ideal.S256x1024.Idx) :
    val_main_v5 (F := Ideal) x0 x1 i = ∑ k : Fin 8192, x0 (ix2 k (i 0)) * x1 (ix2 k (i 1)) := by
  rw [val_main_v5_apply, val_main_v4_apply]
  refine (val_main_v3_apply x0 x1 _).trans (Finset.sum_congr rfl fun k _ => ?_)
  rw [mul_comm]
  exact congrArg₂ (fun a b : EReal => a * b) (congrArg x0 (eq_ix2 _)) (congrArg x1 (eq_ix2 _))

theorem algebraic12 : Cert.algebraic_Kernel12Ideal_Reference12Ideal := fun m g m' g' _ hagree =>
  ⟨fun c => Cert.Kernel12Ideal.Value.G2 m c, Cert.Kernel12Ideal.Value.run m g,
    (θ_run (Cert.Reference12Ideal.defs (F := Ideal)) _ _).mono (fun r h c => by
      refine ⟨(h c).1.trans ?_, (h c).2⟩
      rw [(hagree c).1, (hagree c).2]
      refine (val_main_v5_eq (F := Ideal) _ _).trans ?_
      funext i
      exact (reference12_apply _ _ i).trans (Cert.Kernel12Ideal.Grad.result_apply m c i).symm)
    (Cert.Reference12Ideal.Value.run m' g')⟩

end Cert.Proof

end
-- ==== Proof.Mix.lean ====
/- The end of the mixing part of a layer: two halves of a row, each normalised by itself, joined, and
   multiplied with the weights. -/
module

public import proofs.«01_k».proof.Defs
public import proofs.«01_k».proof.Proof.Blocks
public import proofs.«01_k».proof.Proof.Norm
public import Idealize.ShloMosaic.Lib.Pipeline.Value
public import Idealize.ShloMosaic.Lib.ValueIdx
public import Idealize.ShloMosaic.Lib.Pointwise
public import Idealize.ShloMosaic.Lib.ValueLayout
public import Idealize.ShloMosaic.Lib.Tactic

@[expose] public section

noncomputable section

namespace Cert.Mix

open Cert.Norm
open Idealize.ShloMosaic Idealize.SL.Sem

/-- The length of a half. -/
abbrev halfWidth : EReal := Ideal.ofBits FTy.f32 1140850688#32

theorem halfWidth_eq : halfWidth = ((512 : ℝ) : EReal) := by
  simp [Ideal.ofBits, Ideal.ieee, -EReal.coe_mul]; norm_num

/-- The places of the two halves in a row. -/
def left (k : Fin 512) : Fin 1024 := ⟨k.val, by omega⟩
def right (k : Fin 512) : Fin 1024 := ⟨512 + k.val, by omega⟩

/-- A row of two halves. -/
def join (a b : Fin 512 → EReal) (j : Fin 1024) : EReal :=
  if h : j.val < 512 then a ⟨j.val, h⟩ else b ⟨j.val - 512, by omega⟩

theorem join_of_lt (a b : Fin 512 → EReal) (j : Fin 1024) (h : j.val < 512) : join a b j = a ⟨j.val, h⟩ := dif_pos h

theorem join_of_le (a b : Fin 512 → EReal) (j : Fin 1024) (h : ¬j.val < 512) :
    join a b j = b ⟨j.val - 512, by omega⟩ := dif_neg h

theorem join_left (a b : Fin 512 → EReal) (k : Fin 512) : join a b (left k) = a k := dif_pos k.isLt

theorem join_right (a b : Fin 512 → EReal) (k : Fin 512) : join a b (right k) = b k :=
  (dif_neg (show ¬512 + k.val < 512 by omega)).trans
    (congrArg b (Fin.ext (show 512 + k.val - 512 = k.val by omega)))

theorem concatenate_join {R : ℕ} {φ : FTy} (x y : FVec Ideal ⟨2, ![R, 512]⟩ φ)
    (h : Shape.Concatenates [⟨2, ![R, 512]⟩, ⟨2, ![R, 512]⟩] (⟨2, ![R, 1024]⟩ : Shape) 1) (r : Fin R) (j : Fin 1024) :
    concatenate (⟨2, ![R, 1024]⟩ : Shape) 1 [⟨⟨2, ![R, 512]⟩, x⟩, ⟨⟨2, ![R, 512]⟩, y⟩] h (ix2 r j)
      = join (fun k => x (ix2 r k)) (fun k => y (ix2 r k)) j := by
  by_cases h0 : j.val < 512
  · refine (concatenate_pair_apply_left 1 x y h (ix2 r j) rfl (ix2 r ⟨j.val, h0⟩) fun b => ?_).trans
      (join_of_lt (fun k => x (ix2 r k)) (fun k => y (ix2 r k)) j h0).symm
    match b with
    | ⟨0, _⟩ => rfl
    | ⟨1, _⟩ => rfl
  · refine (concatenate_pair_apply_right 1 x y h (ix2 r j) rfl rfl (ix2 r ⟨j.val - 512, by omega⟩)
      (fun b hb => ?_) ?_).trans (join_of_le (fun k => x (ix2 r k)) (fun k => y (ix2 r k)) j h0).symm
    · match b, hb with
      | ⟨0, _⟩, _ => rfl
      | ⟨1, _⟩, hb => exact absurd rfl hb
    · show j.val - 512 + 512 = j.val
      omega

/-- The joined normalised halves, and a row's product with the weights. -/
def heads (a b ga gg : Fin 512 → EReal) : Fin 1024 → EReal := join (scaled a ga halfWidth) (scaled b gg halfWidth)
def mixed (hd : Fin 1024 → EReal) (w : (⟨2, ![1024, 1024]⟩ : Shape).Idx → EReal) (j : Fin 1024) : EReal :=
  ∑ k : Fin 1024, hd k * w (ix2 k j)

end Cert.Mix

end
-- ==== Proof.MixOut13.lean ====
/- The end of the mixing part of a layer: block of rows by block of rows, the kernel writes the joined
   normalised halves, their product with the weights, and its input with the normalised product added. -/
module

public import proofs.«01_k».proof.Defs
public import proofs.«01_k».proof.Proof.Blocks
public import proofs.«01_k».proof.Proof.Norm
public import proofs.«01_k».proof.Proof.Mix
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Tactic
public import Idealize.ShloMosaic.Lib.Pipeline.ValueKit

@[expose] public section

noncomputable section

namespace Cert.Kernel13Ideal.Rows

open Cert.Kernel13Ideal Cert.Kernel13Ideal.Gen Cert.Kernel13Ideal.Value Cert.Blocks Cert.Norm Cert.Mix
open Idealize.ShloMosaic Idealize.ShloMosaic.TcCoe Idealize.SL.Sem

section
variable (a b : Vec Ideal S512x512 .bf16) (ga gg : Vec Ideal S1x512 .f32) (w : Vec Ideal S1024x1024 .bf16)
  (n h : Vec Ideal S512x1024 .f32) (g : Vec Ideal S1x1024 .f32) (r : Fin 512) (j : Fin 1024)

theorem pay2_apply : k0_pay2 a ga b gg (ix2 r j)
    = heads (fun k => a (ix2 r k)) (fun k => b (ix2 r k)) (fun k => ga (ix2 0 k)) (fun k => gg (ix2 0 k)) j := by
  unfold k0_pay2
  refine (concatenate_join _ _ concatenates_S512x512_S512x512_S512x1024_d1 r j).trans ?_
  unfold heads
  refine congrArg₂ (fun p q => join p q j) (funext fun k => ?_) (funext fun k => ?_)
  all_goals
    simp only [pointwise, zero_apply, zero_add]
    rfl

theorem pay3_apply : k0_pay3 a ga b gg w (ix2 r j) = mixed (fun k => k0_pay2 a ga b gg (ix2 r k)) w j := by
  unfold k0_pay3
  generalize k0_pay2 a ga b gg = n
  simp only [pointwise, zero_apply, zero_add]
  rfl

theorem pay4_eq : k0_pay4 a ga b gg w = k0_pay3 a ga b gg w := rfl

theorem pay1_apply : k0_pay1 n h g (ix2 r j)
    = h (ix2 r j) + scaled (fun k => n (ix2 r k)) (fun k => g (ix2 0 k)) width j := by
  unfold k0_pay1
  simp only [pointwise, zero_apply, zero_add]
  rfl

end

variable (m : (ℓ : Loc nD τ sig) → Buf (Elt Ideal) ℓ) (c : Dev nD)

def arg0 : Vec Ideal S8192x1024 .bf16 := m ((c : Thread nD τ).loc main_arg0)
def arg1 : Vec Ideal S8192x1024 .f32 := m ((c : Thread nD τ).loc main_arg1)
def arg2 : Vec Ideal S1x512 .f32 := m ((c : Thread nD τ).loc main_arg2)
def arg3 : Vec Ideal S1x512 .f32 := m ((c : Thread nD τ).loc main_arg3)
def arg4 : Vec Ideal S1024x1024 .bf16 := m ((c : Thread nD τ).loc main_arg4)
def arg5 : Vec Ideal S1x1024 .f32 := m ((c : Thread nD τ).loc main_arg5)

/-- A row's joined halves, their product with the weights, and the row the kernel adds it to. -/
def rowHeads (R : Fin 8192) : Fin 1024 → EReal :=
  heads (fun k => arg0 m c (ix2 R (left k))) (fun k => arg0 m c (ix2 R (right k)))
    (fun k => arg2 m c (ix2 0 k)) (fun k => arg3 m c (ix2 0 k))
def rowMixed (R : Fin 8192) : Fin 1024 → EReal := mixed (rowHeads m c R) (arg4 m c)
def added (R : Fin 8192) (j : Fin 1024) : EReal :=
  arg1 m c (ix2 R j) + scaled (rowMixed m c R) (fun k => arg5 m c (ix2 0 k)) width j

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

theorem block0 (t : Fin cfg0.N) (r : Fin 512) (k : Fin 1024) :
    (iblk m c 0 t : Vec Ideal S512x1024 .bf16) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 512) (k : Fin 1024) :
    (iblk m c 1 t : Vec Ideal S512x1024 .f32) (ix2 r k) = arg1 m c (ix2 (row (t.val * 512 + r.val)) k) := by
  have ht : t.val < 16 := lt_of_lt_of_eq t.isLt N_0
  blk_simp [iblk]
  refine (congrFun (V_main_arg1 m c) _).trans (congrArg (arg1 m c) ?_)
  blk_ext [index1]
  exact row_val (by omega)

theorem block2 (t : Fin cfg0.N) : (iblk m c 2 t : Vec Ideal S1x512 .f32) = arg2 m c := by
  funext y
  blk_simp [iblk]
  refine (congrFun (V_main_arg2 m c) _).trans (congrArg (arg2 m c) ?_)
  blk_ext [index2]

theorem block3 (t : Fin cfg0.N) : (iblk m c 3 t : Vec Ideal S1x512 .f32) = arg3 m c := by
  funext y
  blk_simp [iblk]
  refine (congrFun (V_main_arg3 m c) _).trans (congrArg (arg3 m c) ?_)
  blk_ext [index3]

theorem block4 (t : Fin cfg0.N) : (iblk m c 4 t : Vec Ideal S1024x1024 .bf16) = arg4 m c := by
  funext y
  blk_simp [iblk]
  refine (congrFun (V_main_arg4 m c) _).trans (congrArg (arg4 m c) ?_)
  blk_ext [index4]

theorem block5 (t : Fin cfg0.N) : (iblk m c 5 t : Vec Ideal S1x1024 .f32) = arg5 m c := by
  funext y
  blk_simp [iblk]
  refine (congrFun (V_main_arg5 m c) _).trans (congrArg (arg5 m c) ?_)
  blk_ext [index5]

/-- The two halves of a block, as the bodies load them. -/
abbrev half0 (t : Fin cfg0.N) : Vec Ideal S512x512 .bf16 := View.ld (iblk m c 0 t : Vec Ideal S512x1024 .bf16) r0_0
abbrev half1 (t : Fin cfg0.N) : Vec Ideal S512x512 .bf16 := View.ld (iblk m c 0 t : Vec Ideal S512x1024 .bf16) r0_2

theorem half0_apply (t : Fin cfg0.N) (r k : Fin 512) :
    half0 m c t (ix2 r k) = arg0 m c (ix2 (row (t.val * 512 + r.val)) (left k)) :=
  (View.ld_unit_apply_of _ _ _ _ (ix2 r k) (ix2 r (left k)) (by intro a; fin_cases a <;> simp [left])).trans
    (block0 m c t r (left k))

theorem half1_apply (t : Fin cfg0.N) (r k : Fin 512) :
    half1 m c t (ix2 r k) = arg0 m c (ix2 (row (t.val * 512 + r.val)) (right k)) :=
  (View.ld_unit_apply_of _ _ _ _ (ix2 r k) (ix2 r (right k)) (by intro a; fin_cases a <;> simp [right])).trans
    (block0 m c t r (right k))

/-- What a block's bodies store, in terms of the arguments' rows. -/
theorem stored2 (t : Fin cfg0.N) (r : Fin 512) (j : Fin 1024) :
    k0_pay2 (half0 m c t) (iblk m c 2 t) (half1 m c t) (iblk m c 3 t) (ix2 r j) = rowHeads m c (row (t.val * 512 + r.val)) j := by
  rw [block2, block3]
  refine (pay2_apply _ _ _ _ r j).trans ?_
  unfold rowHeads
  simp only [half0_apply, half1_apply]

theorem stored3 (t : Fin cfg0.N) (r : Fin 512) (j : Fin 1024) :
    k0_pay3 (half0 m c t) (iblk m c 2 t) (half1 m c t) (iblk m c 3 t) (iblk m c 4 t) (ix2 r j)
      = rowMixed m c (row (t.val * 512 + r.val)) j := by
  rw [block4]
  refine (pay3_apply _ _ _ _ _ r j).trans ?_
  unfold rowMixed
  simp only [stored2]

theorem stored1 (t : Fin cfg0.N) (r : Fin 512) (j : Fin 1024) :
    k0_pay1 (k0_pay3 (half0 m c t) (iblk m c 2 t) (half1 m c t) (iblk m c 3 t) (iblk m c 4 t)) (iblk m c 1 t) (iblk m c 5 t)
      (ix2 r j) = added m c (row (t.val * 512 + r.val)) j := by
  rw [block5]
  refine (pay1_apply _ _ _ r j).trans ?_
  unfold added
  simp only [block1, stored3]

theorem result6 : ((dats m 0 c).arrAt 6 cfg0.N : Vec Ideal S8192x1024 .bf16) = fun i => rowHeads m c (i 0) (i 1) := by
  refine (dats m 0 c).arrAt_eq_of_covers 6 _ (by decide +kernel) fun t hf y => ?_
  have ht : t.val < 16 := lt_of_lt_of_eq t.isLt N_0
  blk_simp
  rw [after0_6]; frame_out
  have e : (win0_6.blk t).view.emb y = ix2 (row (t.val * 512 + (y 0).val)) (y 1) := by
    idx_bounds y
    blk_ext [index6]
    exact row_val (by omega)
  show _ = (fun i => rowHeads m c (i 0) (i 1)) ((win0_6.blk t).view.emb y)
  rw [e]
  exact (congrArg (k0_pay2 _ _ _ _) (eq_ix2 y)).trans (stored2 m c t (y 0) (y 1))

theorem result7 : ((dats m 0 c).arrAt 7 cfg0.N : Vec Ideal S8192x1024 .bf16) = fun i => rowMixed m c (i 0) (i 1) := by
  refine (dats m 0 c).arrAt_eq_of_covers 7 _ (by decide +kernel) fun t hf y => ?_
  have ht : t.val < 16 := lt_of_lt_of_eq t.isLt N_0
  blk_simp
  rw [after0_7]; frame_out
  have e : (win0_7.blk t).view.emb y = ix2 (row (t.val * 512 + (y 0).val)) (y 1) := by
    idx_bounds y
    blk_ext [index7]
    exact row_val (by omega)
  show _ = (fun i => rowMixed m c (i 0) (i 1)) ((win0_7.blk t).view.emb y)
  rw [e, pay4_eq]
  exact (congrArg (k0_pay3 _ _ _ _ _) (eq_ix2 y)).trans (stored3 m c t (y 0) (y 1))

theorem result8 : ((dats m 0 c).arrAt 8 cfg0.N : Vec Ideal S8192x1024 .f32) = fun i => added m c (i 0) (i 1) := by
  refine (dats m 0 c).arrAt_eq_of_covers 8 _ (by decide +kernel) fun t hf y => ?_
  have ht : t.val < 16 := lt_of_lt_of_eq t.isLt N_0
  blk_simp
  rw [after0_8]; frame_out
  have e : (win0_8.blk t).view.emb y = ix2 (row (t.val * 512 + (y 0).val)) (y 1) := by
    idx_bounds y
    blk_ext [index8]
    exact row_val (by omega)
  show _ = (fun i => added m c (i 0) (i 1)) ((win0_8.blk t).view.emb y)
  rw [e]
  exact (congrArg (k0_pay1 _ _ _) (eq_ix2 y)).trans (stored1 m c t (y 0) (y 1))

end Cert.Kernel13Ideal.Rows

namespace Cert.Proof

open Cert.Reference13Ideal.Read Cert.Norm Cert.Blocks Cert.Mix
open Idealize.ShloMosaic Idealize.SL.Sem

section
variable (x0 : (⟨Cert.Reference13Ideal.S8192x1024, .bf16⟩ : BufTy).Contents (Elt Ideal))
  (x1 : (⟨Cert.Reference13Ideal.S8192x1024, .f32⟩ : BufTy).Contents (Elt Ideal))
  (x2 x3 : (⟨Cert.Reference13Ideal.S1x512, .f32⟩ : BufTy).Contents (Elt Ideal))
  (x4 : (⟨Cert.Reference13Ideal.S1024x1024, .bf16⟩ : BufTy).Contents (Elt Ideal))
  (x5 : (⟨Cert.Reference13Ideal.S1x1024, .f32⟩ : BufTy).Contents (Elt Ideal))

theorem reference13_left (r : Fin 8192) (k : Fin 512) : val_main_v17 (F := Ideal) x0 x2 (ix2 r k)
    = scaled (fun k => x0 (ix2 r (left k))) (fun k => x2 (ix2 0 k)) halfWidth k := by
  rw [val_main_v17_apply, val_main_v14_apply, val_main_v16_apply, val_main_v15_apply, val_main_v13_apply,
    val_main_v12_apply, val_main_v11_apply, val_main_v9_apply, val_main_v7_apply, val_main_v6_apply,
    val_main_v4_apply, val_main_v1_apply]
  simp only [pointwise]
  unfold scaled rms meanSq
  refine congrArg₂ (fun a b : EReal => a * b) (congrArg₂ (fun a b : EReal => a * b) (congrArg x0 (ix2_of rfl rfl))
    (congrArg Ideal.rsqrt (congrArg₂ (fun a b : EReal => a + b) (congrArg₂ Ideal.div ?_ rfl) rfl)))
    (congrArg x2 (ix2_of rfl (Nat.mod_eq_of_lt k.isLt)))
  refine (congrArg₂ (fun a b : EReal => a + b) Ideal.ofBits_zero_f32 (Finset.sum_congr rfl fun k _ => ?_)).trans
    (zero_add _)
  exact congrArg (fun a : EReal => a * a) ((val_main_v4_apply x0 _).trans (congrArg x0 (ix2_of rfl rfl)))

theorem reference13_right (r : Fin 8192) (k : Fin 512) : val_main_v31 (F := Ideal) x0 x3 (ix2 r k)
    = scaled (fun k => x0 (ix2 r (right k))) (fun k => x3 (ix2 0 k)) halfWidth k := by
  rw [val_main_v31_apply, val_main_v28_apply, val_main_v30_apply, val_main_v29_apply, val_main_v27_apply,
    val_main_v26_apply, val_main_v25_apply, val_main_v23_apply, val_main_v21_apply, val_main_v20_apply,
    val_main_v18_apply, val_main_v2_apply]
  simp only [pointwise]
  unfold scaled rms meanSq
  refine congrArg₂ (fun a b : EReal => a * b) (congrArg₂ (fun a b : EReal => a * b) (congrArg x0 (ix2_of rfl rfl))
    (congrArg Ideal.rsqrt (congrArg₂ (fun a b : EReal => a + b) (congrArg₂ Ideal.div ?_ rfl) rfl)))
    (congrArg x3 (ix2_of rfl (Nat.mod_eq_of_lt k.isLt)))
  refine (congrArg₂ (fun a b : EReal => a + b) Ideal.ofBits_zero_f32 (Finset.sum_congr rfl fun k _ => ?_)).trans
    (zero_add _)
  exact congrArg (fun a : EReal => a * a) ((val_main_v18_apply x0 _).trans (congrArg x0 (ix2_of rfl rfl)))

theorem reference13_heads (r : Fin 8192) (j : Fin 1024) : val_main_v32 (F := Ideal) x0 x2 x3 (ix2 r j)
    = heads (fun k => x0 (ix2 r (left k))) (fun k => x0 (ix2 r (right k))) (fun k => x2 (ix2 0 k)) (fun k => x3 (ix2 0 k)) j :=
  (concatenate_join (φ := .f32) _ _ Cert.Reference13Ideal.Gen.concatenates_S8192x512_S8192x512_S8192x1024_d1 r j).trans
    (congrArg₂ (fun p q => join p q j) (funext (reference13_left x0 x2 r)) (funext (reference13_right x0 x3 r)))

theorem reference13_mixed (r : Fin 8192) (j : Fin 1024) : val_main_v33 (F := Ideal) x0 x2 x3 x4 (ix2 r j)
    = mixed (heads (fun k => x0 (ix2 r (left k))) (fun k => x0 (ix2 r (right k))) (fun k => x2 (ix2 0 k))
        (fun k => x3 (ix2 0 k))) x4 j := by
  refine (val_main_v33_apply x0 x2 x3 x4 (ix2 r j)).trans (Finset.sum_congr rfl fun k _ => ?_)
  exact congrArg₂ (fun a b : EReal => a * b) ((congrArg (val_main_v32 (F := Ideal) x0 x2 x3) (eq_ix2 _)).trans
    (reference13_heads x0 x2 x3 r k)) (congrArg x4 (eq_ix2 _))

theorem reference13_added (r : Fin 8192) (j : Fin 1024) : val_main_v50 (F := Ideal) x0 x1 x2 x3 x4 x5 (ix2 r j)
    = x1 (ix2 r j) + scaled (fun k => val_main_v33 (F := Ideal) x0 x2 x3 x4 (ix2 r k)) (fun k => x5 (ix2 0 k)) width j := by
  rw [val_main_v50_apply, val_main_v49_apply, val_main_v46_apply, val_main_v48_apply, val_main_v47_apply,
    val_main_v45_apply, val_main_v44_apply, val_main_v43_apply, val_main_v41_apply, val_main_v39_apply,
    val_main_v38_apply, val_main_v36_apply]
  simp only [pointwise]
  unfold scaled rms meanSq
  refine congrArg (x1 (ix2 r j) + ·) (congrArg₂ (fun a b : EReal => a * b) (congrArg₂ (fun a b : EReal => a * b) rfl
    (congrArg Ideal.rsqrt (congrArg₂ (fun a b : EReal => a + b) (congrArg₂ Ideal.div ?_ rfl) rfl)))
    (congrArg x5 (ix2_of rfl (Nat.mod_eq_of_lt j.isLt))))
  refine (congrArg₂ (fun a b : EReal => a + b) Ideal.ofBits_zero_f32 (Finset.sum_congr rfl fun k _ => ?_)).trans
    (zero_add _)
  exact congrArg (fun a : EReal => a * a) (congrArg (val_main_v33 (F := Ideal) x0 x2 x3 x4) (eq_ix2 _))

end

theorem algebraic13 : Cert.algebraic_Kernel13Ideal_Reference13Ideal := fun m g m' g' _ hagree =>
  ⟨fun c => (Cert.Kernel13Ideal.Gen.dats m 0 c).arrAt 6 Cert.Kernel13Ideal.cfg0.N,
    fun c => (Cert.Kernel13Ideal.Gen.dats m 0 c).arrAt 7 Cert.Kernel13Ideal.cfg0.N,
    fun c => (Cert.Kernel13Ideal.Gen.dats m 0 c).arrAt 8 Cert.Kernel13Ideal.cfg0.N,
    Cert.Kernel13Ideal.Value.run_blocks m g,
    (θ_run (Cert.Reference13Ideal.defs (F := Ideal)) _ _).mono (fun r h c => by
      obtain ⟨a0, a1, a2, a3, a4, a5⟩ := hagree c
      refine ⟨(h c).1.trans ?_, (h c).2.1.trans ?_, (h c).2.2.1.trans ?_, (h c).2.2.2⟩
      · rw [a0, a2, a3]
        refine (val_main_v34_eq (F := Ideal) _ _ _).trans (Eq.trans ?_ (Cert.Kernel13Ideal.Rows.result6 m c).symm)
        exact funext fun i => (val_main_v34_apply _ _ _ i).trans
          ((congrArg (val_main_v32 (F := Ideal) _ _ _) (eq_ix2 i)).trans (reference13_heads _ _ _ (i 0) (i 1)))
      · rw [a0, a2, a3, a4]
        refine (val_main_v35_eq (F := Ideal) _ _ _ _).trans (Eq.trans ?_ (Cert.Kernel13Ideal.Rows.result7 m c).symm)
        exact funext fun i => (val_main_v35_apply _ _ _ _ i).trans
          ((congrArg (val_main_v33 (F := Ideal) _ _ _ _) (eq_ix2 i)).trans (reference13_mixed _ _ _ _ (i 0) (i 1)))
      · refine (val_main_v50_eq (F := Ideal) m' c).trans ?_
        rw [a0, a1, a2, a3, a4, a5]
        refine Eq.trans ?_ (Cert.Kernel13Ideal.Rows.result8 m c).symm
        funext i
        refine (congrArg (val_main_v50 (F := Ideal) _ _ _ _ _ _) (eq_ix2 i)).trans
          ((reference13_added _ _ _ _ _ _ (i 0) (i 1)).trans ?_)
        exact congrArg (fun n => _ + scaled n _ width (i 1)) (funext (reference13_mixed _ _ _ _ (i 0))))
    (Cert.Reference13Ideal.Value.run m' g')⟩

end Cert.Proof

end
-- ==== Proof.MixOutGrad14.lean ====
/- The backward pass of the end of the mixing part: block of rows by block of rows, the kernel writes the
   gradient of the last norm's input and, half by half, that of the joined halves' inputs, and adds up the
   gradients of the three normalisations' scales. -/
module

public import proofs.«01_k».proof.Defs
public import proofs.«01_k».proof.Proof.Blocks
public import proofs.«01_k».proof.Proof.Norm
public import proofs.«01_k».proof.Proof.Mix
public import proofs.«01_k».proof.Proof.MixOut13
public import proofs.«01_k».proof.Proof.FfnOutGrad7
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Tactic
public import Idealize.ShloMosaic.Lib.KernelVsHost
public import Idealize.ShloMosaic.Lib.Pipeline.ValueKit

@[expose] public section

noncomputable section

namespace Cert.Kernel14Ideal.Rows

open Cert.Kernel14Ideal Cert.Kernel14Ideal.Gen Cert.Kernel14Ideal.Value Cert.Blocks Cert.Norm Cert.Mix
open Idealize.ShloMosaic Idealize.ShloMosaic.TcCoe Idealize.SL.Sem

section
variable (dh : Vec Ideal S512x1024 .f32) (x : Vec Ideal S512x1024 .bf16) (g : Vec Ideal S1x1024 .f32)
  (d : FVec Ideal S512x1024 .bf16) (w : Vec Ideal S1024x1024 .bf16) (a : Vec Ideal S512x512 .bf16)
  (s : Vec Ideal S1x512 .f32) (q : FVec Ideal S512x512 .f32)

theorem pay5_apply (j : Fin 1024) : (k0_pay5 (F := Ideal)) (ix2 0 j) = 0 := Ideal.ofBits_zero_f32
theorem pay24_apply (j : Fin 512) : (k0_pay24 (F := Ideal)) (ix2 0 j) = 0 := Ideal.ofBits_zero_f32
theorem pay26_apply (j : Fin 512) : (k0_pay26 (F := Ideal)) (ix2 0 j) = 0 := Ideal.ofBits_zero_f32

theorem pay6_apply (old : Vec Ideal S1x1024 .f32) (j : Fin 1024) : k0_pay6 dh x old (ix2 0 j)
    = old (ix2 0 j) + ∑ r, dh (ix2 r j) * (x (ix2 r j) * rms (fun k => x (ix2 r k)) width) := by
  unfold k0_pay6 k0_pay4 k0_pay3 k0_pay2
  simp only [pointwise, zero_apply, zero_add]
  rfl

theorem pay7_apply (r : Fin 512) (j : Fin 1024) : k0_pay7 dh x g (ix2 r j)
    = backK (fun k => x (ix2 r k)) (fun k => dh (ix2 r k)) (fun k => g (ix2 0 k)) width j := by
  unfold k0_pay7 k0_pay4 k0_pay3 k0_pay2
  simp only [pointwise, zero_apply, zero_add]
  rfl

theorem pay8_apply (r : Fin 512) (j : Fin 1024) :
    k0_pay8 d w (ix2 r j) = ∑ k : Fin 1024, d (ix2 r k) * w (ix2 j k) := by
  unfold k0_pay8
  simp only [pointwise, zero_apply, zero_add]

theorem pay9_apply (r k : Fin 512) : k0_pay9 d w (ix2 r k) = k0_pay8 d w (ix2 r (left k)) := by
  unfold k0_pay9
  refine extractStridedSlice_apply _ _ _ _ (ix2 r (left k)) fun a => ?_
  fin_cases a <;> simp [left]

theorem pay15_apply (r k : Fin 512) : k0_pay15 d w (ix2 r k) = k0_pay8 d w (ix2 r (right k)) := by
  unfold k0_pay15
  refine extractStridedSlice_apply _ _ _ _ (ix2 r (right k)) fun a => ?_
  fin_cases a <;> simp [right]

/-- Half by half, the gradient of the normalised half's input, and the block's part in the scale's. -/
theorem pay14_apply (r k : Fin 512) : k0_pay22 (k0_pay14 d w a s) (ix2 r k)
    = backK (fun k => a (ix2 r k)) (fun k => k0_pay9 d w (ix2 r k)) (fun k => s (ix2 0 k)) halfWidth k := by
  unfold k0_pay22 k0_pay14 k0_pay12 k0_pay11 k0_pay10
  generalize k0_pay9 d w = q
  simp only [pointwise, zero_apply, zero_add]
  rfl

theorem pay23_apply (r k : Fin 512) : k0_pay23 q (k0_pay16 a) s (k0_pay17 a) k0_pay18 (ix2 r k)
    = backK (fun k => a (ix2 r k)) (fun k => q (ix2 r k)) (fun k => s (ix2 0 k)) halfWidth k := by
  unfold k0_pay23 k0_pay20 k0_pay19 k0_pay18 k0_pay17 k0_pay16
  simp only [pointwise, zero_apply, zero_add]
  rfl

theorem pay25_apply (old : Vec Ideal S1x512 .f32) (k : Fin 512) : k0_pay25 (k0_pay13 d w a) old (ix2 0 k)
    = old (ix2 0 k) + ∑ r, k0_pay9 d w (ix2 r k) * (a (ix2 r k) * rms (fun k => a (ix2 r k)) halfWidth) := by
  unfold k0_pay25 k0_pay13 k0_pay12 k0_pay11 k0_pay10
  generalize k0_pay9 d w = q
  simp only [pointwise, zero_apply, zero_add]
  rfl

theorem pay1_apply (old : Vec Ideal S1x512 .f32) (k : Fin 512) :
    k0_pay1 (k0_pay21 q (k0_pay16 a) (k0_pay17 a) k0_pay18) (k0_pay27 old) (ix2 0 k)
      = old (ix2 0 k) + ∑ r, q (ix2 r k) * (a (ix2 r k) * rms (fun k => a (ix2 r k)) halfWidth) := by
  unfold k0_pay1 k0_pay27 k0_pay21 k0_pay20 k0_pay19 k0_pay18 k0_pay17 k0_pay16
  simp only [pointwise, zero_apply, zero_add]
  rfl

end

variable (m : (ℓ : Loc nD τ sig) → Buf (Elt Ideal) ℓ) (c : Dev nD)

def arg0 : Vec Ideal S8192x1024 .f32 := m ((c : Thread nD τ).loc main_arg0)
def arg1 : Vec Ideal S8192x1024 .bf16 := m ((c : Thread nD τ).loc main_arg1)
def arg2 : Vec Ideal S1x1024 .f32 := m ((c : Thread nD τ).loc main_arg2)
def arg3 : Vec Ideal S1024x1024 .bf16 := m ((c : Thread nD τ).loc main_arg3)
def arg4 : Vec Ideal S8192x1024 .bf16 := m ((c : Thread nD τ).loc main_arg4)
def arg5 : Vec Ideal S1x512 .f32 := m ((c : Thread nD τ).loc main_arg5)
def arg6 : Vec Ideal S1x512 .f32 := m ((c : Thread nD τ).loc main_arg6)

/-- A row's gradient of the last norm's input, that of the joined halves, that of each half's input, and
    the row's parts in the gradients of the three scales. -/
def below (R : Fin 8192) (j : Fin 1024) : EReal :=
  backK (fun k => arg1 m c (ix2 R k)) (fun k => arg0 m c (ix2 R k)) (fun k => arg2 m c (ix2 0 k)) width j
def headsGrad (R : Fin 8192) (j : Fin 1024) : EReal := ∑ k, below m c R k * arg3 m c (ix2 j k)
def leftGrad (R : Fin 8192) (k : Fin 512) : EReal :=
  backK (fun k => arg4 m c (ix2 R (left k))) (fun k => headsGrad m c R (left k)) (fun k => arg5 m c (ix2 0 k)) halfWidth k
def rightGrad (R : Fin 8192) (k : Fin 512) : EReal :=
  backK (fun k => arg4 m c (ix2 R (right k))) (fun k => headsGrad m c R (right k)) (fun k => arg6 m c (ix2 0 k)) halfWidth k
def scale (j : Fin 1024) (R : Fin 8192) : EReal :=
  arg0 m c (ix2 R j) * (arg1 m c (ix2 R j) * rms (fun k => arg1 m c (ix2 R k)) width)
def leftScale (k : Fin 512) (R : Fin 8192) : EReal :=
  headsGrad m c R (left k) * (arg4 m c (ix2 R (left k)) * rms (fun k => arg4 m c (ix2 R (left k))) halfWidth)
def rightScale (k : Fin 512) (R : Fin 8192) : EReal :=
  headsGrad m c R (right k) * (arg4 m c (ix2 R (right k)) * rms (fun k => arg4 m c (ix2 R (right k))) halfWidth)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

theorem block0 (t : Fin cfg0.N) (r : Fin 512) (k : Fin 1024) :
    (iblk m c 0 t : Vec Ideal S512x1024 .f32) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 512) (k : Fin 1024) :
    (iblk m c 1 t : Vec Ideal S512x1024 .bf16) (ix2 r k) = arg1 m c (ix2 (row (t.val * 512 + r.val)) k) := by
  have ht : t.val < 16 := lt_of_lt_of_eq t.isLt N_0
  blk_simp [iblk]
  refine (congrFun (V_main_arg1 m c) _).trans (congrArg (arg1 m c) ?_)
  blk_ext [index1]
  exact row_val (by omega)

theorem block2 (t : Fin cfg0.N) : (iblk m c 2 t : Vec Ideal S1x1024 .f32) = arg2 m c := by
  funext y
  blk_simp [iblk]
  refine (congrFun (V_main_arg2 m c) _).trans (congrArg (arg2 m c) ?_)
  blk_ext [index2]

theorem block3 (t : Fin cfg0.N) : (iblk m c 3 t : Vec Ideal S1024x1024 .bf16) = arg3 m c := by
  funext y
  blk_simp [iblk]
  refine (congrFun (V_main_arg3 m c) _).trans (congrArg (arg3 m c) ?_)
  blk_ext [index3]

theorem block4 (t : Fin cfg0.N) (r : Fin 512) (k : Fin 1024) :
    (iblk m c 4 t : Vec Ideal S512x1024 .bf16) (ix2 r k) = arg4 m c (ix2 (row (t.val * 512 + r.val)) k) := by
  have ht : t.val < 16 := lt_of_lt_of_eq t.isLt N_0
  blk_simp [iblk]
  refine (congrFun (V_main_arg4 m c) _).trans (congrArg (arg4 m c) ?_)
  blk_ext [index4]
  exact row_val (by omega)

theorem block5 (t : Fin cfg0.N) : (iblk m c 5 t : Vec Ideal S1x512 .f32) = arg5 m c := by
  funext y
  blk_simp [iblk]
  refine (congrFun (V_main_arg5 m c) _).trans (congrArg (arg5 m c) ?_)
  blk_ext [index5]

theorem block6 (t : Fin cfg0.N) : (iblk m c 6 t : Vec Ideal S1x512 .f32) = arg6 m c := by
  funext y
  blk_simp [iblk]
  refine (congrFun (V_main_arg6 m c) _).trans (congrArg (arg6 m c) ?_)
  blk_ext [index6]

/-- What a block's bodies compute, in terms of the arguments' rows. -/
abbrev grad (t : Fin cfg0.N) : FVec Ideal S512x1024 .bf16 := k0_pay7 (iblk m c 0 t) (iblk m c 1 t) (iblk m c 2 t)

theorem stored (t : Fin cfg0.N) (r : Fin 512) (j : Fin 1024) :
    grad m c t (ix2 r j) = below m c (row (t.val * 512 + r.val)) j := by
  unfold grad
  rw [block2]
  refine (pay7_apply _ _ _ r j).trans ?_
  unfold below
  simp only [block0, block1]

theorem product_at (t : Fin cfg0.N) (r : Fin 512) (j : Fin 1024) :
    k0_pay8 (grad m c t) (iblk m c 3 t) (ix2 r j) = headsGrad m c (row (t.val * 512 + r.val)) j := by
  rw [block3]
  refine (pay8_apply _ _ r j).trans ?_
  unfold headsGrad
  simp only [stored]

theorem left_at (t : Fin cfg0.N) (r k : Fin 512) :
    k0_pay9 (grad m c t) (iblk m c 3 t) (ix2 r k) = headsGrad m c (row (t.val * 512 + r.val)) (left k) :=
  (pay9_apply _ _ r k).trans (product_at m c t r (left k))

theorem right_at (t : Fin cfg0.N) (r k : Fin 512) :
    k0_pay15 (grad m c t) (iblk m c 3 t) (ix2 r k) = headsGrad m c (row (t.val * 512 + r.val)) (right k) :=
  (pay15_apply _ _ r k).trans (product_at m c t r (right k))

theorem loaded (t : Fin cfg0.N) (off : Fin 2 → ℕ) (inb) (r k : Fin 512) (K : Fin 1024) (h0 : off 0 = 0)
    (h1 : K.val = off 1 + k.val) :
    View.ld (iblk m c 4 t : Vec Ideal S512x1024 .bf16) (Rect.unit off ![512, 512] inb) (ix2 r k)
      = arg4 m c (ix2 (row (t.val * 512 + r.val)) K) :=
  (View.ld_unit_apply_of _ off _ inb (ix2 r k) (ix2 r K) (by intro a; fin_cases a <;> simp [h0, h1])).trans
    (block4 m c t r K)

theorem after7 (t : Fin cfg0.N) : (outsAt0 m c t.val t.isLt).1 = grad m c t := by
  by_cases h : t.val % 16 = 0
  · rw [outsAt0_A m c t h h h]; frame_out
  · rw [outsAt0_B m c t h h h]; frame_out

theorem result7 : ((dats m 0 c).arrAt 7 cfg0.N : Vec Ideal S8192x1024 .bf16) = fun i => below m c (i 0) (i 1) := by
  refine (dats m 0 c).arrAt_eq_of_covers 7 _ (by decide +kernel) fun t hf y => ?_
  have ht : t.val < 16 := lt_of_lt_of_eq t.isLt N_0
  blk_simp
  rw [after0_7, after7]
  have e : (win0_7.blk t).view.emb y = ix2 (row (t.val * 512 + (y 0).val)) (y 1) := by
    idx_bounds y
    blk_ext [index7]
    exact row_val (by omega)
  show _ = (fun i => below m c (i 0) (i 1)) ((win0_7.blk t).view.emb y)
  rw [e]
  exact (congrArg (k0_pay7 _ _ _) (eq_ix2 y)).trans (stored m c t (y 0) (y 1))

section
variable (t : Fin cfg0.N)

/-- The two halves of a block, as the bodies load them. -/
abbrev half0 : Vec Ideal S512x512 .bf16 :=
  View.ld (iblk m c 4 t : Vec Ideal S512x1024 .bf16) (Rect.unit ![0, 0] ![512, 512] inb_S512x1024_S512x512_0_0)
abbrev half1 : Vec Ideal S512x512 .bf16 :=
  View.ld (iblk m c 4 t : Vec Ideal S512x1024 .bf16) (Rect.unit ![0, 512] ![512, 512] inb_S512x1024_S512x512_0_512)

theorem half0_apply (r k : Fin 512) : half0 m c t (ix2 r k) = arg4 m c (ix2 (row (t.val * 512 + r.val)) (left k)) :=
  loaded m c t _ _ r k (left k) rfl (Nat.zero_add _).symm

theorem half1_apply (r k : Fin 512) : half1 m c t (ix2 r k) = arg4 m c (ix2 (row (t.val * 512 + r.val)) (right k)) :=
  loaded m c t _ _ r k (right k) rfl rfl

theorem left_tile (x : S512x512.Idx) (y : S512x1024.Idx) (h0 : (y 0).val = (x 0).val) (h1 : (y 1).val = (x 1).val) :
    k0_pay22 (k0_pay14 (grad m c t) (iblk m c 3 t) (half0 m c t) (iblk m c 5 t)) x
      = join (leftGrad m c (row (t.val * 512 + (y 0).val))) (rightGrad m c (row (t.val * 512 + (y 0).val))) (y 1) := by
  rw [block5, h0]
  refine (congrArg (k0_pay22 _) (eq_ix2 x)).trans ((pay14_apply _ _ _ _ (x 0) (x 1)).trans ?_)
  refine Eq.trans ?_ ((join_left _ _ (x 1)).symm.trans (congrArg (join _ _) (Fin.ext h1.symm)))
  exact congrArg₂ (fun a b => backK a b _ halfWidth (x 1)) (funext fun k => half0_apply m c t (x 0) k)
    (funext fun k => left_at m c t (x 0) k)

theorem right_tile (x : S512x512.Idx) (y : S512x1024.Idx) (h0 : (y 0).val = (x 0).val) (h1 : (y 1).val = 512 + (x 1).val) :
    k0_pay23 (k0_pay15 (grad m c t) (iblk m c 3 t)) (k0_pay16 (half1 m c t)) (iblk m c 6 t) (k0_pay17 (half1 m c t)) k0_pay18 x
      = join (leftGrad m c (row (t.val * 512 + (y 0).val))) (rightGrad m c (row (t.val * 512 + (y 0).val))) (y 1) := by
  rw [block6, h0]
  refine (congrArg (k0_pay23 _ _ _ _ _) (eq_ix2 x)).trans ((pay23_apply _ _ _ (x 0) (x 1)).trans ?_)
  refine Eq.trans ?_ ((join_right _ _ (x 1)).symm.trans (congrArg (join _ _) (Fin.ext h1.symm)))
  exact congrArg₂ (fun a b => backK a b _ halfWidth (x 1)) (funext fun k => half1_apply m c t (x 0) k)
    (funext fun k => right_at m c t (x 0) k)

/-- A block's parts in the gradients of the three scales, added to what was there. -/
theorem scale_at (old : Vec Ideal S1x1024 .f32) (j : Fin 1024) : k0_pay6 (iblk m c 0 t) (iblk m c 1 t) old (ix2 0 j)
    = old (ix2 0 j) + ∑ r : Fin 512, scale m c j (row (t.val * 512 + r.val)) := by
  refine (pay6_apply _ _ old j).trans ?_
  unfold scale
  simp only [block0, block1]

theorem leftScale_at (old : Vec Ideal S1x512 .f32) (k : Fin 512) :
    k0_pay25 (k0_pay13 (grad m c t) (iblk m c 3 t) (half0 m c t)) old (ix2 0 k)
      = old (ix2 0 k) + ∑ r : Fin 512, leftScale m c k (row (t.val * 512 + r.val)) := by
  refine (pay25_apply _ _ _ old k).trans ?_
  unfold leftScale
  simp only [left_at, half0_apply]

theorem rightScale_at (old : Vec Ideal S1x512 .f32) (k : Fin 512) :
    k0_pay1 (k0_pay21 (k0_pay15 (grad m c t) (iblk m c 3 t)) (k0_pay16 (half1 m c t)) (k0_pay17 (half1 m c t)) k0_pay18)
        (k0_pay27 old) (ix2 0 k)
      = old (ix2 0 k) + ∑ r : Fin 512, rightScale m c k (row (t.val * 512 + r.val)) := by
  refine (pay1_apply _ _ old k).trans ?_
  unfold rightScale
  simp only [right_at, half1_apply]

end

theorem after8 (t : Fin cfg0.N) (y : S512x1024.Idx) : (outsAt0 m c t.val t.isLt).2.1 y
    = join (leftGrad m c (row (t.val * 512 + (y 0).val))) (rightGrad m c (row (t.val * 512 + (y 0).val))) (y 1) := by
  rcases em (t.val % 16 = 0) with h | h
  on_goal 1 => rw [outsAt0_A m c t h h h]; frame_out
  on_goal 2 => rw [outsAt0_B m c t h h h]; frame_out
  all_goals
    canon_tiles x h
    · exact right_tile m c t x y h0 h1
    · exact left_tile m c t x y h0 h1

theorem result8 : ((dats m 0 c).arrAt 8 cfg0.N : Vec Ideal S8192x1024 .bf16)
    = fun i => join (leftGrad m c (i 0)) (rightGrad m c (i 0)) (i 1) := by
  refine (dats m 0 c).arrAt_eq_of_covers 8 _ (by decide +kernel) fun t hf y => ?_
  have ht : t.val < 16 := lt_of_lt_of_eq t.isLt N_0
  blk_simp
  rw [after0_8, after8]
  have e : (win0_8.blk t).view.emb y = ix2 (row (t.val * 512 + (y 0).val)) (y 1) := by
    idx_bounds y
    blk_ext [index8]
    exact row_val (by omega)
  show _ = (fun i => join (leftGrad m c (i 0)) (rightGrad m c (i 0)) (i 1)) ((win0_8.blk t).view.emb y)
  rw [e]
  rfl

theorem first9 (t : Fin cfg0.N) (h : t.val % 16 = 0) (j : Fin 1024) :
    (outsAt0 m c t.val t.isLt).2.2.1 (ix2 0 j) = ∑ r : Fin 512, scale m c j (row (t.val * 512 + r.val)) := by
  rw [outsAt0_A m c t h h h]; frame_out
  exact (scale_at m c t _ j).trans ((congrArg (· + _) (pay5_apply j)).trans (zero_add _))

theorem later9 (t : Fin cfg0.N) (h : ¬t.val % 16 = 0) (j : Fin 1024) :
    (outsAt0 m c t.val t.isLt).2.2.1 (ix2 0 j)
      = (outsAt0 m c (t.val - 1) (Nat.lt_of_le_of_lt (Nat.sub_le _ _) t.isLt)).2.2.1 (ix2 0 j)
        + ∑ r : Fin 512, scale m c j (row (t.val * 512 + r.val)) := by
  rw [outsAt0_B m c t h h h]; frame_out
  exact scale_at m c t _ j

theorem result9 : ((dats m 0 c).arrAt 9 cfg0.N : Vec Ideal S1x1024 .f32) = fun i => ∑ R, scale m c (i 1) R := by
  refine (dats m 0 c).arrAt_eq_of_after_last 9 ⟨15, lt_of_lt_of_eq (by decide) N_0.symm⟩ (by decide +kernel) _ fun y => ?_
  rw [after0_9]
  refine (congrArg (outsAt0 m c 15 _).2.2.1 (ix2_of (r := 0) (c := y 1) (Nat.lt_one_iff.mp (y 0).isLt) rfl)).trans ?_
  exact (carried 512 cfg0.N (fun n h j => (outsAt0 m c n h).2.2.1 (ix2 0 j)) (fun j r => scale m c j (row r))
    (fun h j => first9 m c ⟨0, h⟩ rfl j) (fun n h j => later9 m c ⟨n + 1, h⟩
      (by have := lt_of_lt_of_eq h N_0; show ¬(n + 1) % 16 = 0; omega) j) 15 _ (y 1)).trans (all_rows (scale m c (y 1)))

theorem first10 (t : Fin cfg0.N) (h : t.val % 16 = 0) (j : Fin 512) :
    (outsAt0 m c t.val t.isLt).2.2.2.1 (ix2 0 j) = ∑ r : Fin 512, leftScale m c j (row (t.val * 512 + r.val)) := by
  rw [outsAt0_A m c t h h h]; frame_out
  exact (leftScale_at m c t _ j).trans ((congrArg (· + _) (pay24_apply j)).trans (zero_add _))

theorem later10 (t : Fin cfg0.N) (h : ¬t.val % 16 = 0) (j : Fin 512) :
    (outsAt0 m c t.val t.isLt).2.2.2.1 (ix2 0 j)
      = (outsAt0 m c (t.val - 1) (Nat.lt_of_le_of_lt (Nat.sub_le _ _) t.isLt)).2.2.2.1 (ix2 0 j)
        + ∑ r : Fin 512, leftScale m c j (row (t.val * 512 + r.val)) := by
  rw [outsAt0_B m c t h h h]; frame_out
  exact leftScale_at m c t _ j

theorem result10 : ((dats m 0 c).arrAt 10 cfg0.N : Vec Ideal S1x512 .f32) = fun i => ∑ R, leftScale m c (i 1) R := by
  refine (dats m 0 c).arrAt_eq_of_after_last 10 ⟨15, lt_of_lt_of_eq (by decide) N_0.symm⟩ (by decide +kernel) _ fun y => ?_
  rw [after0_10]
  refine (congrArg (outsAt0 m c 15 _).2.2.2.1 (ix2_of (r := 0) (c := y 1) (Nat.lt_one_iff.mp (y 0).isLt) rfl)).trans ?_
  exact (carried 512 cfg0.N (fun n h j => (outsAt0 m c n h).2.2.2.1 (ix2 0 j)) (fun j r => leftScale m c j (row r))
    (fun h j => first10 m c ⟨0, h⟩ rfl j) (fun n h j => later10 m c ⟨n + 1, h⟩
      (by have := lt_of_lt_of_eq h N_0; show ¬(n + 1) % 16 = 0; omega) j) 15 _ (y 1)).trans (all_rows (leftScale m c (y 1)))

theorem first11 (t : Fin cfg0.N) (h : t.val % 16 = 0) (j : Fin 512) :
    (outsAt0 m c t.val t.isLt).2.2.2.2 (ix2 0 j) = ∑ r : Fin 512, rightScale m c j (row (t.val * 512 + r.val)) := by
  rw [outsAt0_A m c t h h h]; frame_out
  exact (rightScale_at m c t _ j).trans ((congrArg (· + _) (pay26_apply j)).trans (zero_add _))

theorem later11 (t : Fin cfg0.N) (h : ¬t.val % 16 = 0) (j : Fin 512) :
    (outsAt0 m c t.val t.isLt).2.2.2.2 (ix2 0 j)
      = (outsAt0 m c (t.val - 1) (Nat.lt_of_le_of_lt (Nat.sub_le _ _) t.isLt)).2.2.2.2 (ix2 0 j)
        + ∑ r : Fin 512, rightScale m c j (row (t.val * 512 + r.val)) := by
  rw [outsAt0_B m c t h h h]; frame_out
  exact rightScale_at m c t _ j

theorem result11 : ((dats m 0 c).arrAt 11 cfg0.N : Vec Ideal S1x512 .f32) = fun i => ∑ R, rightScale m c (i 1) R := by
  refine (dats m 0 c).arrAt_eq_of_after_last 11 ⟨15, lt_of_lt_of_eq (by decide) N_0.symm⟩ (by decide +kernel) _ fun y => ?_
  rw [after0_11]
  refine (congrArg (outsAt0 m c 15 _).2.2.2.2 (ix2_of (r := 0) (c := y 1) (Nat.lt_one_iff.mp (y 0).isLt) rfl)).trans ?_
  exact (carried 512 cfg0.N (fun n h j => (outsAt0 m c n h).2.2.2.2 (ix2 0 j)) (fun j r => rightScale m c j (row r))
    (fun h j => first11 m c ⟨0, h⟩ rfl j) (fun n h j => later11 m c ⟨n + 1, h⟩
      (by have := lt_of_lt_of_eq h N_0; show ¬(n + 1) % 16 = 0; omega) j) 15 _ (y 1)).trans (all_rows (rightScale m c (y 1)))

end Cert.Kernel14Ideal.Rows

namespace Cert.Proof

open Cert.Blocks Cert.Norm Cert.Mix Cert.Reference14Ideal.Read
open Idealize.ShloMosaic Idealize.SL.Sem

section
variable (x0 : (⟨Cert.Reference14Ideal.S8192x1024, .f32⟩ : BufTy).Contents (Elt Ideal))
  (x1 : (⟨Cert.Reference14Ideal.S8192x1024, .bf16⟩ : BufTy).Contents (Elt Ideal))
  (x2 : (⟨Cert.Reference14Ideal.S1x1024, .f32⟩ : BufTy).Contents (Elt Ideal))
  (x3 : (⟨Cert.Reference14Ideal.S1024x1024, .bf16⟩ : BufTy).Contents (Elt Ideal))
  (x4 : (⟨Cert.Reference14Ideal.S8192x1024, .bf16⟩ : BufTy).Contents (Elt Ideal))
  (x5 x6 : (⟨Cert.Reference14Ideal.S1x512, .f32⟩ : BufTy).Contents (Elt Ideal))

theorem reference14_below (R : Fin 8192) (j : Fin 1024) : val_main_v39 (F := Ideal) x0 x1 x2 (ix2 R j)
    = backK (fun k => x1 (ix2 R k)) (fun k => x0 (ix2 R k)) (fun k => x2 (ix2 0 k)) width j :=
  reference7_below x0 x1 x2 R j

theorem reference14_scale (i : Cert.Reference14Ideal.S1x1024.Idx) : val_main_v126 (F := Ideal) x0 x1 i
    = ∑ R : Fin 8192, x0 (ix2 R (i 1)) * (x1 (ix2 R (i 1)) * rms (fun k => x1 (ix2 R k)) width) :=
  reference7_scale x0 x1 i

theorem reference14_product (R : Fin 8192) (j : Fin 1024) : val_main_v78 (F := Ideal) x0 x1 x2 x3 (ix2 R j)
    = ∑ k, val_main_v39 (F := Ideal) x0 x1 x2 (ix2 R k) * x3 (ix2 j k) := by
  refine (val_main_v78_apply x0 x1 x2 x3 _).trans (Finset.sum_congr rfl fun k _ => ?_)
  exact congrArg₂ (fun a b : EReal => a * b) (congrArg (val_main_v39 (F := Ideal) x0 x1 x2) (eq_ix2 _))
    (congrArg x3 (eq_ix2 _))

/-- The left half: its length, its scaled gradient, and what the norm's gradient shares out. -/
theorem reference14_leftMeanSq (i : Cert.Reference14Ideal.S8192x1.Idx) :
    val_main_v49 (F := Ideal) x4 i = meanSq (fun k => x4 (ix2 (i 0) (left k))) halfWidth := by
  rw [val_main_v49_apply, val_main_v47_apply, val_main_v45_apply, val_main_v44_apply]
  unfold meanSq
  refine congrArg₂ (fun a b : EReal => a + b) (congrArg₂ Ideal.div ?_ rfl) rfl
  refine (congrArg₂ (fun a b : EReal => a + b) Ideal.ofBits_zero_f32 (Finset.sum_congr rfl fun k _ => ?_)).trans
    (zero_add _)
  exact congrArg (fun a : EReal => a * a) ((val_main_v42_apply x4 _).trans (congrArg x4 (ix2_of rfl rfl)))

theorem reference14_leftRms (i : Cert.Reference14Ideal.S8192x1.Idx) :
    val_main_v50 (F := Ideal) x4 i = rms (fun k => x4 (ix2 (i 0) (left k))) halfWidth :=
  (val_main_v50_apply x4 i).trans (congrArg Ideal.rsqrt (reference14_leftMeanSq x4 i))

theorem reference14_leftScaled (R : Fin 8192) (k : Fin 512) : val_main_v106 (F := Ideal) x0 x1 x2 x3 x5 (ix2 R k)
    = val_main_v78 (F := Ideal) x0 x1 x2 x3 (ix2 R (left k)) * x5 (ix2 0 k) := by
  rw [val_main_v106_apply, val_main_v105_apply, val_main_v56_apply, val_main_v40_apply, val_main_v79_apply]
  exact congrArg₂ (fun a b : EReal => a * b) (congrArg (val_main_v78 (F := Ideal) x0 x1 x2 x3) (ix2_of rfl rfl))
    (congrArg x5 (ix2_of rfl (Nat.mod_eq_of_lt k.isLt)))

theorem reference14_leftTerm (R : Fin 8192) (k : Fin 512) : val_main_v108 (F := Ideal) x0 x1 x2 x3 x4 x5 (ix2 R k)
    = x4 (ix2 R (left k)) * (val_main_v78 (F := Ideal) x0 x1 x2 x3 (ix2 R (left k)) * x5 (ix2 0 k)) := by
  rw [val_main_v108_apply, reference14_leftScaled, val_main_v42_apply]
  exact congrArg (fun a : EReal => a * _) (congrArg x4 (ix2_of rfl rfl))

theorem reference14_leftShare (i : Cert.Reference14Ideal.S8192.Idx) : val_main_v116 (F := Ideal) x0 x1 x2 x3 x4 x5 i
    = shareR (fun k => x4 (ix2 (i 0) (left k))) (fun k => val_main_v78 (F := Ideal) x0 x1 x2 x3 (ix2 (i 0) (left k)))
        (fun k => x5 (ix2 0 k)) halfWidth := by
  rw [val_main_v116_apply, Fin.sum_univ_one]
  refine (congrArg₂ (fun a b : EReal => a + b) Ideal.ofBits_zero_f32 ?_).trans (zero_add _)
  rw [val_main_v115_apply, val_main_v113_apply, val_main_v110_apply, val_main_v109_apply, val_main_v53_apply,
    val_main_v51_apply, reference14_leftRms, reference14_leftMeanSq]
  unfold shareR
  refine congrArg₂ Ideal.div (congrArg₂ (fun a b : EReal => a * b) ?_ rfl) rfl
  refine (congrArg₂ (fun a b : EReal => a + b) Ideal.ofBits_zero_f32 (Finset.sum_congr rfl fun k _ => ?_)).trans
    (zero_add _)
  have e : idx_main_v109 (idx_main_v110 (idx_main_v116 i 0)) k = ix2 (i 0) k := ix2_of (Nat.mul_one _) rfl
  rw [e]
  exact reference14_leftTerm x0 x1 x2 x3 x4 x5 (i 0) k

theorem reference14_left (R : Fin 8192) (k : Fin 512) : val_main_v121 (F := Ideal) x0 x1 x2 x3 x4 x5 (ix2 R k)
    = backK (fun k => x4 (ix2 R (left k))) (fun k => val_main_v78 (F := Ideal) x0 x1 x2 x3 (ix2 R (left k)))
        (fun k => x5 (ix2 0 k)) halfWidth k := by
  have e : val_main_v42 (F := Ideal) x4 (ix2 R k) = x4 (ix2 R (left k)) :=
    (val_main_v42_apply x4 _).trans (congrArg x4 (ix2_of rfl rfl))
  rw [val_main_v121_apply, val_main_v119_apply, val_main_v112_apply, val_main_v111_apply, val_main_v118_apply,
    val_main_v120_apply, val_main_v117_apply, reference14_leftRms, reference14_leftScaled, reference14_leftShare, e]
  exact (back_eq (x := fun k => x4 (ix2 R (left k)))
    (dy := fun k => val_main_v78 (F := Ideal) x0 x1 x2 x3 (ix2 R (left k))) (g := fun k => x5 (ix2 0 k)) (by decide)
    (halfWidth_eq.trans (by norm_num)) k).symm

theorem reference14_leftScale (i : Cert.Reference14Ideal.S1x512.Idx) : val_main_v127 (F := Ideal) x0 x1 x2 x3 x4 i
    = ∑ R : Fin 8192, val_main_v78 (F := Ideal) x0 x1 x2 x3 (ix2 R (left (i 1)))
        * (x4 (ix2 R (left (i 1))) * rms (fun k => x4 (ix2 R (left k))) halfWidth) := by
  rw [val_main_v127_apply, val_main_v107_apply, Fin.sum_univ_one]
  refine (congrArg₂ (fun a b : EReal => a + b) Ideal.ofBits_zero_f32 ?_).trans (zero_add _)
  rw [val_main_v104_apply, val_main_v103_apply]
  refine (congrArg₂ (fun a b : EReal => a + b) Ideal.ofBits_zero_f32 (Finset.sum_congr rfl fun R _ => ?_)).trans
    (zero_add _)
  refine (congrArg (val_main_v102 (F := Ideal) x0 x1 x2 x3 x4) (ix2_of (r := R) (c := i 1) rfl
    ((congrArg (· + (i 1).val) (Nat.zero_mul 512)).trans (Nat.zero_add _)))).trans ?_
  refine (val_main_v102_apply x0 x1 x2 x3 x4 _).trans ((mul_comm (_ : EReal) _).trans ?_)
  refine congrArg₂ (fun a b : EReal => a * b) ((val_main_v79_apply x0 x1 x2 x3 _).trans
    (congrArg (val_main_v78 (F := Ideal) x0 x1 x2 x3) (ix2_of rfl rfl))) ?_
  exact (val_main_v55_apply x4 _).trans (congrArg₂ (fun a b : EReal => a * b)
    ((val_main_v42_apply x4 _).trans (congrArg x4 (ix2_of rfl rfl)))
    ((val_main_v54_apply x4 _).trans (reference14_leftRms x4 _)))

/-- The right half is the left one of the arguments with their halves exchanged. -/
def exchange (j : Fin 1024) : Fin 1024 := ⟨(j.val + 512) % 1024, Nat.mod_lt _ (by decide)⟩

theorem exchange_left (k : Fin 512) : exchange (left k) = right k := Fin.ext (by simp only [exchange, left, right]; omega)

def columns : (⟨Cert.Reference14Ideal.S8192x1024, .bf16⟩ : BufTy).Contents (Elt Ideal) := fun i => x4 (ix2 (i 0) (exchange (i 1)))
def weightRows : (⟨Cert.Reference14Ideal.S1024x1024, .bf16⟩ : BufTy).Contents (Elt Ideal) :=
  fun i => x3 (ix2 (exchange (i 0)) (i 1))

theorem columns_left (R : Fin 8192) (k : Fin 512) : columns x4 (ix2 R (left k)) = x4 (ix2 R (right k)) :=
  congrArg (fun j => x4 (ix2 R j)) (exchange_left k)

theorem product_left (R : Fin 8192) (k : Fin 512) :
    val_main_v78 (F := Ideal) x0 x1 x2 (weightRows x3) (ix2 R (left k)) = val_main_v78 (F := Ideal) x0 x1 x2 x3 (ix2 R (right k)) := by
  rw [reference14_product, reference14_product]
  exact Finset.sum_congr rfl fun l _ =>
    congrArg (fun j => val_main_v39 (F := Ideal) x0 x1 x2 (ix2 R l) * x3 (ix2 j l)) (exchange_left k)

theorem columns_eq : val_main_v59 (F := Ideal) x4 = val_main_v42 (F := Ideal) (columns x4) := by
  funext i
  refine (val_main_v59_apply x4 i).trans (Eq.trans ?_ (val_main_v42_apply (columns x4) i).symm)
  exact (congrArg x4 (eq_ix2 (idx_main_v59 i))).trans ((columns_left x4 (i 0) (i 1)).symm.trans
    (congrArg (columns x4) (ix2_of (r := i 0) (c := left (i 1)) rfl rfl).symm))

theorem product_eq : val_main_v80 (F := Ideal) x0 x1 x2 x3 = val_main_v79 (F := Ideal) x0 x1 x2 (weightRows x3) := by
  funext i
  refine (val_main_v80_apply x0 x1 x2 x3 i).trans (Eq.trans ?_ (val_main_v79_apply x0 x1 x2 (weightRows x3) i).symm)
  exact (congrArg (val_main_v78 (F := Ideal) x0 x1 x2 x3) (ix2_of (r := i 0) (c := right (i 1)) rfl rfl)).trans
    ((product_left x0 x1 x2 x3 (i 0) (i 1)).symm.trans
      (congrArg (val_main_v78 (F := Ideal) x0 x1 x2 (weightRows x3)) (ix2_of (r := i 0) (c := left (i 1)) rfl rfl).symm))

theorem reference14_right_eq : val_main_v100 (F := Ideal) x0 x1 x2 x3 x4 x6
    = val_main_v121 (F := Ideal) x0 x1 x2 (weightRows x3) (columns x4) x6 := by
  unfold val_main_v100 val_main_v99 val_main_v98 val_main_v97 val_main_v96 val_main_v95 val_main_v94 val_main_v92
    val_main_v91 val_main_v90 val_main_v89 val_main_v88 val_main_v87 val_main_v85 val_main_v70 val_main_v68 val_main_v67
    val_main_v66 val_main_v64 val_main_v62 val_main_v61 val_main_v60
  rw [columns_eq, product_eq]
  rfl

theorem reference14_rightScale_eq : val_main_v128 (F := Ideal) x0 x1 x2 x3 x4
    = val_main_v127 (F := Ideal) x0 x1 x2 (weightRows x3) (columns x4) := by
  unfold val_main_v128 val_main_v86 val_main_v83 val_main_v82 val_main_v81 val_main_v72 val_main_v71 val_main_v67
    val_main_v66 val_main_v64 val_main_v62 val_main_v61 val_main_v60
  rw [columns_eq, product_eq]
  rfl

theorem reference14_right (R : Fin 8192) (k : Fin 512) : val_main_v100 (F := Ideal) x0 x1 x2 x3 x4 x6 (ix2 R k)
    = backK (fun k => x4 (ix2 R (right k))) (fun k => val_main_v78 (F := Ideal) x0 x1 x2 x3 (ix2 R (right k)))
        (fun k => x6 (ix2 0 k)) halfWidth k := by
  rw [reference14_right_eq, reference14_left]
  simp only [columns_left, product_left]

theorem reference14_rightScale (i : Cert.Reference14Ideal.S1x512.Idx) : val_main_v128 (F := Ideal) x0 x1 x2 x3 x4 i
    = ∑ R : Fin 8192, val_main_v78 (F := Ideal) x0 x1 x2 x3 (ix2 R (right (i 1)))
        * (x4 (ix2 R (right (i 1))) * rms (fun k => x4 (ix2 R (right k))) halfWidth) := by
  rw [reference14_rightScale_eq]
  refine (reference14_leftScale _ _ _ _ _ i).trans (Finset.sum_congr rfl fun R _ => ?_)
  exact congrArg₂ (fun a b : EReal => a * b) (product_left x0 x1 x2 x3 R (i 1)) (congrArg₂ (fun a b : EReal => a * b)
    (columns_left x4 R (i 1)) (congrArg (fun f => rms f halfWidth) (funext fun k => columns_left x4 R k)))

theorem reference14_joined (R : Fin 8192) (j : Fin 1024) : val_main_v123 (F := Ideal) x0 x1 x2 x3 x4 x5 x6 (ix2 R j)
    = join (fun k => val_main_v121 (F := Ideal) x0 x1 x2 x3 x4 x5 (ix2 R k))
        (fun k => val_main_v100 (F := Ideal) x0 x1 x2 x3 x4 x6 (ix2 R k)) j := by
  refine (val_main_v123_apply x0 x1 x2 x3 x4 x5 x6 _).trans ?_
  by_cases h : j.val < 512
  · refine Eq.trans ?_ (join_of_lt _ _ _ h).symm
    refine (congrArg₂ (fun a b : EReal => a + b) ((pad_apply_of_not_inside _ _ _ _ _ _ _ (ix2 R j) 1
      fun hh => absurd hh.1 (Nat.not_le.mpr h)).trans Ideal.ofBits_zero_f32)
      (pad_apply_of_inside _ _ _ _ _ _ _ (ix2 R j) (ix2 R ⟨j.val, h⟩) fun a => ?_)).trans (zero_add _)
    fin_cases a <;> simp
  · refine Eq.trans ?_ (join_of_le _ _ _ h).symm
    refine (congrArg₂ (fun a b : EReal => a + b)
      (pad_apply_of_inside _ _ _ _ _ _ _ (ix2 R j) (ix2 R ⟨j.val - 512, by omega⟩) fun a => ?_)
      ((pad_apply_of_not_inside _ _ _ _ _ _ _ (ix2 R j) 1 fun hh => absurd hh.2.2 ?_).trans
        Ideal.ofBits_zero_f32)).trans (add_zero _)
    · fin_cases a
      · simp
      · show j.val = 512 + (j.val - 512) * (0 + 1)
        omega
    · show ¬(j.val - 0) / (0 + 1) < 512
      omega

end

theorem algebraic14 : Cert.algebraic_Kernel14Ideal_Reference14Ideal := fun m g m' g' _ hagree =>
  ⟨fun c => (Cert.Kernel14Ideal.Gen.dats m 0 c).arrAt 7 Cert.Kernel14Ideal.cfg0.N,
    fun c => (Cert.Kernel14Ideal.Gen.dats m 0 c).arrAt 8 Cert.Kernel14Ideal.cfg0.N,
    fun c => (Cert.Kernel14Ideal.Gen.dats m 0 c).arrAt 9 Cert.Kernel14Ideal.cfg0.N,
    fun c => (Cert.Kernel14Ideal.Gen.dats m 0 c).arrAt 10 Cert.Kernel14Ideal.cfg0.N,
    fun c => (Cert.Kernel14Ideal.Gen.dats m 0 c).arrAt 11 Cert.Kernel14Ideal.cfg0.N,
    Cert.Kernel14Ideal.Value.run_blocks m g,
    (θ_run (Cert.Reference14Ideal.defs (F := Ideal)) _ _).mono (fun r h c => by
      obtain ⟨a0, a1, a2, a3, a4, a5, a6⟩ := hagree c
      have product (R : Fin 8192) (j : Fin 1024) : val_main_v78 (F := Ideal) (Cert.Kernel14Ideal.Rows.arg0 m c)
          (Cert.Kernel14Ideal.Rows.arg1 m c) (Cert.Kernel14Ideal.Rows.arg2 m c) (Cert.Kernel14Ideal.Rows.arg3 m c) (ix2 R j)
          = Cert.Kernel14Ideal.Rows.headsGrad m c R j :=
        (reference14_product _ _ _ _ R j).trans (Finset.sum_congr rfl fun k _ =>
          congrArg (fun a : EReal => a * _) (reference14_below _ _ _ R k))
      refine ⟨(h c).1.trans ?_, (h c).2.1.trans ?_, (h c).2.2.1.trans ?_, (h c).2.2.2.1.trans ?_,
        (h c).2.2.2.2.1.trans ?_, (h c).2.2.2.2.2⟩
      · refine (val_main_v124_eq (F := Ideal) m' c).trans (Eq.trans ?_ (Cert.Kernel14Ideal.Rows.result7 m c).symm)
        rw [a0, a1, a2]
        funext i
        exact (congrArg (val_main_v124 (F := Ideal) _ _ _) (eq_ix2 i)).trans (reference14_below _ _ _ (i 0) (i 1))
      · refine (val_main_v125_eq (F := Ideal) m' c).trans (Eq.trans ?_ (Cert.Kernel14Ideal.Rows.result8 m c).symm)
        rw [a0, a1, a2, a3, a4, a5, a6]
        funext i
        refine (congrArg (val_main_v125 (F := Ideal) _ _ _ _ _ _ _) (eq_ix2 i)).trans
          ((reference14_joined _ _ _ _ _ _ _ (i 0) (i 1)).trans ?_)
        refine congrArg₂ (fun p q => join p q (i 1)) (funext fun k => ?_) (funext fun k => ?_)
        · exact (reference14_left _ _ _ _ _ _ (i 0) k).trans
            (congrArg (fun d => backK _ d _ halfWidth k) (funext fun k => product (i 0) (left k)))
        · exact (reference14_right _ _ _ _ _ _ (i 0) k).trans
            (congrArg (fun d => backK _ d _ halfWidth k) (funext fun k => product (i 0) (right k)))
      · rw [a0, a1]
        refine (val_main_v126_eq (F := Ideal) _ _).trans (Eq.trans ?_ (Cert.Kernel14Ideal.Rows.result9 m c).symm)
        funext i
        exact reference14_scale _ _ i
      · refine (val_main_v127_eq (F := Ideal) m' c).trans (Eq.trans ?_ (Cert.Kernel14Ideal.Rows.result10 m c).symm)
        rw [a0, a1, a2, a3, a4]
        funext i
        exact (reference14_leftScale _ _ _ _ _ i).trans (Finset.sum_congr rfl fun R _ =>
          congrArg (fun a : EReal => a * _) (product R (left (i 1))))
      · refine (val_main_v128_eq (F := Ideal) m' c).trans (Eq.trans ?_ (Cert.Kernel14Ideal.Rows.result11 m c).symm)
        rw [a0, a1, a2, a3, a4]
        funext i
        exact (reference14_rightScale _ _ _ _ _ i).trans (Finset.sum_congr rfl fun R _ =>
          congrArg (fun a : EReal => a * _) (product R (right (i 1)))))
    (Cert.Reference14Ideal.Value.run m' g')⟩

end Cert.Proof

end
-- ==== Proof.Ple.lean ====
/- The embedding part of a layer: the normalised row, its product with the gate's weights, the embedded
   row, and the row with the gated embedding added; for any number of rows. -/
module

public import proofs.«01_k».proof.Defs
public import proofs.«01_k».proof.Proof.Blocks
public import proofs.«01_k».proof.Proof.Norm
public import Idealize.ShloMosaic.Lib.Pointwise
public import Idealize.ShloMosaic.Lib.Tactic

@[expose] public section

noncomputable section

namespace Cert.Ple

open Cert.Norm
open Idealize.ShloMosaic Idealize.SL.Sem

variable {R R' : ℕ} (h : (⟨2, ![R, 1024]⟩ : Shape).Idx → EReal) (h' : (⟨2, ![R', 1024]⟩ : Shape).Idx → EReal)
  (g : (⟨2, ![1, 1024]⟩ : Shape).Idx → EReal) (w : (⟨2, ![1024, 1024]⟩ : Shape).Idx → EReal)
  (p : (⟨2, ![R, 256]⟩ : Shape).Idx → EReal) (p' : (⟨2, ![R', 256]⟩ : Shape).Idx → EReal)
  (u : (⟨2, ![256, 1024]⟩ : Shape).Idx → EReal)

def normed (r : Fin R) (j : Fin 1024) : EReal := scaled (fun k => h (ix2 r k)) (fun k => g (ix2 0 k)) width j
def gate (r : Fin R) (j : Fin 1024) : EReal := ∑ k : Fin 1024, normed h g r k * w (ix2 k j)
def embedded (r : Fin R) (j : Fin 1024) : EReal := ∑ k : Fin 256, p (ix2 r k) * u (ix2 k j)
def out (r : Fin R) (j : Fin 1024) : EReal := h (ix2 r j) + embedded p u r j * sigR (gate h g w r j)

variable {h h' p p'} {r : Fin R} {r' : Fin R'}

/-- A row depends on that row of the inputs alone. -/
theorem normed_row (eh : ∀ k, h (ix2 r k) = h' (ix2 r' k)) (j : Fin 1024) : normed h g r j = normed h' g r' j := by
  unfold normed; rw [funext eh]

theorem gate_row (eh : ∀ k, h (ix2 r k) = h' (ix2 r' k)) (j : Fin 1024) : gate h g w r j = gate h' g w r' j := by
  unfold gate; simp only [normed_row g eh]

theorem embedded_row (ep : ∀ k, p (ix2 r k) = p' (ix2 r' k)) (j : Fin 1024) : embedded p u r j = embedded p' u r' j := by
  unfold embedded; simp only [ep]

theorem out_row (eh : ∀ k, h (ix2 r k) = h' (ix2 r' k)) (ep : ∀ k, p (ix2 r k) = p' (ix2 r' k)) (j : Fin 1024) :
    out h g w p u r j = out h' g w p' u r' j := by
  unfold out; rw [eh, embedded_row u ep, gate_row g w eh]

end Cert.Ple

end
-- ==== Proof.Ple15.lean ====
/- The embedding part of a layer: block of rows by block of rows, the kernel writes the normalised rows,
   their product with the gate's weights, the embedded rows, and the rows with the gated embedding added. -/
module

public import proofs.«01_k».proof.Defs
public import proofs.«01_k».proof.Proof.Blocks
public import proofs.«01_k».proof.Proof.Norm
public import proofs.«01_k».proof.Proof.Ple
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Tactic
public import Idealize.ShloMosaic.Lib.Pipeline.ValueKit

@[expose] public section

noncomputable section

namespace Cert.Kernel15Ideal.Rows

open Cert.Kernel15Ideal Cert.Kernel15Ideal.Gen Cert.Kernel15Ideal.Value Cert.Blocks Cert.Norm Cert.Ple
open Idealize.ShloMosaic Idealize.ShloMosaic.TcCoe Idealize.SL.Sem

section
variable (h : Vec Ideal S512x1024 .f32) (g : Vec Ideal S1x1024 .f32) (w : Vec Ideal S1024x1024 .bf16)
  (p : Vec Ideal S512x256 .f32) (u : Vec Ideal S256x1024 .bf16) (r : Fin 512) (j : Fin 1024)

theorem pay2_apply : k0_pay2 h g (ix2 r j) = normed h g r j := by
  unfold k0_pay2
  simp only [pointwise, zero_apply, zero_add]
  rfl

theorem pay3_apply : k0_pay3 h g w (ix2 r j) = gate h g w r j := by
  unfold k0_pay3
  simp only [pointwise, zero_apply, zero_add]
  exact Finset.sum_congr rfl fun k _ => congrArg (· * w (ix2 k j)) (pay2_apply h g r k)

theorem pay4_apply : k0_pay4 p u (ix2 r j) = embedded p u r j := by
  unfold k0_pay4
  simp only [pointwise, zero_apply, zero_add]
  rfl

theorem pay5_apply : k0_pay5 h g w (ix2 r j) = gate h g w r j := pay3_apply h g w r j

theorem pay6_apply : k0_pay6 p u (ix2 r j) = embedded p u r j := pay4_apply p u r j

theorem pay1_apply : k0_pay1 h (k0_pay4 p u) (k0_pay7 h g w) (k0_pay8 (F := Ideal)) (ix2 r j) = out h g w p u r j := by
  unfold k0_pay1 k0_pay7 k0_pay8
  simp only [pointwise]
  rw [pay3_apply, pay4_apply]
  exact congrArg (fun a => h (ix2 r j) + embedded p u r j * a) (sigK_eq _)

end

variable (m : (ℓ : Loc nD τ sig) → Buf (Elt Ideal) ℓ) (c : Dev nD)

def arg0 : Vec Ideal S8192x1024 .f32 := m ((c : Thread nD τ).loc main_arg0)
def arg1 : Vec Ideal S1x1024 .f32 := m ((c : Thread nD τ).loc main_arg1)
def arg2 : Vec Ideal S1024x1024 .bf16 := m ((c : Thread nD τ).loc main_arg2)
def arg3 : Vec Ideal S8192x256 .f32 := m ((c : Thread nD τ).loc main_arg3)
def arg4 : Vec Ideal S256x1024 .bf16 := m ((c : Thread nD τ).loc main_arg4)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

theorem block0 (t : Fin cfg0.N) (r : Fin 512) (k : Fin 1024) :
    (iblk m c 0 t : Vec Ideal S512x1024 .f32) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) : (iblk m c 1 t : Vec Ideal S1x1024 .f32) = arg1 m c := by
  funext y
  blk_simp [iblk]
  refine (congrFun (V_main_arg1 m c) _).trans (congrArg (arg1 m c) ?_)
  blk_ext [index1]

theorem block2 (t : Fin cfg0.N) : (iblk m c 2 t : Vec Ideal S1024x1024 .bf16) = arg2 m c := by
  funext y
  blk_simp [iblk]
  refine (congrFun (V_main_arg2 m c) _).trans (congrArg (arg2 m c) ?_)
  blk_ext [index2]

theorem block3 (t : Fin cfg0.N) (r : Fin 512) (k : Fin 256) :
    (iblk m c 3 t : Vec Ideal S512x256 .f32) (ix2 r k) = arg3 m c (ix2 (row (t.val * 512 + r.val)) k) := by
  have ht : t.val < 16 := lt_of_lt_of_eq t.isLt N_0
  blk_simp [iblk]
  refine (congrFun (V_main_arg3 m c) _).trans (congrArg (arg3 m c) ?_)
  blk_ext [index3]
  exact row_val (by omega)

theorem block4 (t : Fin cfg0.N) : (iblk m c 4 t : Vec Ideal S256x1024 .bf16) = arg4 m c := by
  funext y
  blk_simp [iblk]
  refine (congrFun (V_main_arg4 m c) _).trans (congrArg (arg4 m c) ?_)
  blk_ext [index4]

theorem result5 : ((dats m 0 c).arrAt 5 cfg0.N : Vec Ideal S8192x1024 .bf16)
    = fun i => normed (arg0 m c) (arg1 m c) (i 0) (i 1) := by
  refine (dats m 0 c).arrAt_eq_of_covers 5 _ (by decide +kernel) fun t hf y => ?_
  have ht : t.val < 16 := lt_of_lt_of_eq t.isLt N_0
  blk_simp
  rw [after0_5]; frame_out
  have e : (win0_5.blk t).view.emb y = ix2 (row (t.val * 512 + (y 0).val)) (y 1) := by
    idx_bounds y
    blk_ext [index5]
    exact row_val (by omega)
  show _ = (fun i => normed (arg0 m c) (arg1 m c) (i 0) (i 1)) ((win0_5.blk t).view.emb y)
  rw [e, block1]
  exact (congrArg (k0_pay2 _ _) (eq_ix2 y)).trans ((pay2_apply _ _ (y 0) (y 1)).trans (normed_row _ (block0 m c t (y 0)) (y 1)))

theorem result6 : ((dats m 0 c).arrAt 6 cfg0.N : Vec Ideal S8192x1024 .bf16)
    = fun i => gate (arg0 m c) (arg1 m c) (arg2 m c) (i 0) (i 1) := by
  refine (dats m 0 c).arrAt_eq_of_covers 6 _ (by decide +kernel) fun t hf y => ?_
  have ht : t.val < 16 := lt_of_lt_of_eq t.isLt N_0
  blk_simp
  rw [after0_6]; frame_out
  have e : (win0_6.blk t).view.emb y = ix2 (row (t.val * 512 + (y 0).val)) (y 1) := by
    idx_bounds y
    blk_ext [index6]
    exact row_val (by omega)
  show _ = (fun i => gate (arg0 m c) (arg1 m c) (arg2 m c) (i 0) (i 1)) ((win0_6.blk t).view.emb y)
  rw [e, block1, block2]
  exact (congrArg (k0_pay5 _ _ _) (eq_ix2 y)).trans
    ((pay5_apply _ _ _ (y 0) (y 1)).trans (gate_row _ _ (block0 m c t (y 0)) (y 1)))

theorem result7 : ((dats m 0 c).arrAt 7 cfg0.N : Vec Ideal S8192x1024 .bf16)
    = fun i => embedded (arg3 m c) (arg4 m c) (i 0) (i 1) := by
  refine (dats m 0 c).arrAt_eq_of_covers 7 _ (by decide +kernel) fun t hf y => ?_
  have ht : t.val < 16 := lt_of_lt_of_eq t.isLt N_0
  blk_simp
  rw [after0_7]; frame_out
  have e : (win0_7.blk t).view.emb y = ix2 (row (t.val * 512 + (y 0).val)) (y 1) := by
    idx_bounds y
    blk_ext [index7]
    exact row_val (by omega)
  show _ = (fun i => embedded (arg3 m c) (arg4 m c) (i 0) (i 1)) ((win0_7.blk t).view.emb y)
  rw [e, block4]
  exact (congrArg (k0_pay6 _ _) (eq_ix2 y)).trans
    ((pay6_apply _ _ (y 0) (y 1)).trans (embedded_row _ (block3 m c t (y 0)) (y 1)))

theorem result8 : ((dats m 0 c).arrAt 8 cfg0.N : Vec Ideal S8192x1024 .f32)
    = fun i => out (arg0 m c) (arg1 m c) (arg2 m c) (arg3 m c) (arg4 m c) (i 0) (i 1) := by
  refine (dats m 0 c).arrAt_eq_of_covers 8 _ (by decide +kernel) fun t hf y => ?_
  have ht : t.val < 16 := lt_of_lt_of_eq t.isLt N_0
  blk_simp
  rw [after0_8]; frame_out
  have e : (win0_8.blk t).view.emb y = ix2 (row (t.val * 512 + (y 0).val)) (y 1) := by
    idx_bounds y
    blk_ext [index8]
    exact row_val (by omega)
  show _ = (fun i => out (arg0 m c) (arg1 m c) (arg2 m c) (arg3 m c) (arg4 m c) (i 0) (i 1)) ((win0_8.blk t).view.emb y)
  rw [e, block1, block2, block4]
  exact (congrArg (k0_pay1 _ _ _ _) (eq_ix2 y)).trans ((pay1_apply _ _ _ _ _ (y 0) (y 1)).trans
    (out_row _ _ _ (block0 m c t (y 0)) (block3 m c t (y 0)) (y 1)))

end Cert.Kernel15Ideal.Rows

namespace Cert.Proof

open Cert.Reference15Ideal.Read Cert.Norm Cert.Blocks Cert.Ple
open Idealize.ShloMosaic Idealize.SL.Sem

section
variable (x0 : (⟨Cert.Reference15Ideal.S8192x1024, .f32⟩ : BufTy).Contents (Elt Ideal))
  (x1 : (⟨Cert.Reference15Ideal.S1x1024, .f32⟩ : BufTy).Contents (Elt Ideal))
  (x2 : (⟨Cert.Reference15Ideal.S1024x1024, .bf16⟩ : BufTy).Contents (Elt Ideal))
  (x3 : (⟨Cert.Reference15Ideal.S8192x256, .f32⟩ : BufTy).Contents (Elt Ideal))
  (x4 : (⟨Cert.Reference15Ideal.S256x1024, .bf16⟩ : BufTy).Contents (Elt Ideal))
  (i : Cert.Reference15Ideal.S8192x1024.Idx)

theorem reference15_normed : val_main_v15 (F := Ideal) x0 x1 i = normed x0 x1 (i 0) (i 1) := by
  rw [val_main_v15_apply, val_main_v12_apply, val_main_v14_apply, val_main_v13_apply, val_main_v11_apply,
    val_main_v10_apply, val_main_v9_apply, val_main_v7_apply, val_main_v5_apply, val_main_v4_apply, val_main_v0_apply]
  simp only [pointwise]
  unfold normed scaled rms meanSq
  refine congrArg₂ (fun a b : EReal => a * b) (congrArg₂ (fun a b : EReal => a * b) (congrArg x0 (eq_ix2 i))
    (congrArg Ideal.rsqrt (congrArg₂ (fun a b : EReal => a + b) (congrArg₂ Ideal.div ?_ rfl) rfl)))
    (congrArg x1 (ix2_of rfl (Nat.mod_eq_of_lt (i 1).isLt)))
  refine (congrArg₂ (fun a b : EReal => a + b) Ideal.ofBits_zero_f32 (Finset.sum_congr rfl fun k _ => ?_)).trans
    (zero_add _)
  exact congrArg (fun a : EReal => a * a) (congrArg x0 (eq_ix2 _))

theorem reference15_gate : val_main_v16 (F := Ideal) x0 x1 x2 i = gate x0 x1 x2 (i 0) (i 1) := by
  refine (val_main_v16_apply x0 x1 x2 i).trans (Finset.sum_congr rfl fun k _ => ?_)
  rw [reference15_normed]
  exact congrArg (_ * ·) (congrArg x2 (eq_ix2 _))

theorem reference15_embedded : val_main_v17 (F := Ideal) x3 x4 i = embedded x3 x4 (i 0) (i 1) := by
  refine (val_main_v17_apply x3 x4 i).trans (Finset.sum_congr rfl fun k _ => ?_)
  exact congrArg₂ (fun a b : EReal => a * b) (congrArg x3 (eq_ix2 _)) (congrArg x4 (eq_ix2 _))

theorem reference15_out : val_main_v25 (F := Ideal) x0 x1 x2 x3 x4 i = out x0 x1 x2 x3 x4 (i 0) (i 1) := by
  rw [val_main_v25_apply, val_main_v24_apply, val_main_v23_apply, val_main_v21_apply, val_main_v19_apply,
    val_main_v18_apply, reference15_gate, reference15_embedded]
  unfold out
  exact congrArg (· + _) (congrArg x0 (eq_ix2 i))

end

theorem algebraic15 : Cert.algebraic_Kernel15Ideal_Reference15Ideal := fun m g m' g' _ hagree =>
  ⟨fun c => (Cert.Kernel15Ideal.Gen.dats m 0 c).arrAt 5 Cert.Kernel15Ideal.cfg0.N,
    fun c => (Cert.Kernel15Ideal.Gen.dats m 0 c).arrAt 6 Cert.Kernel15Ideal.cfg0.N,
    fun c => (Cert.Kernel15Ideal.Gen.dats m 0 c).arrAt 7 Cert.Kernel15Ideal.cfg0.N,
    fun c => (Cert.Kernel15Ideal.Gen.dats m 0 c).arrAt 8 Cert.Kernel15Ideal.cfg0.N,
    Cert.Kernel15Ideal.Value.run_blocks m g,
    (θ_run (Cert.Reference15Ideal.defs (F := Ideal)) _ _).mono (fun r h c => by
      obtain ⟨a0, a1, a2, a3, a4⟩ := hagree c
      refine ⟨(h c).1.trans ?_, (h c).2.1.trans ?_, (h c).2.2.1.trans ?_, (h c).2.2.2.1.trans ?_, (h c).2.2.2.2⟩
      · rw [a0, a1]
        refine (val_main_v26_eq (F := Ideal) _ _).trans (Eq.trans ?_ (Cert.Kernel15Ideal.Rows.result5 m c).symm)
        exact funext fun i => (val_main_v26_apply _ _ i).trans (reference15_normed _ _ i)
      · rw [a0, a1, a2]
        refine (val_main_v27_eq (F := Ideal) _ _ _).trans (Eq.trans ?_ (Cert.Kernel15Ideal.Rows.result6 m c).symm)
        exact funext fun i => (val_main_v27_apply _ _ _ i).trans (reference15_gate _ _ _ i)
      · rw [a3, a4]
        refine (val_main_v28_eq (F := Ideal) _ _).trans (Eq.trans ?_ (Cert.Kernel15Ideal.Rows.result7 m c).symm)
        exact funext fun i => (val_main_v28_apply _ _ i).trans (reference15_embedded _ _ i)
      · rw [a0, a1, a2, a3, a4]
        refine (val_main_v25_eq (F := Ideal) _ _ _ _ _).trans (Eq.trans ?_ (Cert.Kernel15Ideal.Rows.result8 m c).symm)
        exact funext fun i => reference15_out _ _ _ _ _ i)
    (Cert.Reference15Ideal.Value.run m' g')⟩

end Cert.Proof

end
-- ==== Proof.PleLoss16.lean ====
/- The embedding part of the last layer with the loss: as in the other layers, but instead of its output
   the kernel writes the loss's gradient by it, and sums the squares of the errors over the blocks. -/
module

public import proofs.«01_k».proof.Defs
public import proofs.«01_k».proof.Proof.Blocks
public import proofs.«01_k».proof.Proof.Norm
public import proofs.«01_k».proof.Proof.Ple15
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Tactic
public import Idealize.ShloMosaic.Lib.Pipeline.ValueKit

@[expose] public section

noncomputable section

namespace Cert.Kernel16Ideal.Rows

open Cert.Kernel16Ideal Cert.Kernel16Ideal.Gen Cert.Kernel16Ideal.Value Cert.Blocks Cert.Norm Cert.Ple
open Idealize.ShloMosaic Idealize.ShloMosaic.TcCoe Idealize.SL.Sem

/-- The share of an element in a row's mean. -/
abbrev share : EReal := Ideal.ofBits FTy.f32 981467136#32
abbrev two : EReal := Ideal.ofBits FTy.f32 1073741824#32

theorem share_eq : share = ((1 / 1024 : ℝ) : EReal) := by
  simp [Ideal.ofBits, Ideal.ieee, -EReal.coe_mul]; norm_num

theorem two_eq : two = ((2 : ℝ) : EReal) := by
  simp [Ideal.ofBits, Ideal.ieee, -EReal.coe_mul]; norm_num

/-- The gradient of half the mean of the squares, as the reference writes it. -/
theorem share_mul (e : EReal) : Ideal.div (half * one) width * (two * e) = e * share := by
  rw [width_eq, Ideal.div_coe (by norm_num), half_eq, one_eq, two_eq, share_eq, ← mul_assoc, mul_comm e,
    ← EReal.coe_mul, ← EReal.coe_mul, ← EReal.coe_mul]
  congr 2
  norm_num

section
variable (h : Vec Ideal S512x1024 .f32) (g : Vec Ideal S1x1024 .f32) (w : Vec Ideal S1024x1024 .bf16)
  (p : Vec Ideal S512x256 .f32) (u : Vec Ideal S256x1024 .bf16) (y : Vec Ideal S512x1024 .f32)
  (r : Fin 512) (j : Fin 1024)

/-- The values before the error are the ones of the other layers' calls. -/
theorem pay5_apply : k0_pay5 h g (ix2 r j) = normed h g r j := Cert.Kernel15Ideal.Rows.pay2_apply h g r j

theorem pay6_apply : k0_pay6 h g w (ix2 r j) = gate h g w r j := Cert.Kernel15Ideal.Rows.pay3_apply h g w r j

theorem pay7_apply : k0_pay7 p u (ix2 r j) = embedded p u r j := Cert.Kernel15Ideal.Rows.pay4_apply p u r j

theorem pay8_apply : k0_pay8 h g w (ix2 r j) = gate h g w r j := pay6_apply h g w r j

theorem pay9_apply : k0_pay9 p u (ix2 r j) = embedded p u r j := pay7_apply p u r j

/-- The error at a place of a block. -/
theorem pay1_apply : k0_pay1 h (k0_pay7 p u) (k0_pay10 h g w) (k0_pay11 (F := Ideal)) y (ix2 r j)
    = out h g w p u r j - y (ix2 r j) :=
  congrArg (· - y (ix2 r j)) (Cert.Kernel15Ideal.Rows.pay1_apply h g w p u r j)

theorem pay2_apply (a b d : FVec Ideal S512x1024 .f32) :
    k0_pay2 h a b d y (ix2 r j) = k0_pay1 h a b d y (ix2 r j) * share := by
  unfold k0_pay2
  simp only [pointwise]

theorem pay3_apply (q : Fin 128) : k0_pay3 (F := Ideal) (ix2 0 q) = 0 := by
  unfold k0_pay3
  exact Ideal.ofBits_zero_f32

theorem pay4_apply (a b d : FVec Ideal S512x1024 .f32) (o : Vec Ideal S1x128 .f32) (q : Fin 128) :
    k0_pay4 h a b d y o (ix2 0 q)
      = o (ix2 0 q) + ∑ r : Fin 512, ∑ j : Fin 1024, k0_pay1 h a b d y (ix2 r j) * k0_pay1 h a b d y (ix2 r j) := by
  unfold k0_pay4
  generalize k0_pay1 h a b d y = e
  simp only [pointwise]

end

variable (m : (ℓ : Loc nD τ sig) → Buf (Elt Ideal) ℓ) (c : Dev nD)

def arg0 : Vec Ideal S8192x1024 .f32 := m ((c : Thread nD τ).loc main_arg0)
def arg1 : Vec Ideal S1x1024 .f32 := m ((c : Thread nD τ).loc main_arg1)
def arg2 : Vec Ideal S1024x1024 .bf16 := m ((c : Thread nD τ).loc main_arg2)
def arg3 : Vec Ideal S8192x256 .f32 := m ((c : Thread nD τ).loc main_arg3)
def arg4 : Vec Ideal S256x1024 .bf16 := m ((c : Thread nD τ).loc main_arg4)
def arg5 : Vec Ideal S8192x1024 .f32 := m ((c : Thread nD τ).loc main_arg5)

/-- A row's error, and the sum of a row's squared errors. -/
def error (R : Fin 8192) (j : Fin 1024) : EReal :=
  out (arg0 m c) (arg1 m c) (arg2 m c) (arg3 m c) (arg4 m c) R j - arg5 m c (ix2 R j)
def square (R : Fin 8192) : EReal := ∑ j, error m c R j * error m c R j

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])

theorem block0 (t : Fin cfg0.N) (r : Fin 512) (k : Fin 1024) :
    (iblk m c 0 t : Vec Ideal S512x1024 .f32) (ix2 r k) = arg0 m c (ix2 (row (t.val * 512 + r.val)) k) := by
  have ht : t.val < 16 := lt_of_lt_of_eq t.isLt N_0
  blk_simp [iblk]
  refine (congrFun (V_main_arg0 m c) _).trans (congrArg (arg0 m c) ?_)
  blk_ext [index0]
  exact row_val (by omega)

theorem block1 (t : Fin cfg0.N) : (iblk m c 1 t : Vec Ideal S1x1024 .f32) = arg1 m c := by
  funext y
  blk_simp [iblk]
  refine (congrFun (V_main_arg1 m c) _).trans (congrArg (arg1 m c) ?_)
  blk_ext [index1]

theorem block2 (t : Fin cfg0.N) : (iblk m c 2 t : Vec Ideal S1024x1024 .bf16) = arg2 m c := by
  funext y
  blk_simp [iblk]
  refine (congrFun (V_main_arg2 m c) _).trans (congrArg (arg2 m c) ?_)
  blk_ext [index2]

theorem block3 (t : Fin cfg0.N) (r : Fin 512) (k : Fin 256) :
    (iblk m c 3 t : Vec Ideal S512x256 .f32) (ix2 r k) = arg3 m c (ix2 (row (t.val * 512 + r.val)) k) := by
  have ht : t.val < 16 := lt_of_lt_of_eq t.isLt N_0
  blk_simp [iblk]
  refine (congrFun (V_main_arg3 m c) _).trans (congrArg (arg3 m c) ?_)
  blk_ext [index3]
  exact row_val (by omega)

theorem block4 (t : Fin cfg0.N) : (iblk m c 4 t : Vec Ideal S256x1024 .bf16) = arg4 m c := by
  funext y
  blk_simp [iblk]
  refine (congrFun (V_main_arg4 m c) _).trans (congrArg (arg4 m c) ?_)
  blk_ext [index4]

theorem block5 (t : Fin cfg0.N) (r : Fin 512) (k : Fin 1024) :
    (iblk m c 5 t : Vec Ideal S512x1024 .f32) (ix2 r k) = arg5 m c (ix2 (row (t.val * 512 + r.val)) k) := by
  have ht : t.val < 16 := lt_of_lt_of_eq t.isLt N_0
  blk_simp [iblk]
  refine (congrFun (V_main_arg5 m c) _).trans (congrArg (arg5 m c) ?_)
  blk_ext [index5]
  exact row_val (by omega)

theorem after6 (t : Fin cfg0.N) : (outsAt0 m c t.val t.isLt).1 = k0_pay5 (iblk m c 0 t) (iblk m c 1 t) := by
  by_cases h : t.val % 16 = 0
  · rw [outsAt0_A m c t h]; frame_out
  · rw [outsAt0_B m c t h]; frame_out

theorem result6 : ((dats m 0 c).arrAt 6 cfg0.N : Vec Ideal S8192x1024 .bf16)
    = fun i => normed (arg0 m c) (arg1 m c) (i 0) (i 1) := by
  refine (dats m 0 c).arrAt_eq_of_covers 6 _ (by decide +kernel) fun t hf y => ?_
  have ht : t.val < 16 := lt_of_lt_of_eq t.isLt N_0
  blk_simp
  rw [after0_6, after6]
  have e : (win0_6.blk t).view.emb y = ix2 (row (t.val * 512 + (y 0).val)) (y 1) := by
    idx_bounds y
    blk_ext [index6]
    exact row_val (by omega)
  show _ = (fun i => normed (arg0 m c) (arg1 m c) (i 0) (i 1)) ((win0_6.blk t).view.emb y)
  rw [e, block1]
  exact (congrArg (k0_pay5 _ _) (eq_ix2 y)).trans ((pay5_apply _ _ (y 0) (y 1)).trans (normed_row _ (block0 m c t (y 0)) (y 1)))

theorem after7 (t : Fin cfg0.N) : (outsAt0 m c t.val t.isLt).2.1 = k0_pay8 (iblk m c 0 t) (iblk m c 1 t) (iblk m c 2 t) := by
  by_cases h : t.val % 16 = 0
  · rw [outsAt0_A m c t h]; frame_out
  · rw [outsAt0_B m c t h]; frame_out

theorem result7 : ((dats m 0 c).arrAt 7 cfg0.N : Vec Ideal S8192x1024 .bf16)
    = fun i => gate (arg0 m c) (arg1 m c) (arg2 m c) (i 0) (i 1) := by
  refine (dats m 0 c).arrAt_eq_of_covers 7 _ (by decide +kernel) fun t hf y => ?_
  have ht : t.val < 16 := lt_of_lt_of_eq t.isLt N_0
  blk_simp
  rw [after0_7, after7]
  have e : (win0_7.blk t).view.emb y = ix2 (row (t.val * 512 + (y 0).val)) (y 1) := by
    idx_bounds y
    blk_ext [index7]
    exact row_val (by omega)
  show _ = (fun i => gate (arg0 m c) (arg1 m c) (arg2 m c) (i 0) (i 1)) ((win0_7.blk t).view.emb y)
  rw [e, block1, block2]
  exact (congrArg (k0_pay8 _ _ _) (eq_ix2 y)).trans ((pay8_apply _ _ _ (y 0) (y 1)).trans (gate_row _ _ (block0 m c t (y 0)) (y 1)))

theorem after8 (t : Fin cfg0.N) : (outsAt0 m c t.val t.isLt).2.2.1 = k0_pay9 (iblk m c 3 t) (iblk m c 4 t) := by
  by_cases h : t.val % 16 = 0
  · rw [outsAt0_A m c t h]; frame_out
  · rw [outsAt0_B m c t h]; frame_out

theorem result8 : ((dats m 0 c).arrAt 8 cfg0.N : Vec Ideal S8192x1024 .bf16)
    = fun i => embedded (arg3 m c) (arg4 m c) (i 0) (i 1) := by
  refine (dats m 0 c).arrAt_eq_of_covers 8 _ (by decide +kernel) fun t hf y => ?_
  have ht : t.val < 16 := lt_of_lt_of_eq t.isLt N_0
  blk_simp
  rw [after0_8, after8]
  have e : (win0_8.blk t).view.emb y = ix2 (row (t.val * 512 + (y 0).val)) (y 1) := by
    idx_bounds y
    blk_ext [index8]
    exact row_val (by omega)
  show _ = (fun i => embedded (arg3 m c) (arg4 m c) (i 0) (i 1)) ((win0_8.blk t).view.emb y)
  rw [e, block4]
  exact (congrArg (k0_pay9 _ _) (eq_ix2 y)).trans ((pay9_apply _ _ (y 0) (y 1)).trans (embedded_row _ (block3 m c t (y 0)) (y 1)))

/-- The errors of a block, at the argument's rows. -/
theorem error_at (t : Fin cfg0.N) (r : Fin 512) (j : Fin 1024) :
    k0_pay1 (iblk m c 0 t) (k0_pay7 (iblk m c 3 t) (iblk m c 4 t)) (k0_pay10 (iblk m c 0 t) (iblk m c 1 t) (iblk m c 2 t))
      (k0_pay11 (F := Ideal)) (iblk m c 5 t) (ix2 r j) = error m c (row (t.val * 512 + r.val)) j := by
  rw [block1, block2, block4]
  refine (pay1_apply _ _ _ _ _ _ r j).trans ?_
  unfold error
  exact congrArg₂ (fun a b : EReal => a - b) (out_row _ _ _ (block0 m c t r) (block3 m c t r) j) (block5 m c t r j)

theorem after9 (t : Fin cfg0.N) : (outsAt0 m c t.val t.isLt).2.2.2.1 = k0_pay2 (iblk m c 0 t)
    (k0_pay7 (iblk m c 3 t) (iblk m c 4 t)) (k0_pay10 (iblk m c 0 t) (iblk m c 1 t) (iblk m c 2 t)) (k0_pay11 (F := Ideal))
    (iblk m c 5 t) := by
  by_cases h : t.val % 16 = 0
  · rw [outsAt0_A m c t h]; frame_out
  · rw [outsAt0_B m c t h]; frame_out

theorem result9 : ((dats m 0 c).arrAt 9 cfg0.N : Vec Ideal S8192x1024 .f32)
    = fun i => error m c (i 0) (i 1) * share := by
  refine (dats m 0 c).arrAt_eq_of_covers 9 _ (by decide +kernel) fun t hf y => ?_
  have ht : t.val < 16 := lt_of_lt_of_eq t.isLt N_0
  blk_simp
  rw [after0_9, after9]
  have e : (win0_9.blk t).view.emb y = ix2 (row (t.val * 512 + (y 0).val)) (y 1) := by
    idx_bounds y
    blk_ext [index9]
    exact row_val (by omega)
  show _ = (fun i => error m c (i 0) (i 1) * share) ((win0_9.blk t).view.emb y)
  rw [e]
  exact (congrArg (k0_pay2 _ _ _ _ _) (eq_ix2 y)).trans ((pay2_apply _ _ (y 0) (y 1) _ _ _).trans (congrArg (· * share) (error_at m c t (y 0) (y 1))))

/-- The sum of the squares after a block: the block's rows added to what was there. -/
theorem first10 (t : Fin cfg0.N) (h : t.val % 16 = 0) (q : Fin 128) :
    (outsAt0 m c t.val t.isLt).2.2.2.2 (ix2 0 q) = ∑ r : Fin 512, square m c (row (t.val * 512 + r.val)) := by
  rw [outsAt0_A m c t h]; frame_out
  rw [pay4_apply, pay3_apply, zero_add]
  unfold square
  simp only [error_at]

theorem later10 (t : Fin cfg0.N) (h : ¬t.val % 16 = 0) (q : Fin 128) :
    (outsAt0 m c t.val t.isLt).2.2.2.2 (ix2 0 q)
      = (outsAt0 m c (t.val - 1) (Nat.lt_of_le_of_lt (Nat.sub_le _ _) t.isLt)).2.2.2.2 (ix2 0 q)
        + ∑ r : Fin 512, square m c (row (t.val * 512 + r.val)) := by
  rw [outsAt0_B m c t h]; frame_out
  rw [pay4_apply]
  unfold square
  simp only [error_at]

theorem after10 (n : ℕ) (h : n < cfg0.N) (q : Fin 128) :
    (outsAt0 m c n h).2.2.2.2 (ix2 0 q) = ∑ r ∈ Finset.range ((n + 1) * 512), square m c (row r) :=
  carried 512 cfg0.N (fun n h q => (outsAt0 m c n h).2.2.2.2 (ix2 0 q)) (fun _ r => square m c (row r))
    (fun h q => first10 m c ⟨0, h⟩ rfl q)
    (fun n h q => later10 m c ⟨n + 1, h⟩ (by have := lt_of_lt_of_eq h N_0; show ¬(n + 1) % 16 = 0; omega) q) n h q

theorem result10 : ((dats m 0 c).arrAt 10 cfg0.N : Vec Ideal S1x128 .f32) = fun _ => ∑ R, square m c R := by
  refine (dats m 0 c).arrAt_eq_of_after_last 10 ⟨15, lt_of_lt_of_eq (by decide) N_0.symm⟩ (by decide +kernel) _ fun y => ?_
  rw [after0_10]
  refine (congrArg (outsAt0 m c 15 _).2.2.2.2 (ix2_of (r := 0) (c := y 1) ?_ rfl)).trans ((after10 m c 15 _ (y 1)).trans ?_)
  · exact Nat.lt_one_iff.mp (y 0).isLt
  · exact all_rows (square m c)

end Cert.Kernel16Ideal.Rows

namespace Cert.Proof

open Cert.Reference16Ideal.Read Cert.Norm Cert.Blocks Cert.Ple
open Idealize.ShloMosaic Idealize.SL.Sem

section
variable (x0 : (⟨Cert.Reference16Ideal.S8192x1024, .f32⟩ : BufTy).Contents (Elt Ideal))
  (x1 : (⟨Cert.Reference16Ideal.S1x1024, .f32⟩ : BufTy).Contents (Elt Ideal))
  (x2 : (⟨Cert.Reference16Ideal.S1024x1024, .bf16⟩ : BufTy).Contents (Elt Ideal))
  (x3 : (⟨Cert.Reference16Ideal.S8192x256, .f32⟩ : BufTy).Contents (Elt Ideal))
  (x4 : (⟨Cert.Reference16Ideal.S256x1024, .bf16⟩ : BufTy).Contents (Elt Ideal))
  (x5 : (⟨Cert.Reference16Ideal.S8192x1024, .f32⟩ : BufTy).Contents (Elt Ideal))
  (i : Cert.Reference16Ideal.S8192x1024.Idx)

theorem reference16_normed : val_main_v15 (F := Ideal) x0 x1 i = normed x0 x1 (i 0) (i 1) := reference15_normed x0 x1 i

theorem reference16_gate : val_main_v16 (F := Ideal) x0 x1 x2 i = gate x0 x1 x2 (i 0) (i 1) := reference15_gate x0 x1 x2 i

theorem reference16_embedded : val_main_v17 (F := Ideal) x3 x4 i = embedded x3 x4 (i 0) (i 1) :=
  reference15_embedded x3 x4 i

theorem reference16_out : val_main_v25 (F := Ideal) x0 x1 x2 x3 x4 i = out x0 x1 x2 x3 x4 (i 0) (i 1) :=
  reference15_out x0 x1 x2 x3 x4 i

theorem reference16_error : val_main_v26 (F := Ideal) x0 x1 x2 x3 x4 x5 i
    = out x0 x1 x2 x3 x4 (i 0) (i 1) - x5 (ix2 (i 0) (i 1)) := by
  rw [val_main_v26_apply, reference16_out]
  exact congrArg (_ - ·) (congrArg x5 (eq_ix2 i))

theorem reference16_grad : val_main_v46 (F := Ideal) x0 x1 x2 x3 x4 x5 i
    = (out x0 x1 x2 x3 x4 (i 0) (i 1) - x5 (ix2 (i 0) (i 1))) * Cert.Kernel16Ideal.Rows.share := by
  rw [val_main_v46_apply, val_main_v35_apply, ← reference16_error, val_main_v45_apply, val_main_v44_apply,
    val_main_v42_apply]
  exact Cert.Kernel16Ideal.Rows.share_mul _

theorem reference16_squares (q : Cert.Reference16Ideal.S1x128.Idx) : val_main_v47 (F := Ideal) x0 x1 x2 x3 x4 x5 q
    = ∑ R : Fin 8192, ∑ j : Fin 1024, (out x0 x1 x2 x3 x4 R j - x5 (ix2 R j)) * (out x0 x1 x2 x3 x4 R j - x5 (ix2 R j)) := by
  rw [val_main_v47_apply, val_main_v28_apply]
  refine (congrArg₂ (fun a b : EReal => a + b) Ideal.ofBits_zero_f32 ?_).trans (zero_add _)
  refine (sum_idx2 _).trans (Finset.sum_congr rfl fun R _ => Finset.sum_congr rfl fun j _ => ?_)
  rw [val_main_v27_apply, reference16_error]
  rfl

end

theorem algebraic16 : Cert.algebraic_Kernel16Ideal_Reference16Ideal := fun m g m' g' _ hagree =>
  ⟨fun c => (Cert.Kernel16Ideal.Gen.dats m 0 c).arrAt 6 Cert.Kernel16Ideal.cfg0.N,
    fun c => (Cert.Kernel16Ideal.Gen.dats m 0 c).arrAt 7 Cert.Kernel16Ideal.cfg0.N,
    fun c => (Cert.Kernel16Ideal.Gen.dats m 0 c).arrAt 8 Cert.Kernel16Ideal.cfg0.N,
    fun c => (Cert.Kernel16Ideal.Gen.dats m 0 c).arrAt 9 Cert.Kernel16Ideal.cfg0.N,
    fun c => (Cert.Kernel16Ideal.Gen.dats m 0 c).arrAt 10 Cert.Kernel16Ideal.cfg0.N,
    Cert.Kernel16Ideal.Value.run_blocks m g,
    (θ_run (Cert.Reference16Ideal.defs (F := Ideal)) _ _).mono (fun r h c => by
      obtain ⟨a0, a1, a2, a3, a4, a5⟩ := hagree c
      refine ⟨(h c).1.trans ?_, (h c).2.1.trans ?_, (h c).2.2.1.trans ?_, (h c).2.2.2.1.trans ?_,
        (h c).2.2.2.2.1.trans ?_, (h c).2.2.2.2.2⟩
      · rw [a0, a1]
        refine (val_main_v29_eq (F := Ideal) _ _).trans (Eq.trans ?_ (Cert.Kernel16Ideal.Rows.result6 m c).symm)
        exact funext fun i => (val_main_v29_apply _ _ i).trans (reference16_normed _ _ i)
      · rw [a0, a1, a2]
        refine (val_main_v30_eq (F := Ideal) _ _ _).trans (Eq.trans ?_ (Cert.Kernel16Ideal.Rows.result7 m c).symm)
        exact funext fun i => (val_main_v30_apply _ _ _ i).trans (reference16_gate _ _ _ i)
      · rw [a3, a4]
        refine (val_main_v31_eq (F := Ideal) _ _).trans (Eq.trans ?_ (Cert.Kernel16Ideal.Rows.result8 m c).symm)
        exact funext fun i => (val_main_v31_apply _ _ i).trans (reference16_embedded _ _ i)
      · rw [a0, a1, a2, a3, a4, a5]
        refine (val_main_v46_eq (F := Ideal) _ _ _ _ _ _).trans (Eq.trans ?_ (Cert.Kernel16Ideal.Rows.result9 m c).symm)
        exact funext fun i => reference16_grad _ _ _ _ _ _ i
      · rw [a0, a1, a2, a3, a4, a5]
        refine (val_main_v47_eq (F := Ideal) _ _ _ _ _ _).trans (Eq.trans ?_ (Cert.Kernel16Ideal.Rows.result10 m c).symm)
        exact funext fun q => reference16_squares _ _ _ _ _ _ q)
    (Cert.Reference16Ideal.Value.run m' g')⟩

end Cert.Proof

end
-- ==== Proof.Adam.lean ====
/- One weight's update, as a function of the weight, its gradient and its two moments: what the
   kernels compute entry by entry and what the reference computes entry by entry. -/
module

public import proofs.«01_k».proof.Defs
public import Idealize.ShloMosaic.Lib.Pipeline.Value
public import Idealize.ShloMosaic.Lib.ValueIdx
public import Idealize.ShloMosaic.Lib.Pointwise
public import Idealize.ShloMosaic.Lib.ValueLayout
public import Idealize.ShloMosaic.Lib.Tactic

@[expose] public section

noncomputable section

namespace Cert.Adam

open Idealize.ShloMosaic Idealize.SL.Sem

/-- A literal of the programs, as the extended real it stands for. -/
def lit (b : BitVec FTy.f32.bits) : EReal := Ideal.ofBits FTy.f32 b

/-- The new first moment: 0.9 of the old one and 0.1 of the gradient. -/
def moment (g m : EReal) : EReal := lit 0x3F666666#32 * m + lit 0x3DCCCCCD#32 * g

/-- The new second moment: 0.999 of the old one and 0.001 of the gradient's square. -/
def square (g v : EReal) : EReal := lit 0x3F7FBE77#32 * v + lit 0x3A83126F#32 * (g * g)

/-- The change of the weight: minus the rate times the corrected first moment over the root of the
    corrected second one, with the decay added. -/
def step (w g m v : EReal) : EReal :=
  lit 0xBA83126F#32
    * (Ideal.div (Ideal.div (moment g m) (lit 0x3F26BD02#32))
        (Ideal.sqrt (Ideal.div (square g v) (lit 0x3C231ACC#32)) + lit 0x322BCC77#32)
      + lit 0x3C23D70A#32 * w)

/-- One weight's stacked layers: layer 0 as computed now, the later layers as they were. -/
def stacked {R C : ℕ} (now : Fin R → Fin C → EReal) (later : FVec Ideal ⟨3, ![4, R, C]⟩ .f32) :
    FVec Ideal ⟨3, ![4, R, C]⟩ .f32 :=
  fun i => if (i 0).val = 0 then now (i 1) (i 2) else later i

theorem stacked_first {R C : ℕ} (now : Fin R → Fin C → EReal) (later : FVec Ideal ⟨3, ![4, R, C]⟩ .f32)
    {i : (⟨3, ![4, R, C]⟩ : Shape).Idx} (h : (i 0).val = 0) : stacked now later i = now (i 1) (i 2) := if_pos h

theorem stacked_later {R C : ℕ} (now : Fin R → Fin C → EReal) (later : FVec Ideal ⟨3, ![4, R, C]⟩ .f32)
    {i : (⟨3, ![4, R, C]⟩ : Shape).Idx} (h : ¬(i 0).val = 0) : stacked now later i = later i := if_neg h

theorem stacked_row {R C : ℕ} (now : Fin R → Fin C → EReal) (later : FVec Ideal ⟨3, ![4, R, C]⟩ .f32)
    (r : Fin R) (k : Fin C) : stacked now later (ix3 0 r k) = now r k := if_pos rfl

/-- A one-layer array put before the three later layers of a stack. -/
theorem joined {R C : ℕ} (x : FVec Ideal ⟨3, ![1, R, C]⟩ .f32) (y : FVec Ideal ⟨3, ![3, R, C]⟩ .f32)
    (h : Shape.Concatenates [⟨3, ![1, R, C]⟩, ⟨3, ![3, R, C]⟩] (⟨3, ![4, R, C]⟩ : Shape) 0)
    (now : Fin R → Fin C → EReal) (later : FVec Ideal ⟨3, ![4, R, C]⟩ .f32)
    (hx : ∀ r k, now r k = x (ix3 0 r k))
    (hy : ∀ (l : Fin 3) r k, y (ix3 l r k) = later (ix3 ⟨l.val + 1, by omega⟩ r k)) :
    concatenate (⟨3, ![4, R, C]⟩ : Shape) 0 [⟨⟨3, ![1, R, C]⟩, x⟩, ⟨⟨3, ![3, R, C]⟩, y⟩] h = stacked now later := by
  funext i
  have h4 : (i 0).val < 4 := (i 0).isLt
  by_cases h0 : (i 0).val = 0
  · refine Eq.trans ?_ ((stacked_first now later h0).trans (hx _ _)).symm
    refine concatenate_pair_apply_left 0 x y h i rfl (ix3 0 (i 1) (i 2)) fun b => ?_
    match b with
    | ⟨0, _⟩ => exact h0.symm
    | ⟨1, _⟩ => rfl
    | ⟨2, _⟩ => rfl
  · rw [stacked_later now later h0]
    refine (concatenate_pair_apply_right 0 x y h i rfl rfl (ix3 ⟨(i 0).val - 1, by omega⟩ (i 1) (i 2))
      (fun b hb => ?_) ?_).trans ((hy _ _ _).trans (congrArg later ?_))
    · match b, hb with
      | ⟨0, _⟩, hb => exact absurd rfl hb
      | ⟨1, _⟩, _ => rfl
      | ⟨2, _⟩, _ => rfl
    · show (i 0).val - 1 + 1 = (i 0).val
      omega
    · funext b
      apply Fin.ext
      match b with
      | ⟨0, _⟩ => show (i 0).val - 1 + 1 = (i 0).val; omega
      | ⟨1, _⟩ => rfl
      | ⟨2, _⟩ => rfl

/-- Layer 0 cut out of a stack, its layer axis dropped. -/
theorem cut {R C : ℕ} (x : FVec Ideal ⟨3, ![4, R, C]⟩ .f32)
    (hs : (⟨3, ![4, R, C]⟩ : Shape).Slices ![0, 0, 0] ⟨3, ![1, R, C]⟩)
    (hc : (⟨3, ![1, R, C]⟩ : Shape).ShapeCasts ⟨2, ![R, C]⟩) (r : Fin R) (k : Fin C) :
    shapeCast ⟨2, ![R, C]⟩ (extractStridedSlice ⟨3, ![1, R, C]⟩ ![0, 0, 0] x hs) hc (ix2 r k) = x (ix3 0 r k) := by
  refine (ValueIdx.shapeCast_1ab_ab_apply _ hc r k).trans ?_
  refine extractStridedSlice_apply ![0, 0, 0] x hs _ _ fun a => ?_
  match a with
  | ⟨0, _⟩ => rfl
  | ⟨1, _⟩ => exact (Nat.zero_add _).symm
  | ⟨2, _⟩ => exact (Nat.zero_add _).symm

section Layer
variable {R C : ℕ} (x y : FVec Ideal ⟨2, ![R, C]⟩ .f32) (w m v : FVec Ideal ⟨3, ![4, R, C]⟩ .f32) (r : Fin R) (k : Fin C)

/-- The gradient of layer 0, the two parts added, and what the update makes of each entry of that layer. -/
def grad0 : EReal := x (ix2 r k) + y (ix2 r k)
def moment0 : EReal := moment (grad0 x y r k) (m (ix3 0 r k))
def square0 : EReal := square (grad0 x y r k) (v (ix3 0 r k))
def step0 : EReal := step (w (ix3 0 r k)) (grad0 x y r k) (m (ix3 0 r k)) (v (ix3 0 r k))
end Layer

/-! ## One tile of layer 0, as a kernel computes it -/
section Tile
variable {T R C : ℕ} {x y : FVec Ideal ⟨2, ![T, C]⟩ .f32} {w m v : FVec Ideal ⟨3, ![1, T, C]⟩ .f32}
  {X Y : FVec Ideal ⟨2, ![R, C]⟩ .f32} {W M V : FVec Ideal ⟨3, ![4, R, C]⟩ .f32} {r : Fin T} {s : Fin R} {k : Fin C}
  (h : (⟨3, ![1, T, C]⟩ : Shape).ShapeCasts ⟨2, ![T, C]⟩) (h' : (⟨2, ![T, C]⟩ : Shape).ShapeCasts ⟨3, ![1, T, C]⟩)
  (hx : x (ix2 r k) = X (ix2 s k)) (hy : y (ix2 r k) = Y (ix2 s k)) (hw : w (ix3 0 r k) = W (ix3 0 s k))
  (hm : m (ix3 0 r k) = M (ix3 0 s k)) (hv : v (ix3 0 r k) = V (ix3 0 s k)) (u : Fin 1)

include hx hy

theorem grad_tile : shapeCast ⟨3, ![1, T, C]⟩ (fun i => x i + y i : FVec Ideal ⟨2, ![T, C]⟩ .f32) h' (ix3 u r k)
    = grad0 X Y s k :=
  (ValueIdx.shapeCast_ab_1ab_apply _ h' u r k).trans (congrArg₂ (· + ·) hx hy)

include hm in
theorem moment_tile :
    shapeCast ⟨3, ![1, T, C]⟩ (fun i => moment (x i + y i) (shapeCast ⟨2, ![T, C]⟩ m h i) : FVec Ideal ⟨2, ![T, C]⟩ .f32) h'
      (ix3 u r k) = moment0 X Y M s k :=
  (ValueIdx.shapeCast_ab_1ab_apply _ h' u r k).trans
    (congrArg₂ moment (congrArg₂ (· + ·) hx hy) ((ValueIdx.shapeCast_1ab_ab_apply m h r k).trans hm))

include hv in
theorem square_tile :
    shapeCast ⟨3, ![1, T, C]⟩ (fun i => square (x i + y i) (shapeCast ⟨2, ![T, C]⟩ v h i) : FVec Ideal ⟨2, ![T, C]⟩ .f32) h'
      (ix3 u r k) = square0 X Y V s k :=
  (ValueIdx.shapeCast_ab_1ab_apply _ h' u r k).trans
    (congrArg₂ square (congrArg₂ (· + ·) hx hy) ((ValueIdx.shapeCast_1ab_ab_apply v h r k).trans hv))

include hw hm hv in
theorem step_tile :
    shapeCast ⟨3, ![1, T, C]⟩ (fun i => step (shapeCast ⟨2, ![T, C]⟩ w h i) (x i + y i) (shapeCast ⟨2, ![T, C]⟩ m h i)
      (shapeCast ⟨2, ![T, C]⟩ v h i) : FVec Ideal ⟨2, ![T, C]⟩ .f32) h' (ix3 u r k) = step0 X Y W M V s k := by
  refine (ValueIdx.shapeCast_ab_1ab_apply _ h' u r k).trans ?_
  show step (shapeCast ⟨2, ![T, C]⟩ w h (ix2 r k)) (x (ix2 r k) + y (ix2 r k)) (shapeCast ⟨2, ![T, C]⟩ m h (ix2 r k))
    (shapeCast ⟨2, ![T, C]⟩ v h (ix2 r k)) = step (W (ix3 0 s k)) (X (ix2 s k) + Y (ix2 s k)) (M (ix3 0 s k)) (V (ix3 0 s k))
  have ew : shapeCast ⟨2, ![T, C]⟩ w h (ix2 r k) = W (ix3 0 s k) := (ValueIdx.shapeCast_1ab_ab_apply w h r k).trans hw
  have em : shapeCast ⟨2, ![T, C]⟩ m h (ix2 r k) = M (ix3 0 s k) := (ValueIdx.shapeCast_1ab_ab_apply m h r k).trans hm
  have ev : shapeCast ⟨2, ![T, C]⟩ v h (ix2 r k) = V (ix3 0 s k) := (ValueIdx.shapeCast_1ab_ab_apply v h r k).trans hv
  rw [ew, em, ev, hx, hy]
end Tile

/-! ## The whole stack, as the reference puts it together -/
section Whole
variable {R C : ℕ} (X Y : FVec Ideal ⟨2, ![R, C]⟩ .f32) (W M V P : FVec Ideal ⟨3, ![4, R, C]⟩ .f32)
  (hs : (⟨3, ![4, R, C]⟩ : Shape).Slices ![0, 0, 0] ⟨3, ![1, R, C]⟩)
  (hc : (⟨3, ![1, R, C]⟩ : Shape).ShapeCasts ⟨2, ![R, C]⟩)
  (hb : (⟨2, ![R, C]⟩ : Shape).BroadcastsInDim ⟨3, ![1, R, C]⟩ (![1, 2] : Fin 2 → Fin 3))
  (hl : (⟨3, ![4, R, C]⟩ : Shape).Slices ![1, 0, 0] ⟨3, ![3, R, C]⟩)
  (hj : Shape.Concatenates [⟨3, ![1, R, C]⟩, ⟨3, ![3, R, C]⟩] (⟨3, ![4, R, C]⟩ : Shape) 0)

/-- An array put as layer 0 before the later layers of a stack. -/
theorem joined_first (x : FVec Ideal ⟨2, ![R, C]⟩ .f32) (now : Fin R → Fin C → EReal) (hx : ∀ r k, x (ix2 r k) = now r k) :
    concatenate (⟨3, ![4, R, C]⟩ : Shape) 0 [⟨⟨3, ![1, R, C]⟩, broadcastInDim ⟨3, ![1, R, C]⟩ ![1, 2] hb x⟩,
      ⟨⟨3, ![3, R, C]⟩, extractStridedSlice ⟨3, ![3, R, C]⟩ ![1, 0, 0] P hl⟩] hj = stacked now P := by
  refine joined _ _ hj now P (fun r k => (hx r k).symm.trans (Eq.symm ?_)) fun l r k => ?_
  · refine broadcastInDim_apply _ hb x _ _ fun a => ?_
    match a with
    | ⟨0, _⟩ =>
      show r.val = if R = 1 then 0 else r.val
      split_ifs with e
      · have := r.isLt
        omega
      · rfl
    | ⟨1, _⟩ =>
      show k.val = if C = 1 then 0 else k.val
      split_ifs with e
      · have := k.isLt
        omega
      · rfl
  · refine extractStridedSlice_apply ![1, 0, 0] P hl _ _ fun a => ?_
    match a with
    | ⟨0, _⟩ => exact Nat.add_comm _ _
    | ⟨1, _⟩ => exact (Nat.zero_add _).symm
    | ⟨2, _⟩ => exact (Nat.zero_add _).symm

theorem joined_moments : concatenate (⟨3, ![4, R, C]⟩ : Shape) 0
    [⟨⟨3, ![1, R, C]⟩, broadcastInDim ⟨3, ![1, R, C]⟩ ![1, 2] hb (fun i => moment (X i + Y i)
      (shapeCast ⟨2, ![R, C]⟩ (extractStridedSlice ⟨3, ![1, R, C]⟩ ![0, 0, 0] M hs) hc i) : FVec Ideal ⟨2, ![R, C]⟩ .f32)⟩,
      ⟨⟨3, ![3, R, C]⟩, extractStridedSlice ⟨3, ![3, R, C]⟩ ![1, 0, 0] P hl⟩] hj = stacked (moment0 X Y M) P :=
  joined_first P hb hl hj _ _ fun r k => congrArg (moment _) (cut M hs hc r k)

theorem joined_squares : concatenate (⟨3, ![4, R, C]⟩ : Shape) 0
    [⟨⟨3, ![1, R, C]⟩, broadcastInDim ⟨3, ![1, R, C]⟩ ![1, 2] hb (fun i => square (X i + Y i)
      (shapeCast ⟨2, ![R, C]⟩ (extractStridedSlice ⟨3, ![1, R, C]⟩ ![0, 0, 0] V hs) hc i) : FVec Ideal ⟨2, ![R, C]⟩ .f32)⟩,
      ⟨⟨3, ![3, R, C]⟩, extractStridedSlice ⟨3, ![3, R, C]⟩ ![1, 0, 0] P hl⟩] hj = stacked (square0 X Y V) P :=
  joined_first P hb hl hj _ _ fun r k => congrArg (square _) (cut V hs hc r k)

theorem joined_steps : concatenate (⟨3, ![4, R, C]⟩ : Shape) 0
    [⟨⟨3, ![1, R, C]⟩, broadcastInDim ⟨3, ![1, R, C]⟩ ![1, 2] hb (fun i =>
      step (shapeCast ⟨2, ![R, C]⟩ (extractStridedSlice ⟨3, ![1, R, C]⟩ ![0, 0, 0] W hs) hc i) (X i + Y i)
        (shapeCast ⟨2, ![R, C]⟩ (extractStridedSlice ⟨3, ![1, R, C]⟩ ![0, 0, 0] M hs) hc i)
        (shapeCast ⟨2, ![R, C]⟩ (extractStridedSlice ⟨3, ![1, R, C]⟩ ![0, 0, 0] V hs) hc i) : FVec Ideal ⟨2, ![R, C]⟩ .f32)⟩,
      ⟨⟨3, ![3, R, C]⟩, extractStridedSlice ⟨3, ![3, R, C]⟩ ![1, 0, 0] P hl⟩] hj = stacked (step0 X Y W M V) P :=
  joined_first P hb hl hj _ _ fun r k => by
    show step (shapeCast ⟨2, ![R, C]⟩ (extractStridedSlice ⟨3, ![1, R, C]⟩ ![0, 0, 0] W hs) hc (ix2 r k)) _
      (shapeCast ⟨2, ![R, C]⟩ (extractStridedSlice ⟨3, ![1, R, C]⟩ ![0, 0, 0] M hs) hc (ix2 r k))
      (shapeCast ⟨2, ![R, C]⟩ (extractStridedSlice ⟨3, ![1, R, C]⟩ ![0, 0, 0] V hs) hc (ix2 r k)) = _
    rw [cut, cut, cut]
    rfl
end Whole

end Cert.Adam

end
-- ==== Proof.Update17.lean ====
/- The update of the small weights: the gradient is the sum of the eight devices' parts, added one
   after the other, and each entry is then updated on its own. -/
module

public import proofs.«01_k».proof.Defs
public import proofs.«01_k».proof.Proof.Adam
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Tactic

@[expose] public section

noncomputable section

namespace Cert.Kernel17Ideal.Small

open Cert.Kernel17Ideal Cert.Kernel17Ideal.Gen Cert.Kernel17Ideal.Value Cert.Adam
open Idealize.ShloMosaic Idealize.SL.Sem

theorem moment_apply (g x : Vec Ideal S1112x128 .f32) (i : S1112x128.Idx) : k0_pay1 g x i = moment (g i) (x i) := by
  unfold k0_pay1
  simp only [pointwise]
  rfl

theorem square_apply (g x : Vec Ideal S1112x128 .f32) (i : S1112x128.Idx) : k0_pay2 g x i = square (g i) (x i) := by
  unfold k0_pay2
  simp only [pointwise]
  rfl

theorem step_apply (g w x y : Vec Ideal S1112x128 .f32) (i : S1112x128.Idx) :
    k0_pay3 g w x y i = step (w i) (g i) (x i) (y i) := by
  unfold k0_pay3
  simp only [pointwise, moment_apply, square_apply]
  rfl

/-- The eight parts added one after the other are their sum. -/
theorem total (a0 : Vec Ideal S8x1112x128 .f32) (a1 a2 a3 : Vec Ideal S1112x128 .f32) (i : S1112x128.Idx) :
    G4 a0 a1 a2 a3 i = ∑ k : Fin 8, a0 (Cert.Reference17Ideal.Read.idx_main_v0 i k) := by
  refine (piece4_0 _ _ _ _ _ _ _ _ i).trans ?_
  rw [Fin.sum_univ_eight]
  have e : ∀ (x y : S8x1112x128.Idx), (∀ a, (x a).val = (y a).val) → a0 x = a0 y :=
    fun x y h => congrArg a0 (funext fun a => Fin.ext (h a))
  have add : ∀ {a b c d : EReal}, a = b → c = d → a + c = b + d := fun h h' => h ▸ h' ▸ rfl
  refine add (add (add (add (add (add (add (e _ _ ?_) (e _ _ ?_)) (e _ _ ?_)) (e _ _ ?_)) (e _ _ ?_)) (e _ _ ?_))
    (e _ _ ?_)) (e _ _ ?_) <;>
  · intro a
    match a with
    | ⟨0, _⟩ => rfl
    | ⟨1, _⟩ => show 0 + 1 * (0 + 1 * (i 0).val) = (i 0).val; omega
    | ⟨2, _⟩ => show 0 + 1 * (0 + 1 * (i 1).val) = (i 1).val; omega

end Cert.Kernel17Ideal.Small

namespace Cert.Proof

open Cert.Reference17Ideal.Read Cert.Adam Cert.Kernel17Ideal.Small
open Idealize.ShloMosaic Idealize.SL.Sem

section
variable (x0 : (⟨Cert.Reference17Ideal.S8x1112x128, .f32⟩ : BufTy).Contents (Elt Ideal))
  (x1 x2 x3 : (⟨Cert.Reference17Ideal.S1112x128, .f32⟩ : BufTy).Contents (Elt Ideal)) (i : Cert.Reference17Ideal.S1112x128.Idx)

theorem reference17_total : val_main_v0 (F := Ideal) x0 i = ∑ k : Fin 8, x0 (idx_main_v0 i k) := by
  rw [val_main_v0_apply]
  exact (congrArg (· + _) Ideal.ofBits_zero_f32).trans (zero_add _)

theorem reference17_moment : val_main_v5 (F := Ideal) x0 x2 i = moment (val_main_v0 (F := Ideal) x0 i) (x2 i) := by
  rw [val_main_v5_apply, val_main_v2_apply, val_main_v4_apply, val_main_v1_apply, val_main_v3_apply]
  rfl

theorem reference17_square : val_main_v11 (F := Ideal) x0 x3 i = square (val_main_v0 (F := Ideal) x0 i) (x3 i) := by
  rw [val_main_v11_apply, val_main_v7_apply, val_main_v10_apply, val_main_v6_apply, val_main_v9_apply, val_main_v8_apply]
  rfl

theorem reference17_step :
    val_main_v24 (F := Ideal) x0 x1 x2 x3 i = step (x1 i) (val_main_v0 (F := Ideal) x0 i) (x2 i) (x3 i) := by
  rw [val_main_v24_apply, val_main_v23_apply, val_main_v22_apply, val_main_v19_apply, val_main_v21_apply,
    val_main_v20_apply, val_main_v13_apply, val_main_v18_apply, val_main_v16_apply, val_main_v15_apply,
    val_main_v12_apply, val_main_v14_apply, val_main_v17_apply, reference17_moment, reference17_square]
  rfl
end

theorem algebraic17 : Cert.algebraic_Kernel17Ideal_Reference17Ideal := fun m g m' g' _ hagree =>
  ⟨_, _, _, _, Cert.Kernel17Ideal.Value.run m g,
    (θ_run (Cert.Reference17Ideal.defs (F := Ideal)) _ _).mono (fun r h c => by
      obtain ⟨a0, a1, a2, a3⟩ := hagree c
      have t := fun i => (reference17_total (m' ((c.tc : Thread _ _).loc Cert.Reference17Ideal.main_arg0)) i).trans
        ((congrArg (fun x : Vec Ideal Cert.Kernel17Ideal.S8x1112x128 .f32 => ∑ k : Fin 8, x (idx_main_v0 i k)) a0).trans
          (total (m ((c.tc : Thread _ _).loc Cert.Kernel17Ideal.main_arg0)) (m ((c.tc : Thread _ _).loc Cert.Kernel17Ideal.main_arg1))
            (m ((c.tc : Thread _ _).loc Cert.Kernel17Ideal.main_arg2)) (m ((c.tc : Thread _ _).loc Cert.Kernel17Ideal.main_arg3)) i).symm)
      refine ⟨(h c).1.trans ?_, (h c).2.1.trans ?_, (h c).2.2.1.trans ?_, (h c).2.2.2.1.trans ?_, (h c).2.2.2.2⟩
      · exact (val_main_v0_eq (F := Ideal) _).trans (funext t)
      · refine (val_main_v24_eq (F := Ideal) _ _ _ _).trans (funext fun i => (reference17_step _ _ _ _ i).trans ?_)
        rw [t, a1, a2, a3]
        exact (step_apply _ _ _ _ i).symm
      · refine (val_main_v5_eq (F := Ideal) _ _).trans (funext fun i => (reference17_moment _ _ i).trans ?_)
        rw [t, a2]
        exact (moment_apply _ _ i).symm
      · refine (val_main_v11_eq (F := Ideal) _ _).trans (funext fun i => (reference17_square _ _ i).trans ?_)
        rw [t, a3]
        exact (square_apply _ _ i).symm)
    (Cert.Reference17Ideal.Value.run m' g')⟩

end Cert.Proof
end
-- ==== Proof.Update18.lean ====
/- The update of the input projection at layer 0: half the rows at a time, the kernel adds the two
   parts of the gradient, updates each entry on its own, and writes only layer 0 of the stacked
   arrays; the later layers stay as they were. -/
module

public import proofs.«01_k».proof.Defs
public import proofs.«01_k».proof.Proof.Adam
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Tactic
public import Idealize.ShloMosaic.Lib.Pipeline.ValueKit
public import Idealize.ShloMosaic.Lib.ValueLayout

@[expose] public section

noncomputable section

namespace Cert.Kernel18Ideal.Update

open Cert.Kernel18Ideal Cert.Kernel18Ideal.Gen Cert.Kernel18Ideal.Value Cert.Adam
open Idealize.ShloMosaic Idealize.ShloMosaic.TcCoe Idealize.SL.Sem

variable (m : (ℓ : Loc nD τ sig) → Buf (Elt Ideal) ℓ) (c : Dev nD)

/-- The two parts of the gradient, and the stacked weights, moments and earlier results. -/
def mine : Vec Ideal S448x1024 .f32 := m ((c : Thread nD τ).loc main_arg0)
def sibling : Vec Ideal S448x1024 .f32 := m ((c : Thread nD τ).loc main_arg1)
def weight : Vec Ideal S4x448x1024 .f32 := m ((c : Thread nD τ).loc main_arg2)
def first : Vec Ideal S4x448x1024 .f32 := m ((c : Thread nD τ).loc main_arg3)
def second : Vec Ideal S4x448x1024 .f32 := m ((c : Thread nD τ).loc main_arg4)

/-- The row of the array that row `r` of block `t` is. -/
def rowAt (t : Fin cfg0.N) (r : Fin 224) : Fin 448 :=
  ⟨t.val * 224 + r.val, by have := lt_of_lt_of_eq t.isLt N_0; omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val, 0] :=
  (by decide +kernel : ∀ t : Fin grid0.N, win0_2.index t = ![0, t.val, 0])
theorem index3 : ∀ t : Fin cfg0.N, win0_3.index t = ![0, t.val, 0] :=
  (by decide +kernel : ∀ t : Fin grid0.N, win0_3.index t = ![0, t.val, 0])
theorem index4 : ∀ t : Fin cfg0.N, win0_4.index t = ![0, t.val, 0] :=
  (by decide +kernel : ∀ t : Fin grid0.N, win0_4.index t = ![0, t.val, 0])
theorem index5 : ∀ t : Fin cfg0.N, win0_5.index t = ![0, t.val, 0] :=
  (by decide +kernel : ∀ t : Fin grid0.N, win0_5.index t = ![0, t.val, 0])

variable (t : Fin cfg0.N) (r : Fin 224) (k : Fin 1024)

theorem block0 : (iblk m c 0 t : Vec Ideal S224x1024 .f32) (ix2 r k) = mine m c (ix2 (rowAt t r) k) := by
  blk_simp [iblk]
  refine (congrFun (V_main_arg0 m c) _).trans (congrArg (mine m c) ?_)
  blk_ext [index0]
  rfl

theorem block1 : (iblk m c 1 t : Vec Ideal S224x1024 .f32) (ix2 r k) = sibling m c (ix2 (rowAt t r) k) := by
  blk_simp [iblk]
  refine (congrFun (V_main_arg1 m c) _).trans (congrArg (sibling m c) ?_)
  blk_ext [index1]
  rfl

theorem block2 : (iblk m c 2 t : Vec Ideal S1x224x1024 .f32) (ix3 0 r k) = weight m c (ix3 0 (rowAt t r) k) := by
  blk_simp [iblk]
  refine (congrFun (V_main_arg2 m c) _).trans (congrArg (weight m c) ?_)
  blk_ext [index2]
  rfl

theorem block3 : (iblk m c 3 t : Vec Ideal S1x224x1024 .f32) (ix3 0 r k) = first m c (ix3 0 (rowAt t r) k) := by
  blk_simp [iblk]
  refine (congrFun (V_main_arg3 m c) _).trans (congrArg (first m c) ?_)
  blk_ext [index3]
  rfl

theorem block4 : (iblk m c 4 t : Vec Ideal S1x224x1024 .f32) (ix3 0 r k) = second m c (ix3 0 (rowAt t r) k) := by
  blk_simp [iblk]
  refine (congrFun (V_main_arg4 m c) _).trans (congrArg (second m c) ?_)
  blk_ext [index4]
  rfl

/-- Where a block of an output array lies: layer 0, the block's rows. -/
theorem emb5 (y : S1x224x1024.Idx) : (win0_5.blk t).view.emb y = ix3 0 (rowAt t (y 1)) (y 2) := by
  idx_bounds y
  blk_ext [index5]
  rfl

theorem emb6 (y : S1x224x1024.Idx) : (win0_6.blk t).view.emb y = ix3 0 (rowAt t (y 1)) (y 2) := emb5 t y

theorem emb7 (y : S1x224x1024.Idx) : (win0_7.blk t).view.emb y = ix3 0 (rowAt t (y 1)) (y 2) := emb5 t y

theorem emb8 (y : S1x224x1024.Idx) : (win0_8.blk t).view.emb y = ix3 0 (rowAt t (y 1)) (y 2) := emb5 t y

/-- What the stored blocks hold, in terms of the arguments' rows. -/
theorem stored5 (u : Fin 1) :
    k0_pay5 (iblk m c 0 t) (iblk m c 1 t) (ix3 u r k) = grad0 (mine m c) (sibling m c) (rowAt t r) k :=
  grad_tile _ (block0 m c t r k) (block1 m c t r k) u

theorem stored6 (u : Fin 1) :
    k0_pay1 (k0_pay8 (iblk m c 0 t) (iblk m c 1 t) (iblk m c 2 t) (iblk m c 3 t) (iblk m c 4 t)) (ix3 u r k)
      = step0 (mine m c) (sibling m c) (weight m c) (first m c) (second m c) (rowAt t r) k :=
  step_tile shapeCasts_S1x224x1024_S224x1024 _ (block0 m c t r k) (block1 m c t r k) (block2 m c t r k)
    (block3 m c t r k) (block4 m c t r k) u

theorem stored7 (u : Fin 1) :
    k0_pay2 (k0_pay6 (iblk m c 0 t) (iblk m c 1 t) (iblk m c 3 t)) (ix3 u r k)
      = moment0 (mine m c) (sibling m c) (first m c) (rowAt t r) k :=
  moment_tile shapeCasts_S1x224x1024_S224x1024 _ (block0 m c t r k) (block1 m c t r k) (block3 m c t r k) u

theorem stored8 (u : Fin 1) :
    k0_pay3 (k0_pay7 (iblk m c 0 t) (iblk m c 1 t) (iblk m c 4 t)) (ix3 u r k)
      = square0 (mine m c) (sibling m c) (second m c) (rowAt t r) k :=
  square_tile shapeCasts_S1x224x1024_S224x1024 _ (block0 m c t r k) (block1 m c t r k) (block4 m c t r k) u

theorem result5 : ((dats m 0 c).arrAt 5 cfg0.N : Vec Ideal S4x448x1024 .f32)
    = stacked (grad0 (mine m c) (sibling m c)) (m ((c : Thread nD τ).loc main_arg5)) := by
  refine (dats m 0 c).arrAt_eq_of_coversWhere_of_agree 5 _ (fun β => β (0 : Fin 3) = 0) (by decide +kernel)
    (fun t hf y => ?_) (fun j hj => ?_)
  · blk_simp
    rw [after0_5, outsAt0]
    dsimp only
    frame_out
    exact (((congrArg (k0_pay5 _ _) (eq_ix3 y)).trans (stored5 m c t (y 1) (y 2) (y 0))).trans (stacked_row _ _ _ _).symm).trans
      (congrArg (stacked _ _) (emb5 t y)).symm
  · blk_simp [Pipeline.Window.cell_apply] at hj
    have e : V m c main_v0_0 = m ((c : Thread nD τ).loc main_arg5) := by
      unfold_abbrev_sides
      after_results
      rfl
    exact (congrFun e _).trans (stacked_later _ _ fun h => hj (by rw [Nat.div_one]; exact h)).symm

theorem result6 : ((dats m 0 c).arrAt 6 cfg0.N : Vec Ideal S4x448x1024 .f32)
    = stacked (step0 (mine m c) (sibling m c) (weight m c) (first m c) (second m c)) (m ((c : Thread nD τ).loc main_arg6)) := by
  refine (dats m 0 c).arrAt_eq_of_coversWhere_of_agree 6 _ (fun β => β (0 : Fin 3) = 0) (by decide +kernel)
    (fun t hf y => ?_) (fun j hj => ?_)
  · blk_simp
    rw [after0_6, outsAt0]
    dsimp only
    frame_out
    exact (((congrArg (k0_pay1 _) (eq_ix3 y)).trans (stored6 m c t (y 1) (y 2) (y 0))).trans (stacked_row _ _ _ _).symm).trans
      (congrArg (stacked _ _) (emb6 t y)).symm
  · blk_simp [Pipeline.Window.cell_apply] at hj
    have e : V m c main_v0_1 = m ((c : Thread nD τ).loc main_arg6) := by
      unfold_abbrev_sides
      after_results
      rfl
    exact (congrFun e _).trans (stacked_later _ _ fun h => hj (by rw [Nat.div_one]; exact h)).symm

theorem result7 : ((dats m 0 c).arrAt 7 cfg0.N : Vec Ideal S4x448x1024 .f32)
    = stacked (moment0 (mine m c) (sibling m c) (first m c)) (m ((c : Thread nD τ).loc main_arg7)) := by
  refine (dats m 0 c).arrAt_eq_of_coversWhere_of_agree 7 _ (fun β => β (0 : Fin 3) = 0) (by decide +kernel)
    (fun t hf y => ?_) (fun j hj => ?_)
  · blk_simp
    rw [after0_7, outsAt0]
    dsimp only
    frame_out
    exact (((congrArg (k0_pay2 _) (eq_ix3 y)).trans (stored7 m c t (y 1) (y 2) (y 0))).trans (stacked_row _ _ _ _).symm).trans
      (congrArg (stacked _ _) (emb7 t y)).symm
  · blk_simp [Pipeline.Window.cell_apply] at hj
    have e : V m c main_v0_2 = m ((c : Thread nD τ).loc main_arg7) := by
      unfold_abbrev_sides
      after_results
      rfl
    exact (congrFun e _).trans (stacked_later _ _ fun h => hj (by rw [Nat.div_one]; exact h)).symm

theorem result8 : ((dats m 0 c).arrAt 8 cfg0.N : Vec Ideal S4x448x1024 .f32)
    = stacked (square0 (mine m c) (sibling m c) (second m c)) (m ((c : Thread nD τ).loc main_arg8)) := by
  refine (dats m 0 c).arrAt_eq_of_coversWhere_of_agree 8 _ (fun β => β (0 : Fin 3) = 0) (by decide +kernel)
    (fun t hf y => ?_) (fun j hj => ?_)
  · blk_simp
    rw [after0_8, outsAt0]
    dsimp only
    frame_out
    exact (((congrArg (k0_pay3 _) (eq_ix3 y)).trans (stored8 m c t (y 1) (y 2) (y 0))).trans (stacked_row _ _ _ _).symm).trans
      (congrArg (stacked _ _) (emb8 t y)).symm
  · blk_simp [Pipeline.Window.cell_apply] at hj
    have e : V m c main_v0_3 = m ((c : Thread nD τ).loc main_arg8) := by
      unfold_abbrev_sides
      after_results
      rfl
    exact (congrFun e _).trans (stacked_later _ _ fun h => hj (by rw [Nat.div_one]; exact h)).symm

end Cert.Kernel18Ideal.Update

namespace Cert.Proof

open Cert.Reference18Ideal Cert.Reference18Ideal.Read Cert.Adam
open Idealize.ShloMosaic Idealize.SL.Sem

section
variable (x0 x1 : (⟨S448x1024, .f32⟩ : BufTy).Contents (Elt Ideal))
  (x2 x3 x4 x5 : (⟨S4x448x1024, .f32⟩ : BufTy).Contents (Elt Ideal))

theorem reference18_grads : val_main_v33 (F := Ideal) x0 x1 x5 = stacked (grad0 x0 x1) x5 :=
  joined_first x5 _ _ _ (val_main_v0 (F := Ideal) x0 x1) _ fun _ _ => rfl

theorem reference18_steps : val_main_v36 (F := Ideal) x0 x1 x2 x3 x4 x5 = stacked (step0 x0 x1 x2 x3 x4) x5 :=
  joined_steps x0 x1 x2 x3 x4 x5 _ _ _ _ _

theorem reference18_moments : val_main_v39 (F := Ideal) x0 x1 x3 x5 = stacked (moment0 x0 x1 x3) x5 :=
  joined_moments x0 x1 x3 x5 _ _ _ _ _

theorem reference18_squares : val_main_v42 (F := Ideal) x0 x1 x4 x5 = stacked (square0 x0 x1 x4) x5 :=
  joined_squares x0 x1 x4 x5 _ _ _ _ _
end

theorem algebraic18 : Cert.algebraic_Kernel18Ideal_Reference18Ideal := fun m g m' g' _ hagree =>
  ⟨fun c => (Cert.Kernel18Ideal.Gen.dats m 0 c).arrAt 5 Cert.Kernel18Ideal.cfg0.N,
    fun c => (Cert.Kernel18Ideal.Gen.dats m 0 c).arrAt 6 Cert.Kernel18Ideal.cfg0.N,
    fun c => (Cert.Kernel18Ideal.Gen.dats m 0 c).arrAt 7 Cert.Kernel18Ideal.cfg0.N,
    fun c => (Cert.Kernel18Ideal.Gen.dats m 0 c).arrAt 8 Cert.Kernel18Ideal.cfg0.N,
    Cert.Kernel18Ideal.Value.run_blocks m g,
    (θ_run (Cert.Reference18Ideal.defs (F := Ideal)) _ _).mono (fun r h c => by
      obtain ⟨a0, a1, a2, a3, a4, a5, a6, a7, a8⟩ := hagree c
      refine ⟨(h c).1.trans ?_, (h c).2.1.trans ?_, (h c).2.2.1.trans ?_, (h c).2.2.2.1.trans ?_, (h c).2.2.2.2⟩
      · rw [a0, a1, a5]
        exact (val_main_v33_eq (F := Ideal) _ _ _).trans ((reference18_grads _ _ _).trans
          (Cert.Kernel18Ideal.Update.result5 m c).symm)
      · rw [a0, a1, a2, a3, a4, a6]
        exact (val_main_v36_eq (F := Ideal) _ _ _ _ _ _).trans ((reference18_steps _ _ _ _ _ _).trans
          (Cert.Kernel18Ideal.Update.result6 m c).symm)
      · rw [a0, a1, a3, a7]
        exact (val_main_v39_eq (F := Ideal) _ _ _ _).trans ((reference18_moments _ _ _ _).trans
          (Cert.Kernel18Ideal.Update.result7 m c).symm)
      · rw [a0, a1, a4, a8]
        exact (val_main_v42_eq (F := Ideal) _ _ _ _).trans ((reference18_squares _ _ _ _).trans
          (Cert.Kernel18Ideal.Update.result8 m c).symm))
    (Cert.Reference18Ideal.Value.run m' g')⟩

end Cert.Proof
end
-- ==== Proof.Update19.lean ====
/- The update of a square matrix's quarter at layer 0: all of its rows at once, the kernel adds the two
   parts of the gradient, updates each entry on its own, and writes only layer 0 of the stacked
   arrays; the later layers stay as they were. -/
module

public import proofs.«01_k».proof.Defs
public import proofs.«01_k».proof.Proof.Adam
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Tactic
public import Idealize.ShloMosaic.Lib.Pipeline.ValueKit
public import Idealize.ShloMosaic.Lib.ValueLayout

@[expose] public section

noncomputable section

namespace Cert.Kernel19Ideal.Update

open Cert.Kernel19Ideal Cert.Kernel19Ideal.Gen Cert.Kernel19Ideal.Value Cert.Adam
open Idealize.ShloMosaic Idealize.ShloMosaic.TcCoe Idealize.SL.Sem

variable (m : (ℓ : Loc nD τ sig) → Buf (Elt Ideal) ℓ) (c : Dev nD)

/-- The two parts of the gradient, and the stacked weights, moments and earlier results. -/
def mine : Vec Ideal S256x1024 .f32 := m ((c : Thread nD τ).loc main_arg0)
def sibling : Vec Ideal S256x1024 .f32 := m ((c : Thread nD τ).loc main_arg1)
def weight : Vec Ideal S4x256x1024 .f32 := m ((c : Thread nD τ).loc main_arg2)
def first : Vec Ideal S4x256x1024 .f32 := m ((c : Thread nD τ).loc main_arg3)
def second : Vec Ideal S4x256x1024 .f32 := m ((c : Thread nD τ).loc main_arg4)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val, 0] :=
  (by decide +kernel : ∀ t : Fin grid0.N, win0_2.index t = ![0, t.val, 0])
theorem index3 : ∀ t : Fin cfg0.N, win0_3.index t = ![0, t.val, 0] :=
  (by decide +kernel : ∀ t : Fin grid0.N, win0_3.index t = ![0, t.val, 0])
theorem index4 : ∀ t : Fin cfg0.N, win0_4.index t = ![0, t.val, 0] :=
  (by decide +kernel : ∀ t : Fin grid0.N, win0_4.index t = ![0, t.val, 0])
theorem index5 : ∀ t : Fin cfg0.N, win0_5.index t = ![0, t.val, 0] :=
  (by decide +kernel : ∀ t : Fin grid0.N, win0_5.index t = ![0, t.val, 0])

variable (t : Fin cfg0.N) (r : Fin 256) (k : Fin 1024)

theorem block0 : (iblk m c 0 t : Vec Ideal S256x1024 .f32) (ix2 r k) = mine m c (ix2 r k) := by
  blk_simp [iblk]
  refine (congrFun (V_main_arg0 m c) _).trans (congrArg (mine m c) ?_)
  blk_ext [index0]

theorem block1 : (iblk m c 1 t : Vec Ideal S256x1024 .f32) (ix2 r k) = sibling m c (ix2 r k) := by
  blk_simp [iblk]
  refine (congrFun (V_main_arg1 m c) _).trans (congrArg (sibling m c) ?_)
  blk_ext [index1]

theorem block2 : (iblk m c 2 t : Vec Ideal S1x256x1024 .f32) (ix3 0 r k) = weight m c (ix3 0 r k) := by
  blk_simp [iblk]
  refine (congrFun (V_main_arg2 m c) _).trans (congrArg (weight m c) ?_)
  blk_ext [index2]

theorem block3 : (iblk m c 3 t : Vec Ideal S1x256x1024 .f32) (ix3 0 r k) = first m c (ix3 0 r k) := by
  blk_simp [iblk]
  refine (congrFun (V_main_arg3 m c) _).trans (congrArg (first m c) ?_)
  blk_ext [index3]

theorem block4 : (iblk m c 4 t : Vec Ideal S1x256x1024 .f32) (ix3 0 r k) = second m c (ix3 0 r k) := by
  blk_simp [iblk]
  refine (congrFun (V_main_arg4 m c) _).trans (congrArg (second m c) ?_)
  blk_ext [index4]

/-- Where a block of an output array lies: layer 0, the block's rows. -/
theorem emb5 (y : S1x256x1024.Idx) : (win0_5.blk t).view.emb y = ix3 0 (y 1) (y 2) := by
  idx_bounds y
  blk_ext [index5]

theorem emb6 (y : S1x256x1024.Idx) : (win0_6.blk t).view.emb y = ix3 0 (y 1) (y 2) := emb5 t y

theorem emb7 (y : S1x256x1024.Idx) : (win0_7.blk t).view.emb y = ix3 0 (y 1) (y 2) := emb5 t y

theorem emb8 (y : S1x256x1024.Idx) : (win0_8.blk t).view.emb y = ix3 0 (y 1) (y 2) := emb5 t y

/-- What the stored blocks hold, in terms of the arguments' rows. -/
theorem stored5 (u : Fin 1) :
    k0_pay5 (iblk m c 0 t) (iblk m c 1 t) (ix3 u r k) = grad0 (mine m c) (sibling m c) r k :=
  grad_tile _ (block0 m c t r k) (block1 m c t r k) u

theorem stored6 (u : Fin 1) :
    k0_pay1 (k0_pay8 (iblk m c 0 t) (iblk m c 1 t) (iblk m c 2 t) (iblk m c 3 t) (iblk m c 4 t)) (ix3 u r k)
      = step0 (mine m c) (sibling m c) (weight m c) (first m c) (second m c) r k :=
  step_tile shapeCasts_S1x256x1024_S256x1024 _ (block0 m c t r k) (block1 m c t r k) (block2 m c t r k)
    (block3 m c t r k) (block4 m c t r k) u

theorem stored7 (u : Fin 1) :
    k0_pay2 (k0_pay6 (iblk m c 0 t) (iblk m c 1 t) (iblk m c 3 t)) (ix3 u r k)
      = moment0 (mine m c) (sibling m c) (first m c) r k :=
  moment_tile shapeCasts_S1x256x1024_S256x1024 _ (block0 m c t r k) (block1 m c t r k) (block3 m c t r k) u

theorem stored8 (u : Fin 1) :
    k0_pay3 (k0_pay7 (iblk m c 0 t) (iblk m c 1 t) (iblk m c 4 t)) (ix3 u r k)
      = square0 (mine m c) (sibling m c) (second m c) r k :=
  square_tile shapeCasts_S1x256x1024_S256x1024 _ (block0 m c t r k) (block1 m c t r k) (block4 m c t r k) u

theorem result5 : ((dats m 0 c).arrAt 5 cfg0.N : Vec Ideal S4x256x1024 .f32)
    = stacked (grad0 (mine m c) (sibling m c)) (m ((c : Thread nD τ).loc main_arg5)) := by
  refine (dats m 0 c).arrAt_eq_of_coversWhere_of_agree 5 _ (fun β => β (0 : Fin 3) = 0) (by decide +kernel)
    (fun t hf y => ?_) (fun j hj => ?_)
  · blk_simp
    rw [after0_5, outsAt0]
    dsimp only
    frame_out
    exact (((congrArg (k0_pay5 _ _) (eq_ix3 y)).trans (stored5 m c t (y 1) (y 2) (y 0))).trans (stacked_row _ _ _ _).symm).trans
      (congrArg (stacked _ _) (emb5 t y)).symm
  · blk_simp [Pipeline.Window.cell_apply] at hj
    have e : V m c main_v0_0 = m ((c : Thread nD τ).loc main_arg5) := by
      unfold_abbrev_sides
      after_results
      rfl
    exact (congrFun e _).trans (stacked_later _ _ fun h => hj (by rw [Nat.div_one]; exact h)).symm

theorem result6 : ((dats m 0 c).arrAt 6 cfg0.N : Vec Ideal S4x256x1024 .f32)
    = stacked (step0 (mine m c) (sibling m c) (weight m c) (first m c) (second m c)) (m ((c : Thread nD τ).loc main_arg6)) := by
  refine (dats m 0 c).arrAt_eq_of_coversWhere_of_agree 6 _ (fun β => β (0 : Fin 3) = 0) (by decide +kernel)
    (fun t hf y => ?_) (fun j hj => ?_)
  · blk_simp
    rw [after0_6, outsAt0]
    dsimp only
    frame_out
    exact (((congrArg (k0_pay1 _) (eq_ix3 y)).trans (stored6 m c t (y 1) (y 2) (y 0))).trans (stacked_row _ _ _ _).symm).trans
      (congrArg (stacked _ _) (emb6 t y)).symm
  · blk_simp [Pipeline.Window.cell_apply] at hj
    have e : V m c main_v0_1 = m ((c : Thread nD τ).loc main_arg6) := by
      unfold_abbrev_sides
      after_results
      rfl
    exact (congrFun e _).trans (stacked_later _ _ fun h => hj (by rw [Nat.div_one]; exact h)).symm

theorem result7 : ((dats m 0 c).arrAt 7 cfg0.N : Vec Ideal S4x256x1024 .f32)
    = stacked (moment0 (mine m c) (sibling m c) (first m c)) (m ((c : Thread nD τ).loc main_arg7)) := by
  refine (dats m 0 c).arrAt_eq_of_coversWhere_of_agree 7 _ (fun β => β (0 : Fin 3) = 0) (by decide +kernel)
    (fun t hf y => ?_) (fun j hj => ?_)
  · blk_simp
    rw [after0_7, outsAt0]
    dsimp only
    frame_out
    exact (((congrArg (k0_pay2 _) (eq_ix3 y)).trans (stored7 m c t (y 1) (y 2) (y 0))).trans (stacked_row _ _ _ _).symm).trans
      (congrArg (stacked _ _) (emb7 t y)).symm
  · blk_simp [Pipeline.Window.cell_apply] at hj
    have e : V m c main_v0_2 = m ((c : Thread nD τ).loc main_arg7) := by
      unfold_abbrev_sides
      after_results
      rfl
    exact (congrFun e _).trans (stacked_later _ _ fun h => hj (by rw [Nat.div_one]; exact h)).symm

theorem result8 : ((dats m 0 c).arrAt 8 cfg0.N : Vec Ideal S4x256x1024 .f32)
    = stacked (square0 (mine m c) (sibling m c) (second m c)) (m ((c : Thread nD τ).loc main_arg8)) := by
  refine (dats m 0 c).arrAt_eq_of_coversWhere_of_agree 8 _ (fun β => β (0 : Fin 3) = 0) (by decide +kernel)
    (fun t hf y => ?_) (fun j hj => ?_)
  · blk_simp
    rw [after0_8, outsAt0]
    dsimp only
    frame_out
    exact (((congrArg (k0_pay3 _) (eq_ix3 y)).trans (stored8 m c t (y 1) (y 2) (y 0))).trans (stacked_row _ _ _ _).symm).trans
      (congrArg (stacked _ _) (emb8 t y)).symm
  · blk_simp [Pipeline.Window.cell_apply] at hj
    have e : V m c main_v0_3 = m ((c : Thread nD τ).loc main_arg8) := by
      unfold_abbrev_sides
      after_results
      rfl
    exact (congrFun e _).trans (stacked_later _ _ fun h => hj (by rw [Nat.div_one]; exact h)).symm

end Cert.Kernel19Ideal.Update

namespace Cert.Proof

open Cert.Reference19Ideal Cert.Reference19Ideal.Read Cert.Adam
open Idealize.ShloMosaic Idealize.SL.Sem

section
variable (x0 x1 : (⟨S256x1024, .f32⟩ : BufTy).Contents (Elt Ideal))
  (x2 x3 x4 x5 : (⟨S4x256x1024, .f32⟩ : BufTy).Contents (Elt Ideal))

theorem reference19_grads : val_main_v33 (F := Ideal) x0 x1 x5 = stacked (grad0 x0 x1) x5 :=
  joined_first x5 _ _ _ (val_main_v0 (F := Ideal) x0 x1) _ fun _ _ => rfl

theorem reference19_steps : val_main_v36 (F := Ideal) x0 x1 x2 x3 x4 x5 = stacked (step0 x0 x1 x2 x3 x4) x5 :=
  joined_steps x0 x1 x2 x3 x4 x5 _ _ _ _ _

theorem reference19_moments : val_main_v39 (F := Ideal) x0 x1 x3 x5 = stacked (moment0 x0 x1 x3) x5 :=
  joined_moments x0 x1 x3 x5 _ _ _ _ _

theorem reference19_squares : val_main_v42 (F := Ideal) x0 x1 x4 x5 = stacked (square0 x0 x1 x4) x5 :=
  joined_squares x0 x1 x4 x5 _ _ _ _ _
end

theorem algebraic19 : Cert.algebraic_Kernel19Ideal_Reference19Ideal := fun m g m' g' _ hagree =>
  ⟨fun c => (Cert.Kernel19Ideal.Gen.dats m 0 c).arrAt 5 Cert.Kernel19Ideal.cfg0.N,
    fun c => (Cert.Kernel19Ideal.Gen.dats m 0 c).arrAt 6 Cert.Kernel19Ideal.cfg0.N,
    fun c => (Cert.Kernel19Ideal.Gen.dats m 0 c).arrAt 7 Cert.Kernel19Ideal.cfg0.N,
    fun c => (Cert.Kernel19Ideal.Gen.dats m 0 c).arrAt 8 Cert.Kernel19Ideal.cfg0.N,
    Cert.Kernel19Ideal.Value.run_blocks m g,
    (θ_run (Cert.Reference19Ideal.defs (F := Ideal)) _ _).mono (fun r h c => by
      obtain ⟨a0, a1, a2, a3, a4, a5, a6, a7, a8⟩ := hagree c
      refine ⟨(h c).1.trans ?_, (h c).2.1.trans ?_, (h c).2.2.1.trans ?_, (h c).2.2.2.1.trans ?_, (h c).2.2.2.2⟩
      · rw [a0, a1, a5]
        exact (val_main_v33_eq (F := Ideal) _ _ _).trans ((reference19_grads _ _ _).trans
          (Cert.Kernel19Ideal.Update.result5 m c).symm)
      · rw [a0, a1, a2, a3, a4, a6]
        exact (val_main_v36_eq (F := Ideal) _ _ _ _ _ _).trans ((reference19_steps _ _ _ _ _ _).trans
          (Cert.Kernel19Ideal.Update.result6 m c).symm)
      · rw [a0, a1, a3, a7]
        exact (val_main_v39_eq (F := Ideal) _ _ _ _).trans ((reference19_moments _ _ _ _).trans
          (Cert.Kernel19Ideal.Update.result7 m c).symm)
      · rw [a0, a1, a4, a8]
        exact (val_main_v42_eq (F := Ideal) _ _ _ _).trans ((reference19_squares _ _ _ _).trans
          (Cert.Kernel19Ideal.Update.result8 m c).symm))
    (Cert.Reference19Ideal.Value.run m' g')⟩

end Cert.Proof
end
-- ==== Proof.Update20.lean ====
/- The update of a feed-forward matrix's quarter at layer 0, half the rows at a time, as for the input
   projection. -/
module

public import proofs.«01_k».proof.Defs
public import proofs.«01_k».proof.Proof.Adam
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Tactic
public import Idealize.ShloMosaic.Lib.Pipeline.ValueKit
public import Idealize.ShloMosaic.Lib.ValueLayout

@[expose] public section

noncomputable section

namespace Cert.Kernel20Ideal.Update

open Cert.Kernel20Ideal Cert.Kernel20Ideal.Gen Cert.Kernel20Ideal.Value Cert.Adam
open Idealize.ShloMosaic Idealize.ShloMosaic.TcCoe Idealize.SL.Sem

variable (m : (ℓ : Loc nD τ sig) → Buf (Elt Ideal) ℓ) (c : Dev nD)

/-- The two parts of the gradient, and the stacked weights, moments and earlier results. -/
def mine : Vec Ideal S704x1024 .f32 := m ((c : Thread nD τ).loc main_arg0)
def sibling : Vec Ideal S704x1024 .f32 := m ((c : Thread nD τ).loc main_arg1)
def weight : Vec Ideal S4x704x1024 .f32 := m ((c : Thread nD τ).loc main_arg2)
def first : Vec Ideal S4x704x1024 .f32 := m ((c : Thread nD τ).loc main_arg3)
def second : Vec Ideal S4x704x1024 .f32 := m ((c : Thread nD τ).loc main_arg4)

/-- The row of the array that row `r` of block `t` is. -/
def rowAt (t : Fin cfg0.N) (r : Fin 352) : Fin 704 :=
  ⟨t.val * 352 + r.val, by have := lt_of_lt_of_eq t.isLt N_0; omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val, 0] :=
  (by decide +kernel : ∀ t : Fin grid0.N, win0_2.index t = ![0, t.val, 0])
theorem index3 : ∀ t : Fin cfg0.N, win0_3.index t = ![0, t.val, 0] :=
  (by decide +kernel : ∀ t : Fin grid0.N, win0_3.index t = ![0, t.val, 0])
theorem index4 : ∀ t : Fin cfg0.N, win0_4.index t = ![0, t.val, 0] :=
  (by decide +kernel : ∀ t : Fin grid0.N, win0_4.index t = ![0, t.val, 0])
theorem index5 : ∀ t : Fin cfg0.N, win0_5.index t = ![0, t.val, 0] :=
  (by decide +kernel : ∀ t : Fin grid0.N, win0_5.index t = ![0, t.val, 0])

variable (t : Fin cfg0.N) (r : Fin 352) (k : Fin 1024)

theorem block0 : (iblk m c 0 t : Vec Ideal S352x1024 .f32) (ix2 r k) = mine m c (ix2 (rowAt t r) k) := by
  blk_simp [iblk]
  refine (congrFun (V_main_arg0 m c) _).trans (congrArg (mine m c) ?_)
  blk_ext [index0]
  rfl

theorem block1 : (iblk m c 1 t : Vec Ideal S352x1024 .f32) (ix2 r k) = sibling m c (ix2 (rowAt t r) k) := by
  blk_simp [iblk]
  refine (congrFun (V_main_arg1 m c) _).trans (congrArg (sibling m c) ?_)
  blk_ext [index1]
  rfl

theorem block2 : (iblk m c 2 t : Vec Ideal S1x352x1024 .f32) (ix3 0 r k) = weight m c (ix3 0 (rowAt t r) k) := by
  blk_simp [iblk]
  refine (congrFun (V_main_arg2 m c) _).trans (congrArg (weight m c) ?_)
  blk_ext [index2]
  rfl

theorem block3 : (iblk m c 3 t : Vec Ideal S1x352x1024 .f32) (ix3 0 r k) = first m c (ix3 0 (rowAt t r) k) := by
  blk_simp [iblk]
  refine (congrFun (V_main_arg3 m c) _).trans (congrArg (first m c) ?_)
  blk_ext [index3]
  rfl

theorem block4 : (iblk m c 4 t : Vec Ideal S1x352x1024 .f32) (ix3 0 r k) = second m c (ix3 0 (rowAt t r) k) := by
  blk_simp [iblk]
  refine (congrFun (V_main_arg4 m c) _).trans (congrArg (second m c) ?_)
  blk_ext [index4]
  rfl

/-- Where a block of an output array lies: layer 0, the block's rows. -/
theorem emb5 (y : S1x352x1024.Idx) : (win0_5.blk t).view.emb y = ix3 0 (rowAt t (y 1)) (y 2) := by
  idx_bounds y
  blk_ext [index5]
  rfl

theorem emb6 (y : S1x352x1024.Idx) : (win0_6.blk t).view.emb y = ix3 0 (rowAt t (y 1)) (y 2) := emb5 t y

theorem emb7 (y : S1x352x1024.Idx) : (win0_7.blk t).view.emb y = ix3 0 (rowAt t (y 1)) (y 2) := emb5 t y

theorem emb8 (y : S1x352x1024.Idx) : (win0_8.blk t).view.emb y = ix3 0 (rowAt t (y 1)) (y 2) := emb5 t y

/-- What the stored blocks hold, in terms of the arguments' rows. -/
theorem stored5 (u : Fin 1) :
    k0_pay5 (iblk m c 0 t) (iblk m c 1 t) (ix3 u r k) = grad0 (mine m c) (sibling m c) (rowAt t r) k :=
  grad_tile _ (block0 m c t r k) (block1 m c t r k) u

theorem stored6 (u : Fin 1) :
    k0_pay1 (k0_pay8 (iblk m c 0 t) (iblk m c 1 t) (iblk m c 2 t) (iblk m c 3 t) (iblk m c 4 t)) (ix3 u r k)
      = step0 (mine m c) (sibling m c) (weight m c) (first m c) (second m c) (rowAt t r) k :=
  step_tile shapeCasts_S1x352x1024_S352x1024 _ (block0 m c t r k) (block1 m c t r k) (block2 m c t r k)
    (block3 m c t r k) (block4 m c t r k) u

theorem stored7 (u : Fin 1) :
    k0_pay2 (k0_pay6 (iblk m c 0 t) (iblk m c 1 t) (iblk m c 3 t)) (ix3 u r k)
      = moment0 (mine m c) (sibling m c) (first m c) (rowAt t r) k :=
  moment_tile shapeCasts_S1x352x1024_S352x1024 _ (block0 m c t r k) (block1 m c t r k) (block3 m c t r k) u

theorem stored8 (u : Fin 1) :
    k0_pay3 (k0_pay7 (iblk m c 0 t) (iblk m c 1 t) (iblk m c 4 t)) (ix3 u r k)
      = square0 (mine m c) (sibling m c) (second m c) (rowAt t r) k :=
  square_tile shapeCasts_S1x352x1024_S352x1024 _ (block0 m c t r k) (block1 m c t r k) (block4 m c t r k) u

theorem result5 : ((dats m 0 c).arrAt 5 cfg0.N : Vec Ideal S4x704x1024 .f32)
    = stacked (grad0 (mine m c) (sibling m c)) (m ((c : Thread nD τ).loc main_arg5)) := by
  refine (dats m 0 c).arrAt_eq_of_coversWhere_of_agree 5 _ (fun β => β (0 : Fin 3) = 0) (by decide +kernel)
    (fun t hf y => ?_) (fun j hj => ?_)
  · blk_simp
    rw [after0_5, outsAt0]
    dsimp only
    frame_out
    exact (((congrArg (k0_pay5 _ _) (eq_ix3 y)).trans (stored5 m c t (y 1) (y 2) (y 0))).trans (stacked_row _ _ _ _).symm).trans
      (congrArg (stacked _ _) (emb5 t y)).symm
  · blk_simp [Pipeline.Window.cell_apply] at hj
    have e : V m c main_v0_0 = m ((c : Thread nD τ).loc main_arg5) := by
      unfold_abbrev_sides
      after_results
      rfl
    exact (congrFun e _).trans (stacked_later _ _ fun h => hj (by rw [Nat.div_one]; exact h)).symm

theorem result6 : ((dats m 0 c).arrAt 6 cfg0.N : Vec Ideal S4x704x1024 .f32)
    = stacked (step0 (mine m c) (sibling m c) (weight m c) (first m c) (second m c)) (m ((c : Thread nD τ).loc main_arg6)) := by
  refine (dats m 0 c).arrAt_eq_of_coversWhere_of_agree 6 _ (fun β => β (0 : Fin 3) = 0) (by decide +kernel)
    (fun t hf y => ?_) (fun j hj => ?_)
  · blk_simp
    rw [after0_6, outsAt0]
    dsimp only
    frame_out
    exact (((congrArg (k0_pay1 _) (eq_ix3 y)).trans (stored6 m c t (y 1) (y 2) (y 0))).trans (stacked_row _ _ _ _).symm).trans
      (congrArg (stacked _ _) (emb6 t y)).symm
  · blk_simp [Pipeline.Window.cell_apply] at hj
    have e : V m c main_v0_1 = m ((c : Thread nD τ).loc main_arg6) := by
      unfold_abbrev_sides
      after_results
      rfl
    exact (congrFun e _).trans (stacked_later _ _ fun h => hj (by rw [Nat.div_one]; exact h)).symm

theorem result7 : ((dats m 0 c).arrAt 7 cfg0.N : Vec Ideal S4x704x1024 .f32)
    = stacked (moment0 (mine m c) (sibling m c) (first m c)) (m ((c : Thread nD τ).loc main_arg7)) := by
  refine (dats m 0 c).arrAt_eq_of_coversWhere_of_agree 7 _ (fun β => β (0 : Fin 3) = 0) (by decide +kernel)
    (fun t hf y => ?_) (fun j hj => ?_)
  · blk_simp
    rw [after0_7, outsAt0]
    dsimp only
    frame_out
    exact (((congrArg (k0_pay2 _) (eq_ix3 y)).trans (stored7 m c t (y 1) (y 2) (y 0))).trans (stacked_row _ _ _ _).symm).trans
      (congrArg (stacked _ _) (emb7 t y)).symm
  · blk_simp [Pipeline.Window.cell_apply] at hj
    have e : V m c main_v0_2 = m ((c : Thread nD τ).loc main_arg7) := by
      unfold_abbrev_sides
      after_results
      rfl
    exact (congrFun e _).trans (stacked_later _ _ fun h => hj (by rw [Nat.div_one]; exact h)).symm

theorem result8 : ((dats m 0 c).arrAt 8 cfg0.N : Vec Ideal S4x704x1024 .f32)
    = stacked (square0 (mine m c) (sibling m c) (second m c)) (m ((c : Thread nD τ).loc main_arg8)) := by
  refine (dats m 0 c).arrAt_eq_of_coversWhere_of_agree 8 _ (fun β => β (0 : Fin 3) = 0) (by decide +kernel)
    (fun t hf y => ?_) (fun j hj => ?_)
  · blk_simp
    rw [after0_8, outsAt0]
    dsimp only
    frame_out
    exact (((congrArg (k0_pay3 _) (eq_ix3 y)).trans (stored8 m c t (y 1) (y 2) (y 0))).trans (stacked_row _ _ _ _).symm).trans
      (congrArg (stacked _ _) (emb8 t y)).symm
  · blk_simp [Pipeline.Window.cell_apply] at hj
    have e : V m c main_v0_3 = m ((c : Thread nD τ).loc main_arg8) := by
      unfold_abbrev_sides
      after_results
      rfl
    exact (congrFun e _).trans (stacked_later _ _ fun h => hj (by rw [Nat.div_one]; exact h)).symm

end Cert.Kernel20Ideal.Update

namespace Cert.Proof

open Cert.Reference20Ideal Cert.Reference20Ideal.Read Cert.Adam
open Idealize.ShloMosaic Idealize.SL.Sem

section
variable (x0 x1 : (⟨S704x1024, .f32⟩ : BufTy).Contents (Elt Ideal))
  (x2 x3 x4 x5 : (⟨S4x704x1024, .f32⟩ : BufTy).Contents (Elt Ideal))

theorem reference20_grads : val_main_v33 (F := Ideal) x0 x1 x5 = stacked (grad0 x0 x1) x5 :=
  joined_first x5 _ _ _ (val_main_v0 (F := Ideal) x0 x1) _ fun _ _ => rfl

theorem reference20_steps : val_main_v36 (F := Ideal) x0 x1 x2 x3 x4 x5 = stacked (step0 x0 x1 x2 x3 x4) x5 :=
  joined_steps x0 x1 x2 x3 x4 x5 _ _ _ _ _

theorem reference20_moments : val_main_v39 (F := Ideal) x0 x1 x3 x5 = stacked (moment0 x0 x1 x3) x5 :=
  joined_moments x0 x1 x3 x5 _ _ _ _ _

theorem reference20_squares : val_main_v42 (F := Ideal) x0 x1 x4 x5 = stacked (square0 x0 x1 x4) x5 :=
  joined_squares x0 x1 x4 x5 _ _ _ _ _
end

theorem algebraic20 : Cert.algebraic_Kernel20Ideal_Reference20Ideal := fun m g m' g' _ hagree =>
  ⟨fun c => (Cert.Kernel20Ideal.Gen.dats m 0 c).arrAt 5 Cert.Kernel20Ideal.cfg0.N,
    fun c => (Cert.Kernel20Ideal.Gen.dats m 0 c).arrAt 6 Cert.Kernel20Ideal.cfg0.N,
    fun c => (Cert.Kernel20Ideal.Gen.dats m 0 c).arrAt 7 Cert.Kernel20Ideal.cfg0.N,
    fun c => (Cert.Kernel20Ideal.Gen.dats m 0 c).arrAt 8 Cert.Kernel20Ideal.cfg0.N,
    Cert.Kernel20Ideal.Value.run_blocks m g,
    (θ_run (Cert.Reference20Ideal.defs (F := Ideal)) _ _).mono (fun r h c => by
      obtain ⟨a0, a1, a2, a3, a4, a5, a6, a7, a8⟩ := hagree c
      refine ⟨(h c).1.trans ?_, (h c).2.1.trans ?_, (h c).2.2.1.trans ?_, (h c).2.2.2.1.trans ?_, (h c).2.2.2.2⟩
      · rw [a0, a1, a5]
        exact (val_main_v33_eq (F := Ideal) _ _ _).trans ((reference20_grads _ _ _).trans
          (Cert.Kernel20Ideal.Update.result5 m c).symm)
      · rw [a0, a1, a2, a3, a4, a6]
        exact (val_main_v36_eq (F := Ideal) _ _ _ _ _ _).trans ((reference20_steps _ _ _ _ _ _).trans
          (Cert.Kernel20Ideal.Update.result6 m c).symm)
      · rw [a0, a1, a3, a7]
        exact (val_main_v39_eq (F := Ideal) _ _ _ _).trans ((reference20_moments _ _ _ _).trans
          (Cert.Kernel20Ideal.Update.result7 m c).symm)
      · rw [a0, a1, a4, a8]
        exact (val_main_v42_eq (F := Ideal) _ _ _ _).trans ((reference20_squares _ _ _ _).trans
          (Cert.Kernel20Ideal.Update.result8 m c).symm))
    (Cert.Reference20Ideal.Value.run m' g')⟩

end Cert.Proof
end
-- ==== Proof.Update21.lean ====
/- The update of the embedding's matrix, its quarter at layer 0, all of its rows at once. -/
module

public import proofs.«01_k».proof.Defs
public import proofs.«01_k».proof.Proof.Adam
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Tactic
public import Idealize.ShloMosaic.Lib.Pipeline.ValueKit
public import Idealize.ShloMosaic.Lib.ValueLayout

@[expose] public section

noncomputable section

namespace Cert.Kernel21Ideal.Update

open Cert.Kernel21Ideal Cert.Kernel21Ideal.Gen Cert.Kernel21Ideal.Value Cert.Adam
open Idealize.ShloMosaic Idealize.ShloMosaic.TcCoe Idealize.SL.Sem

variable (m : (ℓ : Loc nD τ sig) → Buf (Elt Ideal) ℓ) (c : Dev nD)

/-- The two parts of the gradient, and the stacked weights, moments and earlier results. -/
def mine : Vec Ideal S256x256 .f32 := m ((c : Thread nD τ).loc main_arg0)
def sibling : Vec Ideal S256x256 .f32 := m ((c : Thread nD τ).loc main_arg1)
def weight : Vec Ideal S4x256x256 .f32 := m ((c : Thread nD τ).loc main_arg2)
def first : Vec Ideal S4x256x256 .f32 := m ((c : Thread nD τ).loc main_arg3)
def second : Vec Ideal S4x256x256 .f32 := m ((c : Thread nD τ).loc main_arg4)

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, t.val, 0] :=
  (by decide +kernel : ∀ t : Fin grid0.N, win0_2.index t = ![0, t.val, 0])
theorem index3 : ∀ t : Fin cfg0.N, win0_3.index t = ![0, t.val, 0] :=
  (by decide +kernel : ∀ t : Fin grid0.N, win0_3.index t = ![0, t.val, 0])
theorem index4 : ∀ t : Fin cfg0.N, win0_4.index t = ![0, t.val, 0] :=
  (by decide +kernel : ∀ t : Fin grid0.N, win0_4.index t = ![0, t.val, 0])
theorem index5 : ∀ t : Fin cfg0.N, win0_5.index t = ![0, t.val, 0] :=
  (by decide +kernel : ∀ t : Fin grid0.N, win0_5.index t = ![0, t.val, 0])

variable (t : Fin cfg0.N) (r : Fin 256) (k : Fin 256)

theorem block0 : (iblk m c 0 t : Vec Ideal S256x256 .f32) (ix2 r k) = mine m c (ix2 r k) := by
  blk_simp [iblk]
  refine (congrFun (V_main_arg0 m c) _).trans (congrArg (mine m c) ?_)
  blk_ext [index0]

theorem block1 : (iblk m c 1 t : Vec Ideal S256x256 .f32) (ix2 r k) = sibling m c (ix2 r k) := by
  blk_simp [iblk]
  refine (congrFun (V_main_arg1 m c) _).trans (congrArg (sibling m c) ?_)
  blk_ext [index1]

theorem block2 : (iblk m c 2 t : Vec Ideal S1x256x256 .f32) (ix3 0 r k) = weight m c (ix3 0 r k) := by
  blk_simp [iblk]
  refine (congrFun (V_main_arg2 m c) _).trans (congrArg (weight m c) ?_)
  blk_ext [index2]

theorem block3 : (iblk m c 3 t : Vec Ideal S1x256x256 .f32) (ix3 0 r k) = first m c (ix3 0 r k) := by
  blk_simp [iblk]
  refine (congrFun (V_main_arg3 m c) _).trans (congrArg (first m c) ?_)
  blk_ext [index3]

theorem block4 : (iblk m c 4 t : Vec Ideal S1x256x256 .f32) (ix3 0 r k) = second m c (ix3 0 r k) := by
  blk_simp [iblk]
  refine (congrFun (V_main_arg4 m c) _).trans (congrArg (second m c) ?_)
  blk_ext [index4]

/-- Where a block of an output array lies: layer 0, the block's rows. -/
theorem emb5 (y : S1x256x256.Idx) : (win0_5.blk t).view.emb y = ix3 0 (y 1) (y 2) := by
  idx_bounds y
  blk_ext [index5]

theorem emb6 (y : S1x256x256.Idx) : (win0_6.blk t).view.emb y = ix3 0 (y 1) (y 2) := emb5 t y

theorem emb7 (y : S1x256x256.Idx) : (win0_7.blk t).view.emb y = ix3 0 (y 1) (y 2) := emb5 t y

theorem emb8 (y : S1x256x256.Idx) : (win0_8.blk t).view.emb y = ix3 0 (y 1) (y 2) := emb5 t y

/-- What the stored blocks hold, in terms of the arguments' rows. -/
theorem stored5 (u : Fin 1) :
    k0_pay5 (iblk m c 0 t) (iblk m c 1 t) (ix3 u r k) = grad0 (mine m c) (sibling m c) r k :=
  grad_tile _ (block0 m c t r k) (block1 m c t r k) u

theorem stored6 (u : Fin 1) :
    k0_pay1 (k0_pay8 (iblk m c 0 t) (iblk m c 1 t) (iblk m c 2 t) (iblk m c 3 t) (iblk m c 4 t)) (ix3 u r k)
      = step0 (mine m c) (sibling m c) (weight m c) (first m c) (second m c) r k :=
  step_tile shapeCasts_S1x256x256_S256x256 _ (block0 m c t r k) (block1 m c t r k) (block2 m c t r k)
    (block3 m c t r k) (block4 m c t r k) u

theorem stored7 (u : Fin 1) :
    k0_pay2 (k0_pay6 (iblk m c 0 t) (iblk m c 1 t) (iblk m c 3 t)) (ix3 u r k)
      = moment0 (mine m c) (sibling m c) (first m c) r k :=
  moment_tile shapeCasts_S1x256x256_S256x256 _ (block0 m c t r k) (block1 m c t r k) (block3 m c t r k) u

theorem stored8 (u : Fin 1) :
    k0_pay3 (k0_pay7 (iblk m c 0 t) (iblk m c 1 t) (iblk m c 4 t)) (ix3 u r k)
      = square0 (mine m c) (sibling m c) (second m c) r k :=
  square_tile shapeCasts_S1x256x256_S256x256 _ (block0 m c t r k) (block1 m c t r k) (block4 m c t r k) u

theorem result5 : ((dats m 0 c).arrAt 5 cfg0.N : Vec Ideal S4x256x256 .f32)
    = stacked (grad0 (mine m c) (sibling m c)) (m ((c : Thread nD τ).loc main_arg5)) := by
  refine (dats m 0 c).arrAt_eq_of_coversWhere_of_agree 5 _ (fun β => β (0 : Fin 3) = 0) (by decide +kernel)
    (fun t hf y => ?_) (fun j hj => ?_)
  · blk_simp
    rw [after0_5, outsAt0]
    dsimp only
    frame_out
    exact (((congrArg (k0_pay5 _ _) (eq_ix3 y)).trans (stored5 m c t (y 1) (y 2) (y 0))).trans (stacked_row _ _ _ _).symm).trans
      (congrArg (stacked _ _) (emb5 t y)).symm
  · blk_simp [Pipeline.Window.cell_apply] at hj
    have e : V m c main_v0_0 = m ((c : Thread nD τ).loc main_arg5) := by
      unfold_abbrev_sides
      after_results
      rfl
    exact (congrFun e _).trans (stacked_later _ _ fun h => hj (by rw [Nat.div_one]; exact h)).symm

theorem result6 : ((dats m 0 c).arrAt 6 cfg0.N : Vec Ideal S4x256x256 .f32)
    = stacked (step0 (mine m c) (sibling m c) (weight m c) (first m c) (second m c)) (m ((c : Thread nD τ).loc main_arg6)) := by
  refine (dats m 0 c).arrAt_eq_of_coversWhere_of_agree 6 _ (fun β => β (0 : Fin 3) = 0) (by decide +kernel)
    (fun t hf y => ?_) (fun j hj => ?_)
  · blk_simp
    rw [after0_6, outsAt0]
    dsimp only
    frame_out
    exact (((congrArg (k0_pay1 _) (eq_ix3 y)).trans (stored6 m c t (y 1) (y 2) (y 0))).trans (stacked_row _ _ _ _).symm).trans
      (congrArg (stacked _ _) (emb6 t y)).symm
  · blk_simp [Pipeline.Window.cell_apply] at hj
    have e : V m c main_v0_1 = m ((c : Thread nD τ).loc main_arg6) := by
      unfold_abbrev_sides
      after_results
      rfl
    exact (congrFun e _).trans (stacked_later _ _ fun h => hj (by rw [Nat.div_one]; exact h)).symm

theorem result7 : ((dats m 0 c).arrAt 7 cfg0.N : Vec Ideal S4x256x256 .f32)
    = stacked (moment0 (mine m c) (sibling m c) (first m c)) (m ((c : Thread nD τ).loc main_arg7)) := by
  refine (dats m 0 c).arrAt_eq_of_coversWhere_of_agree 7 _ (fun β => β (0 : Fin 3) = 0) (by decide +kernel)
    (fun t hf y => ?_) (fun j hj => ?_)
  · blk_simp
    rw [after0_7, outsAt0]
    dsimp only
    frame_out
    exact (((congrArg (k0_pay2 _) (eq_ix3 y)).trans (stored7 m c t (y 1) (y 2) (y 0))).trans (stacked_row _ _ _ _).symm).trans
      (congrArg (stacked _ _) (emb7 t y)).symm
  · blk_simp [Pipeline.Window.cell_apply] at hj
    have e : V m c main_v0_2 = m ((c : Thread nD τ).loc main_arg7) := by
      unfold_abbrev_sides
      after_results
      rfl
    exact (congrFun e _).trans (stacked_later _ _ fun h => hj (by rw [Nat.div_one]; exact h)).symm

theorem result8 : ((dats m 0 c).arrAt 8 cfg0.N : Vec Ideal S4x256x256 .f32)
    = stacked (square0 (mine m c) (sibling m c) (second m c)) (m ((c : Thread nD τ).loc main_arg8)) := by
  refine (dats m 0 c).arrAt_eq_of_coversWhere_of_agree 8 _ (fun β => β (0 : Fin 3) = 0) (by decide +kernel)
    (fun t hf y => ?_) (fun j hj => ?_)
  · blk_simp
    rw [after0_8, outsAt0]
    dsimp only
    frame_out
    exact (((congrArg (k0_pay3 _) (eq_ix3 y)).trans (stored8 m c t (y 1) (y 2) (y 0))).trans (stacked_row _ _ _ _).symm).trans
      (congrArg (stacked _ _) (emb8 t y)).symm
  · blk_simp [Pipeline.Window.cell_apply] at hj
    have e : V m c main_v0_3 = m ((c : Thread nD τ).loc main_arg8) := by
      unfold_abbrev_sides
      after_results
      rfl
    exact (congrFun e _).trans (stacked_later _ _ fun h => hj (by rw [Nat.div_one]; exact h)).symm

end Cert.Kernel21Ideal.Update

namespace Cert.Proof

open Cert.Reference21Ideal Cert.Reference21Ideal.Read Cert.Adam
open Idealize.ShloMosaic Idealize.SL.Sem

section
variable (x0 x1 : (⟨S256x256, .f32⟩ : BufTy).Contents (Elt Ideal))
  (x2 x3 x4 x5 : (⟨S4x256x256, .f32⟩ : BufTy).Contents (Elt Ideal))

theorem reference21_grads : val_main_v33 (F := Ideal) x0 x1 x5 = stacked (grad0 x0 x1) x5 :=
  joined_first x5 _ _ _ (val_main_v0 (F := Ideal) x0 x1) _ fun _ _ => rfl

theorem reference21_steps : val_main_v36 (F := Ideal) x0 x1 x2 x3 x4 x5 = stacked (step0 x0 x1 x2 x3 x4) x5 :=
  joined_steps x0 x1 x2 x3 x4 x5 _ _ _ _ _

theorem reference21_moments : val_main_v39 (F := Ideal) x0 x1 x3 x5 = stacked (moment0 x0 x1 x3) x5 :=
  joined_moments x0 x1 x3 x5 _ _ _ _ _

theorem reference21_squares : val_main_v42 (F := Ideal) x0 x1 x4 x5 = stacked (square0 x0 x1 x4) x5 :=
  joined_squares x0 x1 x4 x5 _ _ _ _ _
end

theorem algebraic21 : Cert.algebraic_Kernel21Ideal_Reference21Ideal := fun m g m' g' _ hagree =>
  ⟨fun c => (Cert.Kernel21Ideal.Gen.dats m 0 c).arrAt 5 Cert.Kernel21Ideal.cfg0.N,
    fun c => (Cert.Kernel21Ideal.Gen.dats m 0 c).arrAt 6 Cert.Kernel21Ideal.cfg0.N,
    fun c => (Cert.Kernel21Ideal.Gen.dats m 0 c).arrAt 7 Cert.Kernel21Ideal.cfg0.N,
    fun c => (Cert.Kernel21Ideal.Gen.dats m 0 c).arrAt 8 Cert.Kernel21Ideal.cfg0.N,
    Cert.Kernel21Ideal.Value.run_blocks m g,
    (θ_run (Cert.Reference21Ideal.defs (F := Ideal)) _ _).mono (fun r h c => by
      obtain ⟨a0, a1, a2, a3, a4, a5, a6, a7, a8⟩ := hagree c
      refine ⟨(h c).1.trans ?_, (h c).2.1.trans ?_, (h c).2.2.1.trans ?_, (h c).2.2.2.1.trans ?_, (h c).2.2.2.2⟩
      · rw [a0, a1, a5]
        exact (val_main_v33_eq (F := Ideal) _ _ _).trans ((reference21_grads _ _ _).trans
          (Cert.Kernel21Ideal.Update.result5 m c).symm)
      · rw [a0, a1, a2, a3, a4, a6]
        exact (val_main_v36_eq (F := Ideal) _ _ _ _ _ _).trans ((reference21_steps _ _ _ _ _ _).trans
          (Cert.Kernel21Ideal.Update.result6 m c).symm)
      · rw [a0, a1, a3, a7]
        exact (val_main_v39_eq (F := Ideal) _ _ _ _).trans ((reference21_moments _ _ _ _).trans
          (Cert.Kernel21Ideal.Update.result7 m c).symm)
      · rw [a0, a1, a4, a8]
        exact (val_main_v42_eq (F := Ideal) _ _ _ _).trans ((reference21_squares _ _ _ _).trans
          (Cert.Kernel21Ideal.Update.result8 m c).symm))
    (Cert.Reference21Ideal.Value.run m' g')⟩

end Cert.Proof
end
-- ==== Proof.Gating22.lean ====
/- The gating half of the forward mixer: strip by strip the kernel writes the first and the normalised
   second gelu of a block of rows to two scratch arrays, and two heads at a time it multiplies the
   second by the lower triangle of a head's weights and gates the first with the product. -/
module

public import proofs.«01_k».proof.Defs
public import proofs.«01_k».proof.Proof.Blocks
public import proofs.«01_k».proof.Proof.Norm
public import proofs.«01_k».proof.Proof.Mix
public import proofs.«01_k».proof.Proof.Gen.Kernel22.Frame
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import Idealize.ShloMosaic.Lib.Tactic
public import Idealize.ShloMosaic.Lib.WholeRead
public import Idealize.ShloMosaic.Lib.Pipeline.ValueKit

@[expose] public section

noncomputable section

namespace Cert.Kernel22Ideal.Gating

open Cert.Kernel22Ideal Cert.Kernel22Ideal.Gen Cert.Blocks Cert.Norm
open Idealize.ShloMosaic Idealize.ShloMosaic.TcCoe Idealize.SL.Sem

/-! ### The operations of one block -/

/-- The gelu, as the kernel writes it. -/
def gelu (x : EReal) : EReal :=
  half * x * (1 + Ideal.tanh (Ideal.ofBits FTy.f32 0x3F4C422A#32 * (x + ((8943 / 200000 : ℝ) : EReal) * x * x * x)))

/-- A row less its mean. -/
def centred (x : Fin 512 → EReal) (j : Fin 512) : EReal := x j - Ideal.div (∑ k, x k) Mix.halfWidth

/-- The normalised row, with gain and offset. -/
def normed (x g b : Fin 512 → EReal) (j : Fin 512) : EReal :=
  centred x j * Ideal.rsqrt (Ideal.div (∑ k, centred x k * centred x k) Mix.halfWidth + eps) * g j + b j

theorem cubic : (Named.named κ "gelu_c" 0x3D372713#32 : Ideal FTy.f32) = ((8943 / 200000 : ℝ) : EReal) := rfl

theorem first_apply (x : Vec Ideal S16x512 .bf16) (r : Fin 16) (j : Fin 512) :
    k0_pay177 x (ix2 r j) = gelu (x (ix2 r j)) := by
  unfold k0_pay177
  simp only [pointwise, zero_apply, zero_add, cubic]
  rfl

theorem second_apply (x : Vec Ideal S16x512 .bf16) (g b : Vec Ideal S1x512 .f32) (r : Fin 16) (j : Fin 512) :
    k0_pay178 x g b (ix2 r j) =
      normed (fun k => gelu (x (ix2 r k))) (fun k => g (ix2 0 k)) (fun k => b (ix2 0 k)) j := by
  unfold k0_pay178
  simp only [pointwise, zero_apply, zero_add, cubic, dif_neg (by decide : ¬ 16 = 1)]
  rfl

/-- The lower triangle of a head's weights. -/
def tril (w : Fin 128 → Fin 128 → EReal) (r k : Fin 128) : EReal := if k ≤ r then w r k else 0

/-- The lanes of a tile, and the first lane of its second head. -/
abbrev lane : IVec S1x128 32 := kernelRun0_A.sl.v0
abbrev bound : IVec S1x128 32 := kernelRun0_A.sl.v1

theorem low_lane : ∀ d : Fin 128, (IntOp.cmpi .slt (lane (ix2 0 d)) (bound (ix2 0 d)) = 1) ↔ d.val < 64 := by
  decide +kernel

theorem high_lane : ∀ d : Fin 128, (IntOp.cmpi .sge (lane (ix2 0 d)) (bound (ix2 0 d)) = 1) ↔ ¬ d.val < 64 := by
  decide +kernel

theorem tril_mask : ∀ r k : Fin 128,
    (IntOp.cmpi .sle (BitVec.ofNat 32 (List.foldl (fun n a => n * ![128, 128] a + (ix2 r k a).val) 0 [1]))
      (BitVec.ofNat 32 (List.foldl (fun n a => n * ![128, 128] a + (ix2 r k a).val) 0 [0])) = 1) ↔ k ≤ r := by
  decide +kernel

/-- Two heads' gate on a tile of the block. -/
abbrev tile (v : Vec Ideal S128x128 .f32) (w1 w2 : Vec Ideal S1x128x128 .f32) (b u : Vec Ideal S128x128 .f32) :
    FVec Ideal S128x128 .bf16 :=
  k0_pay4 v (k0_pay217 w2) (k0_pay218 (cmpi .slt lane bound) v w1) (k0_pay219 (cmpi .sge lane bound)) k0_pay220 b u

theorem tile_apply (v : Vec Ideal S128x128 .f32) (w1 w2 : Vec Ideal S1x128x128 .f32) (b u : Vec Ideal S128x128 .f32)
    (r d : Fin 128) :
    tile v w1 w2 b u (ix2 r d) =
      u (ix2 r d) * (∑ k, tril (fun r k => (if d.val < 64 then w1 else w2) (ix3 0 r k)) r k * v (ix2 k d) + b (ix2 r d)) := by
  unfold tile k0_pay4 k0_pay217 k0_pay218 k0_pay219 k0_pay220
  simp only [pointwise, zero_apply, zero_add]
  simp only [dif_pos (rfl : 1 = 1), dif_neg (by decide : ¬ 128 = 1), Scalar.select]
  refine congrArg (fun s => u (ix2 r d) * (s + b (ix2 r d))) ?_
  by_cases hd : d.val < 64
  · refine (congrArg₂ (· + ·) (Finset.sum_congr rfl fun k _ => ?_) (Finset.sum_eq_zero fun k _ => ?_)).trans (add_zero _)
    · exact (if_pos ((low_lane d).2 hd)).trans (by simp only [tril, if_pos hd, tril_mask, ite_mul, zero_mul])
    · exact if_neg fun h => (high_lane d).1 h hd
  · refine (congrArg₂ (· + ·) (Finset.sum_eq_zero fun k _ => ?_) (Finset.sum_congr rfl fun k _ => ?_)).trans (zero_add _)
    · exact if_neg fun h => hd ((low_lane d).1 h)
    · exact (if_pos ((high_lane d).2 hd)).trans (by simp only [tril, if_neg hd, tril_mask, ite_mul, zero_mul])

/-! ### The scratch arrays -/

section
variable (c : Dev nD) (arg1 : Memref sig .tc .vmem S128x1792 .bf16) (h1 : arg1.IsWhole)
  (arg6 : Memref sig .tc .vmem S1x512 .f32) (h6 : arg6.IsWhole) (arg7 : Memref sig .tc .vmem S1x512 .f32) (h7 : arg7.IsWhole)
  (arg8 : Memref sig .tc .vmem S8x128x128 .f32) (h8 : arg8.IsWhole) (arg9 : Memref sig .tc .vmem S128x512 .f32) (h9 : arg9.IsWhole)
  (arg13 arg14 : Memref sig .tc .vmem S128x512 .f32)
  (x0 : Vec Ideal S128x1792 .bf16) (x5 x6 : Vec Ideal S1x512 .f32) (x7 : Vec Ideal S8x128x128 .f32)
  (x8 : Vec Ideal S128x512 .f32)

/-- A column of the first and of the second half of the feed of the gate. -/
def ucol (j : Fin 512) : Fin 1792 := ⟨768 + j.val, by omega⟩
def vcol (j : Fin 512) : Fin 1792 := ⟨1280 + j.val, by omega⟩

/-- What the two scratch arrays hold of a block. -/
def gate (r : Fin 128) (j : Fin 512) : EReal := gelu (x0 (ix2 r (ucol j)))
def feed (r : Fin 128) (j : Fin 512) : EReal :=
  normed (fun k => gelu (x0 (ix2 r (vcol k)))) (fun k => x5 (ix2 0 k)) (fun k => x6 (ix2 0 k)) j

theorem strip_U (o : Nat) (inb) (x : S16x512.Idx) (y : S128x512.Idx) (e0 : (y 0).val = o + (x 0).val)
    (e1 : (y 1).val = (x 1).val) :
    k0_pay177 (F := Ideal) (View.readAt (Elt Ideal) arg1.view (Rect.unit (s := S128x1792) ![o, 768] S16x512.size inb).toLoadRect (h1.unread x0)) x
      = gate x0 (y 0) (y 1) := by
  refine (congrArg (k0_pay177 _) (eq_ix2 x)).trans ((first_apply _ (x 0) (x 1)).trans (congrArg gelu ?_))
  exact (Memref.IsWhole.readAt_unread h1 x0 _ _).trans
    (congrArg x0 (ix2_of (by simp [e0]) (by simp [ucol, e1])))

theorem strip_V (o : Nat) (inb inb' inb'') (x : S16x512.Idx) (y : S128x512.Idx) (e0 : (y 0).val = o + (x 0).val)
    (e1 : (y 1).val = (x 1).val) :
    k0_pay178 (F := Ideal) (View.readAt (Elt Ideal) arg1.view (Rect.unit (s := S128x1792) ![o, 1280] S16x512.size inb).toLoadRect (h1.unread x0))
      (View.readAt (Elt Ideal) arg6.view (Rect.unit (s := S1x512) ![0, 0] S1x512.size inb').toLoadRect (h6.unread x5))
      (View.readAt (Elt Ideal) arg7.view (Rect.unit (s := S1x512) ![0, 0] S1x512.size inb'').toLoadRect (h7.unread x6)) x
      = feed x0 x5 x6 (y 0) (y 1) := by
  refine (congrArg (k0_pay178 _ _ _) (eq_ix2 x)).trans ((second_apply _ _ _ (x 0) (x 1)).trans ?_)
  have ey : (x 1 : Fin 512) = y 1 := Fin.ext e1.symm
  rw [ey]
  refine congrFun (congr (congr (congrArg normed (funext fun k => congrArg gelu ?_)) (funext fun k => ?_)) (funext fun k => ?_)) _
  · exact (Memref.IsWhole.readAt_unread h1 x0 _ _).trans
      (congrArg x0 (ix2_of (by simp [e0]) (by simp [vcol])))
  · exact (Memref.IsWhole.readAt_unread h6 x5 _ _).trans (congrArg x5 (ix2_of (by simp) (by simp)))
  · exact (Memref.IsWhole.readAt_unread h7 x6 _ _).trans (congrArg x6 (ix2_of (by simp) (by simp)))

theorem scratch_U (y : S128x512.Idx) : View.canon (kernelRun0_A.sl.HS2_8 c arg1 h1 x0) y = gate x0 (y 0) (y 1) := by
  unfold kernelRun0_A.sl.HS2_8
  canon_tiles x e
  all_goals refine strip_U arg1 h1 x0 _ _ x y ?_ ?_ <;> omega

theorem scratch_V (y : S128x512.Idx) :
    View.canon (kernelRun0_A.sl.HS3_8 c arg1 h1 arg6 h6 arg7 h7 x0 x5 x6) y = feed x0 x5 x6 (y 0) (y 1) := by
  unfold kernelRun0_A.sl.HS3_8
  canon_tiles x e
  all_goals refine strip_V arg1 h1 arg6 h6 arg7 h7 x0 x5 x6 _ _ _ _ x y ?_ ?_ <;> omega

/-- The head of a column, and the gated value of a block. -/
def head (j : Fin 512) : Fin 8 := ⟨j.val / 64, by omega⟩
def gated (r : Fin 128) (j : Fin 512) : EReal :=
  gate x0 r j * (∑ k, tril (fun r k => x7 (ix3 (head j) r k)) r k * feed x0 x5 x6 k j + x8 (ix2 r j))

theorem tile_at (o a a' : Nat) (ho : o = 64 * a) (ha : a' = a + 1)
    (i1 i2 i3 : ∀ d, (![0, o] : Fin 2 → Nat) d + S128x128.size d ≤ S128x512.size d)
    (i4 : ∀ d, (![a, 0, 0] : Fin 3 → Nat) d + S1x128x128.size d ≤ S8x128x128.size d)
    (i5 : ∀ d, (![a', 0, 0] : Fin 3 → Nat) d + S1x128x128.size d ≤ S8x128x128.size d)
    (x : S128x128.Idx) (r : Fin 128) (j : Fin 512) (e0 : r.val = (x 0).val) (e1 : j.val = o + (x 1).val) :
    tile (arg14.view.readCov (kernelRun0_A.sl.HS3_8 c arg1 h1 arg6 h6 arg7 h7 x0 x5 x6)
          (Rect.unit (s := S128x512) ![0, o] S128x128.size i1).toLoadRect)
        (View.readAt (Elt Ideal) arg8.view (Rect.unit (s := S8x128x128) ![a, 0, 0] S1x128x128.size i4).toLoadRect (h8.unread x7))
        (View.readAt (Elt Ideal) arg8.view (Rect.unit (s := S8x128x128) ![a', 0, 0] S1x128x128.size i5).toLoadRect (h8.unread x7))
        (View.readAt (Elt Ideal) arg9.view (Rect.unit (s := S128x512) ![0, o] S128x128.size i2).toLoadRect (h9.unread x8))
        (arg13.view.readCov (kernelRun0_A.sl.HS2_8 c arg1 h1 x0) (Rect.unit (s := S128x512) ![0, o] S128x128.size i3).toLoadRect) x
      = gated x0 x5 x6 x7 x8 r j := by
  have er : (x 0 : Fin 128) = r := Fin.ext e0.symm
  refine (congrArg (tile _ _ _ _ _) (eq_ix2 x)).trans ((tile_apply _ _ _ _ _ (x 0) (x 1)).trans ?_)
  rw [er, View.readCov_eq_canon', View.readCov_eq_canon']
  refine congrArg₂ (fun p q : EReal => p * q) ?_ (congrArg₂ (fun p q : EReal => p + q)
    (Finset.sum_congr rfl fun k _ => congrArg₂ (fun p q : EReal => p * q) ?_ ?_) ?_)
  · exact (scratch_U c arg1 h1 x0 _).trans (congrArg₂ (gate x0) (Fin.ext (by simp)) (Fin.ext (by simp [e1])))
  · refine congrArg (fun w => tril w r k) (funext fun r => funext fun k => ?_)
    have hx : (x 1).val < 128 := (x 1).isLt
    split
    · exact (Memref.IsWhole.readAt_unread h8 x7 _ _).trans (congrArg x7 (funext fun d => Fin.ext (by
        fin_cases d <;> simp [head] <;> omega)))
    · exact (Memref.IsWhole.readAt_unread h8 x7 _ _).trans (congrArg x7 (funext fun d => Fin.ext (by
        fin_cases d <;> simp [head] <;> omega)))
  · exact (scratch_V c arg1 h1 arg6 h6 arg7 h7 x0 x5 x6 _).trans (congrArg₂ (feed x0 x5 x6) (Fin.ext (by simp)) (Fin.ext (by simp [e1])))
  · exact (Memref.IsWhole.readAt_unread h9 x8 _ _).trans (congrArg x8 (ix2_of (by simp) (by simp [e1])))

end

section
variable (m : (ℓ : Loc nD τ sig) → Buf (Elt Ideal) ℓ) (c : Dev nD)

/-- What a block's body leaves in the second half of its columns. -/
theorem after_gate (t : Fin cfg0.N) (y : S128x1024.Idx) (j : Fin 512) (hj : (y 1).val = 512 + j.val) :
    outsAt0 m c t y = gated (iblk m c 0 t) (iblk m c 5 t) (iblk m c 6 t) (iblk m c 7 t) (iblk m c 8 t) (y 0) j := by
  unfold outsAt0
  unfold out0_A_9
  rw [View.read_writes_junk_eq_canon]
  unfold kernelRun0_A
  dsimp only
  canon_tiles x e
  case piece0 => exact tile_at (o := 384) (a := 6) (a' := 7) (ho := rfl) (ha := rfl) (e0 := e0) (e1 := by omega) ..
  case piece1 => exact tile_at (o := 256) (a := 4) (a' := 5) (ho := rfl) (ha := rfl) (e0 := e0) (e1 := by omega) ..
  case piece2 => exact tile_at (o := 128) (a := 2) (a' := 3) (ho := rfl) (ha := rfl) (e0 := e0) (e1 := by omega) ..
  case piece3 => exact tile_at (o := 0) (a := 0) (a' := 1) (ho := rfl) (ha := rfl) (e0 := e0) (e1 := by omega) ..
  all_goals exact absurd x1_lt (by omega)

def arg0 : Vec Ideal S8192x1792 .bf16 := m ((c : Thread nD τ).loc main_arg0)
def arg2 : Vec Ideal S1x512 .f32 := m ((c : Thread nD τ).loc main_arg2)
def arg3 : Vec Ideal S1x512 .f32 := m ((c : Thread nD τ).loc main_arg3)
def arg4 : Vec Ideal S8x128x128 .f32 := m ((c : Thread nD τ).loc main_arg4)
def arg5 : Vec Ideal S8x128 .f32 := m ((c : Thread nD τ).loc main_arg5)

theorem index0 : ∀ t : Fin cfg0.N, win0_0.index t = ![t.val, 0] :=
  (by decide +kernel : ∀ t : Fin grid0.N, win0_0.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0, 0] :=
  (by decide +kernel : ∀ t : Fin grid0.N, win0_7.index t = ![0, 0, 0])
theorem index8 : ∀ t : Fin cfg0.N, win0_8.index t = ![0, 0] :=
  (by decide +kernel : ∀ t : Fin grid0.N, win0_8.index t = ![0, 0])
theorem index9 : ∀ t : Fin cfg0.N, win0_9.index t = ![t.val, 0] :=
  (by decide +kernel : ∀ t : Fin grid0.N, win0_9.index t = ![t.val, 0])

theorem block0 (t : Fin cfg0.N) (r : Fin 128) (k : Fin 1792) :
    (iblk m c 0 t : Vec Ideal S128x1792 .bf16) (ix2 r k) = arg0 m c (ix2 (row (t.val * 128 + r.val)) k) := by
  have ht : t.val < 64 := lt_of_lt_of_eq t.isLt N_0
  blk_simp [iblk]
  refine (congrFun (V_main_arg0 m c) _).trans (congrArg (arg0 m c) ?_)
  blk_ext [index0]
  exact row_val (by omega)

theorem block5 (t : Fin cfg0.N) : (iblk m c 5 t : Vec Ideal S1x512 .f32) = arg2 m c := by
  funext y
  blk_simp [iblk]
  refine (congrFun (V_main_arg2 m c) _).trans (congrArg (arg2 m c) ?_)
  blk_ext [index5]

theorem block6 (t : Fin cfg0.N) : (iblk m c 6 t : Vec Ideal S1x512 .f32) = arg3 m c := by
  funext y
  blk_simp [iblk]
  refine (congrFun (V_main_arg3 m c) _).trans (congrArg (arg3 m c) ?_)
  blk_ext [index6]

theorem block7 (t : Fin cfg0.N) : (iblk m c 7 t : Vec Ideal S8x128x128 .f32) = arg4 m c := by
  funext y
  blk_simp [iblk]
  refine (congrFun (V_main_arg4 m c) _).trans (congrArg (arg4 m c) ?_)
  blk_ext [index7]

/-- The offsets, one column for each column of the block. -/
theorem offsets (r : Fin 128) (j : Fin 512) :
    (V m c main_v34 : Vec Ideal S128x512 .f32) (ix2 r j) = arg5 m c (ix2 (head j) r) := by
  entry_read
  simp only [hostOps0, hostOps0_1, hostOps0_2, hostOps0_3, hostOps0_4, List.flatten_cons, List.flatten_nil, List.append_nil,
    List.cons_append, List.nil_append]
  after_results
  refine (shapeCast_apply _ shapeCasts_S128x8x64_S128x512 (ix2 r j) (ix3 r (head j) ⟨j.val % 64, by omega⟩) ?_).trans ?_
  · rw [Shape.rowMajor_val_three, Shape.rowMajor_val_two]
    show (r.val * 8 + j.val / 64) * 64 + j.val % 64 = r.val * 512 + j.val
    omega
  · simp only [pointwise]
    rfl

theorem block8 (t : Fin cfg0.N) (r : Fin 128) (j : Fin 512) :
    (iblk m c 8 t : Vec Ideal S128x512 .f32) (ix2 r j) = arg5 m c (ix2 (head j) r) := by
  refine Eq.trans ?_ (offsets m c r j)
  blk_simp [iblk]
  refine congrArg (V m c main_v34) ?_
  blk_ext [index8]

/-- The rows of the block a row lies in. -/
def base (R : Fin 8192) (k : Fin 128) : Fin 8192 := row (R.val / 128 * 128 + k.val)

end

/-- The gated value of a row and a column, in terms of the arguments. -/
def value (z : Vec Ideal S8192x1792 .bf16) (g b : Vec Ideal S1x512 .f32) (w : Vec Ideal S8x128x128 .f32)
    (s : Vec Ideal S8x128 .f32) (R : Fin 8192) (j : Fin 512) : EReal :=
  gelu (z (ix2 R (ucol j))) *
    (∑ k, tril (fun r k => w (ix3 (head j) r k)) (Fin.ofNat 128 R.val) k *
        normed (fun i => gelu (z (ix2 (base R k) (vcol i)))) (fun i => g (ix2 0 i)) (fun i => b (ix2 0 i)) j
      + s (ix2 (head j) (Fin.ofNat 128 R.val)))

section
variable (m : (ℓ : Loc nD τ sig) → Buf (Elt Ideal) ℓ) (c : Dev nD)

/-- The value of the run's own arguments. -/
abbrev valueAt (R : Fin 8192) (j : Fin 512) : EReal := value (arg0 m c) (arg2 m c) (arg3 m c) (arg4 m c) (arg5 m c) R j

theorem gated_block (t : Fin cfg0.N) (r : Fin 128) (j : Fin 512) :
    gated (iblk m c 0 t) (iblk m c 5 t) (iblk m c 6 t) (iblk m c 7 t) (iblk m c 8 t) r j
      = valueAt m c (row (t.val * 128 + r.val)) j := by
  have ht : t.val < 64 := lt_of_lt_of_eq t.isLt N_0
  have hr : (row (t.val * 128 + r.val)).val = t.val * 128 + r.val := (row_val (by omega)).symm
  have e : (Fin.ofNat 128 (row (t.val * 128 + r.val)).val : Fin 128) = r := Fin.ext (by
    rw [hr]; simp only [Fin.ofNat]; omega)
  have b : ∀ k : Fin 128, base (row (t.val * 128 + r.val)) k = row (t.val * 128 + k.val) := fun k => by
    unfold base; rw [hr]; congr 1; omega
  unfold gated valueAt value gate feed
  simp only [block5, block6, block7, block0, block8, e, b]

/-- The array the kernel leaves, block by block. -/
def left : Vec Ideal S8192x1024 .bf16 := fun i =>
  outsAt0 m c ⟨(i 0).val / 128, by have h : (i 0).val < 8192 := (i 0).isLt; rw [show cfg0.N = 64 from N_0]; omega⟩
    (ix2 (Fin.ofNat 128 (i 0).val) (i 1))

theorem result9 : ((dats m 0 c).arrAt 9 cfg0.N : Vec Ideal S8192x1024 .bf16) = left m c := by
  refine (dats m 0 c).arrAt_eq_of_covers 9 _ (by decide +kernel) fun t hf y => ?_
  have ht : t.val < 64 := lt_of_lt_of_eq t.isLt N_0
  blk_simp
  rw [after0_9]
  have e : (win0_9.blk t).view.emb y = ix2 (row (t.val * 128 + (y 0).val)) (y 1) := by
    idx_bounds y
    blk_ext [index9]
    exact row_val (by omega)
  show _ = left m c ((win0_9.blk t).view.emb y)
  rw [e]
  have hy : (y 0).val < 128 := (y 0).isLt
  have hr : (row (t.val * 128 + (y 0).val)).val = t.val * 128 + (y 0).val := (row_val (by omega)).symm
  unfold left
  refine congrArg₂ (fun t y => outsAt0 m c t y) (Fin.ext ?_) (ix2_of ?_ rfl)
  · show t.val = (row (t.val * 128 + (y 0).val)).val / 128
    omega
  · show (y 0).val = (row (t.val * 128 + (y 0).val)).val % 128
    omega

/-- The half of the columns the host keeps. -/
theorem kept_half (R : Fin 8192) (j : Fin 512) :
    extractStridedSlice S8192x512 ![0, 512] ((dats m 0 c).arrAt 9 cfg0.N : Vec Ideal S8192x1024 .bf16)
      slices_S8192x1024_S8192x512_0_512 (ix2 R j) = valueAt m c R j := by
  rw [result9]
  have hR := R.isLt
  simp only [pointwise]
  unfold left
  refine (after_gate m c _ _ j ?_).trans ((gated_block m c _ _ j).trans (congrArg (fun R => valueAt m c R j) (Fin.ext ?_)))
  · rfl
  · show ((0 + R.val) / 128 * 128 + (0 + R.val) % 128) % 8192 = R.val
    omega

theorem run (g : Dev nD → PrngReg) : θ_run defs (onTc (τ := τ) (main (F := Ideal))) ⟨m, fun _ => 0, g⟩ (fun r => ∀ c : Dev nD,
      (r.2.mem ((c : Thread nD τ).loc main_v36) : Vec Ideal S8192x512 .bf16) = fun i => valueAt m c (i 0) (i 1)) := by
  refine (θ_run defs _ _).mono (fun r h c => ?_) (run_main m g)
  refine ((h c).2 main_v36 (Pipeline.mem_restRefs_of main_v36 (by decide) (by decide))).trans ?_
  unfold Pipeline.afterTail₀
  simp only [hostOps1, List.flatten_cons, List.flatten_nil, List.append_nil]
  after_results
  refine (congrArg (extractStridedSlice S8192x512 ![0, 512] · slices_S8192x1024_S8192x512_0_512)
    ((dats m 0 c).withArrays_arrAt sharedIn0 (V0 m c) (A_eq m c) 9)).trans (funext fun i => ?_)
  exact (congrArg _ (eq_ix2 i)).trans (kept_half m c (i 0) (i 1))

end

end Cert.Kernel22Ideal.Gating

namespace Cert.Proof

open Cert.Reference22Ideal Cert.Reference22Ideal.Read Cert.Kernel22Ideal.Gating Cert.Blocks Cert.Norm
open Idealize.ShloMosaic Idealize.SL.Sem

/-- The quotient the reference writes is the number the kernel's name stands for. -/
theorem cubic_quotient :
    Ideal.div (Ideal.ofBits FTy.f32 0x472EAB00#32) (Ideal.ofBits FTy.f32 0x49742400#32) = ((8943 / 200000 : ℝ) : EReal) := by
  have a : Ideal.ofBits FTy.f32 0x472EAB00#32 = ((44715 : ℝ) : EReal) := by
    simp [Ideal.ofBits, Ideal.ieee, -EReal.coe_mul]; norm_num
  have b : Ideal.ofBits FTy.f32 0x49742400#32 = ((1000000 : ℝ) : EReal) := by
    simp [Ideal.ofBits, Ideal.ieee, -EReal.coe_mul]; norm_num
  rw [a, b, Ideal.div, if_neg (by norm_num), ← EReal.coe_inv, ← EReal.coe_mul]
  norm_num

/-- The gelu as the reference writes it. -/
theorem gelu_ref (x : EReal) :
    x * (half * (one + Ideal.tanh (Ideal.ofBits FTy.f32 0x3F4C422A#32 *
      (x + Ideal.div (Ideal.ofBits FTy.f32 0x472EAB00#32) (Ideal.ofBits FTy.f32 0x49742400#32) * (x * x * x))))) = gelu x := by
  have e : one = 1 := one_eq
  rw [cubic_quotient, gelu, e, ← mul_assoc, mul_comm x half]
  simp only [mul_assoc]

section
variable (z : (⟨S8192x1792, .bf16⟩ : BufTy).Contents (Elt Ideal)) (g b : (⟨S1x512, .f32⟩ : BufTy).Contents (Elt Ideal))
  (w : (⟨S8x128x128, .f32⟩ : BufTy).Contents (Elt Ideal)) (s : (⟨S8x128, .f32⟩ : BufTy).Contents (Elt Ideal))

/-- An index of three coordinates, from its coordinates. -/
theorem ix3_of {n m l : ℕ} {i : (⟨3, ![n, m, l]⟩ : Shape).Idx} {a : Fin n} {b : Fin m} {c : Fin l} (h0 : (i 0).val = a.val)
    (h1 : (i 1).val = b.val) (h2 : (i 2).val = c.val) : i = ix3 a b c :=
  funext fun q => Fin.ext (by fin_cases q; exacts [h0, h1, h2])

theorem reference22_first (u : Fin 1) (R : Fin 8192) (j : Fin 512) :
    val_main_v22 (F := Ideal) z (ix3 u R j) = gelu (z (ix2 R (ucol j))) := by
  have e : val_main_v7 (F := Ideal) z (ix3 u R j) = z (ix2 R (ucol j)) := by
    rw [val_main_v7_apply, val_main_v1_apply, val_main_v0_apply]
    exact congrArg z (ix2_of (by simp) (by simp [ucol]))
  refine Eq.trans ?_ (gelu_ref _)
  rw [← e]
  simp only [val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply]
  rfl

theorem reference22_second (u : Fin 1) (R : Fin 8192) (j : Fin 512) :
    val_main_v36 (F := Ideal) z (ix3 u R j) = gelu (z (ix2 R (vcol j))) := by
  have e : val_main_v8 (F := Ideal) z (ix3 u R j) = z (ix2 R (vcol j)) := by
    rw [val_main_v8_apply, val_main_v1_apply, val_main_v0_apply]
    exact congrArg z (ix2_of (by simp) (by simp [vcol]))
  refine Eq.trans ?_ (gelu_ref _)
  rw [← e]
  simp only [val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply]
  rfl

theorem reference22_centred (u : Fin 1) (R : Fin 8192) (j : Fin 512) :
    val_main_v42 (F := Ideal) z (ix3 u R j) = centred (fun k => gelu (z (ix2 R (vcol k)))) j := by
  rw [val_main_v42_apply, val_main_v41_apply, val_main_v40_apply, val_main_v39_apply, val_main_v38_apply, val_main_v37_apply,
    reference22_second]
  refine congrArg (fun q => gelu (z (ix2 R (vcol j))) - Ideal.div q Mix.halfWidth) ?_
  refine (congrArg₂ (fun p q : EReal => p + q) Ideal.ofBits_zero_f32
    (Finset.sum_congr rfl fun k _ => ?_)).trans (zero_add _)
  exact (congrArg (val_main_v36 (F := Ideal) z) (ix3_of (by simp) rfl rfl)).trans (reference22_second z u R k)

theorem reference22_normed (u : Fin 1) (R : Fin 8192) (j : Fin 512) :
    val_main_v58 (F := Ideal) z g b (ix3 u R j)
      = normed (fun k => gelu (z (ix2 R (vcol k)))) (fun k => g (ix2 0 k)) (fun k => b (ix2 0 k)) j := by
  rw [val_main_v58_apply, val_main_v57_apply, val_main_v56_apply, val_main_v3_apply, val_main_v55_apply, val_main_v54_apply,
    val_main_v53_apply, val_main_v2_apply, val_main_v52_apply, val_main_v51_apply, val_main_v50_apply, val_main_v49_apply,
    val_main_v48_apply, val_main_v47_apply, val_main_v46_apply, val_main_v45_apply, val_main_v44_apply, reference22_centred]
  have e : (val_main_cst_11 (F := Ideal) (Shape.Idx.first Gen.h_S_)
      + ∑ k, val_main_v43 (F := Ideal) z (idx_main_v44 (idx_main_v45 (idx_main_v51 (ix3 u R j))) k) : EReal)
      = ∑ k, centred (fun k => gelu (z (ix2 R (vcol k)))) k * centred (fun k => gelu (z (ix2 R (vcol k)))) k := by
    refine (congrArg₂ (fun p q : EReal => p + q) Ideal.ofBits_zero_f32
      (Finset.sum_congr rfl fun k _ => ?_)).trans (zero_add _)
    have q : val_main_v42 (F := Ideal) z (idx_main_v44 (idx_main_v45 (idx_main_v51 (ix3 u R j))) k)
        = centred (fun k => gelu (z (ix2 R (vcol k)))) k :=
      (congrArg (val_main_v42 (F := Ideal) z) (ix3_of (by simp) rfl rfl)).trans (reference22_centred z u R k)
    rw [val_main_v43_apply, q]
    rfl
  have eg : idx_main_v2 (idx_main_v53 (idx_main_v54 (ix3 u R j))) = ix2 0 j := ix2_of (by simp) (by simp)
  have eb : idx_main_v3 (idx_main_v56 (idx_main_v57 (ix3 u R j))) = ix2 0 j := ix2_of (by simp) (by simp)
  rw [e, eg, eb]
  rfl

theorem reference22_mask : ∀ r k : Fin 128,
    IntOp.cmpi .sge (IntOp.addi (BitVec.ofNat 32 r.val) 0#32) (BitVec.ofNat 32 k.val) = 1 ↔ k ≤ r := by
  decide +kernel

theorem reference22_weights (h : Fin 8) (r k : Fin 128) :
    val_main_v64 (F := Ideal) w (ix3 h r k) = tril (fun r k => w (ix3 h r k)) r k := by
  rw [val_main_v64_apply, val_main_call1_v0_apply, val_main_v62_apply, val_main_v61_apply]
  have e : val_main_call0_v4 (F := Ideal) (idx_main_v62 (idx_main_call1_v0 (ix3 h r k))) = 1 ↔ k ≤ r :=
    reference22_mask r k
  have t : val_main_v60 (F := Ideal) (idx_main_v62 (idx_main_call1_v0 (ix3 h r k))) = 1 := by
    rw [val_main_v60_apply]
    rfl
  have f : val_main_call0_v5 (F := Ideal) (idx_main_v62 (idx_main_call1_v0 (ix3 h r k))) = 0 := by
    rw [val_main_call0_v5_apply]
    rfl
  have o : val_main_v63 (F := Ideal) (ix3 h r k) = 0 := by
    rw [val_main_v63_apply]
    exact Ideal.ofBits_zero_f32
  rw [t, f, o]
  unfold Scalar.select tril
  by_cases q : k ≤ r
  · rw [if_pos (e.mpr q), if_pos q, if_pos rfl]
  · rw [if_neg (fun p => q (e.mp p)), if_neg q, if_neg (by decide)]

theorem reference22_value (R : Fin 8192) (j : Fin 512) :
    val_main_v74 (F := Ideal) z g b w s (ix2 R j) = value z g b w s R j := by
  have er : idx_main_v73 (ix2 R j) = ix3 0 R j := ix3_of (by simp) (by simp; omega) (by simp)
  have es : idx_main_v67 (idx_main_v68 (idx_main_v69 (idx_main_v71 (ix3 0 R j)))) = ix2 (head j) (Fin.ofNat 128 R.val) :=
    ix2_of (by simp [head]; omega) (by simp; omega)
  rw [val_main_v74_apply, val_main_v73_apply, val_main_v72_apply, val_main_v71_apply, val_main_v70_apply, val_main_v69_apply,
    val_main_v68_apply, val_main_v67_apply, val_main_v66_apply, val_main_v65_apply, er, es, reference22_first]
  refine congrArg (fun q => gelu (z (ix2 R (ucol j))) * (q + s (ix2 (head j) (Fin.ofNat 128 R.val))))
    (Finset.sum_congr rfl fun k _ => ?_)
  have ew : ridx_main_v65 (idx_main_v66 (idx_main_v71 (ix3 0 R j))) k = ix3 (head j) (Fin.ofNat 128 R.val) k :=
    ix3_of (by simp [head]; omega) (by simp; omega) rfl
  have ev : idx_main_v59 (lidx_main_v65 (idx_main_v66 (idx_main_v71 (ix3 0 R j))) k) = ix3 0 (base R k) j :=
    ix3_of (by simp) (by
      rw [base, ← row_val (by omega)]
      simp
      omega) (by simp; omega)
  rw [ew, reference22_weights, val_main_v59_apply, ev, reference22_normed, mul_comm]
end

theorem preserves22 : Cert.preserves_Kernel22_Kernel22Ideal :=
  IdealRules.named_const.statement Cert.Kernel22Ideal.κ "gelu_c" .f32 0x3D372713#32 _ rfl

/-- The gated half of the forward mixer's output is the reference's. -/
theorem algebraic22 : Cert.algebraic_Kernel22Ideal_Reference22Ideal := fun m g m' g' _ hagree =>
  ⟨fun c => fun i => valueAt m c (i 0) (i 1),
    (θ_run (Cert.Kernel22Ideal.defs (F := Ideal)) _ _).mono (fun r h c => ⟨h.1 c, h.2 c⟩)
      (θ_run_and (Cert.Kernel22Ideal.Gating.run m g) (Cert.Kernel22Ideal.Gen.unchanged m g)),
    (θ_run (Cert.Reference22Ideal.defs (F := Ideal)) _ _).mono (fun r h c => by
      obtain ⟨a0, a1, a2, a3, a4, a5⟩ := hagree c
      refine ⟨(h c).1.trans ?_, (h c).2⟩
      refine (val_main_v74_eq (F := Ideal) m' c).trans ?_
      rw [a0, a2, a3, a4, a5]
      refine funext fun i => (congrArg _ (eq_ix2 i)).trans ?_
      exact reference22_value _ _ _ _ _ (i 0) (i 1))
    (Cert.Reference22Ideal.Value.run m' g')⟩

end Cert.Proof

end
-- ==== Proof.Attention23.lean ====
/- The attention half of the forward mixer: a block of rows scores its queries, head by head and scaled,
   against its own keys and those of the block before, adds the bias of the distance, divides the
   exponentials by their sum and the sink's, and adds up the values so weighted. -/
module

public import proofs.«01_k».proof.Defs
public import proofs.«01_k».proof.Proof.Blocks
public import proofs.«01_k».proof.Proof.Norm
public import proofs.«01_k».proof.Proof.Gating22
public import proofs.«01_k».proof.Proof.Gen.Kernel23.Frame
public import proofs.«01_k».proof.Proof.Gen.Kernel23Ideal.Frame
public import proofs.«01_k».proof.Proof.Gen.Pre_finite_attention
public import proofs.«01_k».proof.Proof.Gen.Reference23Ideal
public import proofs.«01_k».proof.Proof.Gen.Reference23Ideal.Run
public import proofs.«01_k».proof.Proof.Gen.Reference23Ideal.Read
public import Idealize.ShloMosaic.Lib.Tactic
public import Idealize.ShloMosaic.Lib.KernelVsHost
public import Idealize.ShloMosaic.Lib.WholeRead
public import Idealize.ShloMosaic.Lib.Pipeline.ValueKit

@[expose] public section

noncomputable section

namespace Cert.Kernel23Ideal.Attention

open Cert.Kernel23Ideal Cert.Kernel23Ideal.Gen Cert.Blocks Cert.Norm
open Idealize.ShloMosaic Idealize.ShloMosaic.TcCoe Idealize.SL.Sem

/-! ### The operations of one block -/

/-- The greatest of a row of scores and a sink, and the weight of a score among them. -/
def peak (x : Fin 256 → EReal) (a : EReal) : EReal :=
  max (Finset.fold max (Ideal.ofBits FTy.f32 0xFF800000#32) x Finset.univ) a
def weight (x : Fin 256 → EReal) (a : EReal) (c : Fin 256) : EReal :=
  Ideal.exp (x c - peak x a) * Ideal.div 1 (∑ k, Ideal.exp (x k - peak x a) + Ideal.exp (a - peak x a))

/-- The scale of the scores. -/
def scale : EReal := Ideal.ofBits FTy.f32 0x3E000000#32

theorem score_apply (m : IVec S1x128 1) (k : FVec Ideal S256x128 .bf16) (q : Vec Ideal S128x128 .bf16)
    (r : Fin 128) (c : Fin 256) :
    k0_pay15 m k q (ix3 0 r c) = ∑ l, if m (ix2 0 l) = 1 then q (ix2 r l) * scale * k (ix2 c l) else 0 := by
  unfold k0_pay15
  simp only [pointwise, Blocks.zero_apply, zero_add]
  rfl

theorem weight_apply (a : Elt Ideal .f32) (s : Vec Ideal S1x16x256 .f32) (b : Vec Ideal S1x1x16x256 .f32)
    (r : Fin 16) (c : Fin 256) :
    k0_pay24 a s b (ix3 0 r c) = weight (fun c => s (ix3 0 r c) + b (ix4 0 0 r c)) a c := by
  unfold k0_pay24
  simp only [pointwise, Blocks.zero_apply, zero_add]
  rfl

theorem out_apply (m n : IVec S1x128 1) (a b : FVec Ideal S256x128 .f32) (p q : Vec Ideal S1x128x256 .bf16)
    (r c : Fin 128) :
    k0_pay171 m n a b p q (ix2 r c) =
      (∑ x, if m (ix2 0 c) = 1 then p (ix3 0 r x) * a (ix2 x c) else 0)
        + ∑ x, if n (ix2 0 c) = 1 then q (ix3 0 r x) * b (ix2 x c) else 0 := by
  unfold k0_pay171
  simp only [pointwise, Blocks.zero_apply, zero_add]
  rfl

theorem low_lane : ∀ d : Fin 128, (k0_pay5 (ix2 0 d) = 1) ↔ d.val / 64 = 0 := by decide +kernel
theorem high_lane : ∀ d : Fin 128, (k0_pay6 (ix2 0 d) = 1) ↔ d.val / 64 = 1 := by decide +kernel

/-- A sum over one head's lanes of a tile. -/
theorem sum_half (b : Nat) (hb : b < 2) (f : Fin 128 → EReal) :
    (∑ l : Fin 128, if l.val / 64 = b then f l else 0) = ∑ d : Fin 64, f ⟨64 * b + d.val, by omega⟩ := by
  rw [Fin.sum_univ_add (a := 64) (b := 64)]
  obtain rfl | rfl : b = 0 ∨ b = 1 := by omega
  · refine (congrArg₂ (· + ·) (Finset.sum_congr rfl fun d _ => ?_) (Finset.sum_eq_zero fun d _ => ?_)).trans (add_zero _)
    · exact (if_pos (by simp)).trans (congrArg f (Fin.ext (by simp)))
    · exact if_neg (by simp)
  · refine (congrArg₂ (· + ·) (Finset.sum_eq_zero fun d _ => ?_) (Finset.sum_congr rfl fun d _ => ?_)).trans (zero_add _)
    · exact if_neg (by have := d.isLt; rw [Fin.val_castAdd]; omega)
    · exact (if_pos (by simp)).trans (congrArg f (Fin.ext (by simp [Nat.add_comm])))

/-- Two blocks of rows, one above the other. -/
def stack (p q : Fin 128 → Fin 128 → EReal) (c : Fin 256) (l : Fin 128) : EReal :=
  if h : c.val < 128 then p ⟨c.val, h⟩ l else q ⟨c.val - 128, by omega⟩ l

/-- A lane half way round. -/
def round (l : Fin 128) : Fin 128 := ⟨(l.val + 64) % 128, by omega⟩

theorem keys_apply (p q : Vec Ideal S128x128 .bf16) (c : Fin 256) (l : Fin 128) :
    k0_pay7 p q (ix2 c l) = stack (fun r l => p (ix2 r l)) (fun r l => q (ix2 r l)) c l := by
  unfold k0_pay7
  simp only [pointwise]
  rfl

theorem values_apply (p q : Vec Ideal S128x128 .bf16) (c : Fin 256) (l : Fin 128) :
    k0_pay8 p q (ix2 c l) = stack (fun r l => p (ix2 r l)) (fun r l => q (ix2 r l)) c l :=
  keys_apply p q c l

theorem turn (x : FVec Ideal S256x128 .f32) (c : Fin 256) (l : Fin 128) :
    dynamicRotate 1 64#32 none x rotates_S256x128_d1 (ix2 c l) = x (ix2 c (round l)) :=
  dynamicRotate_apply _ _ _ _ _ _ fun b => by
    fin_cases b
    · rfl
    · have := l.isLt
      show (round l).val = (l.val + 128 - 64) % 128
      simp only [round]
      omega

/-! ### The scratch arrays -/

section
variable (c : Dev nD) (arg1 : Memref sig .tc .vmem S128x1792 .bf16) (h1 : arg1.IsWhole)
  (arg2 arg3 : Memref sig .tc .vmem S128x128 .bf16) (h2 : arg2.IsWhole) (h3 : arg3.IsWhole)
  (arg4 : Memref sig .tc .smem S8 .f32) (h4 : arg4.IsWhole)
  (arg5 : Memref sig .tc .vmem S1x8x128x256 .f32) (h5 : arg5.IsWhole)
  (arg11 : Memref sig .tc .vmem S8x128x256 .f32) (arg12 : Memref sig .tc .vmem S8x128x256 .bf16)
  (x0 : Vec Ideal S128x1792 .bf16) (x1 x2 : Vec Ideal S128x128 .bf16) (x3 : Vec Ideal S8 .f32)
  (x4 : Vec Ideal S1x8x128x256 .f32)

/-- The keys, or the values, a block of rows looks at: those of the block before, and its own at column `o`. -/
def window (o : Nat) (ho : o + 128 ≤ 1792) (p : Vec Ideal S128x128 .bf16) : Fin 256 → Fin 128 → EReal :=
  stack (fun r l => p (ix2 r l)) (fun r l => x0 (ix2 r ⟨o + l.val, by omega⟩))

/-- A lane of a head in a tile of two key heads. -/
def kv (h : Fin 8) (d : Fin 64) : Fin 128 := ⟨64 * (h.val / 4) + d.val, by omega⟩

/-- The scores of a head, its weights, and the block's result. -/
def score (h : Fin 8) (r : Fin 128) (k : Fin 256) : EReal :=
  ∑ d : Fin 64, x0 (ix2 r ⟨64 * h.val + d.val, by omega⟩) * scale * window x0 512 (by omega) x1 k (kv h d)
def heads (h : Fin 8) (r : Fin 128) (k : Fin 256) : EReal :=
  weight (fun k => score x0 x1 h r k + x4 (ix4 0 h r k)) (x3 (ix1 h)) k
def result (r : Fin 128) (j : Fin 512) : EReal :=
  ∑ k, heads x0 x1 x3 x4 ⟨j.val / 64, by omega⟩ r k *
    window x0 640 (by omega) x2 k (kv ⟨j.val / 64, by omega⟩ ⟨j.val % 64, by omega⟩)

theorem window_read (o : Nat) (ho : o + 128 ≤ 1792) (p : Vec Ideal S128x128 .bf16)
    (arg : Memref sig .tc .vmem S128x128 .bf16) (h : arg.IsWhole) (i1 i2) (k : Fin 256) (l : Fin 128) :
    k0_pay7 (F := Ideal) (View.readAt (Elt Ideal) arg.view (Rect.unit (s := S128x128) ![0, 0] S128x128.size i1).toLoadRect (h.unread p))
      (View.readAt (Elt Ideal) arg1.view (Rect.unit (s := S128x1792) ![0, o] S128x128.size i2).toLoadRect (h1.unread x0)) (ix2 k l)
      = window x0 o ho p k l := by
  refine (keys_apply _ _ k l).trans (congrFun (congrFun (congrArg₂ stack (funext fun r => funext fun l => ?_)
    (funext fun r => funext fun l => ?_)) k) l)
  · exact (Memref.IsWhole.readAt_unread h p _ _).trans (congrArg p (ix2_of (by simp) (by simp)))
  · exact (Memref.IsWhole.readAt_unread h1 x0 _ _).trans (congrArg x0 (ix2_of (by simp) (by simp)))

abbrev keys : FVec Ideal S256x128 .bf16 := kernelRun0_A.sl.r_2 c arg1 h1 arg2 h2 x0 x1
abbrev turned : FVec Ideal S256x128 .bf16 := kernelRun0_A.sl.r_3 c arg1 h1 arg2 h2 x0 x1

theorem keys_at (k : Fin 256) (l : Fin 128) :
    keys c arg1 h1 arg2 h2 x0 x1 (ix2 k l) = window x0 512 (by omega) x1 k l :=
  window_read arg1 h1 x0 512 (by omega) x1 arg2 h2 _ _ k l

theorem turned_at (k : Fin 256) (l : Fin 128) :
    turned c arg1 h1 arg2 h2 x0 x1 (ix2 k l) = window x0 512 (by omega) x1 k (round l) :=
  (turn _ k l).trans (window_read arg1 h1 x0 512 (by omega) x1 arg2 h2 _ _ k (round l))

theorem score_at (h o : Nat) (hh : h < 8) (ho : o = 128 * (h / 2)) (m : IVec S1x128 1)
    (hm : ∀ d : Fin 128, (m (ix2 0 d) = 1) ↔ d.val / 64 = h % 2) (w : FVec Ideal S256x128 .bf16)
    (hw : ∀ k (l : Fin 128) (d : Fin 64), l.val = 64 * (h % 2) + d.val → w (ix2 k l) = window x0 512 (by omega) x1 k (kv ⟨h, hh⟩ d))
    (i1) (x : S1x128x256.Idx) (y : S8x128x256.Idx) (e0 : (y 0).val = h + (x 0).val) (e1 : (y 1).val = (x 1).val)
    (e2 : (y 2).val = (x 2).val) :
    k0_pay15 m w (View.readAt (Elt Ideal) arg1.view (Rect.unit (s := S128x1792) ![0, o] S128x128.size i1).toLoadRect (h1.unread x0)) x
      = score x0 x1 (y 0) (y 1) (y 2) := by
  have hx : (x 0).val = 0 := by have : (x 0).val < 1 := (x 0).isLt; omega
  have ex : x = ix3 0 (y 1) (y 2) := funext fun d => Fin.ext (by fin_cases d <;> simp_all)
  have ey : (y 0 : Fin 8) = ⟨h, hh⟩ := Fin.ext (by simp [e0, hx])
  rw [ex, ey]
  refine (score_apply _ _ _ _ _).trans ?_
  simp only [hm]
  refine (sum_half (h % 2) (by omega) _).trans (Finset.sum_congr rfl fun d _ => ?_)
  refine congrArg₂ (· * ·) (congrArg (· * scale) ?_) (hw _ _ d rfl)
  refine (Memref.IsWhole.readAt_unread h1 x0 _ _).trans (congrArg x0 (ix2_of (by simp) (by simp; omega)))

theorem same_score (h o : Nat) (hh : h < 8) (ho : o = 128 * (h / 2)) (hs : h / 4 = h % 2) (m : IVec S1x128 1)
    (hm : ∀ d : Fin 128, (m (ix2 0 d) = 1) ↔ d.val / 64 = h % 2)
    (i1) (x : S1x128x256.Idx) (y : S8x128x256.Idx) (e0 : (y 0).val = h + (x 0).val) (e1 : (y 1).val = (x 1).val)
    (e2 : (y 2).val = (x 2).val) :
    k0_pay15 m (keys c arg1 h1 arg2 h2 x0 x1)
      (View.readAt (Elt Ideal) arg1.view (Rect.unit (s := S128x1792) ![0, o] S128x128.size i1).toLoadRect (h1.unread x0)) x
      = score x0 x1 (y 0) (y 1) (y 2) :=
  score_at arg1 h1 x0 x1 h o hh ho m hm _ (fun k l d hl => (keys_at c arg1 h1 arg2 h2 x0 x1 k l).trans
    (congrArg (window x0 512 (by omega) x1 k) (Fin.ext (by simp [kv]; omega)))) i1 x y e0 e1 e2

theorem other_score (h o : Nat) (hh : h < 8) (ho : o = 128 * (h / 2)) (hs : h / 4 ≠ h % 2) (m : IVec S1x128 1)
    (hm : ∀ d : Fin 128, (m (ix2 0 d) = 1) ↔ d.val / 64 = h % 2)
    (i1) (x : S1x128x256.Idx) (y : S8x128x256.Idx) (e0 : (y 0).val = h + (x 0).val) (e1 : (y 1).val = (x 1).val)
    (e2 : (y 2).val = (x 2).val) :
    k0_pay15 m (turned c arg1 h1 arg2 h2 x0 x1)
      (View.readAt (Elt Ideal) arg1.view (Rect.unit (s := S128x1792) ![0, o] S128x128.size i1).toLoadRect (h1.unread x0)) x
      = score x0 x1 (y 0) (y 1) (y 2) :=
  score_at arg1 h1 x0 x1 h o hh ho m hm _ (fun k l d hl => (turned_at c arg1 h1 arg2 h2 x0 x1 k l).trans
    (congrArg (window x0 512 (by omega) x1 k) (Fin.ext (by simp [kv, round]; omega)))) i1 x y e0 e1 e2

theorem scratch_scores (y : S8x128x256.Idx) :
    View.canon (kernelRun0_A.sl.HS0_8 c arg1 h1 arg2 h2 x0 x1) y = score x0 x1 (y 0) (y 1) (y 2) := by
  unfold kernelRun0_A.sl.HS0_8
  canon_tiles x e
  case piece0 => exact same_score c arg1 h1 arg2 h2 x0 x1 7 384 (by omega) rfl (by decide) _ high_lane _ x y (by omega) e1 e2
  case piece1 => exact other_score c arg1 h1 arg2 h2 x0 x1 6 384 (by omega) rfl (by decide) _ low_lane _ x y (by omega) e1 e2
  case piece2 => exact same_score c arg1 h1 arg2 h2 x0 x1 5 256 (by omega) rfl (by decide) _ high_lane _ x y (by omega) e1 e2
  case piece3 => exact other_score c arg1 h1 arg2 h2 x0 x1 4 256 (by omega) rfl (by decide) _ low_lane _ x y (by omega) e1 e2
  case piece4 => exact other_score c arg1 h1 arg2 h2 x0 x1 3 128 (by omega) rfl (by decide) _ high_lane _ x y (by omega) e1 e2
  case piece5 => exact same_score c arg1 h1 arg2 h2 x0 x1 2 128 (by omega) rfl (by decide) _ low_lane _ x y (by omega) e1 e2
  case piece6 => exact other_score c arg1 h1 arg2 h2 x0 x1 1 0 (by omega) rfl (by decide) _ high_lane _ x y (by omega) e1 e2
  case piece7 => exact same_score c arg1 h1 arg2 h2 x0 x1 0 0 (by omega) rfl (by decide) _ low_lane _ x y (by omega) e1 e2

theorem weight_at (h o : Nat) (i1) (i2) (i3) (n) (x : S1x16x256.Idx) (y : S8x128x256.Idx) (e0 : (y 0).val = h + (x 0).val)
    (e1 : (y 1).val = o + (x 1).val) (e2 : (y 2).val = (x 2).val) :
    k0_pay24 (View.readAt (Elt Ideal) arg4.view (Rect.unit (s := S8) ![h] S1.size i1).toLoadRect (h4.unread x3) (Shape.Idx.first n))
      (arg11.view.readCov (kernelRun0_A.sl.HS0_8 c arg1 h1 arg2 h2 x0 x1) (Rect.unit (s := S8x128x256) ![h, o, 0] S1x16x256.size i2).toLoadRect)
      (View.readAt (Elt Ideal) arg5.view (Rect.unit (s := S1x8x128x256) ![0, h, o, 0] S1x1x16x256.size i3).toLoadRect (h5.unread x4)) x
      = heads x0 x1 x3 x4 (y 0) (y 1) (y 2) := by
  have hx : (x 0).val = 0 := by have : (x 0).val < 1 := (x 0).isLt; omega
  have ex : x = ix3 0 (x 1) (y 2) := funext fun d => Fin.ext (by fin_cases d <;> simp_all)
  rw [ex]
  refine (weight_apply _ _ _ _ _).trans (congrFun (congrArg₂ weight (funext fun k => congrArg₂ (fun p q : EReal => p + q) ?_ ?_) ?_) _)
  · rw [View.readCov_eq_canon']
    refine (scratch_scores c arg1 h1 arg2 h2 x0 x1 _).trans ?_
    congr 1 <;> exact Fin.ext (by simp [e0, e1, hx])
  · exact (Memref.IsWhole.readAt_unread h5 x4 _ _).trans (congrArg x4 (funext fun d => Fin.ext (by
      fin_cases d <;> simp [e0, e1, hx])))
  · exact (Memref.IsWhole.readAt_unread h4 x3 _ _).trans (congrArg x3 (funext fun d => Fin.ext (by
      fin_cases d; simp [e0, hx])))

theorem scratch_weights (y : S8x128x256.Idx) :
    View.canon (kernelRun0_A.sl.HS1_64 c arg1 h1 arg2 h2 arg4 h4 arg5 h5 arg11 x0 x1 x3 x4) y
      = heads x0 x1 x3 x4 (y 0) (y 1) (y 2) := by
  unfold kernelRun0_A.sl.HS1_64
  canon_tiles x e
  all_goals refine weight_at c arg1 h1 arg2 h2 arg4 h4 arg5 h5 arg11 x0 x1 x3 x4 _ _ _ _ _ _ x y ?_ ?_ ?_ <;> omega

abbrev values : FVec Ideal S256x128 .f32 :=
  k0_pay8 (View.readAt (Elt Ideal) arg3.view (Rect.unit (s := S128x128) ![0, 0] S128x128.size inb_S128x128_S128x128_0_0).toLoadRect (h3.unread x2))
    (View.readAt (Elt Ideal) arg1.view (Rect.unit (s := S128x1792) ![0, 640] S128x128.size inb_S128x1792_S128x128_0_640).toLoadRect (h1.unread x0))
abbrev turnedValues : FVec Ideal S256x128 .f32 :=
  k0_pay9 (View.readAt (Elt Ideal) arg3.view (Rect.unit (s := S128x128) ![0, 0] S128x128.size inb_S128x128_S128x128_0_0).toLoadRect (h3.unread x2))
    (View.readAt (Elt Ideal) arg1.view (Rect.unit (s := S128x1792) ![0, 640] S128x128.size inb_S128x1792_S128x128_0_640).toLoadRect (h1.unread x0))

theorem values_at (k : Fin 256) (l : Fin 128) :
    values arg1 h1 arg3 h3 x0 x2 (ix2 k l) = window x0 640 (by omega) x2 k l :=
  window_read arg1 h1 x0 640 (by omega) x2 arg3 h3 _ _ k l

theorem turnedValues_at (k : Fin 256) (l : Fin 128) :
    turnedValues arg1 h1 arg3 h3 x0 x2 (ix2 k l) = window x0 640 (by omega) x2 k (round l) :=
  (turn _ k l).trans (window_read arg1 h1 x0 640 (by omega) x2 arg3 h3 _ _ k (round l))

theorem heads_read (h : Nat) (hh : h < 8) (i1) (r : Fin 128) (k : Fin 256) :
    arg12.view.readCov (kernelRun0_A.sl.HS1_64 c arg1 h1 arg2 h2 arg4 h4 arg5 h5 arg11 x0 x1 x3 x4)
      (Rect.unit (s := S8x128x256) ![h, 0, 0] S1x128x256.size i1).toLoadRect (ix3 0 r k) = heads x0 x1 x3 x4 ⟨h, hh⟩ r k := by
  rw [View.readCov_eq_canon']
  refine (scratch_weights c arg1 h1 arg2 h2 arg4 h4 arg5 h5 arg11 x0 x1 x3 x4 _).trans ?_
  congr 1 <;> exact Fin.ext (by simp)

theorem out_at (s o a b : Nat) (ho : o = 128 * s) (ha : a = 2 * s) (hb : b = 2 * s + 1) (hs : s < 4)
    (w u : FVec Ideal S256x128 .f32)
    (hw : ∀ k (l : Fin 128) (d : Fin 64), l.val = d.val → w (ix2 k l) = window x0 640 (by omega) x2 k (kv ⟨a, by omega⟩ d))
    (hu : ∀ k (l : Fin 128) (d : Fin 64), l.val = 64 + d.val → u (ix2 k l) = window x0 640 (by omega) x2 k (kv ⟨b, by omega⟩ d))
    (i1) (i2) (x : S128x128.Idx) (r : Fin 128) (j : Fin 512) (e0 : r.val = (x 0).val) (e1 : j.val = o + (x 1).val) :
    k0_pay171 k0_pay5 k0_pay6 w u
        (arg12.view.readCov (kernelRun0_A.sl.HS1_64 c arg1 h1 arg2 h2 arg4 h4 arg5 h5 arg11 x0 x1 x3 x4)
          (Rect.unit (s := S8x128x256) ![a, 0, 0] S1x128x256.size i1).toLoadRect)
        (arg12.view.readCov (kernelRun0_A.sl.HS1_64 c arg1 h1 arg2 h2 arg4 h4 arg5 h5 arg11 x0 x1 x3 x4)
          (Rect.unit (s := S8x128x256) ![b, 0, 0] S1x128x256.size i2).toLoadRect) x
      = result x0 x1 x2 x3 x4 r j := by
  have hx : (x 1).val < 128 := (x 1).isLt
  have er : (x 0 : Fin 128) = r := Fin.ext e0.symm
  refine (congrArg (k0_pay171 _ _ _ _ _ _) (eq_ix2 x)).trans ((out_apply _ _ _ _ _ _ (x 0) (x 1)).trans ?_)
  rw [er]
  by_cases hd : (x 1).val < 64
  · refine (congrArg₂ (· + ·) (Finset.sum_congr rfl fun k _ => ?_) (Finset.sum_eq_zero fun k _ =>
      if_neg fun h => by have := (high_lane (x 1)).1 h; omega)).trans (add_zero _)
    refine (if_pos ((low_lane (x 1)).2 (by omega))).trans ?_
    refine congrArg₂ (· * ·) ((heads_read c arg1 h1 arg2 h2 arg4 h4 arg5 h5 arg11 arg12 x0 x1 x3 x4 a (by omega) i1 r k).trans
      (congrArg (fun h => heads x0 x1 x3 x4 h r k) (Fin.ext ?_))) ((hw k (x 1) ⟨(x 1).val, hd⟩ rfl).trans
      (congrArg (window x0 640 (by omega) x2 k) (Fin.ext ?_)))
    · show a = j.val / 64
      omega
    · show 64 * (a / 4) + (x 1).val = 64 * (j.val / 64 / 4) + j.val % 64
      omega
  · refine (congrArg₂ (· + ·) (Finset.sum_eq_zero fun k _ =>
      if_neg fun h => by have := (low_lane (x 1)).1 h; omega) (Finset.sum_congr rfl fun k _ => ?_)).trans (zero_add _)
    refine (if_pos ((high_lane (x 1)).2 (by omega))).trans ?_
    refine congrArg₂ (· * ·) ((heads_read c arg1 h1 arg2 h2 arg4 h4 arg5 h5 arg11 arg12 x0 x1 x3 x4 b (by omega) i2 r k).trans
      (congrArg (fun h => heads x0 x1 x3 x4 h r k) (Fin.ext ?_))) ((hu k (x 1) ⟨(x 1).val - 64, by omega⟩ (by simp only; omega)).trans
      (congrArg (window x0 640 (by omega) x2 k) (Fin.ext ?_)))
    · show b = j.val / 64
      omega
    · show 64 * (b / 4) + ((x 1).val - 64) = 64 * (j.val / 64 / 4) + j.val % 64
      omega

theorem out_first (s o a b : Nat) (ho : o = 128 * s) (ha : a = 2 * s) (hb : b = 2 * s + 1) (hs : s < 2) (i1) (i2)
    (x : S128x128.Idx) (r : Fin 128) (j : Fin 512) (e0 : r.val = (x 0).val) (e1 : j.val = o + (x 1).val) :
    k0_pay171 k0_pay5 k0_pay6 (values arg1 h1 arg3 h3 x0 x2) (turnedValues arg1 h1 arg3 h3 x0 x2)
        (arg12.view.readCov (kernelRun0_A.sl.HS1_64 c arg1 h1 arg2 h2 arg4 h4 arg5 h5 arg11 x0 x1 x3 x4)
          (Rect.unit (s := S8x128x256) ![a, 0, 0] S1x128x256.size i1).toLoadRect)
        (arg12.view.readCov (kernelRun0_A.sl.HS1_64 c arg1 h1 arg2 h2 arg4 h4 arg5 h5 arg11 x0 x1 x3 x4)
          (Rect.unit (s := S8x128x256) ![b, 0, 0] S1x128x256.size i2).toLoadRect) x
      = result x0 x1 x2 x3 x4 r j :=
  out_at c arg1 h1 arg2 h2 arg4 h4 arg5 h5 arg11 arg12 x0 x1 x2 x3 x4 s o a b ho ha hb (by omega) _ _
    (fun k l d hl => (values_at arg1 h1 arg3 h3 x0 x2 k l).trans
      (congrArg (window x0 640 (by omega) x2 k) (Fin.ext (by simp [kv]; omega))))
    (fun k l d hl => (turnedValues_at arg1 h1 arg3 h3 x0 x2 k l).trans
      (congrArg (window x0 640 (by omega) x2 k) (Fin.ext (by simp [kv, round]; omega)))) i1 i2 x r j e0 e1

theorem out_second (s o a b : Nat) (ho : o = 128 * s) (ha : a = 2 * s) (hb : b = 2 * s + 1) (hs : s < 4) (h2s : 2 ≤ s) (i1) (i2)
    (x : S128x128.Idx) (r : Fin 128) (j : Fin 512) (e0 : r.val = (x 0).val) (e1 : j.val = o + (x 1).val) :
    k0_pay171 k0_pay5 k0_pay6 (turnedValues arg1 h1 arg3 h3 x0 x2) (values arg1 h1 arg3 h3 x0 x2)
        (arg12.view.readCov (kernelRun0_A.sl.HS1_64 c arg1 h1 arg2 h2 arg4 h4 arg5 h5 arg11 x0 x1 x3 x4)
          (Rect.unit (s := S8x128x256) ![a, 0, 0] S1x128x256.size i1).toLoadRect)
        (arg12.view.readCov (kernelRun0_A.sl.HS1_64 c arg1 h1 arg2 h2 arg4 h4 arg5 h5 arg11 x0 x1 x3 x4)
          (Rect.unit (s := S8x128x256) ![b, 0, 0] S1x128x256.size i2).toLoadRect) x
      = result x0 x1 x2 x3 x4 r j :=
  out_at c arg1 h1 arg2 h2 arg4 h4 arg5 h5 arg11 arg12 x0 x1 x2 x3 x4 s o a b ho ha hb hs _ _
    (fun k l d hl => (turnedValues_at arg1 h1 arg3 h3 x0 x2 k l).trans
      (congrArg (window x0 640 (by omega) x2 k) (Fin.ext (by simp [kv, round]; omega))))
    (fun k l d hl => (values_at arg1 h1 arg3 h3 x0 x2 k l).trans
      (congrArg (window x0 640 (by omega) x2 k) (Fin.ext (by simp [kv]; omega)))) i1 i2 x r j e0 e1

end

/-- The distance of a row and a key, whether the row looks at the key, and whether the key is of the row's own block. -/
def gap (r : Fin 128) (k : Fin 256) : BitVec 32 :=
  IntOp.subi (IntOp.addi (BitVec.ofNat 32 r.val) 128#32) (BitVec.ofNat 32 k.val)
def band (r : Fin 128) (k : Fin 256) : BitVec 1 :=
  IntOp.andi (IntOp.cmpi .sge (gap r k) 0#32) (IntOp.cmpi .slt (gap r k) 128#32)
def own (k : Fin 256) : BitVec 1 := IntOp.cmpi .sge (BitVec.ofNat 32 k.val) 128#32

/-- The slope of a head, and the bias of a block's scores. -/
def headSlope (h : Fin 8) : EReal := Ideal.ofBits FTy.f32 (lit0 (S8.rowMajor (ix1 h)))
def bias (t : Nat) (h : Fin 8) (r : Fin 128) (k : Fin 256) : EReal :=
  Scalar.select (if t = 0 then IntOp.andi (band r k) (own k) else band r k)
    (-headSlope h * FloatOps.sitofp (F := Ideal) FTy.f32 (gap r k)) (Ideal.ofBits FTy.f32 0xFF800000#32)

section
variable (m : (ℓ : Loc nD τ sig) → Buf (Elt Ideal) ℓ) (c : Dev nD)

/-- What a block's body leaves in the first half of its columns. -/
theorem after_attention (t : Fin cfg0.N) (y : S128x1024.Idx) (j : Fin 512) (hj : (y 1).val = j.val) :
    outsAt0 m c t y = result (iblk m c 0 t) (iblk m c 1 t) (iblk m c 2 t) (iblk m c 3 t) (iblk m c 4 t) (y 0) j := by
  unfold outsAt0
  unfold out0_A_9
  rw [View.read_writes_junk_eq_canon]
  unfold kernelRun0_A
  dsimp only
  canon_tiles x e
  case piece4 => exact out_second (s := 3) (o := 384) (a := 6) (b := 7) (ho := rfl) (ha := rfl) (hb := rfl) (hs := by omega) (h2s := by omega) (e0 := e0) (e1 := by omega) ..
  case piece5 => exact out_second (s := 2) (o := 256) (a := 4) (b := 5) (ho := rfl) (ha := rfl) (hb := rfl) (hs := by omega) (h2s := by omega) (e0 := e0) (e1 := by omega) ..
  case piece6 => exact out_first (s := 1) (o := 128) (a := 2) (b := 3) (ho := rfl) (ha := rfl) (hb := rfl) (hs := by omega) (e0 := e0) (e1 := by omega) ..
  case piece7 => exact out_first (s := 0) (o := 0) (a := 0) (b := 1) (ho := rfl) (ha := rfl) (hb := rfl) (hs := by omega) (e0 := e0) (e1 := by omega) ..
  all_goals exact absurd (j.isLt) (by omega)

def arg0 : Vec Ideal S8192x1792 .bf16 := m ((c : Thread nD τ).loc main_arg0)
def arg1 : Vec Ideal S8 .f32 := m ((c : Thread nD τ).loc main_arg1)

theorem index0 : ∀ t : Fin cfg0.N, win0_0.index t = ![t.val, 0] :=
  (by decide +kernel : ∀ t : Fin grid0.N, win0_0.index t = ![t.val, 0])
theorem index1 : ∀ t : Fin cfg0.N, win0_1.index t = ![t.val - 1, 4] :=
  (by decide +kernel : ∀ t : Fin grid0.N, win0_1.index t = ![t.val - 1, 4])
theorem index2 : ∀ t : Fin cfg0.N, win0_2.index t = ![t.val - 1, 5] :=
  (by decide +kernel : ∀ t : Fin grid0.N, win0_2.index t = ![t.val - 1, 5])
theorem index3 : ∀ t : Fin cfg0.N, win0_3.index t = ![0] :=
  (by decide +kernel : ∀ t : Fin grid0.N, win0_3.index t = ![0])
theorem index4 : ∀ t : Fin cfg0.N, win0_4.index t = ![min t.val 1, 0, 0, 0] :=
  (by decide +kernel : ∀ t : Fin grid0.N, win0_4.index t = ![min t.val 1, 0, 0, 0])
theorem index9 : ∀ t : Fin cfg0.N, win0_9.index t = ![t.val, 0] :=
  (by decide +kernel : ∀ t : Fin grid0.N, win0_9.index t = ![t.val, 0])

theorem block0 (t : Fin cfg0.N) (r : Fin 128) (k : Fin 1792) :
    (iblk m c 0 t : Vec Ideal S128x1792 .bf16) (ix2 r k) = arg0 m c (ix2 (row (t.val * 128 + r.val)) k) := by
  have ht : t.val < 64 := lt_of_lt_of_eq t.isLt N_0
  blk_simp [iblk]
  refine (congrFun (V_main_arg0 m c) _).trans (congrArg (arg0 m c) ?_)
  blk_ext [index0]
  exact row_val (by omega)

theorem block1 (t : Fin cfg0.N) (r : Fin 128) (k : Fin 128) :
    (iblk m c 1 t : Vec Ideal S128x128 .bf16) (ix2 r k) = arg0 m c (ix2 (row ((t.val - 1) * 128 + r.val)) ⟨512 + k.val, by omega⟩) := by
  have ht : t.val < 64 := lt_of_lt_of_eq t.isLt N_0
  blk_simp [iblk]
  refine (congrFun (V_main_arg0 m c) _).trans (congrArg (arg0 m c) ?_)
  blk_ext [index1]
  exact row_val (by omega)

theorem block2 (t : Fin cfg0.N) (r : Fin 128) (k : Fin 128) :
    (iblk m c 2 t : Vec Ideal S128x128 .bf16) (ix2 r k) = arg0 m c (ix2 (row ((t.val - 1) * 128 + r.val)) ⟨640 + k.val, by omega⟩) := by
  have ht : t.val < 64 := lt_of_lt_of_eq t.isLt N_0
  blk_simp [iblk]
  refine (congrFun (V_main_arg0 m c) _).trans (congrArg (arg0 m c) ?_)
  blk_ext [index2]
  exact row_val (by omega)

theorem block3 (t : Fin cfg0.N) (h : Fin 8) :
    (iblk m c 3 t : Vec Ideal S8 .f32) (ix1 h) = arg1 m c (ix1 h) := by
  blk_simp [iblk]
  refine (congrFun (V_main_arg1 m c) _).trans (congrArg (arg1 m c) ?_)
  blk_ext [index3]

theorem bias_host (v : Fin 2) (h : Fin 8) (r : Fin 128) (k : Fin 256) :
    (V m c main_v31 : Vec Ideal S2x8x128x256 .f32) (ix4 v h r k) = bias v.val h r k := by
  entry_read
  simp only [hostOps0, hostOps0_1, hostOps0_2, hostOps0_3, hostOps0_4, List.flatten_cons, List.flatten_nil, List.append_nil,
    List.cons_append, List.nil_append]
  after_results
  simp only [StableHlo.TRef.toBuf, StableHlo.TRef.ofBuf, cast_eq, id, pointwise]
  unfold bias
  by_cases hv : v.val < 1
  · rw [dif_pos hv, if_pos (show v.val = 0 by omega)]
    rfl
  · rw [dif_neg hv, if_neg (show ¬ v.val = 0 by omega)]
    rfl

theorem block4 (t : Fin cfg0.N) (h : Fin 8) (r : Fin 128) (k : Fin 256) :
    (iblk m c 4 t : Vec Ideal S1x8x128x256 .f32) (ix4 0 h r k) = bias t.val h r k := by
  refine Eq.trans ?_ ((bias_host m c ⟨min t.val 1, by omega⟩ h r k).trans ?_)
  · blk_simp [iblk]
    refine congrArg (V m c main_v31) ?_
    blk_ext [index4]
  · unfold bias
    by_cases ht : t.val = 0
    · rw [if_pos ht, if_pos (by simp only; omega)]
    · rw [if_neg ht, if_neg (by simp only; omega)]

end

section
variable (z : Vec Ideal S8192x1792 .bf16) (a : Vec Ideal S8 .f32) (t : Nat)

/-- The row of the keys and values a block of rows looks at. -/
def seen (k : Fin 256) : Fin 8192 := if k.val < 128 then row ((t - 1) * 128 + k.val) else row (t * 128 + (k.val - 128))

/-- The scores, the weights and the values of a block of rows in terms of the arguments. -/
def scores (h : Fin 8) (r : Fin 128) (k : Fin 256) : EReal :=
  ∑ d : Fin 64, z (ix2 (row (t * 128 + r.val)) ⟨64 * h.val + d.val, by omega⟩) * scale
    * z (ix2 (seen t k) ⟨512 + (kv h d).val, by omega⟩)
def weights (h : Fin 8) (r : Fin 128) (k : Fin 256) : EReal :=
  weight (fun k => scores z t h r k + bias t h r k) (a (ix1 h)) k
def value (r : Fin 128) (j : Fin 512) : EReal :=
  ∑ k, weights z a t ⟨j.val / 64, by omega⟩ r k *
    z (ix2 (seen t k) ⟨640 + (kv ⟨j.val / 64, by omega⟩ ⟨j.val % 64, by omega⟩).val, by omega⟩)

end

section
variable (m : (ℓ : Loc nD τ sig) → Buf (Elt Ideal) ℓ) (c : Dev nD)

theorem window_keys (t : Fin cfg0.N) (k : Fin 256) (l : Fin 128) :
    window (iblk m c 0 t) 512 (by omega) (iblk m c 1 t) k l = arg0 m c (ix2 (seen t.val k) ⟨512 + l.val, by omega⟩) := by
  unfold window stack seen
  split
  · exact block1 m c t _ _
  · exact block0 m c t _ _

theorem window_values (t : Fin cfg0.N) (k : Fin 256) (l : Fin 128) :
    window (iblk m c 0 t) 640 (by omega) (iblk m c 2 t) k l = arg0 m c (ix2 (seen t.val k) ⟨640 + l.val, by omega⟩) := by
  unfold window stack seen
  split
  · exact block2 m c t _ _
  · exact block0 m c t _ _

theorem result_block (t : Fin cfg0.N) (r : Fin 128) (j : Fin 512) :
    result (iblk m c 0 t) (iblk m c 1 t) (iblk m c 2 t) (iblk m c 3 t) (iblk m c 4 t) r j
      = value (arg0 m c) (arg1 m c) t.val r j := by
  unfold result value heads weights score scores
  simp only [window_keys, window_values, block0, block3, block4]

/-- The array the kernel leaves, block by block. -/
def left : Vec Ideal S8192x1024 .bf16 := fun i =>
  outsAt0 m c ⟨(i 0).val / 128, by have h : (i 0).val < 8192 := (i 0).isLt; rw [show cfg0.N = 64 from N_0]; omega⟩
    (ix2 (Fin.ofNat 128 (i 0).val) (i 1))

theorem result9 : ((dats m 0 c).arrAt 9 cfg0.N : Vec Ideal S8192x1024 .bf16) = left m c := by
  refine (dats m 0 c).arrAt_eq_of_covers 9 _ (by decide +kernel) fun t hf y => ?_
  have ht : t.val < 64 := lt_of_lt_of_eq t.isLt N_0
  blk_simp
  rw [after0_9]
  have e : (win0_9.blk t).view.emb y = ix2 (row (t.val * 128 + (y 0).val)) (y 1) := by
    idx_bounds y
    blk_ext [index9]
    exact row_val (by omega)
  show _ = left m c ((win0_9.blk t).view.emb y)
  rw [e]
  have hy : (y 0).val < 128 := (y 0).isLt
  have hr : (row (t.val * 128 + (y 0).val)).val = t.val * 128 + (y 0).val := (row_val (by omega)).symm
  unfold left
  refine congrArg₂ (fun t y => outsAt0 m c t y) (Fin.ext ?_) (ix2_of ?_ rfl)
  · show t.val = (row (t.val * 128 + (y 0).val)).val / 128
    omega
  · show (y 0).val = (row (t.val * 128 + (y 0).val)).val % 128
    omega

/-- The value of the run's own arguments. -/
abbrev valueAt (R : Fin 8192) (j : Fin 512) : EReal :=
  value (arg0 m c) (arg1 m c) (R.val / 128) (Fin.ofNat 128 R.val) j

/-- The half of the columns the host keeps. -/
theorem kept_half (R : Fin 8192) (j : Fin 512) :
    extractStridedSlice S8192x512 ![0, 0] ((dats m 0 c).arrAt 9 cfg0.N : Vec Ideal S8192x1024 .bf16)
      slices_S8192x1024_S8192x512_0_0 (ix2 R j) = valueAt m c R j := by
  rw [result9]
  have hR := R.isLt
  simp only [pointwise]
  unfold left
  refine (after_attention m c _ _ j ?_).trans ((result_block m c _ _ j).trans ?_)
  · show 0 + j.val = j.val
    omega
  · refine congrArg₂ (fun t r => value (arg0 m c) (arg1 m c) t r j) ?_ (Fin.ext ?_)
    · show (0 + R.val) / 128 = R.val / 128
      omega
    · show (0 + R.val) % 128 = R.val % 128
      omega

theorem run (g : Dev nD → PrngReg) : θ_run defs (onTc (τ := τ) (main (F := Ideal))) ⟨m, fun _ => 0, g⟩ (fun r => ∀ c : Dev nD,
      (r.2.mem ((c : Thread nD τ).loc main_v36) : Vec Ideal S8192x512 .bf16) = fun i => valueAt m c (i 0) (i 1)) := by
  refine (θ_run defs _ _).mono (fun r h c => ?_) (run_main m g)
  refine ((h c).2 main_v36 (Pipeline.mem_restRefs_of main_v36 (by decide) (by decide))).trans ?_
  unfold Pipeline.afterTail₀
  simp only [hostOps1, List.flatten_cons, List.flatten_nil, List.append_nil]
  after_results
  refine (congrArg (extractStridedSlice S8192x512 ![0, 0] · slices_S8192x1024_S8192x512_0_0)
    ((dats m 0 c).withArrays_arrAt sharedIn0 (V0 m c) (A_eq m c) 9)).trans (funext fun i => ?_)
  exact (congrArg _ (eq_ix2 i)).trans (kept_half m c (i 0) (i 1))

end

end Cert.Kernel23Ideal.Attention

namespace Cert.Proof

open Cert.Reference23Ideal Cert.Reference23Ideal.Gen Cert.Reference23Ideal.Read Cert.Kernel23Ideal.Attention Cert.Blocks Cert.Norm
open Idealize.ShloMosaic Idealize.SL.Sem

/-! ### The reference's keys and values -/

section
variable (z : (⟨S8192x1792, .bf16⟩ : BufTy).Contents (Elt Ideal)) (a : (⟨S8, .f32⟩ : BufTy).Contents (Elt Ideal))

theorem reference23_keys (i : S1x64x128x2x64.Idx) (R : Fin 8192) (l : Fin 1792)
    (hR : R.val = (i 1).val * 128 + (i 2).val) (hl : l.val = 512 + (64 * (i 3).val + (i 4).val)) :
    val_main_v7 (F := Ideal) z i = z (ix2 R l) := by
  have h0 : (i 0).val < 1 := (i 0).isLt
  have h1 : (i 1).val < 64 := (i 1).isLt
  have h2 : (i 2).val < 128 := (i 2).isLt
  have h3 : (i 3).val < 2 := (i 3).isLt
  have h4 : (i 4).val < 64 := (i 4).isLt
  rw [val_main_v7_apply, val_main_v4_apply, val_main_v2_apply, val_main_v1_apply, val_main_v0_apply]
  refine congrArg z (ix2_of ?_ ?_)
  · simp
    omega
  · simp
    omega

theorem reference23_values (i : S1x64x128x2x64.Idx) (R : Fin 8192) (l : Fin 1792)
    (hR : R.val = (i 1).val * 128 + (i 2).val) (hl : l.val = 640 + (64 * (i 3).val + (i 4).val)) :
    val_main_v8 (F := Ideal) z i = z (ix2 R l) := by
  have h0 : (i 0).val < 1 := (i 0).isLt
  have h1 : (i 1).val < 64 := (i 1).isLt
  have h2 : (i 2).val < 128 := (i 2).isLt
  have h3 : (i 3).val < 2 := (i 3).isLt
  have h4 : (i 4).val < 64 := (i 4).isLt
  rw [val_main_v8_apply, val_main_v5_apply, val_main_v2_apply, val_main_v1_apply, val_main_v0_apply]
  refine congrArg z (ix2_of ?_ ?_)
  · simp
    omega
  · simp
    omega

theorem reference23_queries (i : S1x64x128x2x4x64.Idx) (R : Fin 8192) (l : Fin 1792)
    (hR : R.val = (i 1).val * 128 + (i 2).val) (hl : l.val = 64 * (4 * (i 3).val + (i 4).val) + (i 5).val) :
    val_main_v6 (F := Ideal) z i = z (ix2 R l) := by
  have h0 : (i 0).val < 1 := (i 0).isLt
  have h1 : (i 1).val < 64 := (i 1).isLt
  have h2 : (i 2).val < 128 := (i 2).isLt
  have h3 : (i 3).val < 2 := (i 3).isLt
  have h4 : (i 4).val < 4 := (i 4).isLt
  have h5 : (i 5).val < 64 := (i 5).isLt
  unfold val_main_v6
  refine (shapeCast_apply _ _ i (ix3 0 R ⟨l.val, by omega⟩) ?_).trans ?_
  · rw [Shape.rowMajor_val_three, rowMajor_val6 i 4194304 65536 512 256 64 rfl rfl rfl rfl rfl]
    show (0 * 8192 + R.val) * 512 + l.val = _
    omega
  · rw [val_main_v3_apply, val_main_v2_apply, val_main_v1_apply, val_main_v0_apply]
    refine congrArg z (ix2_of ?_ ?_)
    · simp
    · simp

/-- The blocks of rows each one further on, after zeros, and each block below the one before. -/
def shifted (x : Vec Ideal S1x64x128x2x64 .f32) : Vec Ideal S1x64x128x2x64 .f32 :=
  pad S1x64x128x2x64 ![0, 1, 0, 0, 0] ![0, 0, 0, 0, 0] ![0, 0, 0, 0, 0]
    (extractStridedSlice S1x63x128x2x64 ![0, 0, 0, 0, 0] x slices_S1x64x128x2x64_S1x63x128x2x64_0_0_0_0_0)
    (val_main_call0_v0 (F := Ideal)) pads_S1x63x128x2x64_S1x64x128x2x64_000_100_000_000_000 h_S_
def below (x : Vec Ideal S1x64x128x2x64 .f32) : Vec Ideal S1x64x256x2x64 .f32 :=
  concatenate S1x64x256x2x64 2 [⟨S1x64x128x2x64, shifted x⟩, ⟨S1x64x128x2x64, x⟩]
    concatenates_S1x64x128x2x64_S1x64x128x2x64_S1x64x256x2x64_d2

theorem below_own (x : Vec Ideal S1x64x128x2x64 .f32) (t : Fin 64) (k : Fin 256) (p : Fin 2) (d : Fin 64) (hk : 128 ≤ k.val) :
    below x (ix5 0 t k p d) = x (ix5 0 t ⟨k.val - 128, by omega⟩ p d) := by
  unfold below
  refine concatenate_apply_piece (t := S1x64x256x2x64) 2 _ _ _ 1 ?_ S1x64x128x2x64 x ?_ rfl 128 ?_ _ (fun b hb => ?_) ?_
  · exact Nat.lt_succ_self 1
  · rfl
  · rfl
  · fin_cases b
    · rfl
    · rfl
    · exact absurd rfl hb
    · rfl
    · rfl
  · show 128 + (k.val - 128) = k.val
    omega

theorem below_shifted (x : Vec Ideal S1x64x128x2x64 .f32) (t : Fin 64) (k : Fin 256) (p : Fin 2) (d : Fin 64)
    (hk : k.val < 128) : below x (ix5 0 t k p d) = shifted x (ix5 0 t ⟨k.val, hk⟩ p d) := by
  unfold below
  refine concatenate_apply_piece (t := S1x64x256x2x64) 2 _ _ _ 0 ?_ S1x64x128x2x64 (shifted x) ?_ rfl 0 ?_
    (ix5 0 t ⟨k.val, hk⟩ p d) (fun b hb => ?_) ?_
  · exact Nat.zero_lt_succ 1
  · rfl
  · rfl
  · fin_cases b <;> rfl
  · show 0 + k.val = k.val
    omega

theorem below_previous (x : Vec Ideal S1x64x128x2x64 .f32) (t : Fin 64) (k : Fin 256) (p : Fin 2) (d : Fin 64)
    (hk : k.val < 128) (ht : t.val ≠ 0) :
    below x (ix5 0 t k p d) = x (ix5 0 ⟨t.val - 1, by omega⟩ ⟨k.val, hk⟩ p d) := by
  rw [below_shifted x t k p d hk]
  unfold shifted
  refine (pad_apply_of_inside _ _ _ _ _ _ _ _ (ix5 0 ⟨t.val - 1, by omega⟩ ⟨k.val, hk⟩ p d) (fun b => ?_)).trans ?_
  · fin_cases b
    · rfl
    · show t.val = 1 + (t.val - 1) * 1
      omega
    · show k.val = 0 + k.val * 1
      omega
    · show p.val = 0 + p.val * 1
      omega
    · show d.val = 0 + d.val * 1
      omega
  · refine extractStridedSlice_apply _ _ _ _ _ (fun b => ?_)
    fin_cases b <;> exact (Nat.zero_add _).symm

theorem below_none (x : Vec Ideal S1x64x128x2x64 .f32) (t : Fin 64) (k : Fin 256) (p : Fin 2) (d : Fin 64)
    (hk : k.val < 128) (ht : t.val = 0) : below x (ix5 0 t k p d) = 0 := by
  rw [below_shifted x t k p d hk]
  unfold shifted
  refine (pad_apply_of_not_inside _ _ _ _ _ _ _ _ 1 (fun h => ?_)).trans ?_
  · have : 1 ≤ t.val := h.1
    omega
  · show ((((0#32).toInt : ℝ)) : EReal) = 0
    simp

theorem reference23_keys_seen (t : Fin 64) (k : Fin 256) (p : Fin 2) (d : Fin 64) (l : Fin 1792)
    (h : t.val ≠ 0 ∨ 128 ≤ k.val) (hl : l.val = 512 + (64 * p.val + d.val)) :
    val_main_v11 (F := Ideal) z (ix5 0 t k p d) = z (ix2 (seen t.val k) l) := by
  show below (val_main_v7 (F := Ideal) z) (ix5 0 t k p d) = _
  unfold seen
  split
  · next hk =>
    rw [below_previous _ _ _ _ _ hk (by omega)]
    exact reference23_keys z _ _ _ (row_val (by omega)).symm hl
  · next hk =>
    rw [below_own _ _ _ _ _ (by omega)]
    exact reference23_keys z _ _ _ (row_val (by omega)).symm hl

theorem reference23_values_seen (t : Fin 64) (k : Fin 256) (p : Fin 2) (d : Fin 64) (l : Fin 1792)
    (h : t.val ≠ 0 ∨ 128 ≤ k.val) (hl : l.val = 640 + (64 * p.val + d.val)) :
    val_main_v14 (F := Ideal) z (ix5 0 t k p d) = z (ix2 (seen t.val k) l) := by
  show below (val_main_v8 (F := Ideal) z) (ix5 0 t k p d) = _
  unfold seen
  split
  · next hk =>
    rw [below_previous _ _ _ _ _ hk (by omega)]
    exact reference23_values z _ _ _ (row_val (by omega)).symm hl
  · next hk =>
    rw [below_own _ _ _ _ _ (by omega)]
    exact reference23_values z _ _ _ (row_val (by omega)).symm hl

/-! ### The mask and the bias -/

theorem reference23_gap (r : Fin 128) (k : Fin 256) : val_main_v27 (F := Ideal) (ix2 r k) = gap r k := by
  rw [val_main_v27_apply, val_main_v26_apply, val_main_v25_apply, val_main_v24_apply, val_main_v23_apply, val_main_v22_apply,
    val_main_v21_apply, val_main_v20_apply, val_main_v19_apply]
  rfl

theorem reference23_mask (t : Fin 64) (p : Fin 2) (g : Fin 4) (r : Fin 128) (k : Fin 256) :
    val_main_call2_v1 (F := Ideal) (ix6 0 t p g r k) =
      IntOp.andi (band r k) (IntOp.ori (IntOp.cmpi .sgt (BitVec.ofNat 32 t.val) 0#32) (own k)) := by
  have e : idx_main_v35 (idx_main_v44 (idx_main_v63 (idx_main_call2_v1 (ix6 0 t p g r k)))) = ix2 r k := ix2_of rfl rfl
  rw [val_main_call2_v1_apply, val_main_v63_apply, val_main_v46_apply, val_main_v44_apply, val_main_v35_apply,
    val_main_v32_apply, val_main_v31_apply, val_main_v29_apply, e, reference23_gap, val_main_v45_apply, val_main_v43_apply,
    val_main_v42_apply, val_main_v41_apply, val_main_v40_apply, val_main_v39_apply, val_main_v37_apply, val_main_v34_apply,
    val_main_v33_apply, val_main_v22_apply, val_main_v21_apply]
  rfl

theorem reference23_power : ∀ h : Fin 8,
    (IntOp.shli .host 1#32 (IntOp.addi (BitVec.ofNat 32 h.val) 1#32)).toInt = 2 ^ (h.val + 1) := by
  decide +kernel

theorem reference23_table : ∀ h : Fin 8, Cert.Kernel23Ideal.lit0 (Cert.Kernel23Ideal.S8.rowMajor (ix1 h)) =
    BitVec.ofNat 32 (2 ^ 23 * (126 - h.val)) := by
  decide +kernel

/-- The slope of a head is the inverse of a power of two. -/
theorem headSlope_eq (h : Fin 8) : headSlope h = (((((2 ^ (h.val + 1) : ℤ) : ℝ))⁻¹ : ℝ) : EReal) := by
  unfold headSlope
  rw [reference23_table]
  fin_cases h <;> simp [Ideal.ofBits, Ideal.ieee, -EReal.coe_mul] <;> norm_num

theorem reference23_slope (h : Fin 8) : val_main_v54 (F := Ideal) (ix1 h) = headSlope h := by
  rw [val_main_v54_apply, val_main_v53_apply, val_main_v52_apply, val_main_v51_apply, val_main_v50_apply, val_main_v49_apply,
    val_main_v48_apply, val_main_v47_apply]
  refine (congrArg (fun b : ℤ => Ideal.div (Ideal.ofBits FTy.f32 0x3F800000#32) (((b : ℝ)) : EReal))
    (reference23_power h)).trans ?_
  have e : Ideal.ofBits FTy.f32 0x3F800000#32 = 1 := one_eq
  have p : (((2 ^ (h.val + 1) : ℤ) : ℝ)) ≠ 0 := by positivity
  unfold Ideal.div
  rw [headSlope_eq, e, if_neg (by exact_mod_cast p), ← EReal.coe_inv, one_mul]

theorem reference23_bias (t : Fin 64) (p : Fin 2) (g : Fin 4) (r : Fin 128) (k : Fin 256) (h : Fin 8)
    (hh : h.val = p.val * 4 + g.val) :
    val_main_v65 (F := Ideal) (ix6 0 t p g r k) = -headSlope h * FloatOps.sitofp (F := Ideal) FTy.f32 (gap r k) := by
  have e : idx_main_v59 (idx_main_v61 (idx_main_v64 (idx_main_v65 (ix6 0 t p g r k)))) = ix2 r k := ix2_of rfl rfl
  have f : idx_main_v55 (idx_main_v56 (idx_main_v60 (idx_main_v64 (idx_main_v65 (ix6 0 t p g r k))))) = ix1 h :=
    funext fun q => Fin.ext (by fin_cases q; exact hh.symm)
  rw [val_main_v65_apply, val_main_v64_apply, val_main_v62_apply, val_main_v61_apply, val_main_v60_apply, val_main_v59_apply,
    val_main_v58_apply, val_main_v57_apply, val_main_v56_apply, val_main_v55_apply, e, f, reference23_gap, reference23_slope]
  rfl

/-! ### The scores -/

theorem infinity : Ideal.ofBits FTy.f32 0xFF800000#32 = (⊥ : EReal) := by
  simp [Ideal.ofBits, Ideal.ieee]

theorem scale_pos : ∃ s : ℝ, 0 < s ∧ scale = (s : EReal) := by
  refine ⟨1 / 8, by norm_num, ?_⟩
  unfold scale
  simp [Ideal.ofBits, Ideal.ieee, -EReal.coe_mul]
  norm_num

/-- A row looks at a key: the row's band holds it, and the first block has none before it. -/
theorem mask_eq (t : Fin 64) (r : Fin 128) (k : Fin 256) :
    IntOp.andi (band r k) (IntOp.ori (IntOp.cmpi .sgt (BitVec.ofNat 32 t.val) 0#32) (own k))
      = if t.val = 0 then IntOp.andi (band r k) (own k) else band r k := by
  have first : IntOp.cmpi .sgt (BitVec.ofNat 32 t.val) 0#32 = if t.val = 0 then 0#1 else 1#1 := by
    revert t
    decide +kernel
  have zero : ∀ x : BitVec 1, IntOp.ori 0#1 x = x := by decide
  have one : ∀ x y : BitVec 1, IntOp.andi y (IntOp.ori 1#1 x) = y := by decide
  rw [first]
  split
  · rw [zero]
  · rw [one]

/-- A key a row of the first block looks at is of the block itself. -/
theorem seen_own (r : Fin 128) (k : Fin 256) (h : IntOp.andi (band r k) (own k) = 1) : 128 ≤ k.val := by
  have o : ∀ k : Fin 256, own k = 1 → 128 ≤ k.val := by decide +kernel
  have b : ∀ x y : BitVec 1, IntOp.andi x y = 1 → y = 1 := by decide
  exact o k (b _ _ h)

theorem reference23_score_key (t : Fin 64) (p : Fin 2) (g : Fin 4) (r : Fin 128) (k : Fin 256) (d : Fin 64) :
    lidx_main_v15 (idx_main_v16 (ix6 0 t p g r k)) d = ix5 0 t k p d :=
  funext fun q => Fin.ext (by fin_cases q <;> rfl)

theorem reference23_product (t : Fin 64) (p : Fin 2) (g : Fin 4) (r : Fin 128) (k : Fin 256) (h : Fin 8)
    (hh : h.val = p.val * 4 + g.val) (hk : t.val ≠ 0 ∨ 128 ≤ k.val) :
    val_main_v18 (F := Ideal) z (ix6 0 t p g r k) = scores z t.val h r k := by
  obtain ⟨s, hs, es⟩ := scale_pos
  have e : val_main_v18 (F := Ideal) z (ix6 0 t p g r k) = (∑ d : Fin 64,
      val_main_v11 (F := Ideal) z (lidx_main_v15 (idx_main_v16 (ix6 0 t p g r k)) d)
        * val_main_v6 (F := Ideal) z (ridx_main_v15 (idx_main_v16 (ix6 0 t p g r k)) d)) * scale := by
    rw [val_main_v18_apply, val_main_v17_apply, val_main_v16_apply, val_main_v15_apply]
    rfl
  rw [e, es, ← sum_mul_pos _ _ s hs]
  unfold scores
  refine Finset.sum_congr rfl fun d _ => ?_
  rw [reference23_score_key, reference23_keys_seen z t k p d ⟨512 + (kv h d).val, by have := (kv h d).isLt; omega⟩ hk ?key]
  case key => unfold kv; simp only; omega
  rw [reference23_queries z _ (row (t.val * 128 + r.val)) ⟨64 * h.val + d.val, by have := h.isLt; have := d.isLt; omega⟩ ?row ?lane, es]
  case row => exact (row_val (by omega)).symm
  case lane =>
    show 64 * h.val + d.val = 64 * (4 * p.val + g.val) + d.val
    omega
  rw [mul_comm (z (ix2 (seen _ _) _)), mul_right_comm]

theorem reference23_scores (t : Fin 64) (p : Fin 2) (g : Fin 4) (r : Fin 128) (k : Fin 256) (h : Fin 8)
    (hh : h.val = p.val * 4 + g.val) :
    val_main_v67 (F := Ideal) z (ix6 0 t p g r k) = scores z t.val h r k + bias t.val h r k := by
  rw [val_main_v67_apply, reference23_mask, mask_eq, val_main_v66_apply, reference23_bias t p g r k h hh,
    val_main_call2_v2_apply]
  unfold bias
  generalize hb : (if t.val = 0 then IntOp.andi (band r k) (own k) else band r k) = b
  unfold Scalar.select
  by_cases q : b = 1
  · have hk : t.val ≠ 0 ∨ 128 ≤ k.val := by
      by_cases ht : t.val = 0
      · rw [if_pos ht, q] at hb
        exact Or.inr (seen_own r k hb)
      · exact Or.inl ht
    rw [if_pos q, if_pos q, reference23_product z t p g r k h hh hk]
    rfl
  · rw [if_neg q, if_neg q, infinity, EReal.add_bot]
    exact infinity

/-! ### The weights -/

theorem reference23_sink (t : Fin 64) (p : Fin 2) (g : Fin 4) (r : Fin 128) (h : Fin 8) (hh : h.val = p.val * 4 + g.val) :
    val_main_v72 (F := Ideal) a (ix6 0 t p g r 0) = a (ix1 h) := by
  rw [val_main_v72_apply, val_main_v69_apply, val_main_v68_apply]
  exact congrArg a (funext fun q => Fin.ext (by fin_cases q; exact hh.symm))

theorem reference23_greatest (t : Fin 64) (p : Fin 2) (g : Fin 4) (r : Fin 128) (h : Fin 8) (hh : h.val = p.val * 4 + g.val) :
    val_main_v70 (F := Ideal) z (ix5 0 t p g r) =
      Finset.fold max (Ideal.ofBits FTy.f32 0xFF800000#32) (fun k => scores z t.val h r k + bias t.val h r k) Finset.univ := by
  unfold val_main_v70
  have e := Host.reduce_eq_fold (FloatOps.maximumf (F := Ideal) (φ := FTy.f32)) (val_main_v67 (F := Ideal) z) (val_main_cst_10 (F := Ideal))
    reducesTo_S1x64x2x4x128x256_S1x64x2x4x128_d5 h_S_ (ix5 0 t p g r)
  refine e.trans ((Finset.fold_filter_eq_fold_of_fiber _ _ (fun k : Fin 256 => (ix6 (0 : Fin 1) t p g r k : S1x64x2x4x128x256.Idx)) (fun _ _ e => congrFun e 5)
    (fun i => ⟨fun e => ⟨i 5, ?_⟩, ?_⟩) _ _).trans ?_)
  · funext q
    refine Fin.ext ?_
    fin_cases q
    · have : (i 0).val < 1 := (i 0).isLt
      show 0 = (i 0).val
      omega
    · exact (congrArg Fin.val (congrFun e 1)).symm
    · exact (congrArg Fin.val (congrFun e 2)).symm
    · exact (congrArg Fin.val (congrFun e 3)).symm
    · exact (congrArg Fin.val (congrFun e 4)).symm
    · rfl
  · rintro ⟨k, rfl⟩
    funext q
    refine Fin.ext ?_
    fin_cases q <;> rfl
  · simp only [reference23_scores z t p g r _ h hh]
    rfl

theorem reference23_peak (t : Fin 64) (p : Fin 2) (g : Fin 4) (r : Fin 128) (h : Fin 8) (hh : h.val = p.val * 4 + g.val) :
    val_main_v73 (F := Ideal) z a (ix6 0 t p g r 0) =
      peak (fun k => scores z t.val h r k + bias t.val h r k) (a (ix1 h)) := by
  have e : idx_main_v71 (ix6 0 t p g r 0) = ix5 0 t p g r := funext fun q => Fin.ext (by fin_cases q <;> rfl)
  rw [val_main_v73_apply, val_main_v71_apply, e, reference23_greatest z t p g r h hh, reference23_sink a t p g r h hh]
  rfl

theorem reference23_exp (t : Fin 64) (p : Fin 2) (g : Fin 4) (r : Fin 128) (k : Fin 256) (h : Fin 8)
    (hh : h.val = p.val * 4 + g.val) :
    val_main_v76 (F := Ideal) z a (ix6 0 t p g r k) = Ideal.exp (scores z t.val h r k + bias t.val h r k
      - peak (fun k => scores z t.val h r k + bias t.val h r k) (a (ix1 h))) := by
  have e : idx_main_v74 (ix6 0 t p g r k) = ix6 0 t p g r 0 := funext fun q => Fin.ext (by fin_cases q <;> rfl)
  rw [val_main_v76_apply, val_main_v75_apply, val_main_v74_apply, e, reference23_peak z a t p g r h hh,
    reference23_scores z t p g r k h hh]
  rfl

theorem reference23_weight (t : Fin 64) (p : Fin 2) (g : Fin 4) (r : Fin 128) (k : Fin 256) (h : Fin 8)
    (hh : h.val = p.val * 4 + g.val) :
    val_main_v84 (F := Ideal) z a (ix6 0 t p g r k) = Ideal.div
      (Ideal.exp (scores z t.val h r k + bias t.val h r k
        - peak (fun k => scores z t.val h r k + bias t.val h r k) (a (ix1 h))))
      (∑ k, Ideal.exp (scores z t.val h r k + bias t.val h r k
          - peak (fun k => scores z t.val h r k + bias t.val h r k) (a (ix1 h)))
        + Ideal.exp (a (ix1 h) - peak (fun k => scores z t.val h r k + bias t.val h r k) (a (ix1 h)))) := by
  have e : idx_main_v83 (ix6 0 t p g r k) = ix6 0 t p g r 0 := funext fun q => Fin.ext (by fin_cases q <;> rfl)
  have f : idx_main_v78 (ix6 0 t p g r 0) = ix5 0 t p g r := funext fun q => Fin.ext (by fin_cases q <;> rfl)
  have x : ∀ k, idx_main_v77 (ix5 0 t p g r) k = ix6 0 t p g r k := fun k =>
    funext fun q => Fin.ext (by fin_cases q <;> rfl)
  have s : val_main_v79 (F := Ideal) a (ix6 0 t p g r 0) = a (ix1 h) :=
    (val_main_v79_apply a _).trans ((val_main_v72_apply a _).symm.trans (reference23_sink a t p g r h hh))
  rw [val_main_v84_apply, val_main_v83_apply, e, val_main_v82_apply, val_main_v81_apply, val_main_v80_apply, s,
    val_main_v78_apply, f, val_main_v77_apply, reference23_peak z a t p g r h hh]
  simp only [x, reference23_exp z a t p g r _ h hh]
  refine congrArg (fun q : EReal => Ideal.div _ (q + _)) ?_
  exact (congrArg (· + _) Ideal.ofBits_zero_f32).trans (zero_add _)

/-- A quotient is the product with the quotient of one, unless the divisor is zero. -/
theorem div_eq (x y : EReal) (hy : y ≠ 0) : x * Ideal.div 1 y = Ideal.div x y := by
  unfold Ideal.div
  rw [if_neg hy, if_neg hy, one_mul]

theorem exp_nonneg' (x : EReal) : 0 ≤ Ideal.exp x := by
  induction x with
  | bot => simp
  | top => simp
  | coe r => simp [Real.exp_nonneg]

/-- The sum of the exponentials, with a real sink and no score infinite, is not zero. -/
theorem total_ne_zero (x : Fin 256 → EReal) (s : EReal) (hs : IsReal s) (hx : ∀ k, x k ≠ ⊤) :
    ∑ k, Ideal.exp (x k - peak x s) + Ideal.exp (s - peak x s) ≠ 0 := by
  obtain ⟨s, rfl⟩ := hs
  have top : peak x s < ⊤ := by
    unfold peak
    refine max_lt ((Finset.fold_max_lt _).2 ⟨?_, fun k _ => lt_top_iff_ne_top.2 (hx k)⟩) (EReal.coe_lt_top s)
    rw [infinity]
    exact bot_lt_top
  have bot : ⊥ < peak x s := lt_of_lt_of_le (EReal.bot_lt_coe s) (le_max_right _ _)
  have real : IsReal (peak x s) := by
    generalize peak x s = q at top bot
    induction q with
    | bot => exact absurd bot (lt_irrefl _)
    | top => exact absurd top (lt_irrefl _)
    | coe r => exact ⟨r, rfl⟩
  obtain ⟨q, e⟩ := real
  refine ne_of_gt (lt_of_lt_of_le ?_ (le_add_of_nonneg_left (Finset.sum_nonneg fun k _ => exp_nonneg' _)))
  rw [e]
  show 0 < Ideal.exp ((s - q : ℝ) : EReal)
  rw [Ideal.exp_coe]
  exact EReal.coe_pos.2 (Real.exp_pos _)

/-! ### The values -/

/-- A bias is a real number or the value of a hidden key. -/
theorem bias_ne_top (t : Nat) (h : Fin 8) (r : Fin 128) (k : Fin 256) : IsReal (bias t h r k) ∨ bias t h r k = ⊥ := by
  unfold bias Scalar.select
  generalize (if t = 0 then IntOp.andi (band r k) (own k) else band r k) = b
  split
  · refine Or.inl (IsReal.mul ⟨-(((2 ^ (h.val + 1) : ℤ) : ℝ))⁻¹, ?_⟩ ⟨((gap r k).toInt : ℝ), rfl⟩)
    rw [headSlope_eq]
    exact (EReal.coe_neg _).symm
  · exact Or.inr infinity

/-- A key before the first block is hidden. -/
theorem bias_first (t : Nat) (ht : t = 0) (h : Fin 8) (r : Fin 128) (k : Fin 256) (hk : k.val < 128) :
    bias t h r k = ⊥ := by
  unfold bias Scalar.select
  rw [if_pos ht, if_neg fun e => by have := seen_own r k e; omega]
  exact infinity

theorem scores_real (hz : ∀ R l, l.val < 640 → IsReal (z (ix2 R l))) (t : Nat) (h : Fin 8) (r : Fin 128) (k : Fin 256) :
    IsReal (scores z t h r k) := by
  obtain ⟨s, _, es⟩ := scale_pos
  unfold scores
  refine IsReal.sum _ fun d => ((hz _ _ ?_).mul ⟨s, es⟩).mul (hz _ _ ?_)
  · show 64 * h.val + d.val < 640
    omega
  · have := (kv h d).isLt
    show 512 + (kv h d).val < 640
    omega

theorem biased_ne_top (hz : ∀ R l, l.val < 640 → IsReal (z (ix2 R l))) (t : Nat) (h : Fin 8) (r : Fin 128) (k : Fin 256) :
    scores z t h r k + bias t h r k ≠ ⊤ := by
  obtain ⟨s, es⟩ := scores_real z hz t h r k
  rw [es]
  rcases bias_ne_top t h r k with ⟨b, eb⟩ | eb
  · rw [eb, ← EReal.coe_add]
    exact EReal.coe_ne_top _
  · rw [eb, EReal.add_bot]
    exact bot_ne_top

theorem reference23_weights (hz : ∀ R l, l.val < 640 → IsReal (z (ix2 R l))) (ha : ∀ h, IsReal (a (ix1 h)))
    (t : Fin 64) (p : Fin 2) (g : Fin 4) (r : Fin 128) (k : Fin 256) (h : Fin 8) (hh : h.val = p.val * 4 + g.val) :
    val_main_v84 (F := Ideal) z a (ix6 0 t p g r k) = weights z a t.val h r k := by
  rw [reference23_weight z a t p g r k h hh]
  unfold weights weight
  exact (div_eq _ _ (total_ne_zero _ _ (ha h) fun k => biased_ne_top z hz t.val h r k)).symm

/-- A key before the first block has no weight. -/
theorem weights_first (t : Nat) (ht : t = 0) (h : Fin 8) (r : Fin 128) (k : Fin 256) (hk : k.val < 128) :
    weights z a t h r k = 0 := by
  unfold weights weight
  show Ideal.exp (scores z t h r k + bias t h r k - _) * _ = 0
  rw [bias_first t ht h r k hk, EReal.add_bot, EReal.bot_sub, Ideal.exp_bot, zero_mul]

theorem reference23_term (hz : ∀ R l, l.val < 640 → IsReal (z (ix2 R l))) (ha : ∀ h, IsReal (a (ix1 h)))
    (t : Fin 64) (p : Fin 2) (g : Fin 4) (r : Fin 128) (k : Fin 256) (d : Fin 64) (h : Fin 8)
    (hh : h.val = p.val * 4 + g.val) (l : Fin 1792) (hl : l.val = 640 + (64 * p.val + d.val)) :
    val_main_v14 (F := Ideal) z (ix5 0 t k p d) * val_main_v84 (F := Ideal) z a (ix6 0 t p g r k)
      = weights z a t.val h r k * z (ix2 (seen t.val k) l) := by
  rw [reference23_weights z a hz ha t p g r k h hh]
  by_cases hk : t.val ≠ 0 ∨ 128 ≤ k.val
  · exact (congrArg (· * weights z a t.val h r k) (reference23_values_seen z t k p d l hk hl)).trans (mul_comm _ _)
  · rw [weights_first z a t.val (by omega) h r k (by omega), zero_mul, mul_zero]

theorem reference23_sum (t : Fin 64) (p : Fin 2) (g : Fin 4) (r : Fin 128) (d : Fin 64) :
    val_main_v86 (F := Ideal) z a (ix6 0 t r p g d) =
      ∑ k : Fin 256, val_main_v14 (F := Ideal) z (ix5 0 t k p d) * val_main_v84 (F := Ideal) z a (ix6 0 t p g r k) := by
  rw [val_main_v86_apply, val_main_v85_apply]
  refine Finset.sum_congr rfl fun k _ => congrArg₂ (· * ·) (congrArg _ ?_) (congrArg _ ?_)
  · exact funext fun q => Fin.ext (by fin_cases q <;> rfl)
  · exact funext fun q => Fin.ext (by fin_cases q <;> rfl)

theorem reference23_rows (R : Fin 8192) (j : Fin 512) (t : Fin 64) (r : Fin 128) (p : Fin 2) (g : Fin 4) (d : Fin 64)
    (hR : R.val = t.val * 128 + r.val) (hj : j.val = p.val * 256 + g.val * 64 + d.val) :
    val_main_v89 (F := Ideal) z a (ix2 R j) = val_main_v86 (F := Ideal) z a (ix6 0 t r p g d) := by
  rw [val_main_v89_apply, val_main_v88_apply]
  unfold val_main_v87
  generalize val_main_v86 (F := Ideal) z a = y
  refine shapeCast_apply y _ _ (ix6 0 t r p g d : S1x64x128x2x4x64.Idx) ?_
  rw [rowMajor_val6 _ 4194304 65536 512 256 64 rfl rfl rfl rfl rfl, Shape.rowMajor_val_three]
  show 0 * 4194304 + t.val * 65536 + r.val * 512 + p.val * 256 + g.val * 64 + d.val
    = (0 * 8192 + (R.val * 512 + j.val) / 512 % 8192) * 512 + (R.val * 512 + j.val) % 512
  omega

theorem reference23_value (hz : ∀ R l, l.val < 640 → IsReal (z (ix2 R l))) (ha : ∀ h, IsReal (a (ix1 h)))
    (R : Fin 8192) (j : Fin 512) :
    val_main_v89 (F := Ideal) z a (ix2 R j) = value z a (R.val / 128) (Fin.ofNat 128 R.val) j := by
  rw [reference23_rows z a R j ⟨R.val / 128, by omega⟩ (Fin.ofNat 128 R.val) ⟨j.val / 256, by omega⟩ ⟨j.val / 64 % 4, by omega⟩
    ⟨j.val % 64, by omega⟩ (Nat.div_add_mod' R.val 128).symm (by show j.val = j.val / 256 * 256 + j.val / 64 % 4 * 64 + j.val % 64; omega),
    reference23_sum]
  unfold value
  refine Finset.sum_congr rfl fun k _ => reference23_term z a hz ha _ _ _ _ k _ _ ?_ _ ?_
  · show j.val / 64 = j.val / 256 * 4 + j.val / 64 % 4
    omega
  · show 640 + (64 * (j.val / 64 / 4) + j.val % 64) = 640 + (64 * (j.val / 256) + j.val % 64)
    omega

end

/-! ### The claims -/

theorem column_apply (x : Vec Ideal S8192x1792 .bf16)
    (h : S8192x1792.Slices ![0, 0] Cert.Pre_finite_attention.S8192x640) (R : Fin 8192) (l : Fin 1792) (hl : l.val < 640) :
    extractStridedSlice Cert.Pre_finite_attention.S8192x640 ![0, 0] x h (ix2 R ⟨l.val, hl⟩) = x (ix2 R l) := by
  refine extractStridedSlice_apply _ _ _ _ (ix2 R l) fun q => ?_
  match q with
  | ⟨0, _⟩ => exact (Nat.zero_add _).symm
  | ⟨1, _⟩ => exact (Nat.zero_add _).symm

theorem preserves23 : Cert.preserves_Kernel23_Kernel23Ideal := trivial

theorem algebraic23 : Cert.algebraic_Kernel23Ideal_Reference23Ideal_pre_finite_attention := fun m g m' g' hpre hagree =>
  ⟨fun c => fun i => valueAt m c (i 0) (i 1),
    (θ_run (Cert.Kernel23Ideal.defs (F := Ideal)) _ _).mono (fun r h c => ⟨h.1 c, h.2 c⟩)
      (θ_run_and (Cert.Kernel23Ideal.Attention.run m g) (Cert.Kernel23Ideal.Gen.unchanged m g)),
    (θ_run (Cert.Reference23Ideal.defs (F := Ideal)) _ _).mono (fun r h c => by
      obtain ⟨a0, a1, _⟩ := hagree c
      obtain ⟨p0, p1⟩ := hpre c
      refine ⟨(h c).1.trans ?_, (h c).2⟩
      refine (val_main_v89_eq (F := Ideal) m' c).trans ?_
      rw [a0, a1]
      refine funext fun i => (congrArg _ (eq_ix2 i)).trans ?_
      refine reference23_value _ _ (fun R l hl => ?_) (fun h => real_of_finite _ _ _ p1 _) (i 0) (i 1)
      refine (congrArg IsReal ?_).mp (real_of_finite _ _ _ p0 (ix2 R ⟨l.val, hl⟩))
      exact column_apply _ Cert.Pre_finite_attention.Facts.slices_S8192x1792_S8192x640_0_0 R l hl)
    (Cert.Reference23Ideal.Value.run m' g')⟩

end Cert.Proof

end
-- ==== Proof.lean ====
module

public import proofs.«01_k».proof.Defs
public import proofs.«01_k».proof.Proof.Frames
public import proofs.«01_k».proof.Proof.WeightGrad2
public import proofs.«01_k».proof.Proof.WeightGrad3
public import proofs.«01_k».proof.Proof.WeightGrad4
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.FfnInGrad5
public import proofs.«01_k».proof.Proof.NormInGrad6
public import proofs.«01_k».proof.Proof.FfnOutGrad7
public import proofs.«01_k».proof.Proof.NormIn8
public import proofs.«01_k».proof.Proof.FfnIn9
public import proofs.«01_k».proof.Proof.FfnOut10
public import proofs.«01_k».proof.Proof.PleGrad11
public import proofs.«01_k».proof.Proof.PleWeight12
public import proofs.«01_k».proof.Proof.MixOut13
public import proofs.«01_k».proof.Proof.MixOutGrad14
public import proofs.«01_k».proof.Proof.Ple15
public import proofs.«01_k».proof.Proof.PleLoss16
public import proofs.«01_k».proof.Proof.Update17
public import proofs.«01_k».proof.Proof.Update18
public import proofs.«01_k».proof.Proof.Update19
public import proofs.«01_k».proof.Proof.Update20
public import proofs.«01_k».proof.Proof.Update21
public import proofs.«01_k».proof.Proof.Gating22
public import proofs.«01_k».proof.Proof.Attention23
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import Idealize.ShloMosaic.Adequacy
public import Idealize.ShloMosaic.Init

@[expose] public section

noncomputable section

namespace Cert.Proof

open Idealize.ShloMosaic Idealize.SL.Sem

theorem frame_kernel2 : Cert.quiescent_Kernel2 := fun m ρ _ => Cert.Kernel2.Gen.frame m ρ
theorem frame_kernel3 : Cert.quiescent_Kernel3 := fun m ρ _ => Cert.Kernel3.Gen.frame m ρ
theorem frame_kernel4 : Cert.quiescent_Kernel4 := fun m ρ _ => Cert.Kernel4.Gen.frame m ρ
theorem frame_kernel2Ideal : Cert.quiescent_Kernel2Ideal := fun m ρ _ => Cert.Kernel2Ideal.Gen.frame m ρ
theorem frame_kernel3Ideal : Cert.quiescent_Kernel3Ideal := fun m ρ _ => Cert.Kernel3Ideal.Gen.frame m ρ
theorem frame_kernel4Ideal : Cert.quiescent_Kernel4Ideal := fun m ρ _ => Cert.Kernel4Ideal.Gen.frame m ρ

theorem frame_reference : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run m ρ)
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_kernel12 : Cert.quiescent_Kernel12 := fun m ρ _ => Cert.Kernel12.Gen.frame m ρ
theorem frame_kernel12Ideal : Cert.quiescent_Kernel12Ideal := fun m ρ _ => Cert.Kernel12Ideal.Gen.frame m ρ
theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_kernel14 : Cert.quiescent_Kernel14 := fun m ρ _ => Cert.Kernel14.Gen.frame m ρ
theorem frame_kernel14Ideal : Cert.quiescent_Kernel14Ideal := fun m ρ _ => Cert.Kernel14Ideal.Gen.frame m ρ
theorem frame_kernel15 : Cert.quiescent_Kernel15 := fun m ρ _ => Cert.Kernel15.Gen.frame m ρ
theorem frame_kernel15Ideal : Cert.quiescent_Kernel15Ideal := fun m ρ _ => Cert.Kernel15Ideal.Gen.frame m ρ
theorem frame_kernel16 : Cert.quiescent_Kernel16 := fun m ρ _ => Cert.Kernel16.Gen.frame m ρ
theorem frame_kernel16Ideal : Cert.quiescent_Kernel16Ideal := fun m ρ _ => Cert.Kernel16Ideal.Gen.frame m ρ
theorem frame_kernel17 : Cert.quiescent_Kernel17 := fun m ρ _ => Cert.Kernel17.Gen.frame m ρ
theorem frame_kernel17Ideal : Cert.quiescent_Kernel17Ideal := fun m ρ _ => Cert.Kernel17Ideal.Gen.frame m ρ
theorem frame_kernel18 : Cert.quiescent_Kernel18 := fun m ρ _ => Cert.Kernel18.Gen.frame m ρ
theorem frame_kernel18Ideal : Cert.quiescent_Kernel18Ideal := fun m ρ _ => Cert.Kernel18Ideal.Gen.frame m ρ
theorem frame_kernel19 : Cert.quiescent_Kernel19 := fun m ρ _ => Cert.Kernel19.Gen.frame m ρ
theorem frame_kernel19Ideal : Cert.quiescent_Kernel19Ideal := fun m ρ _ => Cert.Kernel19Ideal.Gen.frame m ρ
theorem frame_kernel20 : Cert.quiescent_Kernel20 := fun m ρ _ => Cert.Kernel20.Gen.frame m ρ
theorem frame_kernel20Ideal : Cert.quiescent_Kernel20Ideal := fun m ρ _ => Cert.Kernel20Ideal.Gen.frame m ρ
theorem frame_kernel21 : Cert.quiescent_Kernel21 := fun m ρ _ => Cert.Kernel21.Gen.frame m ρ
theorem frame_kernel21Ideal : Cert.quiescent_Kernel21Ideal := fun m ρ _ => Cert.Kernel21Ideal.Gen.frame m ρ
theorem frame_kernel22 : Cert.quiescent_Kernel22 := fun m ρ _ => Cert.Kernel22.Gen.frame m ρ
theorem frame_kernel22Ideal : Cert.quiescent_Kernel22Ideal := fun m ρ _ => Cert.Kernel22Ideal.Gen.frame m ρ
theorem frame_kernel23 : Cert.quiescent_Kernel23 := fun m ρ _ => Cert.Kernel23.Gen.frame m ρ
theorem frame_kernel23Ideal : Cert.quiescent_Kernel23Ideal := fun m ρ _ => Cert.Kernel23Ideal.Gen.frame m ρ
theorem frame_reference5 : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run m ρ)
theorem frame_reference6 : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run m ρ)
theorem frame_reference7 : Cert.quiescent_Reference7Ideal := fun m ρ _ =>
  (θ_run Cert.Reference7Ideal.defs _ _).mono
    (fun r h => ⟨fun c => (h c).2.2.2.2.2, sem_eq_zero_of_no_sems (by decide) r.2⟩) (Cert.Reference7Ideal.Value.run m ρ)
theorem frame_reference8 : Cert.quiescent_Reference8Ideal := fun m ρ _ =>
  (θ_run Cert.Reference8Ideal.defs _ _).mono
    (fun r h => ⟨fun c => (h c).2.2, sem_eq_zero_of_no_sems (by decide) r.2⟩) (Cert.Reference8Ideal.Value.run m ρ)
theorem frame_reference9 : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run m ρ)
theorem frame_reference10 : Cert.quiescent_Reference10Ideal := fun m ρ _ =>
  (θ_run Cert.Reference10Ideal.defs _ _).mono
    (fun r h => ⟨fun c => (h c).2.2, sem_eq_zero_of_no_sems (by decide) r.2⟩) (Cert.Reference10Ideal.Value.run m ρ)
theorem frame_reference11 : Cert.quiescent_Reference11Ideal := fun m ρ _ =>
  (θ_run Cert.Reference11Ideal.defs _ _).mono
    (fun r h => ⟨fun c => (h c).2.2.2.2, sem_eq_zero_of_no_sems (by decide) r.2⟩) (Cert.Reference11Ideal.Value.run m ρ)
theorem frame_reference12 : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)
theorem frame_reference13 : Cert.quiescent_Reference13Ideal := fun m ρ _ =>
  (θ_run Cert.Reference13Ideal.defs _ _).mono
    (fun r h => ⟨fun c => (h c).2.2.2, sem_eq_zero_of_no_sems (by decide) r.2⟩) (Cert.Reference13Ideal.Value.run m ρ)
theorem frame_reference14 : Cert.quiescent_Reference14Ideal := fun m ρ _ =>
  (θ_run Cert.Reference14Ideal.defs _ _).mono
    (fun r h => ⟨fun c => (h c).2.2.2.2.2, sem_eq_zero_of_no_sems (by decide) r.2⟩) (Cert.Reference14Ideal.Value.run m ρ)
theorem frame_reference15 : Cert.quiescent_Reference15Ideal := fun m ρ _ =>
  (θ_run Cert.Reference15Ideal.defs _ _).mono
    (fun r h => ⟨fun c => (h c).2.2.2.2, sem_eq_zero_of_no_sems (by decide) r.2⟩) (Cert.Reference15Ideal.Value.run m ρ)
theorem frame_reference16 : Cert.quiescent_Reference16Ideal := fun m ρ _ =>
  (θ_run Cert.Reference16Ideal.defs _ _).mono
    (fun r h => ⟨fun c => (h c).2.2.2.2.2, sem_eq_zero_of_no_sems (by decide) r.2⟩) (Cert.Reference16Ideal.Value.run m ρ)
theorem frame_reference17 : Cert.quiescent_Reference17Ideal := fun m ρ _ =>
  (θ_run Cert.Reference17Ideal.defs _ _).mono
    (fun r h => ⟨fun c => (h c).2.2.2.2, sem_eq_zero_of_no_sems (by decide) r.2⟩) (Cert.Reference17Ideal.Value.run m ρ)
theorem frame_reference18 : Cert.quiescent_Reference18Ideal := fun m ρ _ =>
  (θ_run Cert.Reference18Ideal.defs _ _).mono
    (fun r h => ⟨fun c => (h c).2.2.2.2, sem_eq_zero_of_no_sems (by decide) r.2⟩) (Cert.Reference18Ideal.Value.run m ρ)
theorem frame_reference19 : Cert.quiescent_Reference19Ideal := fun m ρ _ =>
  (θ_run Cert.Reference19Ideal.defs _ _).mono
    (fun r h => ⟨fun c => (h c).2.2.2.2, sem_eq_zero_of_no_sems (by decide) r.2⟩) (Cert.Reference19Ideal.Value.run m ρ)
theorem frame_reference20 : Cert.quiescent_Reference20Ideal := fun m ρ _ =>
  (θ_run Cert.Reference20Ideal.defs _ _).mono
    (fun r h => ⟨fun c => (h c).2.2.2.2, sem_eq_zero_of_no_sems (by decide) r.2⟩) (Cert.Reference20Ideal.Value.run m ρ)
theorem frame_reference21 : Cert.quiescent_Reference21Ideal := fun m ρ _ =>
  (θ_run Cert.Reference21Ideal.defs _ _).mono
    (fun r h => ⟨fun c => (h c).2.2.2.2, sem_eq_zero_of_no_sems (by decide) r.2⟩) (Cert.Reference21Ideal.Value.run m ρ)
theorem frame_reference22 : Cert.quiescent_Reference22Ideal := fun m ρ _ =>
  (θ_run Cert.Reference22Ideal.defs _ _).mono
    (fun r h => ⟨fun c => (h c).2, sem_eq_zero_of_no_sems (by decide) r.2⟩) (Cert.Reference22Ideal.Value.run m ρ)
theorem frame_reference23 : Cert.quiescent_Reference23Ideal := fun m ρ _ =>
  (θ_run Cert.Reference23Ideal.defs _ _).mono
    (fun r h => ⟨fun c => (h c).2, sem_eq_zero_of_no_sems (by decide) r.2⟩) (Cert.Reference23Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.Pre_finite_ffn_out_grad.Gen.facts,
    Cert.Pre_finite_attention.Gen.facts, frame_kernel, frame_kernelIdeal, frame_reference, frame_kernel2,
    frame_kernel2Ideal, frame_reference2, frame_kernel3, frame_kernel3Ideal, frame_reference3, frame_kernel4,
    frame_kernel4Ideal, frame_reference4, frame_kernel5, frame_kernel5Ideal, frame_reference5, frame_kernel6,
    frame_kernel6Ideal, frame_reference6, frame_kernel7, frame_kernel7Ideal,
    fun m ρ _ => frame_kernel7Ideal m ρ trivial, frame_reference7, fun m ρ _ => frame_reference7 m ρ trivial,
    frame_kernel8, frame_kernel8Ideal, frame_reference8, frame_kernel9, frame_kernel9Ideal, frame_reference9,
    frame_kernel10, frame_kernel10Ideal, frame_reference10, frame_kernel11, frame_kernel11Ideal,
    frame_reference11, frame_kernel12, frame_kernel12Ideal, frame_reference12, frame_kernel13,
    frame_kernel13Ideal, frame_reference13, frame_kernel14, frame_kernel14Ideal, frame_reference14,
    frame_kernel15, frame_kernel15Ideal, frame_reference15, frame_kernel16, frame_kernel16Ideal,
    frame_reference16, frame_kernel17, frame_kernel17Ideal, frame_reference17, frame_kernel18,
    frame_kernel18Ideal, frame_reference18, frame_kernel19, frame_kernel19Ideal, frame_reference19,
    frame_kernel20, frame_kernel20Ideal, frame_reference20, frame_kernel21, frame_kernel21Ideal,
    frame_reference21, frame_kernel22, frame_kernel22Ideal, frame_reference22, frame_kernel23,
    frame_kernel23Ideal, fun m ρ _ => frame_kernel23Ideal m ρ trivial, frame_reference23,
    fun m ρ _ => frame_reference23 m ρ trivial, preserves_kernel, trivial, algebraic2, trivial, algebraic3,
    trivial, algebraic4, trivial, algebraic5, trivial, algebraic6, trivial, algebraic7, trivial, algebraic8,
    trivial, algebraic9, trivial, algebraic10, trivial, algebraic11, trivial, algebraic12, trivial,
    algebraic13, trivial, algebraic14, trivial, algebraic15, trivial, algebraic16, trivial, algebraic17,
    trivial, algebraic18, trivial, algebraic19, trivial, algebraic20, trivial, algebraic21, preserves22,
    algebraic22, preserves23, algebraic23⟩

end Cert.Proof

end
